-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Dattn (m : (ℓ : Loc Cert.Dattn.nD Cert.Dattn.τ Cert.Dattn.sig) → Buf (Elt Bits) ℓ) : Prop :=
  True

def Pre_DattnIdeal (m : (ℓ : Loc Cert.DattnIdeal.nD Cert.DattnIdeal.τ Cert.DattnIdeal.sig) → Buf (Elt Ideal) ℓ) : Prop :=
  True

def Pre_DattnIdeal_finite_qkb [hPre_finite_qkb : Cert.Pre_finite_qkb.Facts] (m : (ℓ : Loc Cert.DattnIdeal.nD Cert.DattnIdeal.τ Cert.DattnIdeal.sig) → Buf (Elt Ideal) ℓ) : Prop :=
  ∀ c : Dev Cert.DattnIdeal.nD,
    (Cert.Pre_finite_qkb.fn (F := Ideal) (m ((c.tc : Thread Cert.DattnIdeal.nD Cert.DattnIdeal.τ).loc Cert.DattnIdeal.main_arg0)) (m ((c.tc : Thread Cert.DattnIdeal.nD Cert.DattnIdeal.τ).loc Cert.DattnIdeal.main_arg1)) (m ((c.tc : Thread Cert.DattnIdeal.nD Cert.DattnIdeal.τ).loc Cert.DattnIdeal.main_arg2)) (m ((c.tc : Thread Cert.DattnIdeal.nD Cert.DattnIdeal.τ).loc Cert.DattnIdeal.main_arg3))).1 = (fun _ => 1#1)
    ∧ (Cert.Pre_finite_qkb.fn (F := Ideal) (m ((c.tc : Thread Cert.DattnIdeal.nD Cert.DattnIdeal.τ).loc Cert.DattnIdeal.main_arg0)) (m ((c.tc : Thread Cert.DattnIdeal.nD Cert.DattnIdeal.τ).loc Cert.DattnIdeal.main_arg1)) (m ((c.tc : Thread Cert.DattnIdeal.nD Cert.DattnIdeal.τ).loc Cert.DattnIdeal.main_arg2)) (m ((c.tc : Thread Cert.DattnIdeal.nD Cert.DattnIdeal.τ).loc Cert.DattnIdeal.main_arg3))).2.1 = (fun _ => 1#1)
    ∧ (Cert.Pre_finite_qkb.fn (F := Ideal) (m ((c.tc : Thread Cert.DattnIdeal.nD Cert.DattnIdeal.τ).loc Cert.DattnIdeal.main_arg0)) (m ((c.tc : Thread Cert.DattnIdeal.nD Cert.DattnIdeal.τ).loc Cert.DattnIdeal.main_arg1)) (m ((c.tc : Thread Cert.DattnIdeal.nD Cert.DattnIdeal.τ).loc Cert.DattnIdeal.main_arg2)) (m ((c.tc : Thread Cert.DattnIdeal.nD Cert.DattnIdeal.τ).loc Cert.DattnIdeal.main_arg3))).2.2 = (fun _ => 1#1)

def Pre_DattnRefIdeal (m : (ℓ : Loc Cert.DattnRefIdeal.nD Cert.DattnRefIdeal.τ Cert.DattnRefIdeal.sig) → Buf (Elt Ideal) ℓ) : Prop :=
  True

def Pre_DattnRefIdeal_finite_qkb [hPre_finite_qkb : Cert.Pre_finite_qkb.Facts] (m : (ℓ : Loc Cert.DattnRefIdeal.nD Cert.DattnRefIdeal.τ Cert.DattnRefIdeal.sig) → Buf (Elt Ideal) ℓ) : Prop :=
  ∀ c : Dev Cert.DattnRefIdeal.nD,
    (Cert.Pre_finite_qkb.fn (F := Ideal) (m ((c.tc : Thread Cert.DattnRefIdeal.nD Cert.DattnRefIdeal.τ).loc Cert.DattnRefIdeal.main_arg0)) (m ((c.tc : Thread Cert.DattnRefIdeal.nD Cert.DattnRefIdeal.τ).loc Cert.DattnRefIdeal.main_arg1)) (m ((c.tc : Thread Cert.DattnRefIdeal.nD Cert.DattnRefIdeal.τ).loc Cert.DattnRefIdeal.main_arg2)) (m ((c.tc : Thread Cert.DattnRefIdeal.nD Cert.DattnRefIdeal.τ).loc Cert.DattnRefIdeal.main_arg3))).1 = (fun _ => 1#1)
    ∧ (Cert.Pre_finite_qkb.fn (F := Ideal) (m ((c.tc : Thread Cert.DattnRefIdeal.nD Cert.DattnRefIdeal.τ).loc Cert.DattnRefIdeal.main_arg0)) (m ((c.tc : Thread Cert.DattnRefIdeal.nD Cert.DattnRefIdeal.τ).loc Cert.DattnRefIdeal.main_arg1)) (m ((c.tc : Thread Cert.DattnRefIdeal.nD Cert.DattnRefIdeal.τ).loc Cert.DattnRefIdeal.main_arg2)) (m ((c.tc : Thread Cert.DattnRefIdeal.nD Cert.DattnRefIdeal.τ).loc Cert.DattnRefIdeal.main_arg3))).2.1 = (fun _ => 1#1)
    ∧ (Cert.Pre_finite_qkb.fn (F := Ideal) (m ((c.tc : Thread Cert.DattnRefIdeal.nD Cert.DattnRefIdeal.τ).loc Cert.DattnRefIdeal.main_arg0)) (m ((c.tc : Thread Cert.DattnRefIdeal.nD Cert.DattnRefIdeal.τ).loc Cert.DattnRefIdeal.main_arg1)) (m ((c.tc : Thread Cert.DattnRefIdeal.nD Cert.DattnRefIdeal.τ).loc Cert.DattnRefIdeal.main_arg2)) (m ((c.tc : Thread Cert.DattnRefIdeal.nD Cert.DattnRefIdeal.τ).loc Cert.DattnRefIdeal.main_arg3))).2.2 = (fun _ => 1#1)

def Pre_Ffns (m : (ℓ : Loc Cert.Ffns.nD Cert.Ffns.τ Cert.Ffns.sig) → Buf (Elt Bits) ℓ) : Prop :=
  True

def Pre_FfnsIdeal (m : (ℓ : Loc Cert.FfnsIdeal.nD Cert.FfnsIdeal.τ Cert.FfnsIdeal.sig) → Buf (Elt Ideal) ℓ) : Prop :=
  True

def Pre_FfnsRefIdeal (m : (ℓ : Loc Cert.FfnsRefIdeal.nD Cert.FfnsRefIdeal.τ Cert.FfnsRefIdeal.sig) → Buf (Elt Ideal) ℓ) : Prop :=
  True

def Pre_Memk (m : (ℓ : Loc Cert.Memk.nD Cert.Memk.τ Cert.Memk.sig) → Buf (Elt Bits) ℓ) : Prop :=
  True

def Pre_MemkIdeal (m : (ℓ : Loc Cert.MemkIdeal.nD Cert.MemkIdeal.τ Cert.MemkIdeal.sig) → Buf (Elt Ideal) ℓ) : Prop :=
  True

def Pre_MemkRefIdeal (m : (ℓ : Loc Cert.MemkRefIdeal.nD Cert.MemkRefIdeal.τ Cert.MemkRefIdeal.sig) → Buf (Elt Ideal) ℓ) : Prop :=
  True

def Pre_Memv (m : (ℓ : Loc Cert.Memv.nD Cert.Memv.τ Cert.Memv.sig) → Buf (Elt Bits) ℓ) : Prop :=
  True

def Pre_MemvIdeal (m : (ℓ : Loc Cert.MemvIdeal.nD Cert.MemvIdeal.τ Cert.MemvIdeal.sig) → Buf (Elt Ideal) ℓ) : Prop :=
  True

def Pre_MemvRefIdeal (m : (ℓ : Loc Cert.MemvRefIdeal.nD Cert.MemvRefIdeal.τ Cert.MemvRefIdeal.sig) → Buf (Elt Ideal) ℓ) : Prop :=
  True

def Pre_Mixs (m : (ℓ : Loc Cert.Mixs.nD Cert.Mixs.τ Cert.Mixs.sig) → Buf (Elt Bits) ℓ) : Prop :=
  True

def Pre_MixsIdeal (m : (ℓ : Loc Cert.MixsIdeal.nD Cert.MixsIdeal.τ Cert.MixsIdeal.sig) → Buf (Elt Ideal) ℓ) : Prop :=
  True

def Pre_MixsRefIdeal (m : (ℓ : Loc Cert.MixsRefIdeal.nD Cert.MixsRefIdeal.τ Cert.MixsRefIdeal.sig) → Buf (Elt Ideal) ℓ) : Prop :=
  True

def Pre_Mixp (m : (ℓ : Loc Cert.Mixp.nD Cert.Mixp.τ Cert.Mixp.sig) → Buf (Elt Bits) ℓ) : Prop :=
  True

def Pre_MixpIdeal (m : (ℓ : Loc Cert.MixpIdeal.nD Cert.MixpIdeal.τ Cert.MixpIdeal.sig) → Buf (Elt Ideal) ℓ) : Prop :=
  True

def Pre_MixpRefIdeal (m : (ℓ : Loc Cert.MixpRefIdeal.nD Cert.MixpRefIdeal.τ Cert.MixpRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Dattn [hDattn : Cert.Dattn.Facts] : Prop :=
  ∀ (m : (ℓ : Loc Cert.Dattn.nD Cert.Dattn.τ Cert.Dattn.sig) → Buf (Elt Bits) ℓ) (g : Dev Cert.Dattn.nD → PrngReg), Pre_Dattn m →
    θ_run (Cert.Dattn.defs (F := Bits)) (onTc (τ := Cert.Dattn.τ) (Cert.Dattn.main (F := Bits))) ⟨m, fun _ => 0, g⟩ (fun r => (∀ c : Dev Cert.Dattn.nD,
      r.2.mem ((c.tc : Thread Cert.Dattn.nD Cert.Dattn.τ).loc Cert.Dattn.main_arg0) = m ((c.tc : Thread Cert.Dattn.nD Cert.Dattn.τ).loc Cert.Dattn.main_arg0)
      ∧ r.2.mem ((c.tc : Thread Cert.Dattn.nD Cert.Dattn.τ).loc Cert.Dattn.main_arg1) = m ((c.tc : Thread Cert.Dattn.nD Cert.Dattn.τ).loc Cert.Dattn.main_arg1)
      ∧ r.2.mem ((c.tc : Thread Cert.Dattn.nD Cert.Dattn.τ).loc Cert.Dattn.main_arg2) = m ((c.tc : Thread Cert.Dattn.nD Cert.Dattn.τ).loc Cert.Dattn.main_arg2)
      ∧ r.2.mem ((c.tc : Thread Cert.Dattn.nD Cert.Dattn.τ).loc Cert.Dattn.main_arg3) = m ((c.tc : Thread Cert.Dattn.nD Cert.Dattn.τ).loc Cert.Dattn.main_arg3))
      ∧ r.2.sem = fun _ => 0)

def quiescent_DattnIdeal [hDattnIdeal : Cert.DattnIdeal.Facts] : Prop :=
  ∀ (m : (ℓ : Loc Cert.DattnIdeal.nD Cert.DattnIdeal.τ Cert.DattnIdeal.sig) → Buf (Elt Ideal) ℓ) (g : Dev Cert.DattnIdeal.nD → PrngReg), Pre_DattnIdeal m →
    θ_run (Cert.DattnIdeal.defs (F := Ideal)) (onTc (τ := Cert.DattnIdeal.τ) (Cert.DattnIdeal.main (F := Ideal))) ⟨m, fun _ => 0, g⟩ (fun r => (∀ c : Dev Cert.DattnIdeal.nD,
      r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
      ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1)
      ∧ r.2.mem ((c.tc : Thread Cert.DattnIdeal.nD Cert.DattnIdeal.τ).loc Cert.DattnIdeal.main_arg2) = m ((c.tc : Thread Cert.DattnIdeal.nD Cert.DattnIdeal.τ).loc Cert.DattnIdeal.main_arg2)
      ∧ r.2.mem ((c.tc : Thread Cert.DattnIdeal.nD Cert.DattnIdeal.τ).loc Cert.DattnIdeal.main_arg3) = m ((c.tc : Thread Cert.DattnIdeal.nD Cert.DattnIdeal.τ).loc Cert.DattnIdeal.main_arg3))
      ∧ r.2.sem = fun _ => 0)

def quiescent_DattnIdeal_pre_finite_qkb [hDattnIdeal : Cert.DattnIdeal.Facts] [hPre_finite_qkb : Cert.Pre_finite_qkb.Facts] : Prop :=
  ∀ (m : (ℓ : Loc Cert.DattnIdeal.nD Cert.DattnIdeal.τ Cert.DattnIdeal.sig) → Buf (Elt Ideal) ℓ) (g : Dev Cert.DattnIdeal.nD → PrngReg), Pre_DattnIdeal_finite_qkb m →
    θ_run (Cert.DattnIdeal.defs (F := Ideal)) (onTc (τ := Cert.DattnIdeal.τ) (Cert.DattnIdeal.main (F := Ideal))) ⟨m, fun _ => 0, g⟩ (fun r => (∀ c : Dev Cert.DattnIdeal.nD,
      r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
      ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1)
      ∧ r.2.mem ((c.tc : Thread Cert.DattnIdeal.nD Cert.DattnIdeal.τ).loc Cert.DattnIdeal.main_arg2) = m ((c.tc : Thread Cert.DattnIdeal.nD Cert.DattnIdeal.τ).loc Cert.DattnIdeal.main_arg2)
      ∧ r.2.mem ((c.tc : Thread Cert.DattnIdeal.nD Cert.DattnIdeal.τ).loc Cert.DattnIdeal.main_arg3) = m ((c.tc : Thread Cert.DattnIdeal.nD Cert.DattnIdeal.τ).loc Cert.DattnIdeal.main_arg3))
      ∧ r.2.sem = fun _ => 0)

def quiescent_DattnRefIdeal [hDattnRefIdeal : Cert.DattnRefIdeal.Facts] : Prop :=
  ∀ (m : (ℓ : Loc Cert.DattnRefIdeal.nD Cert.DattnRefIdeal.τ Cert.DattnRefIdeal.sig) → Buf (Elt Ideal) ℓ) (g : Dev Cert.DattnRefIdeal.nD → PrngReg), Pre_DattnRefIdeal m →
    θ_run (Cert.DattnRefIdeal.defs (F := Ideal)) (onTc (τ := Cert.DattnRefIdeal.τ) (Cert.DattnRefIdeal.main (F := Ideal))) ⟨m, fun _ => 0, g⟩ (fun r => (∀ c : Dev Cert.DattnRefIdeal.nD,
      r.2.mem ((c.tc : Thread Cert.DattnRefIdeal.nD Cert.DattnRefIdeal.τ).loc Cert.DattnRefIdeal.main_arg0) = m ((c.tc : Thread Cert.DattnRefIdeal.nD Cert.DattnRefIdeal.τ).loc Cert.DattnRefIdeal.main_arg0)
      ∧ r.2.mem ((c.tc : Thread Cert.DattnRefIdeal.nD Cert.DattnRefIdeal.τ).loc Cert.DattnRefIdeal.main_arg1) = m ((c.tc : Thread Cert.DattnRefIdeal.nD Cert.DattnRefIdeal.τ).loc Cert.DattnRefIdeal.main_arg1)
      ∧ r.2.mem ((c.tc : Thread Cert.DattnRefIdeal.nD Cert.DattnRefIdeal.τ).loc Cert.DattnRefIdeal.main_arg2) = m ((c.tc : Thread Cert.DattnRefIdeal.nD Cert.DattnRefIdeal.τ).loc Cert.DattnRefIdeal.main_arg2)
      ∧ r.2.mem ((c.tc : Thread Cert.DattnRefIdeal.nD Cert.DattnRefIdeal.τ).loc Cert.DattnRefIdeal.main_arg3) = m ((c.tc : Thread Cert.DattnRefIdeal.nD Cert.DattnRefIdeal.τ).loc Cert.DattnRefIdeal.main_arg3))
      ∧ r.2.sem = fun _ => 0)

def quiescent_DattnRefIdeal_pre_finite_qkb [hDattnRefIdeal : Cert.DattnRefIdeal.Facts] [hPre_finite_qkb : Cert.Pre_finite_qkb.Facts] : Prop :=
  ∀ (m : (ℓ : Loc Cert.DattnRefIdeal.nD Cert.DattnRefIdeal.τ Cert.DattnRefIdeal.sig) → Buf (Elt Ideal) ℓ) (g : Dev Cert.DattnRefIdeal.nD → PrngReg), Pre_DattnRefIdeal_finite_qkb m →
    θ_run (Cert.DattnRefIdeal.defs (F := Ideal)) (onTc (τ := Cert.DattnRefIdeal.τ) (Cert.DattnRefIdeal.main (F := Ideal))) ⟨m, fun _ => 0, g⟩ (fun r => (∀ c : Dev Cert.DattnRefIdeal.nD,
      r.2.mem ((c.tc : Thread Cert.DattnRefIdeal.nD Cert.DattnRefIdeal.τ).loc Cert.DattnRefIdeal.main_arg0) = m ((c.tc : Thread Cert.DattnRefIdeal.nD Cert.DattnRefIdeal.τ).loc Cert.DattnRefIdeal.main_arg0)
      ∧ r.2.mem ((c.tc : Thread Cert.DattnRefIdeal.nD Cert.DattnRefIdeal.τ).loc Cert.DattnRefIdeal.main_arg1) = m ((c.tc : Thread Cert.DattnRefIdeal.nD Cert.DattnRefIdeal.τ).loc Cert.DattnRefIdeal.main_arg1)
      ∧ r.2.mem ((c.tc : Thread Cert.DattnRefIdeal.nD Cert.DattnRefIdeal.τ).loc Cert.DattnRefIdeal.main_arg2) = m ((c.tc : Thread Cert.DattnRefIdeal.nD Cert.DattnRefIdeal.τ).loc Cert.DattnRefIdeal.main_arg2)
      ∧ r.2.mem ((c.tc : Thread Cert.DattnRefIdeal.nD Cert.DattnRefIdeal.τ).loc Cert.DattnRefIdeal.main_arg3) = m ((c.tc : Thread Cert.DattnRefIdeal.nD Cert.DattnRefIdeal.τ).loc Cert.DattnRefIdeal.main_arg3))
      ∧ r.2.sem = fun _ => 0)

def quiescent_Ffns [hFfns : Cert.Ffns.Facts] : Prop :=
  ∀ (m : (ℓ : Loc Cert.Ffns.nD Cert.Ffns.τ Cert.Ffns.sig) → Buf (Elt Bits) ℓ) (g : Dev Cert.Ffns.nD → PrngReg), Pre_Ffns m →
    θ_run (Cert.Ffns.defs (F := Bits)) (onTc (τ := Cert.Ffns.τ) (Cert.Ffns.main (F := Bits))) ⟨m, fun _ => 0, g⟩ (fun r => (∀ c : Dev Cert.Ffns.nD,
      r.2.mem ((c.tc : Thread Cert.Ffns.nD Cert.Ffns.τ).loc Cert.Ffns.main_arg0) = m ((c.tc : Thread Cert.Ffns.nD Cert.Ffns.τ).loc Cert.Ffns.main_arg0)
      ∧ r.2.mem ((c.tc : Thread Cert.Ffns.nD Cert.Ffns.τ).loc Cert.Ffns.main_arg1) = m ((c.tc : Thread Cert.Ffns.nD Cert.Ffns.τ).loc Cert.Ffns.main_arg1)
      ∧ r.2.mem ((c.tc : Thread Cert.Ffns.nD Cert.Ffns.τ).loc Cert.Ffns.main_arg2) = m ((c.tc : Thread Cert.Ffns.nD Cert.Ffns.τ).loc Cert.Ffns.main_arg2)
      ∧ r.2.mem ((c.tc : Thread Cert.Ffns.nD Cert.Ffns.τ).loc Cert.Ffns.main_arg3) = m ((c.tc : Thread Cert.Ffns.nD Cert.Ffns.τ).loc Cert.Ffns.main_arg3)
      ∧ r.2.mem ((c.tc : Thread Cert.Ffns.nD Cert.Ffns.τ).loc Cert.Ffns.main_arg4) = m ((c.tc : Thread Cert.Ffns.nD Cert.Ffns.τ).loc Cert.Ffns.main_arg4))
      ∧ r.2.sem = fun _ => 0)

def quiescent_FfnsIdeal [hFfnsIdeal : Cert.FfnsIdeal.Facts] : Prop :=
  ∀ (m : (ℓ : Loc Cert.FfnsIdeal.nD Cert.FfnsIdeal.τ Cert.FfnsIdeal.sig) → Buf (Elt Ideal) ℓ) (g : Dev Cert.FfnsIdeal.nD → PrngReg), Pre_FfnsIdeal m →
    θ_run (Cert.FfnsIdeal.defs (F := Ideal)) (onTc (τ := Cert.FfnsIdeal.τ) (Cert.FfnsIdeal.main (F := Ideal))) ⟨m, fun _ => 0, g⟩ (fun r => (∀ c : Dev Cert.FfnsIdeal.nD,
      r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
      ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
      ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
      ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
      ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4))
      ∧ r.2.sem = fun _ => 0)

def quiescent_FfnsRefIdeal [hFfnsRefIdeal : Cert.FfnsRefIdeal.Facts] : Prop :=
  ∀ (m : (ℓ : Loc Cert.FfnsRefIdeal.nD Cert.FfnsRefIdeal.τ Cert.FfnsRefIdeal.sig) → Buf (Elt Ideal) ℓ) (g : Dev Cert.FfnsRefIdeal.nD → PrngReg), Pre_FfnsRefIdeal m →
    θ_run (Cert.FfnsRefIdeal.defs (F := Ideal)) (onTc (τ := Cert.FfnsRefIdeal.τ) (Cert.FfnsRefIdeal.main (F := Ideal))) ⟨m, fun _ => 0, g⟩ (fun r => (∀ c : Dev Cert.FfnsRefIdeal.nD,
      r.2.mem ((c.tc : Thread Cert.FfnsRefIdeal.nD Cert.FfnsRefIdeal.τ).loc Cert.FfnsRefIdeal.main_arg0) = m ((c.tc : Thread Cert.FfnsRefIdeal.nD Cert.FfnsRefIdeal.τ).loc Cert.FfnsRefIdeal.main_arg0)
      ∧ r.2.mem ((c.tc : Thread Cert.FfnsRefIdeal.nD Cert.FfnsRefIdeal.τ).loc Cert.FfnsRefIdeal.main_arg1) = m ((c.tc : Thread Cert.FfnsRefIdeal.nD Cert.FfnsRefIdeal.τ).loc Cert.FfnsRefIdeal.main_arg1)
      ∧ r.2.mem ((c.tc : Thread Cert.FfnsRefIdeal.nD Cert.FfnsRefIdeal.τ).loc Cert.FfnsRefIdeal.main_arg2) = m ((c.tc : Thread Cert.FfnsRefIdeal.nD Cert.FfnsRefIdeal.τ).loc Cert.FfnsRefIdeal.main_arg2)
      ∧ r.2.mem ((c.tc : Thread Cert.FfnsRefIdeal.nD Cert.FfnsRefIdeal.τ).loc Cert.FfnsRefIdeal.main_arg3) = m ((c.tc : Thread Cert.FfnsRefIdeal.nD Cert.FfnsRefIdeal.τ).loc Cert.FfnsRefIdeal.main_arg3)
      ∧ r.2.mem ((c.tc : Thread Cert.FfnsRefIdeal.nD Cert.FfnsRefIdeal.τ).loc Cert.FfnsRefIdeal.main_arg4) = m ((c.tc : Thread Cert.FfnsRefIdeal.nD Cert.FfnsRefIdeal.τ).loc Cert.FfnsRefIdeal.main_arg4))
      ∧ r.2.sem = fun _ => 0)

def quiescent_Memk [hMemk : Cert.Memk.Facts] : Prop :=
  ∀ (m : (ℓ : Loc Cert.Memk.nD Cert.Memk.τ Cert.Memk.sig) → Buf (Elt Bits) ℓ) (g : Dev Cert.Memk.nD → PrngReg), Pre_Memk m →
    θ_run (Cert.Memk.defs (F := Bits)) (onTc (τ := Cert.Memk.τ) (Cert.Memk.main (F := Bits))) ⟨m, fun _ => 0, g⟩ (fun r => (∀ c : Dev Cert.Memk.nD,
      r.2.mem ((c.tc : Thread Cert.Memk.nD Cert.Memk.τ).loc Cert.Memk.main_arg0) = m ((c.tc : Thread Cert.Memk.nD Cert.Memk.τ).loc Cert.Memk.main_arg0)
      ∧ r.2.mem ((c.tc : Thread Cert.Memk.nD Cert.Memk.τ).loc Cert.Memk.main_arg1) = m ((c.tc : Thread Cert.Memk.nD Cert.Memk.τ).loc Cert.Memk.main_arg1)
      ∧ r.2.mem ((c.tc : Thread Cert.Memk.nD Cert.Memk.τ).loc Cert.Memk.main_arg2) = m ((c.tc : Thread Cert.Memk.nD Cert.Memk.τ).loc Cert.Memk.main_arg2)
      ∧ r.2.mem ((c.tc : Thread Cert.Memk.nD Cert.Memk.τ).loc Cert.Memk.main_arg3) = m ((c.tc : Thread Cert.Memk.nD Cert.Memk.τ).loc Cert.Memk.main_arg3))
      ∧ r.2.sem = fun _ => 0)

def quiescent_MemkIdeal [hMemkIdeal : Cert.MemkIdeal.Facts] : Prop :=
  ∀ (m : (ℓ : Loc Cert.MemkIdeal.nD Cert.MemkIdeal.τ Cert.MemkIdeal.sig) → Buf (Elt Ideal) ℓ) (g : Dev Cert.MemkIdeal.nD → PrngReg), Pre_MemkIdeal m →
    θ_run (Cert.MemkIdeal.defs (F := Ideal)) (onTc (τ := Cert.MemkIdeal.τ) (Cert.MemkIdeal.main (F := Ideal))) ⟨m, fun _ => 0, g⟩ (fun r => (∀ c : Dev Cert.MemkIdeal.nD,
      r.2.mem ((c.tc : Thread Cert.MemkIdeal.nD Cert.MemkIdeal.τ).loc Cert.MemkIdeal.main_arg0) = m ((c.tc : Thread Cert.MemkIdeal.nD Cert.MemkIdeal.τ).loc Cert.MemkIdeal.main_arg0)
      ∧ r.2.mem ((c.tc : Thread Cert.MemkIdeal.nD Cert.MemkIdeal.τ).loc Cert.MemkIdeal.main_arg1) = m ((c.tc : Thread Cert.MemkIdeal.nD Cert.MemkIdeal.τ).loc Cert.MemkIdeal.main_arg1)
      ∧ r.2.mem ((c.tc : Thread Cert.MemkIdeal.nD Cert.MemkIdeal.τ).loc Cert.MemkIdeal.main_arg2) = m ((c.tc : Thread Cert.MemkIdeal.nD Cert.MemkIdeal.τ).loc Cert.MemkIdeal.main_arg2)
      ∧ r.2.mem ((c.tc : Thread Cert.MemkIdeal.nD Cert.MemkIdeal.τ).loc Cert.MemkIdeal.main_arg3) = m ((c.tc : Thread Cert.MemkIdeal.nD Cert.MemkIdeal.τ).loc Cert.MemkIdeal.main_arg3))
      ∧ r.2.sem = fun _ => 0)

def quiescent_MemkRefIdeal [hMemkRefIdeal : Cert.MemkRefIdeal.Facts] : Prop :=
  ∀ (m : (ℓ : Loc Cert.MemkRefIdeal.nD Cert.MemkRefIdeal.τ Cert.MemkRefIdeal.sig) → Buf (Elt Ideal) ℓ) (g : Dev Cert.MemkRefIdeal.nD → PrngReg), Pre_MemkRefIdeal m →
    θ_run (Cert.MemkRefIdeal.defs (F := Ideal)) (onTc (τ := Cert.MemkRefIdeal.τ) (Cert.MemkRefIdeal.main (F := Ideal))) ⟨m, fun _ => 0, g⟩ (fun r => (∀ c : Dev Cert.MemkRefIdeal.nD,
      r.2.mem ((c.tc : Thread Cert.MemkRefIdeal.nD Cert.MemkRefIdeal.τ).loc Cert.MemkRefIdeal.main_arg0) = m ((c.tc : Thread Cert.MemkRefIdeal.nD Cert.MemkRefIdeal.τ).loc Cert.MemkRefIdeal.main_arg0)
      ∧ r.2.mem ((c.tc : Thread Cert.MemkRefIdeal.nD Cert.MemkRefIdeal.τ).loc Cert.MemkRefIdeal.main_arg1) = m ((c.tc : Thread Cert.MemkRefIdeal.nD Cert.MemkRefIdeal.τ).loc Cert.MemkRefIdeal.main_arg1)
      ∧ r.2.mem ((c.tc : Thread Cert.MemkRefIdeal.nD Cert.MemkRefIdeal.τ).loc Cert.MemkRefIdeal.main_arg2) = m ((c.tc : Thread Cert.MemkRefIdeal.nD Cert.MemkRefIdeal.τ).loc Cert.MemkRefIdeal.main_arg2)
      ∧ r.2.mem ((c.tc : Thread Cert.MemkRefIdeal.nD Cert.MemkRefIdeal.τ).loc Cert.MemkRefIdeal.main_arg3) = m ((c.tc : Thread Cert.MemkRefIdeal.nD Cert.MemkRefIdeal.τ).loc Cert.MemkRefIdeal.main_arg3))
      ∧ r.2.sem = fun _ => 0)

def quiescent_Memv [hMemv : Cert.Memv.Facts] : Prop :=
  ∀ (m : (ℓ : Loc Cert.Memv.nD Cert.Memv.τ Cert.Memv.sig) → Buf (Elt Bits) ℓ) (g : Dev Cert.Memv.nD → PrngReg), Pre_Memv m →
    θ_run (Cert.Memv.defs (F := Bits)) (onTc (τ := Cert.Memv.τ) (Cert.Memv.main (F := Bits))) ⟨m, fun _ => 0, g⟩ (fun r => (∀ c : Dev Cert.Memv.nD,
      r.2.mem ((c.tc : Thread Cert.Memv.nD Cert.Memv.τ).loc Cert.Memv.main_arg0) = m ((c.tc : Thread Cert.Memv.nD Cert.Memv.τ).loc Cert.Memv.main_arg0)
      ∧ r.2.mem ((c.tc : Thread Cert.Memv.nD Cert.Memv.τ).loc Cert.Memv.main_arg1) = m ((c.tc : Thread Cert.Memv.nD Cert.Memv.τ).loc Cert.Memv.main_arg1)
      ∧ r.2.mem ((c.tc : Thread Cert.Memv.nD Cert.Memv.τ).loc Cert.Memv.main_arg2) = m ((c.tc : Thread Cert.Memv.nD Cert.Memv.τ).loc Cert.Memv.main_arg2))
      ∧ r.2.sem = fun _ => 0)

def quiescent_MemvIdeal [hMemvIdeal : Cert.MemvIdeal.Facts] : Prop :=
  ∀ (m : (ℓ : Loc Cert.MemvIdeal.nD Cert.MemvIdeal.τ Cert.MemvIdeal.sig) → Buf (Elt Ideal) ℓ) (g : Dev Cert.MemvIdeal.nD → PrngReg), Pre_MemvIdeal m →
    θ_run (Cert.MemvIdeal.defs (F := Ideal)) (onTc (τ := Cert.MemvIdeal.τ) (Cert.MemvIdeal.main (F := Ideal))) ⟨m, fun _ => 0, g⟩ (fun r => (∀ c : Dev Cert.MemvIdeal.nD,
      r.2.mem ((c.tc : Thread Cert.MemvIdeal.nD Cert.MemvIdeal.τ).loc Cert.MemvIdeal.main_arg0) = m ((c.tc : Thread Cert.MemvIdeal.nD Cert.MemvIdeal.τ).loc Cert.MemvIdeal.main_arg0)
      ∧ r.2.mem ((c.tc : Thread Cert.MemvIdeal.nD Cert.MemvIdeal.τ).loc Cert.MemvIdeal.main_arg1) = m ((c.tc : Thread Cert.MemvIdeal.nD Cert.MemvIdeal.τ).loc Cert.MemvIdeal.main_arg1)
      ∧ r.2.mem ((c.tc : Thread Cert.MemvIdeal.nD Cert.MemvIdeal.τ).loc Cert.MemvIdeal.main_arg2) = m ((c.tc : Thread Cert.MemvIdeal.nD Cert.MemvIdeal.τ).loc Cert.MemvIdeal.main_arg2))
      ∧ r.2.sem = fun _ => 0)

def quiescent_MemvRefIdeal [hMemvRefIdeal : Cert.MemvRefIdeal.Facts] : Prop :=
  ∀ (m : (ℓ : Loc Cert.MemvRefIdeal.nD Cert.MemvRefIdeal.τ Cert.MemvRefIdeal.sig) → Buf (Elt Ideal) ℓ) (g : Dev Cert.MemvRefIdeal.nD → PrngReg), Pre_MemvRefIdeal m →
    θ_run (Cert.MemvRefIdeal.defs (F := Ideal)) (onTc (τ := Cert.MemvRefIdeal.τ) (Cert.MemvRefIdeal.main (F := Ideal))) ⟨m, fun _ => 0, g⟩ (fun r => (∀ c : Dev Cert.MemvRefIdeal.nD,
      r.2.mem ((c.tc : Thread Cert.MemvRefIdeal.nD Cert.MemvRefIdeal.τ).loc Cert.MemvRefIdeal.main_arg0) = m ((c.tc : Thread Cert.MemvRefIdeal.nD Cert.MemvRefIdeal.τ).loc Cert.MemvRefIdeal.main_arg0)
      ∧ r.2.mem ((c.tc : Thread Cert.MemvRefIdeal.nD Cert.MemvRefIdeal.τ).loc Cert.MemvRefIdeal.main_arg1) = m ((c.tc : Thread Cert.MemvRefIdeal.nD Cert.MemvRefIdeal.τ).loc Cert.MemvRefIdeal.main_arg1)
      ∧ r.2.mem ((c.tc : Thread Cert.MemvRefIdeal.nD Cert.MemvRefIdeal.τ).loc Cert.MemvRefIdeal.main_arg2) = m ((c.tc : Thread Cert.MemvRefIdeal.nD Cert.MemvRefIdeal.τ).loc Cert.MemvRefIdeal.main_arg2))
      ∧ r.2.sem = fun _ => 0)

def quiescent_Mixs [hMixs : Cert.Mixs.Facts] : Prop :=
  ∀ (m : (ℓ : Loc Cert.Mixs.nD Cert.Mixs.τ Cert.Mixs.sig) → Buf (Elt Bits) ℓ) (g : Dev Cert.Mixs.nD → PrngReg), Pre_Mixs m →
    θ_run (Cert.Mixs.defs (F := Bits)) (onTc (τ := Cert.Mixs.τ) (Cert.Mixs.main (F := Bits))) ⟨m, fun _ => 0, g⟩ (fun r => (∀ c : Dev Cert.Mixs.nD,
      r.2.mem ((c.tc : Thread Cert.Mixs.nD Cert.Mixs.τ).loc Cert.Mixs.main_arg0) = m ((c.tc : Thread Cert.Mixs.nD Cert.Mixs.τ).loc Cert.Mixs.main_arg0)
      ∧ r.2.mem ((c.tc : Thread Cert.Mixs.nD Cert.Mixs.τ).loc Cert.Mixs.main_arg1) = m ((c.tc : Thread Cert.Mixs.nD Cert.Mixs.τ).loc Cert.Mixs.main_arg1)
      ∧ r.2.mem ((c.tc : Thread Cert.Mixs.nD Cert.Mixs.τ).loc Cert.Mixs.main_arg2) = m ((c.tc : Thread Cert.Mixs.nD Cert.Mixs.τ).loc Cert.Mixs.main_arg2)
      ∧ r.2.mem ((c.tc : Thread Cert.Mixs.nD Cert.Mixs.τ).loc Cert.Mixs.main_arg3) = m ((c.tc : Thread Cert.Mixs.nD Cert.Mixs.τ).loc Cert.Mixs.main_arg3)
      ∧ r.2.mem ((c.tc : Thread Cert.Mixs.nD Cert.Mixs.τ).loc Cert.Mixs.main_arg4) = m ((c.tc : Thread Cert.Mixs.nD Cert.Mixs.τ).loc Cert.Mixs.main_arg4)
      ∧ r.2.mem ((c.tc : Thread Cert.Mixs.nD Cert.Mixs.τ).loc Cert.Mixs.main_arg5) = m ((c.tc : Thread Cert.Mixs.nD Cert.Mixs.τ).loc Cert.Mixs.main_arg5)
      ∧ r.2.mem ((c.tc : Thread Cert.Mixs.nD Cert.Mixs.τ).loc Cert.Mixs.main_arg6) = m ((c.tc : Thread Cert.Mixs.nD Cert.Mixs.τ).loc Cert.Mixs.main_arg6))
      ∧ r.2.sem = fun _ => 0)

def quiescent_MixsIdeal [hMixsIdeal : Cert.MixsIdeal.Facts] : Prop :=
  ∀ (m : (ℓ : Loc Cert.MixsIdeal.nD Cert.MixsIdeal.τ Cert.MixsIdeal.sig) → Buf (Elt Ideal) ℓ) (g : Dev Cert.MixsIdeal.nD → PrngReg), Pre_MixsIdeal m →
    θ_run (Cert.MixsIdeal.defs (F := Ideal)) (onTc (τ := Cert.MixsIdeal.τ) (Cert.MixsIdeal.main (F := Ideal))) ⟨m, fun _ => 0, g⟩ (fun r => (∀ c : Dev Cert.MixsIdeal.nD,
      r.2.mem ((c.tc : Thread Cert.MixsIdeal.nD Cert.MixsIdeal.τ).loc Cert.MixsIdeal.main_arg0) = m ((c.tc : Thread Cert.MixsIdeal.nD Cert.MixsIdeal.τ).loc Cert.MixsIdeal.main_arg0)
      ∧ r.2.mem ((c.tc : Thread Cert.MixsIdeal.nD Cert.MixsIdeal.τ).loc Cert.MixsIdeal.main_arg1) = m ((c.tc : Thread Cert.MixsIdeal.nD Cert.MixsIdeal.τ).loc Cert.MixsIdeal.main_arg1)
      ∧ r.2.mem ((c.tc : Thread Cert.MixsIdeal.nD Cert.MixsIdeal.τ).loc Cert.MixsIdeal.main_arg2) = m ((c.tc : Thread Cert.MixsIdeal.nD Cert.MixsIdeal.τ).loc Cert.MixsIdeal.main_arg2)
      ∧ r.2.mem ((c.tc : Thread Cert.MixsIdeal.nD Cert.MixsIdeal.τ).loc Cert.MixsIdeal.main_arg3) = m ((c.tc : Thread Cert.MixsIdeal.nD Cert.MixsIdeal.τ).loc Cert.MixsIdeal.main_arg3)
      ∧ r.2.mem ((c.tc : Thread Cert.MixsIdeal.nD Cert.MixsIdeal.τ).loc Cert.MixsIdeal.main_arg4) = m ((c.tc : Thread Cert.MixsIdeal.nD Cert.MixsIdeal.τ).loc Cert.MixsIdeal.main_arg4)
      ∧ r.2.mem ((c.tc : Thread Cert.MixsIdeal.nD Cert.MixsIdeal.τ).loc Cert.MixsIdeal.main_arg5) = m ((c.tc : Thread Cert.MixsIdeal.nD Cert.MixsIdeal.τ).loc Cert.MixsIdeal.main_arg5)
      ∧ r.2.mem ((c.tc : Thread Cert.MixsIdeal.nD Cert.MixsIdeal.τ).loc Cert.MixsIdeal.main_arg6) = m ((c.tc : Thread Cert.MixsIdeal.nD Cert.MixsIdeal.τ).loc Cert.MixsIdeal.main_arg6))
      ∧ r.2.sem = fun _ => 0)

def quiescent_MixsRefIdeal [hMixsRefIdeal : Cert.MixsRefIdeal.Facts] : Prop :=
  ∀ (m : (ℓ : Loc Cert.MixsRefIdeal.nD Cert.MixsRefIdeal.τ Cert.MixsRefIdeal.sig) → Buf (Elt Ideal) ℓ) (g : Dev Cert.MixsRefIdeal.nD → PrngReg), Pre_MixsRefIdeal m →
    θ_run (Cert.MixsRefIdeal.defs (F := Ideal)) (onTc (τ := Cert.MixsRefIdeal.τ) (Cert.MixsRefIdeal.main (F := Ideal))) ⟨m, fun _ => 0, g⟩ (fun r => (∀ c : Dev Cert.MixsRefIdeal.nD,
      r.2.mem ((c.tc : Thread Cert.MixsRefIdeal.nD Cert.MixsRefIdeal.τ).loc Cert.MixsRefIdeal.main_arg0) = m ((c.tc : Thread Cert.MixsRefIdeal.nD Cert.MixsRefIdeal.τ).loc Cert.MixsRefIdeal.main_arg0)
      ∧ r.2.mem ((c.tc : Thread Cert.MixsRefIdeal.nD Cert.MixsRefIdeal.τ).loc Cert.MixsRefIdeal.main_arg1) = m ((c.tc : Thread Cert.MixsRefIdeal.nD Cert.MixsRefIdeal.τ).loc Cert.MixsRefIdeal.main_arg1)
      ∧ r.2.mem ((c.tc : Thread Cert.MixsRefIdeal.nD Cert.MixsRefIdeal.τ).loc Cert.MixsRefIdeal.main_arg2) = m ((c.tc : Thread Cert.MixsRefIdeal.nD Cert.MixsRefIdeal.τ).loc Cert.MixsRefIdeal.main_arg2)
      ∧ r.2.mem ((c.tc : Thread Cert.MixsRefIdeal.nD Cert.MixsRefIdeal.τ).loc Cert.MixsRefIdeal.main_arg3) = m ((c.tc : Thread Cert.MixsRefIdeal.nD Cert.MixsRefIdeal.τ).loc Cert.MixsRefIdeal.main_arg3)
      ∧ r.2.mem ((c.tc : Thread Cert.MixsRefIdeal.nD Cert.MixsRefIdeal.τ).loc Cert.MixsRefIdeal.main_arg4) = m ((c.tc : Thread Cert.MixsRefIdeal.nD Cert.MixsRefIdeal.τ).loc Cert.MixsRefIdeal.main_arg4)
      ∧ r.2.mem ((c.tc : Thread Cert.MixsRefIdeal.nD Cert.MixsRefIdeal.τ).loc Cert.MixsRefIdeal.main_arg5) = m ((c.tc : Thread Cert.MixsRefIdeal.nD Cert.MixsRefIdeal.τ).loc Cert.MixsRefIdeal.main_arg5)
      ∧ r.2.mem ((c.tc : Thread Cert.MixsRefIdeal.nD Cert.MixsRefIdeal.τ).loc Cert.MixsRefIdeal.main_arg6) = m ((c.tc : Thread Cert.MixsRefIdeal.nD Cert.MixsRefIdeal.τ).loc Cert.MixsRefIdeal.main_arg6))
      ∧ r.2.sem = fun _ => 0)

def quiescent_Mixp [hMixp : Cert.Mixp.Facts] : Prop :=
  ∀ (m : (ℓ : Loc Cert.Mixp.nD Cert.Mixp.τ Cert.Mixp.sig) → Buf (Elt Bits) ℓ) (g : Dev Cert.Mixp.nD → PrngReg), Pre_Mixp m →
    θ_run (Cert.Mixp.defs (F := Bits)) (onTc (τ := Cert.Mixp.τ) (Cert.Mixp.main (F := Bits))) ⟨m, fun _ => 0, g⟩ (fun r => (∀ c : Dev Cert.Mixp.nD,
      r.2.mem ((c.tc : Thread Cert.Mixp.nD Cert.Mixp.τ).loc Cert.Mixp.main_arg0) = m ((c.tc : Thread Cert.Mixp.nD Cert.Mixp.τ).loc Cert.Mixp.main_arg0)
      ∧ r.2.mem ((c.tc : Thread Cert.Mixp.nD Cert.Mixp.τ).loc Cert.Mixp.main_arg1) = m ((c.tc : Thread Cert.Mixp.nD Cert.Mixp.τ).loc Cert.Mixp.main_arg1)
      ∧ r.2.mem ((c.tc : Thread Cert.Mixp.nD Cert.Mixp.τ).loc Cert.Mixp.main_arg2) = m ((c.tc : Thread Cert.Mixp.nD Cert.Mixp.τ).loc Cert.Mixp.main_arg2)
      ∧ r.2.mem ((c.tc : Thread Cert.Mixp.nD Cert.Mixp.τ).loc Cert.Mixp.main_arg3) = m ((c.tc : Thread Cert.Mixp.nD Cert.Mixp.τ).loc Cert.Mixp.main_arg3)
      ∧ r.2.mem ((c.tc : Thread Cert.Mixp.nD Cert.Mixp.τ).loc Cert.Mixp.main_arg4) = m ((c.tc : Thread Cert.Mixp.nD Cert.Mixp.τ).loc Cert.Mixp.main_arg4)
      ∧ r.2.mem ((c.tc : Thread Cert.Mixp.nD Cert.Mixp.τ).loc Cert.Mixp.main_arg5) = m ((c.tc : Thread Cert.Mixp.nD Cert.Mixp.τ).loc Cert.Mixp.main_arg5)
      ∧ r.2.mem ((c.tc : Thread Cert.Mixp.nD Cert.Mixp.τ).loc Cert.Mixp.main_arg6) = m ((c.tc : Thread Cert.Mixp.nD Cert.Mixp.τ).loc Cert.Mixp.main_arg6))
      ∧ r.2.sem = fun _ => 0)

def quiescent_MixpIdeal [hMixpIdeal : Cert.MixpIdeal.Facts] : Prop :=
  ∀ (m : (ℓ : Loc Cert.MixpIdeal.nD Cert.MixpIdeal.τ Cert.MixpIdeal.sig) → Buf (Elt Ideal) ℓ) (g : Dev Cert.MixpIdeal.nD → PrngReg), Pre_MixpIdeal m →
    θ_run (Cert.MixpIdeal.defs (F := Ideal)) (onTc (τ := Cert.MixpIdeal.τ) (Cert.MixpIdeal.main (F := Ideal))) ⟨m, fun _ => 0, g⟩ (fun r => (∀ c : Dev Cert.MixpIdeal.nD,
      r.2.mem ((c.tc : Thread Cert.MixpIdeal.nD Cert.MixpIdeal.τ).loc Cert.MixpIdeal.main_arg0) = m ((c.tc : Thread Cert.MixpIdeal.nD Cert.MixpIdeal.τ).loc Cert.MixpIdeal.main_arg0)
      ∧ r.2.mem ((c.tc : Thread Cert.MixpIdeal.nD Cert.MixpIdeal.τ).loc Cert.MixpIdeal.main_arg1) = m ((c.tc : Thread Cert.MixpIdeal.nD Cert.MixpIdeal.τ).loc Cert.MixpIdeal.main_arg1)
      ∧ r.2.mem ((c.tc : Thread Cert.MixpIdeal.nD Cert.MixpIdeal.τ).loc Cert.MixpIdeal.main_arg2) = m ((c.tc : Thread Cert.MixpIdeal.nD Cert.MixpIdeal.τ).loc Cert.MixpIdeal.main_arg2)
      ∧ r.2.mem ((c.tc : Thread Cert.MixpIdeal.nD Cert.MixpIdeal.τ).loc Cert.MixpIdeal.main_arg3) = m ((c.tc : Thread Cert.MixpIdeal.nD Cert.MixpIdeal.τ).loc Cert.MixpIdeal.main_arg3)
      ∧ r.2.mem ((c.tc : Thread Cert.MixpIdeal.nD Cert.MixpIdeal.τ).loc Cert.MixpIdeal.main_arg4) = m ((c.tc : Thread Cert.MixpIdeal.nD Cert.MixpIdeal.τ).loc Cert.MixpIdeal.main_arg4)
      ∧ r.2.mem ((c.tc : Thread Cert.MixpIdeal.nD Cert.MixpIdeal.τ).loc Cert.MixpIdeal.main_arg5) = m ((c.tc : Thread Cert.MixpIdeal.nD Cert.MixpIdeal.τ).loc Cert.MixpIdeal.main_arg5)
      ∧ r.2.mem ((c.tc : Thread Cert.MixpIdeal.nD Cert.MixpIdeal.τ).loc Cert.MixpIdeal.main_arg6) = m ((c.tc : Thread Cert.MixpIdeal.nD Cert.MixpIdeal.τ).loc Cert.MixpIdeal.main_arg6))
      ∧ r.2.sem = fun _ => 0)

def quiescent_MixpRefIdeal [hMixpRefIdeal : Cert.MixpRefIdeal.Facts] : Prop :=
  ∀ (m : (ℓ : Loc Cert.MixpRefIdeal.nD Cert.MixpRefIdeal.τ Cert.MixpRefIdeal.sig) → Buf (Elt Ideal) ℓ) (g : Dev Cert.MixpRefIdeal.nD → PrngReg), Pre_MixpRefIdeal m →
    θ_run (Cert.MixpRefIdeal.defs (F := Ideal)) (onTc (τ := Cert.MixpRefIdeal.τ) (Cert.MixpRefIdeal.main (F := Ideal))) ⟨m, fun _ => 0, g⟩ (fun r => (∀ c : Dev Cert.MixpRefIdeal.nD,
      r.2.mem ((c.tc : Thread Cert.MixpRefIdeal.nD Cert.MixpRefIdeal.τ).loc Cert.MixpRefIdeal.main_arg0) = m ((c.tc : Thread Cert.MixpRefIdeal.nD Cert.MixpRefIdeal.τ).loc Cert.MixpRefIdeal.main_arg0)
      ∧ r.2.mem ((c.tc : Thread Cert.MixpRefIdeal.nD Cert.MixpRefIdeal.τ).loc Cert.MixpRefIdeal.main_arg1) = m ((c.tc : Thread Cert.MixpRefIdeal.nD Cert.MixpRefIdeal.τ).loc Cert.MixpRefIdeal.main_arg1)
      ∧ r.2.mem ((c.tc : Thread Cert.MixpRefIdeal.nD Cert.MixpRefIdeal.τ).loc Cert.MixpRefIdeal.main_arg2) = m ((c.tc : Thread Cert.MixpRefIdeal.nD Cert.MixpRefIdeal.τ).loc Cert.MixpRefIdeal.main_arg2)
      ∧ r.2.mem ((c.tc : Thread Cert.MixpRefIdeal.nD Cert.MixpRefIdeal.τ).loc Cert.MixpRefIdeal.main_arg3) = m ((c.tc : Thread Cert.MixpRefIdeal.nD Cert.MixpRefIdeal.τ).loc Cert.MixpRefIdeal.main_arg3)
      ∧ r.2.mem ((c.tc : Thread Cert.MixpRefIdeal.nD Cert.MixpRefIdeal.τ).loc Cert.MixpRefIdeal.main_arg4) = m ((c.tc : Thread Cert.MixpRefIdeal.nD Cert.MixpRefIdeal.τ).loc Cert.MixpRefIdeal.main_arg4)
      ∧ r.2.mem ((c.tc : Thread Cert.MixpRefIdeal.nD Cert.MixpRefIdeal.τ).loc Cert.MixpRefIdeal.main_arg5) = m ((c.tc : Thread Cert.MixpRefIdeal.nD Cert.MixpRefIdeal.τ).loc Cert.MixpRefIdeal.main_arg5)
      ∧ r.2.mem ((c.tc : Thread Cert.MixpRefIdeal.nD Cert.MixpRefIdeal.τ).loc Cert.MixpRefIdeal.main_arg6) = m ((c.tc : Thread Cert.MixpRefIdeal.nD Cert.MixpRefIdeal.τ).loc Cert.MixpRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Dattn_DattnIdeal : Prop :=
  IdealRules.named_const.Statement Cert.DattnIdeal.κ "mask" .f32 0xF149F2CA#32 ⊥

def algebraic_DattnIdeal_DattnRefIdeal_pre_finite_qkb [hDattnIdeal : Cert.DattnIdeal.Facts] [hDattnRefIdeal : Cert.DattnRefIdeal.Facts] [hPre_finite_qkb : Cert.Pre_finite_qkb.Facts] : Prop :=
  ∀ (m : (ℓ : Loc Cert.DattnIdeal.nD Cert.DattnIdeal.τ Cert.DattnIdeal.sig) → Buf (Elt Ideal) ℓ) (g : Dev Cert.DattnIdeal.nD → PrngReg)
    (m' : (ℓ : Loc Cert.DattnRefIdeal.nD Cert.DattnRefIdeal.τ Cert.DattnRefIdeal.sig) → Buf (Elt Ideal) ℓ) (g' : Dev Cert.DattnRefIdeal.nD → PrngReg), Pre_DattnIdeal_finite_qkb m →
    (∀ c : Dev Cert.DattnIdeal.nD,
      m' ((c.tc : Thread Cert.DattnRefIdeal.nD Cert.DattnRefIdeal.τ).loc Cert.DattnRefIdeal.main_arg0) = m ((c.tc : Thread Cert.DattnIdeal.nD Cert.DattnIdeal.τ).loc Cert.DattnIdeal.main_arg0)
      ∧ m' ((c.tc : Thread Cert.DattnRefIdeal.nD Cert.DattnRefIdeal.τ).loc Cert.DattnRefIdeal.main_arg1) = m ((c.tc : Thread Cert.DattnIdeal.nD Cert.DattnIdeal.τ).loc Cert.DattnIdeal.main_arg1)
      ∧ m' ((c.tc : Thread Cert.DattnRefIdeal.nD Cert.DattnRefIdeal.τ).loc Cert.DattnRefIdeal.main_arg2) = m ((c.tc : Thread Cert.DattnIdeal.nD Cert.DattnIdeal.τ).loc Cert.DattnIdeal.main_arg2)
      ∧ m' ((c.tc : Thread Cert.DattnRefIdeal.nD Cert.DattnRefIdeal.τ).loc Cert.DattnRefIdeal.main_arg3) = m ((c.tc : Thread Cert.DattnIdeal.nD Cert.DattnIdeal.τ).loc Cert.DattnIdeal.main_arg3)) →
    ∃ (v0 : (c : Dev Cert.DattnIdeal.nD) → Buf (Elt Ideal) ((c.tc : Thread Cert.DattnIdeal.nD Cert.DattnIdeal.τ).loc Cert.DattnIdeal.main_v57)),
      θ_run (Cert.DattnIdeal.defs (F := Ideal)) (onTc (τ := Cert.DattnIdeal.τ) (Cert.DattnIdeal.main (F := Ideal))) ⟨m, fun _ => 0, g⟩ (fun r => ∀ c : Dev Cert.DattnIdeal.nD,
          r.2.mem ((c.tc : Thread Cert.DattnIdeal.nD Cert.DattnIdeal.τ).loc Cert.DattnIdeal.main_v57) = v0 c
          ∧ r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
          ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1)
          ∧ r.2.mem ((c.tc : Thread Cert.DattnIdeal.nD Cert.DattnIdeal.τ).loc Cert.DattnIdeal.main_arg2) = m ((c.tc : Thread Cert.DattnIdeal.nD Cert.DattnIdeal.τ).loc Cert.DattnIdeal.main_arg2)
          ∧ r.2.mem ((c.tc : Thread Cert.DattnIdeal.nD Cert.DattnIdeal.τ).loc Cert.DattnIdeal.main_arg3) = m ((c.tc : Thread Cert.DattnIdeal.nD Cert.DattnIdeal.τ).loc Cert.DattnIdeal.main_arg3))
      ∧ θ_run (Cert.DattnRefIdeal.defs (F := Ideal)) (onTc (τ := Cert.DattnRefIdeal.τ) (Cert.DattnRefIdeal.main (F := Ideal))) ⟨m', fun _ => 0, g'⟩ (fun r => ∀ c : Dev Cert.DattnRefIdeal.nD,
          r.2.mem ((c.tc : Thread Cert.DattnRefIdeal.nD Cert.DattnRefIdeal.τ).loc Cert.DattnRefIdeal.main_v57) = v0 c
          ∧ r.2.mem ((c.tc : Thread Cert.DattnRefIdeal.nD Cert.DattnRefIdeal.τ).loc Cert.DattnRefIdeal.main_arg0) = m' ((c.tc : Thread Cert.DattnRefIdeal.nD Cert.DattnRefIdeal.τ).loc Cert.DattnRefIdeal.main_arg0)
          ∧ r.2.mem ((c.tc : Thread Cert.DattnRefIdeal.nD Cert.DattnRefIdeal.τ).loc Cert.DattnRefIdeal.main_arg1) = m' ((c.tc : Thread Cert.DattnRefIdeal.nD Cert.DattnRefIdeal.τ).loc Cert.DattnRefIdeal.main_arg1)
          ∧ r.2.mem ((c.tc : Thread Cert.DattnRefIdeal.nD Cert.DattnRefIdeal.τ).loc Cert.DattnRefIdeal.main_arg2) = m' ((c.tc : Thread Cert.DattnRefIdeal.nD Cert.DattnRefIdeal.τ).loc Cert.DattnRefIdeal.main_arg2)
          ∧ r.2.mem ((c.tc : Thread Cert.DattnRefIdeal.nD Cert.DattnRefIdeal.τ).loc Cert.DattnRefIdeal.main_arg3) = m' ((c.tc : Thread Cert.DattnRefIdeal.nD Cert.DattnRefIdeal.τ).loc Cert.DattnRefIdeal.main_arg3))

def preserves_Ffns_FfnsIdeal : Prop :=
  True

def algebraic_FfnsIdeal_FfnsRefIdeal [hFfnsIdeal : Cert.FfnsIdeal.Facts] [hFfnsRefIdeal : Cert.FfnsRefIdeal.Facts] : Prop :=
  ∀ (m : (ℓ : Loc Cert.FfnsIdeal.nD Cert.FfnsIdeal.τ Cert.FfnsIdeal.sig) → Buf (Elt Ideal) ℓ) (g : Dev Cert.FfnsIdeal.nD → PrngReg)
    (m' : (ℓ : Loc Cert.FfnsRefIdeal.nD Cert.FfnsRefIdeal.τ Cert.FfnsRefIdeal.sig) → Buf (Elt Ideal) ℓ) (g' : Dev Cert.FfnsRefIdeal.nD → PrngReg), Pre_FfnsIdeal m →
    (∀ c : Dev Cert.FfnsIdeal.nD,
      m' ((c.tc : Thread Cert.FfnsRefIdeal.nD Cert.FfnsRefIdeal.τ).loc Cert.FfnsRefIdeal.main_arg0) = m ((c.tc : Thread Cert.FfnsIdeal.nD Cert.FfnsIdeal.τ).loc Cert.FfnsIdeal.main_arg0)
      ∧ m' ((c.tc : Thread Cert.FfnsRefIdeal.nD Cert.FfnsRefIdeal.τ).loc Cert.FfnsRefIdeal.main_arg1) = m ((c.tc : Thread Cert.FfnsIdeal.nD Cert.FfnsIdeal.τ).loc Cert.FfnsIdeal.main_arg1)
      ∧ m' ((c.tc : Thread Cert.FfnsRefIdeal.nD Cert.FfnsRefIdeal.τ).loc Cert.FfnsRefIdeal.main_arg2) = m ((c.tc : Thread Cert.FfnsIdeal.nD Cert.FfnsIdeal.τ).loc Cert.FfnsIdeal.main_arg2)
      ∧ m' ((c.tc : Thread Cert.FfnsRefIdeal.nD Cert.FfnsRefIdeal.τ).loc Cert.FfnsRefIdeal.main_arg3) = m ((c.tc : Thread Cert.FfnsIdeal.nD Cert.FfnsIdeal.τ).loc Cert.FfnsIdeal.main_arg3)
      ∧ m' ((c.tc : Thread Cert.FfnsRefIdeal.nD Cert.FfnsRefIdeal.τ).loc Cert.FfnsRefIdeal.main_arg4) = m ((c.tc : Thread Cert.FfnsIdeal.nD Cert.FfnsIdeal.τ).loc Cert.FfnsIdeal.main_arg4)) →
    ∃ (v0 : (c : Dev Cert.FfnsIdeal.nD) → Buf (Elt Ideal) ((c.tc : Thread Cert.FfnsIdeal.nD Cert.FfnsIdeal.τ).loc Cert.FfnsIdeal.main_v5)),
      θ_run (Cert.FfnsIdeal.defs (F := Ideal)) (onTc (τ := Cert.FfnsIdeal.τ) (Cert.FfnsIdeal.main (F := Ideal))) ⟨m, fun _ => 0, g⟩ (fun r => ∀ c : Dev Cert.FfnsIdeal.nD,
          r.2.mem ((c.tc : Thread Cert.FfnsIdeal.nD Cert.FfnsIdeal.τ).loc Cert.FfnsIdeal.main_v5) = v0 c
          ∧ r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
          ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
          ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
          ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
          ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4))
      ∧ θ_run (Cert.FfnsRefIdeal.defs (F := Ideal)) (onTc (τ := Cert.FfnsRefIdeal.τ) (Cert.FfnsRefIdeal.main (F := Ideal))) ⟨m', fun _ => 0, g'⟩ (fun r => ∀ c : Dev Cert.FfnsRefIdeal.nD,
          r.2.mem ((c.tc : Thread Cert.FfnsRefIdeal.nD Cert.FfnsRefIdeal.τ).loc Cert.FfnsRefIdeal.main_v21) = v0 c
          ∧ r.2.mem ((c.tc : Thread Cert.FfnsRefIdeal.nD Cert.FfnsRefIdeal.τ).loc Cert.FfnsRefIdeal.main_arg0) = m' ((c.tc : Thread Cert.FfnsRefIdeal.nD Cert.FfnsRefIdeal.τ).loc Cert.FfnsRefIdeal.main_arg0)
          ∧ r.2.mem ((c.tc : Thread Cert.FfnsRefIdeal.nD Cert.FfnsRefIdeal.τ).loc Cert.FfnsRefIdeal.main_arg1) = m' ((c.tc : Thread Cert.FfnsRefIdeal.nD Cert.FfnsRefIdeal.τ).loc Cert.FfnsRefIdeal.main_arg1)
          ∧ r.2.mem ((c.tc : Thread Cert.FfnsRefIdeal.nD Cert.FfnsRefIdeal.τ).loc Cert.FfnsRefIdeal.main_arg2) = m' ((c.tc : Thread Cert.FfnsRefIdeal.nD Cert.FfnsRefIdeal.τ).loc Cert.FfnsRefIdeal.main_arg2)
          ∧ r.2.mem ((c.tc : Thread Cert.FfnsRefIdeal.nD Cert.FfnsRefIdeal.τ).loc Cert.FfnsRefIdeal.main_arg3) = m' ((c.tc : Thread Cert.FfnsRefIdeal.nD Cert.FfnsRefIdeal.τ).loc Cert.FfnsRefIdeal.main_arg3)
          ∧ r.2.mem ((c.tc : Thread Cert.FfnsRefIdeal.nD Cert.FfnsRefIdeal.τ).loc Cert.FfnsRefIdeal.main_arg4) = m' ((c.tc : Thread Cert.FfnsRefIdeal.nD Cert.FfnsRefIdeal.τ).loc Cert.FfnsRefIdeal.main_arg4))

def preserves_Memk_MemkIdeal : Prop :=
  True

def algebraic_MemkIdeal_MemkRefIdeal [hMemkIdeal : Cert.MemkIdeal.Facts] [hMemkRefIdeal : Cert.MemkRefIdeal.Facts] : Prop :=
  ∀ (m : (ℓ : Loc Cert.MemkIdeal.nD Cert.MemkIdeal.τ Cert.MemkIdeal.sig) → Buf (Elt Ideal) ℓ) (g : Dev Cert.MemkIdeal.nD → PrngReg)
    (m' : (ℓ : Loc Cert.MemkRefIdeal.nD Cert.MemkRefIdeal.τ Cert.MemkRefIdeal.sig) → Buf (Elt Ideal) ℓ) (g' : Dev Cert.MemkRefIdeal.nD → PrngReg), Pre_MemkIdeal m →
    (∀ c : Dev Cert.MemkIdeal.nD,
      m' ((c.tc : Thread Cert.MemkRefIdeal.nD Cert.MemkRefIdeal.τ).loc Cert.MemkRefIdeal.main_arg0) = m ((c.tc : Thread Cert.MemkIdeal.nD Cert.MemkIdeal.τ).loc Cert.MemkIdeal.main_arg0)
      ∧ m' ((c.tc : Thread Cert.MemkRefIdeal.nD Cert.MemkRefIdeal.τ).loc Cert.MemkRefIdeal.main_arg1) = m ((c.tc : Thread Cert.MemkIdeal.nD Cert.MemkIdeal.τ).loc Cert.MemkIdeal.main_arg1)
      ∧ m' ((c.tc : Thread Cert.MemkRefIdeal.nD Cert.MemkRefIdeal.τ).loc Cert.MemkRefIdeal.main_arg2) = m ((c.tc : Thread Cert.MemkIdeal.nD Cert.MemkIdeal.τ).loc Cert.MemkIdeal.main_arg2)
      ∧ m' ((c.tc : Thread Cert.MemkRefIdeal.nD Cert.MemkRefIdeal.τ).loc Cert.MemkRefIdeal.main_arg3) = m ((c.tc : Thread Cert.MemkIdeal.nD Cert.MemkIdeal.τ).loc Cert.MemkIdeal.main_arg3)) →
    ∃ (v0 : (c : Dev Cert.MemkIdeal.nD) → Buf (Elt Ideal) ((c.tc : Thread Cert.MemkIdeal.nD Cert.MemkIdeal.τ).loc Cert.MemkIdeal.main_v4_0)) (v1 : (c : Dev Cert.MemkIdeal.nD) → Buf (Elt Ideal) ((c.tc : Thread Cert.MemkIdeal.nD Cert.MemkIdeal.τ).loc Cert.MemkIdeal.main_v4_1)),
      θ_run (Cert.MemkIdeal.defs (F := Ideal)) (onTc (τ := Cert.MemkIdeal.τ) (Cert.MemkIdeal.main (F := Ideal))) ⟨m, fun _ => 0, g⟩ (fun r => ∀ c : Dev Cert.MemkIdeal.nD,
          r.2.mem ((c.tc : Thread Cert.MemkIdeal.nD Cert.MemkIdeal.τ).loc Cert.MemkIdeal.main_v4_0) = v0 c
          ∧ r.2.mem ((c.tc : Thread Cert.MemkIdeal.nD Cert.MemkIdeal.τ).loc Cert.MemkIdeal.main_v4_1) = v1 c
          ∧ r.2.mem ((c.tc : Thread Cert.MemkIdeal.nD Cert.MemkIdeal.τ).loc Cert.MemkIdeal.main_arg0) = m ((c.tc : Thread Cert.MemkIdeal.nD Cert.MemkIdeal.τ).loc Cert.MemkIdeal.main_arg0)
          ∧ r.2.mem ((c.tc : Thread Cert.MemkIdeal.nD Cert.MemkIdeal.τ).loc Cert.MemkIdeal.main_arg1) = m ((c.tc : Thread Cert.MemkIdeal.nD Cert.MemkIdeal.τ).loc Cert.MemkIdeal.main_arg1)
          ∧ r.2.mem ((c.tc : Thread Cert.MemkIdeal.nD Cert.MemkIdeal.τ).loc Cert.MemkIdeal.main_arg2) = m ((c.tc : Thread Cert.MemkIdeal.nD Cert.MemkIdeal.τ).loc Cert.MemkIdeal.main_arg2)
          ∧ r.2.mem ((c.tc : Thread Cert.MemkIdeal.nD Cert.MemkIdeal.τ).loc Cert.MemkIdeal.main_arg3) = m ((c.tc : Thread Cert.MemkIdeal.nD Cert.MemkIdeal.τ).loc Cert.MemkIdeal.main_arg3))
      ∧ θ_run (Cert.MemkRefIdeal.defs (F := Ideal)) (onTc (τ := Cert.MemkRefIdeal.τ) (Cert.MemkRefIdeal.main (F := Ideal))) ⟨m', fun _ => 0, g'⟩ (fun r => ∀ c : Dev Cert.MemkRefIdeal.nD,
          r.2.mem ((c.tc : Thread Cert.MemkRefIdeal.nD Cert.MemkRefIdeal.τ).loc Cert.MemkRefIdeal.main_v28) = v0 c
          ∧ r.2.mem ((c.tc : Thread Cert.MemkRefIdeal.nD Cert.MemkRefIdeal.τ).loc Cert.MemkRefIdeal.main_v29) = v1 c
          ∧ r.2.mem ((c.tc : Thread Cert.MemkRefIdeal.nD Cert.MemkRefIdeal.τ).loc Cert.MemkRefIdeal.main_arg0) = m' ((c.tc : Thread Cert.MemkRefIdeal.nD Cert.MemkRefIdeal.τ).loc Cert.MemkRefIdeal.main_arg0)
          ∧ r.2.mem ((c.tc : Thread Cert.MemkRefIdeal.nD Cert.MemkRefIdeal.τ).loc Cert.MemkRefIdeal.main_arg1) = m' ((c.tc : Thread Cert.MemkRefIdeal.nD Cert.MemkRefIdeal.τ).loc Cert.MemkRefIdeal.main_arg1)
          ∧ r.2.mem ((c.tc : Thread Cert.MemkRefIdeal.nD Cert.MemkRefIdeal.τ).loc Cert.MemkRefIdeal.main_arg2) = m' ((c.tc : Thread Cert.MemkRefIdeal.nD Cert.MemkRefIdeal.τ).loc Cert.MemkRefIdeal.main_arg2)
          ∧ r.2.mem ((c.tc : Thread Cert.MemkRefIdeal.nD Cert.MemkRefIdeal.τ).loc Cert.MemkRefIdeal.main_arg3) = m' ((c.tc : Thread Cert.MemkRefIdeal.nD Cert.MemkRefIdeal.τ).loc Cert.MemkRefIdeal.main_arg3))

def preserves_Memv_MemvIdeal : Prop :=
  True

def algebraic_MemvIdeal_MemvRefIdeal [hMemvIdeal : Cert.MemvIdeal.Facts] [hMemvRefIdeal : Cert.MemvRefIdeal.Facts] : Prop :=
  ∀ (m : (ℓ : Loc Cert.MemvIdeal.nD Cert.MemvIdeal.τ Cert.MemvIdeal.sig) → Buf (Elt Ideal) ℓ) (g : Dev Cert.MemvIdeal.nD → PrngReg)
    (m' : (ℓ : Loc Cert.MemvRefIdeal.nD Cert.MemvRefIdeal.τ Cert.MemvRefIdeal.sig) → Buf (Elt Ideal) ℓ) (g' : Dev Cert.MemvRefIdeal.nD → PrngReg), Pre_MemvIdeal m →
    (∀ c : Dev Cert.MemvIdeal.nD,
      m' ((c.tc : Thread Cert.MemvRefIdeal.nD Cert.MemvRefIdeal.τ).loc Cert.MemvRefIdeal.main_arg0) = m ((c.tc : Thread Cert.MemvIdeal.nD Cert.MemvIdeal.τ).loc Cert.MemvIdeal.main_arg0)
      ∧ m' ((c.tc : Thread Cert.MemvRefIdeal.nD Cert.MemvRefIdeal.τ).loc Cert.MemvRefIdeal.main_arg1) = m ((c.tc : Thread Cert.MemvIdeal.nD Cert.MemvIdeal.τ).loc Cert.MemvIdeal.main_arg1)
      ∧ m' ((c.tc : Thread Cert.MemvRefIdeal.nD Cert.MemvRefIdeal.τ).loc Cert.MemvRefIdeal.main_arg2) = m ((c.tc : Thread Cert.MemvIdeal.nD Cert.MemvIdeal.τ).loc Cert.MemvIdeal.main_arg2)) →
    ∃ (v0 : (c : Dev Cert.MemvIdeal.nD) → Buf (Elt Ideal) ((c.tc : Thread Cert.MemvIdeal.nD Cert.MemvIdeal.τ).loc Cert.MemvIdeal.main_v4_0)) (v1 : (c : Dev Cert.MemvIdeal.nD) → Buf (Elt Ideal) ((c.tc : Thread Cert.MemvIdeal.nD Cert.MemvIdeal.τ).loc Cert.MemvIdeal.main_v4_1)),
      θ_run (Cert.MemvIdeal.defs (F := Ideal)) (onTc (τ := Cert.MemvIdeal.τ) (Cert.MemvIdeal.main (F := Ideal))) ⟨m, fun _ => 0, g⟩ (fun r => ∀ c : Dev Cert.MemvIdeal.nD,
          r.2.mem ((c.tc : Thread Cert.MemvIdeal.nD Cert.MemvIdeal.τ).loc Cert.MemvIdeal.main_v4_0) = v0 c
          ∧ r.2.mem ((c.tc : Thread Cert.MemvIdeal.nD Cert.MemvIdeal.τ).loc Cert.MemvIdeal.main_v4_1) = v1 c
          ∧ r.2.mem ((c.tc : Thread Cert.MemvIdeal.nD Cert.MemvIdeal.τ).loc Cert.MemvIdeal.main_arg0) = m ((c.tc : Thread Cert.MemvIdeal.nD Cert.MemvIdeal.τ).loc Cert.MemvIdeal.main_arg0)
          ∧ r.2.mem ((c.tc : Thread Cert.MemvIdeal.nD Cert.MemvIdeal.τ).loc Cert.MemvIdeal.main_arg1) = m ((c.tc : Thread Cert.MemvIdeal.nD Cert.MemvIdeal.τ).loc Cert.MemvIdeal.main_arg1)
          ∧ r.2.mem ((c.tc : Thread Cert.MemvIdeal.nD Cert.MemvIdeal.τ).loc Cert.MemvIdeal.main_arg2) = m ((c.tc : Thread Cert.MemvIdeal.nD Cert.MemvIdeal.τ).loc Cert.MemvIdeal.main_arg2))
      ∧ θ_run (Cert.MemvRefIdeal.defs (F := Ideal)) (onTc (τ := Cert.MemvRefIdeal.τ) (Cert.MemvRefIdeal.main (F := Ideal))) ⟨m', fun _ => 0, g'⟩ (fun r => ∀ c : Dev Cert.MemvRefIdeal.nD,
          r.2.mem ((c.tc : Thread Cert.MemvRefIdeal.nD Cert.MemvRefIdeal.τ).loc Cert.MemvRefIdeal.main_v14) = v0 c
          ∧ r.2.mem ((c.tc : Thread Cert.MemvRefIdeal.nD Cert.MemvRefIdeal.τ).loc Cert.MemvRefIdeal.main_v15) = v1 c
          ∧ r.2.mem ((c.tc : Thread Cert.MemvRefIdeal.nD Cert.MemvRefIdeal.τ).loc Cert.MemvRefIdeal.main_arg0) = m' ((c.tc : Thread Cert.MemvRefIdeal.nD Cert.MemvRefIdeal.τ).loc Cert.MemvRefIdeal.main_arg0)
          ∧ r.2.mem ((c.tc : Thread Cert.MemvRefIdeal.nD Cert.MemvRefIdeal.τ).loc Cert.MemvRefIdeal.main_arg1) = m' ((c.tc : Thread Cert.MemvRefIdeal.nD Cert.MemvRefIdeal.τ).loc Cert.MemvRefIdeal.main_arg1)
          ∧ r.2.mem ((c.tc : Thread Cert.MemvRefIdeal.nD Cert.MemvRefIdeal.τ).loc Cert.MemvRefIdeal.main_arg2) = m' ((c.tc : Thread Cert.MemvRefIdeal.nD Cert.MemvRefIdeal.τ).loc Cert.MemvRefIdeal.main_arg2))

def preserves_Mixs_MixsIdeal : Prop :=
  IdealRules.named_const.Statement Cert.MixsIdeal.κ "qscale" .f32 0x3E38AA3B#32 (((1 / 8) * (Real.log 2)⁻¹ : ℝ) : EReal)

def algebraic_MixsIdeal_MixsRefIdeal [hMixsIdeal : Cert.MixsIdeal.Facts] [hMixsRefIdeal : Cert.MixsRefIdeal.Facts] : Prop :=
  ∀ (m : (ℓ : Loc Cert.MixsIdeal.nD Cert.MixsIdeal.τ Cert.MixsIdeal.sig) → Buf (Elt Ideal) ℓ) (g : Dev Cert.MixsIdeal.nD → PrngReg)
    (m' : (ℓ : Loc Cert.MixsRefIdeal.nD Cert.MixsRefIdeal.τ Cert.MixsRefIdeal.sig) → Buf (Elt Ideal) ℓ) (g' : Dev Cert.MixsRefIdeal.nD → PrngReg), Pre_MixsIdeal m →
    (∀ c : Dev Cert.MixsIdeal.nD,
      m' ((c.tc : Thread Cert.MixsRefIdeal.nD Cert.MixsRefIdeal.τ).loc Cert.MixsRefIdeal.main_arg0) = m ((c.tc : Thread Cert.MixsIdeal.nD Cert.MixsIdeal.τ).loc Cert.MixsIdeal.main_arg0)
      ∧ m' ((c.tc : Thread Cert.MixsRefIdeal.nD Cert.MixsRefIdeal.τ).loc Cert.MixsRefIdeal.main_arg1) = m ((c.tc : Thread Cert.MixsIdeal.nD Cert.MixsIdeal.τ).loc Cert.MixsIdeal.main_arg1)
      ∧ m' ((c.tc : Thread Cert.MixsRefIdeal.nD Cert.MixsRefIdeal.τ).loc Cert.MixsRefIdeal.main_arg2) = m ((c.tc : Thread Cert.MixsIdeal.nD Cert.MixsIdeal.τ).loc Cert.MixsIdeal.main_arg2)
      ∧ m' ((c.tc : Thread Cert.MixsRefIdeal.nD Cert.MixsRefIdeal.τ).loc Cert.MixsRefIdeal.main_arg3) = m ((c.tc : Thread Cert.MixsIdeal.nD Cert.MixsIdeal.τ).loc Cert.MixsIdeal.main_arg3)
      ∧ m' ((c.tc : Thread Cert.MixsRefIdeal.nD Cert.MixsRefIdeal.τ).loc Cert.MixsRefIdeal.main_arg4) = m ((c.tc : Thread Cert.MixsIdeal.nD Cert.MixsIdeal.τ).loc Cert.MixsIdeal.main_arg4)
      ∧ m' ((c.tc : Thread Cert.MixsRefIdeal.nD Cert.MixsRefIdeal.τ).loc Cert.MixsRefIdeal.main_arg5) = m ((c.tc : Thread Cert.MixsIdeal.nD Cert.MixsIdeal.τ).loc Cert.MixsIdeal.main_arg5)
      ∧ m' ((c.tc : Thread Cert.MixsRefIdeal.nD Cert.MixsRefIdeal.τ).loc Cert.MixsRefIdeal.main_arg6) = m ((c.tc : Thread Cert.MixsIdeal.nD Cert.MixsIdeal.τ).loc Cert.MixsIdeal.main_arg6)) →
    ∃ (v0 : (c : Dev Cert.MixsIdeal.nD) → Buf (Elt Ideal) ((c.tc : Thread Cert.MixsIdeal.nD Cert.MixsIdeal.τ).loc Cert.MixsIdeal.main_v31_0)) (v1 : (c : Dev Cert.MixsIdeal.nD) → Buf (Elt Ideal) ((c.tc : Thread Cert.MixsIdeal.nD Cert.MixsIdeal.τ).loc Cert.MixsIdeal.main_v31_1)) (v2 : (c : Dev Cert.MixsIdeal.nD) → Buf (Elt Ideal) ((c.tc : Thread Cert.MixsIdeal.nD Cert.MixsIdeal.τ).loc Cert.MixsIdeal.main_v31_2)) (v3 : (c : Dev Cert.MixsIdeal.nD) → Buf (Elt Ideal) ((c.tc : Thread Cert.MixsIdeal.nD Cert.MixsIdeal.τ).loc Cert.MixsIdeal.main_v31_3)) (v4 : (c : Dev Cert.MixsIdeal.nD) → Buf (Elt Ideal) ((c.tc : Thread Cert.MixsIdeal.nD Cert.MixsIdeal.τ).loc Cert.MixsIdeal.main_v31_4)) (v5 : (c : Dev Cert.MixsIdeal.nD) → Buf (Elt Ideal) ((c.tc : Thread Cert.MixsIdeal.nD Cert.MixsIdeal.τ).loc Cert.MixsIdeal.main_v31_5)) (v6 : (c : Dev Cert.MixsIdeal.nD) → Buf (Elt Ideal) ((c.tc : Thread Cert.MixsIdeal.nD Cert.MixsIdeal.τ).loc Cert.MixsIdeal.main_v31_6)) (v7 : (c : Dev Cert.MixsIdeal.nD) → Buf (Elt Ideal) ((c.tc : Thread Cert.MixsIdeal.nD Cert.MixsIdeal.τ).loc Cert.MixsIdeal.main_v31_7)) (v8 : (c : Dev Cert.MixsIdeal.nD) → Buf (Elt Ideal) ((c.tc : Thread Cert.MixsIdeal.nD Cert.MixsIdeal.τ).loc Cert.MixsIdeal.main_v31_8)) (v9 : (c : Dev Cert.MixsIdeal.nD) → Buf (Elt Ideal) ((c.tc : Thread Cert.MixsIdeal.nD Cert.MixsIdeal.τ).loc Cert.MixsIdeal.main_v31_9)),
      θ_run (Cert.MixsIdeal.defs (F := Ideal)) (onTc (τ := Cert.MixsIdeal.τ) (Cert.MixsIdeal.main (F := Ideal))) ⟨m, fun _ => 0, g⟩ (fun r => ∀ c : Dev Cert.MixsIdeal.nD,
          r.2.mem ((c.tc : Thread Cert.MixsIdeal.nD Cert.MixsIdeal.τ).loc Cert.MixsIdeal.main_v31_0) = v0 c
          ∧ r.2.mem ((c.tc : Thread Cert.MixsIdeal.nD Cert.MixsIdeal.τ).loc Cert.MixsIdeal.main_v31_1) = v1 c
          ∧ r.2.mem ((c.tc : Thread Cert.MixsIdeal.nD Cert.MixsIdeal.τ).loc Cert.MixsIdeal.main_v31_2) = v2 c
          ∧ r.2.mem ((c.tc : Thread Cert.MixsIdeal.nD Cert.MixsIdeal.τ).loc Cert.MixsIdeal.main_v31_3) = v3 c
          ∧ r.2.mem ((c.tc : Thread Cert.MixsIdeal.nD Cert.MixsIdeal.τ).loc Cert.MixsIdeal.main_v31_4) = v4 c
          ∧ r.2.mem ((c.tc : Thread Cert.MixsIdeal.nD Cert.MixsIdeal.τ).loc Cert.MixsIdeal.main_v31_5) = v5 c
          ∧ r.2.mem ((c.tc : Thread Cert.MixsIdeal.nD Cert.MixsIdeal.τ).loc Cert.MixsIdeal.main_v31_6) = v6 c
          ∧ r.2.mem ((c.tc : Thread Cert.MixsIdeal.nD Cert.MixsIdeal.τ).loc Cert.MixsIdeal.main_v31_7) = v7 c
          ∧ r.2.mem ((c.tc : Thread Cert.MixsIdeal.nD Cert.MixsIdeal.τ).loc Cert.MixsIdeal.main_v31_8) = v8 c
          ∧ r.2.mem ((c.tc : Thread Cert.MixsIdeal.nD Cert.MixsIdeal.τ).loc Cert.MixsIdeal.main_v31_9) = v9 c
          ∧ r.2.mem ((c.tc : Thread Cert.MixsIdeal.nD Cert.MixsIdeal.τ).loc Cert.MixsIdeal.main_arg0) = m ((c.tc : Thread Cert.MixsIdeal.nD Cert.MixsIdeal.τ).loc Cert.MixsIdeal.main_arg0)
          ∧ r.2.mem ((c.tc : Thread Cert.MixsIdeal.nD Cert.MixsIdeal.τ).loc Cert.MixsIdeal.main_arg1) = m ((c.tc : Thread Cert.MixsIdeal.nD Cert.MixsIdeal.τ).loc Cert.MixsIdeal.main_arg1)
          ∧ r.2.mem ((c.tc : Thread Cert.MixsIdeal.nD Cert.MixsIdeal.τ).loc Cert.MixsIdeal.main_arg2) = m ((c.tc : Thread Cert.MixsIdeal.nD Cert.MixsIdeal.τ).loc Cert.MixsIdeal.main_arg2)
          ∧ r.2.mem ((c.tc : Thread Cert.MixsIdeal.nD Cert.MixsIdeal.τ).loc Cert.MixsIdeal.main_arg3) = m ((c.tc : Thread Cert.MixsIdeal.nD Cert.MixsIdeal.τ).loc Cert.MixsIdeal.main_arg3)
          ∧ r.2.mem ((c.tc : Thread Cert.MixsIdeal.nD Cert.MixsIdeal.τ).loc Cert.MixsIdeal.main_arg4) = m ((c.tc : Thread Cert.MixsIdeal.nD Cert.MixsIdeal.τ).loc Cert.MixsIdeal.main_arg4)
          ∧ r.2.mem ((c.tc : Thread Cert.MixsIdeal.nD Cert.MixsIdeal.τ).loc Cert.MixsIdeal.main_arg5) = m ((c.tc : Thread Cert.MixsIdeal.nD Cert.MixsIdeal.τ).loc Cert.MixsIdeal.main_arg5)
          ∧ r.2.mem ((c.tc : Thread Cert.MixsIdeal.nD Cert.MixsIdeal.τ).loc Cert.MixsIdeal.main_arg6) = m ((c.tc : Thread Cert.MixsIdeal.nD Cert.MixsIdeal.τ).loc Cert.MixsIdeal.main_arg6))
      ∧ θ_run (Cert.MixsRefIdeal.defs (F := Ideal)) (onTc (τ := Cert.MixsRefIdeal.τ) (Cert.MixsRefIdeal.main (F := Ideal))) ⟨m', fun _ => 0, g'⟩ (fun r => ∀ c : Dev Cert.MixsRefIdeal.nD,
          r.2.mem ((c.tc : Thread Cert.MixsRefIdeal.nD Cert.MixsRefIdeal.τ).loc Cert.MixsRefIdeal.main_v63) = v0 c
          ∧ r.2.mem ((c.tc : Thread Cert.MixsRefIdeal.nD Cert.MixsRefIdeal.τ).loc Cert.MixsRefIdeal.main_v64) = v1 c
          ∧ r.2.mem ((c.tc : Thread Cert.MixsRefIdeal.nD Cert.MixsRefIdeal.τ).loc Cert.MixsRefIdeal.main_v65) = v2 c
          ∧ r.2.mem ((c.tc : Thread Cert.MixsRefIdeal.nD Cert.MixsRefIdeal.τ).loc Cert.MixsRefIdeal.main_v66) = v3 c
          ∧ r.2.mem ((c.tc : Thread Cert.MixsRefIdeal.nD Cert.MixsRefIdeal.τ).loc Cert.MixsRefIdeal.main_v67) = v4 c
          ∧ r.2.mem ((c.tc : Thread Cert.MixsRefIdeal.nD Cert.MixsRefIdeal.τ).loc Cert.MixsRefIdeal.main_v73) = v5 c
          ∧ r.2.mem ((c.tc : Thread Cert.MixsRefIdeal.nD Cert.MixsRefIdeal.τ).loc Cert.MixsRefIdeal.main_v61) = v6 c
          ∧ r.2.mem ((c.tc : Thread Cert.MixsRefIdeal.nD Cert.MixsRefIdeal.τ).loc Cert.MixsRefIdeal.main_v74) = v7 c
          ∧ r.2.mem ((c.tc : Thread Cert.MixsRefIdeal.nD Cert.MixsRefIdeal.τ).loc Cert.MixsRefIdeal.main_v75) = v8 c
          ∧ r.2.mem ((c.tc : Thread Cert.MixsRefIdeal.nD Cert.MixsRefIdeal.τ).loc Cert.MixsRefIdeal.main_v76) = v9 c
          ∧ r.2.mem ((c.tc : Thread Cert.MixsRefIdeal.nD Cert.MixsRefIdeal.τ).loc Cert.MixsRefIdeal.main_arg0) = m' ((c.tc : Thread Cert.MixsRefIdeal.nD Cert.MixsRefIdeal.τ).loc Cert.MixsRefIdeal.main_arg0)
          ∧ r.2.mem ((c.tc : Thread Cert.MixsRefIdeal.nD Cert.MixsRefIdeal.τ).loc Cert.MixsRefIdeal.main_arg1) = m' ((c.tc : Thread Cert.MixsRefIdeal.nD Cert.MixsRefIdeal.τ).loc Cert.MixsRefIdeal.main_arg1)
          ∧ r.2.mem ((c.tc : Thread Cert.MixsRefIdeal.nD Cert.MixsRefIdeal.τ).loc Cert.MixsRefIdeal.main_arg2) = m' ((c.tc : Thread Cert.MixsRefIdeal.nD Cert.MixsRefIdeal.τ).loc Cert.MixsRefIdeal.main_arg2)
          ∧ r.2.mem ((c.tc : Thread Cert.MixsRefIdeal.nD Cert.MixsRefIdeal.τ).loc Cert.MixsRefIdeal.main_arg3) = m' ((c.tc : Thread Cert.MixsRefIdeal.nD Cert.MixsRefIdeal.τ).loc Cert.MixsRefIdeal.main_arg3)
          ∧ r.2.mem ((c.tc : Thread Cert.MixsRefIdeal.nD Cert.MixsRefIdeal.τ).loc Cert.MixsRefIdeal.main_arg4) = m' ((c.tc : Thread Cert.MixsRefIdeal.nD Cert.MixsRefIdeal.τ).loc Cert.MixsRefIdeal.main_arg4)
          ∧ r.2.mem ((c.tc : Thread Cert.MixsRefIdeal.nD Cert.MixsRefIdeal.τ).loc Cert.MixsRefIdeal.main_arg5) = m' ((c.tc : Thread Cert.MixsRefIdeal.nD Cert.MixsRefIdeal.τ).loc Cert.MixsRefIdeal.main_arg5)
          ∧ r.2.mem ((c.tc : Thread Cert.MixsRefIdeal.nD Cert.MixsRefIdeal.τ).loc Cert.MixsRefIdeal.main_arg6) = m' ((c.tc : Thread Cert.MixsRefIdeal.nD Cert.MixsRefIdeal.τ).loc Cert.MixsRefIdeal.main_arg6))

def preserves_Mixp_MixpIdeal : Prop :=
  IdealRules.named_const.Statement Cert.MixpIdeal.κ "qscale" .f32 0x3E38AA3B#32 (((1 / 8) * (Real.log 2)⁻¹ : ℝ) : EReal)

def algebraic_MixpIdeal_MixpRefIdeal [hMixpIdeal : Cert.MixpIdeal.Facts] [hMixpRefIdeal : Cert.MixpRefIdeal.Facts] : Prop :=
  ∀ (m : (ℓ : Loc Cert.MixpIdeal.nD Cert.MixpIdeal.τ Cert.MixpIdeal.sig) → Buf (Elt Ideal) ℓ) (g : Dev Cert.MixpIdeal.nD → PrngReg)
    (m' : (ℓ : Loc Cert.MixpRefIdeal.nD Cert.MixpRefIdeal.τ Cert.MixpRefIdeal.sig) → Buf (Elt Ideal) ℓ) (g' : Dev Cert.MixpRefIdeal.nD → PrngReg), Pre_MixpIdeal m →
    (∀ c : Dev Cert.MixpIdeal.nD,
      m' ((c.tc : Thread Cert.MixpRefIdeal.nD Cert.MixpRefIdeal.τ).loc Cert.MixpRefIdeal.main_arg0) = m ((c.tc : Thread Cert.MixpIdeal.nD Cert.MixpIdeal.τ).loc Cert.MixpIdeal.main_arg0)
      ∧ m' ((c.tc : Thread Cert.MixpRefIdeal.nD Cert.MixpRefIdeal.τ).loc Cert.MixpRefIdeal.main_arg1) = m ((c.tc : Thread Cert.MixpIdeal.nD Cert.MixpIdeal.τ).loc Cert.MixpIdeal.main_arg1)
      ∧ m' ((c.tc : Thread Cert.MixpRefIdeal.nD Cert.MixpRefIdeal.τ).loc Cert.MixpRefIdeal.main_arg2) = m ((c.tc : Thread Cert.MixpIdeal.nD Cert.MixpIdeal.τ).loc Cert.MixpIdeal.main_arg2)
      ∧ m' ((c.tc : Thread Cert.MixpRefIdeal.nD Cert.MixpRefIdeal.τ).loc Cert.MixpRefIdeal.main_arg3) = m ((c.tc : Thread Cert.MixpIdeal.nD Cert.MixpIdeal.τ).loc Cert.MixpIdeal.main_arg3)
      ∧ m' ((c.tc : Thread Cert.MixpRefIdeal.nD Cert.MixpRefIdeal.τ).loc Cert.MixpRefIdeal.main_arg4) = m ((c.tc : Thread Cert.MixpIdeal.nD Cert.MixpIdeal.τ).loc Cert.MixpIdeal.main_arg4)
      ∧ m' ((c.tc : Thread Cert.MixpRefIdeal.nD Cert.MixpRefIdeal.τ).loc Cert.MixpRefIdeal.main_arg5) = m ((c.tc : Thread Cert.MixpIdeal.nD Cert.MixpIdeal.τ).loc Cert.MixpIdeal.main_arg5)
      ∧ m' ((c.tc : Thread Cert.MixpRefIdeal.nD Cert.MixpRefIdeal.τ).loc Cert.MixpRefIdeal.main_arg6) = m ((c.tc : Thread Cert.MixpIdeal.nD Cert.MixpIdeal.τ).loc Cert.MixpIdeal.main_arg6)) →
    ∃ (v0 : (c : Dev Cert.MixpIdeal.nD) → Buf (Elt Ideal) ((c.tc : Thread Cert.MixpIdeal.nD Cert.MixpIdeal.τ).loc Cert.MixpIdeal.main_v31_0)) (v1 : (c : Dev Cert.MixpIdeal.nD) → Buf (Elt Ideal) ((c.tc : Thread Cert.MixpIdeal.nD Cert.MixpIdeal.τ).loc Cert.MixpIdeal.main_v31_1)) (v2 : (c : Dev Cert.MixpIdeal.nD) → Buf (Elt Ideal) ((c.tc : Thread Cert.MixpIdeal.nD Cert.MixpIdeal.τ).loc Cert.MixpIdeal.main_v31_2)) (v3 : (c : Dev Cert.MixpIdeal.nD) → Buf (Elt Ideal) ((c.tc : Thread Cert.MixpIdeal.nD Cert.MixpIdeal.τ).loc Cert.MixpIdeal.main_v31_3)) (v4 : (c : Dev Cert.MixpIdeal.nD) → Buf (Elt Ideal) ((c.tc : Thread Cert.MixpIdeal.nD Cert.MixpIdeal.τ).loc Cert.MixpIdeal.main_v31_4)) (v5 : (c : Dev Cert.MixpIdeal.nD) → Buf (Elt Ideal) ((c.tc : Thread Cert.MixpIdeal.nD Cert.MixpIdeal.τ).loc Cert.MixpIdeal.main_v31_5)) (v6 : (c : Dev Cert.MixpIdeal.nD) → Buf (Elt Ideal) ((c.tc : Thread Cert.MixpIdeal.nD Cert.MixpIdeal.τ).loc Cert.MixpIdeal.main_v31_6)) (v7 : (c : Dev Cert.MixpIdeal.nD) → Buf (Elt Ideal) ((c.tc : Thread Cert.MixpIdeal.nD Cert.MixpIdeal.τ).loc Cert.MixpIdeal.main_v31_7)) (v8 : (c : Dev Cert.MixpIdeal.nD) → Buf (Elt Ideal) ((c.tc : Thread Cert.MixpIdeal.nD Cert.MixpIdeal.τ).loc Cert.MixpIdeal.main_v31_8)) (v9 : (c : Dev Cert.MixpIdeal.nD) → Buf (Elt Ideal) ((c.tc : Thread Cert.MixpIdeal.nD Cert.MixpIdeal.τ).loc Cert.MixpIdeal.main_v31_9)),
      θ_run (Cert.MixpIdeal.defs (F := Ideal)) (onTc (τ := Cert.MixpIdeal.τ) (Cert.MixpIdeal.main (F := Ideal))) ⟨m, fun _ => 0, g⟩ (fun r => ∀ c : Dev Cert.MixpIdeal.nD,
          r.2.mem ((c.tc : Thread Cert.MixpIdeal.nD Cert.MixpIdeal.τ).loc Cert.MixpIdeal.main_v31_0) = v0 c
          ∧ r.2.mem ((c.tc : Thread Cert.MixpIdeal.nD Cert.MixpIdeal.τ).loc Cert.MixpIdeal.main_v31_1) = v1 c
          ∧ r.2.mem ((c.tc : Thread Cert.MixpIdeal.nD Cert.MixpIdeal.τ).loc Cert.MixpIdeal.main_v31_2) = v2 c
          ∧ r.2.mem ((c.tc : Thread Cert.MixpIdeal.nD Cert.MixpIdeal.τ).loc Cert.MixpIdeal.main_v31_3) = v3 c
          ∧ r.2.mem ((c.tc : Thread Cert.MixpIdeal.nD Cert.MixpIdeal.τ).loc Cert.MixpIdeal.main_v31_4) = v4 c
          ∧ r.2.mem ((c.tc : Thread Cert.MixpIdeal.nD Cert.MixpIdeal.τ).loc Cert.MixpIdeal.main_v31_5) = v5 c
          ∧ r.2.mem ((c.tc : Thread Cert.MixpIdeal.nD Cert.MixpIdeal.τ).loc Cert.MixpIdeal.main_v31_6) = v6 c
          ∧ r.2.mem ((c.tc : Thread Cert.MixpIdeal.nD Cert.MixpIdeal.τ).loc Cert.MixpIdeal.main_v31_7) = v7 c
          ∧ r.2.mem ((c.tc : Thread Cert.MixpIdeal.nD Cert.MixpIdeal.τ).loc Cert.MixpIdeal.main_v31_8) = v8 c
          ∧ r.2.mem ((c.tc : Thread Cert.MixpIdeal.nD Cert.MixpIdeal.τ).loc Cert.MixpIdeal.main_v31_9) = v9 c
          ∧ r.2.mem ((c.tc : Thread Cert.MixpIdeal.nD Cert.MixpIdeal.τ).loc Cert.MixpIdeal.main_arg0) = m ((c.tc : Thread Cert.MixpIdeal.nD Cert.MixpIdeal.τ).loc Cert.MixpIdeal.main_arg0)
          ∧ r.2.mem ((c.tc : Thread Cert.MixpIdeal.nD Cert.MixpIdeal.τ).loc Cert.MixpIdeal.main_arg1) = m ((c.tc : Thread Cert.MixpIdeal.nD Cert.MixpIdeal.τ).loc Cert.MixpIdeal.main_arg1)
          ∧ r.2.mem ((c.tc : Thread Cert.MixpIdeal.nD Cert.MixpIdeal.τ).loc Cert.MixpIdeal.main_arg2) = m ((c.tc : Thread Cert.MixpIdeal.nD Cert.MixpIdeal.τ).loc Cert.MixpIdeal.main_arg2)
          ∧ r.2.mem ((c.tc : Thread Cert.MixpIdeal.nD Cert.MixpIdeal.τ).loc Cert.MixpIdeal.main_arg3) = m ((c.tc : Thread Cert.MixpIdeal.nD Cert.MixpIdeal.τ).loc Cert.MixpIdeal.main_arg3)
          ∧ r.2.mem ((c.tc : Thread Cert.MixpIdeal.nD Cert.MixpIdeal.τ).loc Cert.MixpIdeal.main_arg4) = m ((c.tc : Thread Cert.MixpIdeal.nD Cert.MixpIdeal.τ).loc Cert.MixpIdeal.main_arg4)
          ∧ r.2.mem ((c.tc : Thread Cert.MixpIdeal.nD Cert.MixpIdeal.τ).loc Cert.MixpIdeal.main_arg5) = m ((c.tc : Thread Cert.MixpIdeal.nD Cert.MixpIdeal.τ).loc Cert.MixpIdeal.main_arg5)
          ∧ r.2.mem ((c.tc : Thread Cert.MixpIdeal.nD Cert.MixpIdeal.τ).loc Cert.MixpIdeal.main_arg6) = m ((c.tc : Thread Cert.MixpIdeal.nD Cert.MixpIdeal.τ).loc Cert.MixpIdeal.main_arg6))
      ∧ θ_run (Cert.MixpRefIdeal.defs (F := Ideal)) (onTc (τ := Cert.MixpRefIdeal.τ) (Cert.MixpRefIdeal.main (F := Ideal))) ⟨m', fun _ => 0, g'⟩ (fun r => ∀ c : Dev Cert.MixpRefIdeal.nD,
          r.2.mem ((c.tc : Thread Cert.MixpRefIdeal.nD Cert.MixpRefIdeal.τ).loc Cert.MixpRefIdeal.main_v63) = v0 c
          ∧ r.2.mem ((c.tc : Thread Cert.MixpRefIdeal.nD Cert.MixpRefIdeal.τ).loc Cert.MixpRefIdeal.main_v64) = v1 c
          ∧ r.2.mem ((c.tc : Thread Cert.MixpRefIdeal.nD Cert.MixpRefIdeal.τ).loc Cert.MixpRefIdeal.main_v65) = v2 c
          ∧ r.2.mem ((c.tc : Thread Cert.MixpRefIdeal.nD Cert.MixpRefIdeal.τ).loc Cert.MixpRefIdeal.main_v66) = v3 c
          ∧ r.2.mem ((c.tc : Thread Cert.MixpRefIdeal.nD Cert.MixpRefIdeal.τ).loc Cert.MixpRefIdeal.main_v67) = v4 c
          ∧ r.2.mem ((c.tc : Thread Cert.MixpRefIdeal.nD Cert.MixpRefIdeal.τ).loc Cert.MixpRefIdeal.main_v73) = v5 c
          ∧ r.2.mem ((c.tc : Thread Cert.MixpRefIdeal.nD Cert.MixpRefIdeal.τ).loc Cert.MixpRefIdeal.main_v75) = v6 c
          ∧ r.2.mem ((c.tc : Thread Cert.MixpRefIdeal.nD Cert.MixpRefIdeal.τ).loc Cert.MixpRefIdeal.main_v76) = v7 c
          ∧ r.2.mem ((c.tc : Thread Cert.MixpRefIdeal.nD Cert.MixpRefIdeal.τ).loc Cert.MixpRefIdeal.main_v77) = v8 c
          ∧ r.2.mem ((c.tc : Thread Cert.MixpRefIdeal.nD Cert.MixpRefIdeal.τ).loc Cert.MixpRefIdeal.main_v78) = v9 c
          ∧ r.2.mem ((c.tc : Thread Cert.MixpRefIdeal.nD Cert.MixpRefIdeal.τ).loc Cert.MixpRefIdeal.main_arg0) = m' ((c.tc : Thread Cert.MixpRefIdeal.nD Cert.MixpRefIdeal.τ).loc Cert.MixpRefIdeal.main_arg0)
          ∧ r.2.mem ((c.tc : Thread Cert.MixpRefIdeal.nD Cert.MixpRefIdeal.τ).loc Cert.MixpRefIdeal.main_arg1) = m' ((c.tc : Thread Cert.MixpRefIdeal.nD Cert.MixpRefIdeal.τ).loc Cert.MixpRefIdeal.main_arg1)
          ∧ r.2.mem ((c.tc : Thread Cert.MixpRefIdeal.nD Cert.MixpRefIdeal.τ).loc Cert.MixpRefIdeal.main_arg2) = m' ((c.tc : Thread Cert.MixpRefIdeal.nD Cert.MixpRefIdeal.τ).loc Cert.MixpRefIdeal.main_arg2)
          ∧ r.2.mem ((c.tc : Thread Cert.MixpRefIdeal.nD Cert.MixpRefIdeal.τ).loc Cert.MixpRefIdeal.main_arg3) = m' ((c.tc : Thread Cert.MixpRefIdeal.nD Cert.MixpRefIdeal.τ).loc Cert.MixpRefIdeal.main_arg3)
          ∧ r.2.mem ((c.tc : Thread Cert.MixpRefIdeal.nD Cert.MixpRefIdeal.τ).loc Cert.MixpRefIdeal.main_arg4) = m' ((c.tc : Thread Cert.MixpRefIdeal.nD Cert.MixpRefIdeal.τ).loc Cert.MixpRefIdeal.main_arg4)
          ∧ r.2.mem ((c.tc : Thread Cert.MixpRefIdeal.nD Cert.MixpRefIdeal.τ).loc Cert.MixpRefIdeal.main_arg5) = m' ((c.tc : Thread Cert.MixpRefIdeal.nD Cert.MixpRefIdeal.τ).loc Cert.MixpRefIdeal.main_arg5)
          ∧ r.2.mem ((c.tc : Thread Cert.MixpRefIdeal.nD Cert.MixpRefIdeal.τ).loc Cert.MixpRefIdeal.main_arg6) = m' ((c.tc : Thread Cert.MixpRefIdeal.nD Cert.MixpRefIdeal.τ).loc Cert.MixpRefIdeal.main_arg6))

def Claim : Prop :=
  ∃ (hFfn : Cert.Ffn.Facts) (hFfnIdeal : Cert.FfnIdeal.Facts) (hFfnRefIdeal : Cert.FfnRefIdeal.Facts) (hDattn : Cert.Dattn.Facts) (hDattnIdeal : Cert.DattnIdeal.Facts) (hDattnRefIdeal : Cert.DattnRefIdeal.Facts) (hFfns : Cert.Ffns.Facts) (hFfnsIdeal : Cert.FfnsIdeal.Facts) (hFfnsRefIdeal : Cert.FfnsRefIdeal.Facts) (hMemk : Cert.Memk.Facts) (hMemkIdeal : Cert.MemkIdeal.Facts) (hMemkRefIdeal : Cert.MemkRefIdeal.Facts) (hMemv : Cert.Memv.Facts) (hMemvIdeal : Cert.MemvIdeal.Facts) (hMemvRefIdeal : Cert.MemvRefIdeal.Facts) (hMixs : Cert.Mixs.Facts) (hMixsIdeal : Cert.MixsIdeal.Facts) (hMixsRefIdeal : Cert.MixsRefIdeal.Facts) (hMixp : Cert.Mixp.Facts) (hMixpIdeal : Cert.MixpIdeal.Facts) (hMixpRefIdeal : Cert.MixpRefIdeal.Facts) (hPre_finite_qkb : Cert.Pre_finite_qkb.Facts),
    quiescent_Ffn (hFfn := hFfn)
    ∧ quiescent_FfnIdeal (hFfnIdeal := hFfnIdeal)
    ∧ quiescent_FfnRefIdeal (hFfnRefIdeal := hFfnRefIdeal)
    ∧ quiescent_Dattn (hDattn := hDattn)
    ∧ quiescent_DattnIdeal (hDattnIdeal := hDattnIdeal)
    ∧ quiescent_DattnIdeal_pre_finite_qkb (hDattnIdeal := hDattnIdeal) (hPre_finite_qkb := hPre_finite_qkb)
    ∧ quiescent_DattnRefIdeal (hDattnRefIdeal := hDattnRefIdeal)
    ∧ quiescent_DattnRefIdeal_pre_finite_qkb (hDattnRefIdeal := hDattnRefIdeal) (hPre_finite_qkb := hPre_finite_qkb)
    ∧ quiescent_Ffns (hFfns := hFfns)
    ∧ quiescent_FfnsIdeal (hFfnsIdeal := hFfnsIdeal)
    ∧ quiescent_FfnsRefIdeal (hFfnsRefIdeal := hFfnsRefIdeal)
    ∧ quiescent_Memk (hMemk := hMemk)
    ∧ quiescent_MemkIdeal (hMemkIdeal := hMemkIdeal)
    ∧ quiescent_MemkRefIdeal (hMemkRefIdeal := hMemkRefIdeal)
    ∧ quiescent_Memv (hMemv := hMemv)
    ∧ quiescent_MemvIdeal (hMemvIdeal := hMemvIdeal)
    ∧ quiescent_MemvRefIdeal (hMemvRefIdeal := hMemvRefIdeal)
    ∧ quiescent_Mixs (hMixs := hMixs)
    ∧ quiescent_MixsIdeal (hMixsIdeal := hMixsIdeal)
    ∧ quiescent_MixsRefIdeal (hMixsRefIdeal := hMixsRefIdeal)
    ∧ quiescent_Mixp (hMixp := hMixp)
    ∧ quiescent_MixpIdeal (hMixpIdeal := hMixpIdeal)
    ∧ quiescent_MixpRefIdeal (hMixpRefIdeal := hMixpRefIdeal)
    ∧ preserves_Ffn_FfnIdeal
    ∧ algebraic_FfnIdeal_FfnRefIdeal (hFfnIdeal := hFfnIdeal) (hFfnRefIdeal := hFfnRefIdeal)
    ∧ preserves_Dattn_DattnIdeal
    ∧ algebraic_DattnIdeal_DattnRefIdeal_pre_finite_qkb (hDattnIdeal := hDattnIdeal) (hDattnRefIdeal := hDattnRefIdeal) (hPre_finite_qkb := hPre_finite_qkb)
    ∧ preserves_Ffns_FfnsIdeal
    ∧ algebraic_FfnsIdeal_FfnsRefIdeal (hFfnsIdeal := hFfnsIdeal) (hFfnsRefIdeal := hFfnsRefIdeal)
    ∧ preserves_Memk_MemkIdeal
    ∧ algebraic_MemkIdeal_MemkRefIdeal (hMemkIdeal := hMemkIdeal) (hMemkRefIdeal := hMemkRefIdeal)
    ∧ preserves_Memv_MemvIdeal
    ∧ algebraic_MemvIdeal_MemvRefIdeal (hMemvIdeal := hMemvIdeal) (hMemvRefIdeal := hMemvRefIdeal)
    ∧ preserves_Mixs_MixsIdeal
    ∧ algebraic_MixsIdeal_MixsRefIdeal (hMixsIdeal := hMixsIdeal) (hMixsRefIdeal := hMixsRefIdeal)
    ∧ preserves_Mixp_MixpIdeal
    ∧ algebraic_MixpIdeal_MixpRefIdeal (hMixpIdeal := hMixpIdeal) (hMixpRefIdeal := hMixpRefIdeal)
-- ==== Pre_finite_qkb.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S_ : Shape := ⟨0, ![]⟩

class Facts : Prop where
  bcast_S_S4x4096x4x2x64 : S_.BroadcastsInDim S4x4096x4x2x64 (![] : Fin 0 → Fin S4x4096x4x2x64.rank)
  bcast_S_S32x4 : S_.BroadcastsInDim S32x4 (![] : Fin 0 → Fin S32x4.rank)

variable [Facts]

def fn {F : FTy → Type} [FloatOps F] (main_arg0 : FVec F S4x4096x4x2x64 .f32) (main_arg1 : FVec F S4x4096x4x2x64 .f32) (main_arg2 : FVec F S4x4096x4x128 .f32) (main_arg3 : FVec F S32x4 .f32) : IVec S4x4096x4x2x64 1 × IVec S4x4096x4x2x64 1 × IVec S32x4 1 :=
  let main_cst : FVec F S_ .f32 := constant S_ .f32 0xFF800000#32
  let main_v0 : FVec F S4x4096x4x2x64 .f32 := broadcastInDim S4x4096x4x2x64 ![] bcast_S_S4x4096x4x2x64 main_cst
  let main_v1 : IVec S4x4096x4x2x64 1 := cmpf .ogt main_arg0 main_v0
  let main_cst_0 : FVec F S_ .f32 := constant S_ .f32 0x7F800000#32
  let main_v2 : FVec F S4x4096x4x2x64 .f32 := broadcastInDim S4x4096x4x2x64 ![] bcast_S_S4x4096x4x2x64 main_cst_0
  let main_v3 : IVec S4x4096x4x2x64 1 := cmpf .olt main_arg0 main_v2
  let main_v4 : IVec S4x4096x4x2x64 1 := andi main_v1 main_v3
  let main_cst_1 : FVec F S_ .f32 := constant S_ .f32 0xFF800000#32
  let main_v5 : FVec F S4x4096x4x2x64 .f32 := broadcastInDim S4x4096x4x2x64 ![] bcast_S_S4x4096x4x2x64 main_cst_1
  let main_v6 : IVec S4x4096x4x2x64 1 := cmpf .ogt main_arg1 main_v5
  let main_cst_2 : FVec F S_ .f32 := constant S_ .f32 0x7F800000#32
  let main_v7 : FVec F S4x4096x4x2x64 .f32 := broadcastInDim S4x4096x4x2x64 ![] bcast_S_S4x4096x4x2x64 main_cst_2
  let main_v8 : IVec S4x4096x4x2x64 1 := cmpf .olt main_arg1 main_v7
  let main_v9 : IVec S4x4096x4x2x64 1 := andi main_v6 main_v8
  let main_cst_3 : FVec F S_ .f32 := constant S_ .f32 0xFF800000#32
  let main_v10 : FVec F S32x4 .f32 := broadcastInDim S32x4 ![] bcast_S_S32x4 main_cst_3
  let main_v11 : IVec S32x4 1 := cmpf .ogt main_arg3 main_v10
  let main_cst_4 : FVec F S_ .f32 := constant S_ .f32 0x7F800000#32
  let main_v12 : FVec F S32x4 .f32 := broadcastInDim S32x4 ![] bcast_S_S32x4 main_cst_4
  let main_v13 : IVec S32x4 1 := cmpf .olt main_arg3 main_v12
  let main_v14 : IVec S32x4 1 := andi main_v11 main_v13
  (main_v4, main_v9, main_v14)
-- ==== Ffn.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c11_i32 : BitVec 32 := 11#32
  let v24 : BitVec 32 := Scalar.addi c0_i32 c11_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  v32
def k0_off1 (k0_t1 : Fin k0_t1_loop.trips) : Fin 2 → Nat :=
  let c0_20 : Index := 0#32
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  let v33 : BitVec 32 := v32
  let v35 : Index := Scalar.indexCast v33
  ![0, v35.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  let v33 : BitVec 32 := v32
  let v48 : Index := Scalar.indexCast v33
  let c0_26 : Index := 0#32
  ![v48.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S_, .f32⟩
  | .hbm, ⟨25, _⟩ => ⟨S4x4096x2816, .f32⟩
  | .hbm, ⟨26, _⟩ => ⟨S4x4096x2816, .f32⟩
  | .hbm, ⟨27, _⟩ => ⟨S_, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Dattn.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S_ : Shape := ⟨0, ![]⟩
abbrev S4x4096x512 : Shape := ⟨3, ![4, 4096, 512]⟩
abbrev S2x512x512 : Shape := ⟨3, ![2, 512, 512]⟩
abbrev S2x512x512x1 : Shape := ⟨4, ![2, 512, 512, 1]⟩
abbrev S2x512x512x4 : Shape := ⟨4, ![2, 512, 512, 4]⟩
abbrev S1x4 : Shape := ⟨2, ![1, 4]⟩
abbrev S4 : Shape := ⟨1, ![4]⟩
abbrev S1x1x1x4 : Shape := ⟨4, ![1, 1, 1, 4]⟩
abbrev S4x2x512x512 : Shape := ⟨4, ![4, 2, 512, 512]⟩
abbrev S4x4096x1024 : Shape := ⟨3, ![4, 4096, 1024]⟩
abbrev S1x1024x128 : Shape := ⟨3, ![1, 1024, 128]⟩
abbrev S1x4096x128 : Shape := ⟨3, ![1, 4096, 128]⟩
abbrev S1x2x512x512 : Shape := ⟨4, ![1, 2, 512, 512]⟩
abbrev S1x1024x256 : Shape := ⟨3, ![1, 1024, 256]⟩
abbrev S2x1024x128 : Shape := ⟨3, ![2, 1024, 128]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩

abbrev nBuf : Space → Nat
  | .hbm => 82
  | .vmem => 14
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S32x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x4x2x64, .f32⟩
  | .hbm, ⟨9, _⟩ => ⟨S4x4096x4x2x64, .f32⟩
  | .hbm, ⟨10, _⟩ => ⟨S4x4096x512, .f32⟩
  | .hbm, ⟨11, _⟩ => ⟨S4x4096x512, .bf16⟩
  | .hbm, ⟨12, _⟩ => ⟨S4x4096x512, .f32⟩
  | .hbm, ⟨13, _⟩ => ⟨S4x4096x512, .bf16⟩
  | .hbm, ⟨14, _⟩ => ⟨S4x4096x512, .f32⟩
  | .hbm, ⟨15, _⟩ => ⟨S4x4096x512, .bf16⟩
  | .hbm, ⟨16, _⟩ => ⟨S2x512x512, .i32⟩
  | .hbm, ⟨17, _⟩ => ⟨S2x512x512, .i32⟩
  | .hbm, ⟨18, _⟩ => ⟨S2x512x512, .i32⟩
  | .hbm, ⟨19, _⟩ => ⟨S2x512x512, .i32⟩
  | .hbm, ⟨20, _⟩ => ⟨S_, .i32⟩
  | .hbm, ⟨21, _⟩ => ⟨S2x512x512, .i32⟩
  | .hbm, ⟨22, _⟩ => ⟨S2x512x512, .i32⟩
  | .hbm, ⟨23, _⟩ => ⟨S2x512x512, .i32⟩
  | .hbm, ⟨24, _⟩ => ⟨S_, .i32⟩
  | .hbm, ⟨25, _⟩ => ⟨S2x512x512, .i32⟩
  | .hbm, ⟨26, _⟩ => ⟨S2x512x512, .i32⟩
  | .hbm, ⟨27, _⟩ => ⟨S_, .i32⟩
  | .hbm, ⟨28, _⟩ => ⟨S2x512x512, .i32⟩
  | .hbm, ⟨29, _⟩ => ⟨S2x512x512, .i32⟩
  | .hbm, ⟨30, _⟩ => ⟨S2x512x512, .f32⟩
  | .hbm, ⟨31, _⟩ => ⟨S_, .f32⟩
  | .hbm, ⟨32, _⟩ => ⟨S2x512x512, .f32⟩
  | .hbm, ⟨33, _⟩ => ⟨S2x512x512, .f32⟩
  | .hbm, ⟨34, _⟩ => ⟨S2x512x512, .f32⟩
  | .hbm, ⟨35, _⟩ => ⟨S_, .f32⟩
  | .hbm, ⟨36, _⟩ => ⟨S2x512x512, .f32⟩
  | .hbm, ⟨37, _⟩ => ⟨S2x512x512, .f32⟩
  | .hbm, ⟨38, _⟩ => ⟨S_, .f32⟩
  | .hbm, ⟨39, _⟩ => ⟨S2x512x512, .f32⟩
  | .hbm, ⟨40, _⟩ => ⟨S2x512x512, .f32⟩
  | .hbm, ⟨41, _⟩ => ⟨S2x512x512, .i32⟩
  | .hbm, ⟨42, _⟩ => ⟨S_, .i32⟩
  | .hbm, ⟨43, _⟩ => ⟨S2x512x512, .i32⟩
  | .hbm, ⟨44, _⟩ => ⟨S2x512x512, .i32⟩
  | .hbm, ⟨45, _⟩ => ⟨S_, .i32⟩
  | .hbm, ⟨46, _⟩ => ⟨S2x512x512, .i32⟩
  | .hbm, ⟨47, _⟩ => ⟨S2x512x512, .i32⟩
  | .hbm, ⟨48, _⟩ => ⟨S_, .i32⟩
  | .hbm, ⟨49, _⟩ => ⟨S2x512x512, .i32⟩
  | .hbm, ⟨50, _⟩ => ⟨S2x512x512, .i1⟩
  | .hbm, ⟨51, _⟩ => ⟨S2x512x512, .i32⟩
  | .hbm, ⟨52, _⟩ => ⟨S_, .i32⟩
  | .hbm, ⟨53, _⟩ => ⟨S2x512x512, .i32⟩
  | .hbm, ⟨54, _⟩ => ⟨S2x512x512, .i1⟩
  | .hbm, ⟨55, _⟩ => ⟨S_, .i32⟩
  | .hbm, ⟨56, _⟩ => ⟨S2x512x512, .i32⟩
  | .hbm, ⟨57, _⟩ => ⟨S2x512x512, .i32⟩
  | .hbm, ⟨58, _⟩ => ⟨S2x512x512, .i32⟩
  | .hbm, ⟨59, _⟩ => ⟨S2x512x512x1, .i32⟩
  | .hbm, ⟨60, _⟩ => ⟨S2x512x512x4, .f32⟩
  | .hbm, ⟨61, _⟩ => ⟨S1x4, .f32⟩
  | .hbm, ⟨62, _⟩ => ⟨S4, .f32⟩
  | .hbm, ⟨63, _⟩ => ⟨S1x1x1x4, .f32⟩
  | .hbm, ⟨64, _⟩ => ⟨S2x512x512x4, .f32⟩
  | .hbm, ⟨65, _⟩ => ⟨S2x512x512x4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2x512x512x4, .f32⟩
  | .hbm, ⟨71, _⟩ => ⟨S2x512x512x4, .f32⟩
  | .hbm, ⟨72, _⟩ => ⟨S_, .i32⟩
  | .hbm, ⟨73, _⟩ => ⟨S2x512x512, .i32⟩
  | .hbm, ⟨74, _⟩ => ⟨S2x512x512, .i1⟩
  | .hbm, ⟨75, _⟩ => ⟨S4x2x512x512, .f32⟩
  | .hbm, ⟨76, _⟩ => ⟨S_, .f32⟩
  | .hbm, ⟨77, _⟩ => ⟨S_, .f32⟩
  | .hbm, ⟨78, _⟩ => ⟨S4x2x512x512, .i1⟩
  | .hbm, ⟨79, _⟩ => ⟨S4x2x512x512, .f32⟩
  | .hbm, ⟨80, _⟩ => ⟨S4x2x512x512, .f32⟩
  | .hbm, ⟨81, _⟩ => ⟨S4x4096x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x512x512, .f32⟩
  | .local _ .vmem, ⟨7, _⟩ => ⟨S1x2x512x512, .f32⟩
  | .local _ .vmem, ⟨8, _⟩ => ⟨S1x1024x256, .f32⟩
  | .local _ .vmem, ⟨9, _⟩ => ⟨S1x1024x256, .f32⟩
  | .local _ .vmem, ⟨10, _⟩ => ⟨S2x1024x128, .bf16⟩
  | .local _ .vmem, ⟨11, _⟩ => ⟨S2x1024x128, .f32⟩
  | .local _ .vmem, ⟨12, _⟩ => ⟨S2x1024x128, .f32⟩
  | .local _ .vmem, ⟨13, _⟩ => ⟨S2x1024x128, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_22 : BitVec 32 := 0#32
  let c2_i32 : BitVec 32 := 2#32
  let arg2 : BitVec 32 := BitVec.ofNat 32 (i 2).val
  let v29 : BitVec 32 := Scalar.muli c2_i32 arg2
  let c1_i32 : BitVec 32 := 1#32
  let v30 : BitVec 32 := Scalar.subi v29 c1_i32
  let c0_i32 : BitVec 32 := 0#32
  let v31 : BitVec 32 := Scalar.maxsi v30 c0_i32
  let v32 : BitVec 32 := Scalar.subi v31 c0_i32_22
  let c1_i32_23 : BitVec 32 := 1#32
  let v34 : BitVec 32 := Scalar.divsi v32 c1_i32_23
  let v35 : BitVec 32 := Scalar.muli v34 c1_i32_23
  let v36 : BitVec 32 := Scalar.addi c0_i32_22 v35
  let c1_i32_24 : BitVec 32 := 1#32
  ⟨c0_i32_22, v36, c1_i32_24⟩
def k0_mult1 (i : grid0.Coords) (k0_t1 : Fin (k0_t1_loop i).trips) : BitVec 32 :=
  let c0_i32_22 : BitVec 32 := 0#32
  let c1_i32_24 : BitVec 32 := 1#32
  let arg12 : BitVec 32 := Scf.iv c0_i32_22 c1_i32_24 k0_t1
  let c512_i32_164 : BitVec 32 := 512#32
  let v232 : BitVec 32 := Scalar.muli arg12 c512_i32_164
  v232
def k0_off1 (i : grid0.Coords) (k0_t1 : Fin (k0_t1_loop i).trips) : Fin 3 → Nat :=
  let c0_165 : Index := 0#32
  let c0_i32_22 : BitVec 32 := 0#32
  let c1_i32_24 : BitVec 32 := 1#32
  let arg12 : BitVec 32 := Scf.iv c0_i32_22 c1_i32_24 k0_t1
  let c512_i32_164 : BitVec 32 := 512#32
  let v232 : BitVec 32 := Scalar.muli arg12 c512_i32_164
  let v233 : BitVec 32 := v232
  let v234 : Index := Scalar.indexCast v233
  let c0_166 : Index := 0#32
  ![0, v234.toNat, 0]
@[reducible] def k0_t2_loop (i : grid0.Coords) : Scf.Loop 32 :=
  let c0_i32_22 : BitVec 32 := 0#32
  let c2_i32 : BitVec 32 := 2#32
  let arg2 : BitVec 32 := BitVec.ofNat 32 (i 2).val
  let v29 : BitVec 32 := Scalar.muli c2_i32 arg2
  let c1_i32 : BitVec 32 := 1#32
  let v30 : BitVec 32 := Scalar.subi v29 c1_i32
  let c0_i32 : BitVec 32 := 0#32
  let v31 : BitVec 32 := Scalar.maxsi v30 c0_i32
  let v32 : BitVec 32 := Scalar.subi v31 c0_i32_22
  let c1_i32_23 : BitVec 32 := 1#32
  let v34 : BitVec 32 := Scalar.divsi v32 c1_i32_23
  let v35 : BitVec 32 := Scalar.muli v34 c1_i32_23
  let v36 : BitVec 32 := Scalar.addi c0_i32_22 v35
  let v33 : BitVec 32 := Scalar.addi c0_i32_22 v32
  let c1_i32_25 : BitVec 32 := 1#32
  ⟨v36, v33, c1_i32_25⟩
def k0_mult2 (i : grid0.Coords) (k0_t2 : Fin (k0_t2_loop i).trips) : BitVec 32 :=
  let c0_i32_22 : BitVec 32 := 0#32
  let c2_i32 : BitVec 32 := 2#32
  let arg2 : BitVec 32 := BitVec.ofNat 32 (i 2).val
  let v29 : BitVec 32 := Scalar.muli c2_i32 arg2
  let c1_i32 : BitVec 32 := 1#32
  let v30 : BitVec 32 := Scalar.subi v29 c1_i32
  let c0_i32 : BitVec 32 := 0#32
  let v31 : BitVec 32 := Scalar.maxsi v30 c0_i32
  let v32 : BitVec 32 := Scalar.subi v31 c0_i32_22
  let c1_i32_23 : BitVec 32 := 1#32
  let v34 : BitVec 32 := Scalar.divsi v32 c1_i32_23
  let v35 : BitVec 32 := Scalar.muli v34 c1_i32_23
  let v36 : BitVec 32 := Scalar.addi c0_i32_22 v35
  let c1_i32_25 : BitVec 32 := 1#32
  let arg12 : BitVec 32 := Scf.iv v36 c1_i32_25 k0_t2
  let c512_i32_164 : BitVec 32 := 512#32
  let v232 : BitVec 32 := Scalar.muli arg12 c512_i32_164
  v232
def k0_off2 (i : grid0.Coords) (k0_t2 : Fin (k0_t2_loop i).trips) : Fin 3 → Nat :=
  let c0_165 : Index := 0#32
  let c0_i32_22 : BitVec 32 := 0#32
  let c2_i32 : BitVec 32 := 2#32
  let arg2 : BitVec 32 := BitVec.ofNat 32 (i 2).val
  let v29 : BitVec 32 := Scalar.muli c2_i32 arg2
  let c1_i32 : BitVec 32 := 1#32
  let v30 : BitVec 32 := Scalar.subi v29 c1_i32
  let c0_i32 : BitVec 32 := 0#32
  let v31 : BitVec 32 := Scalar.maxsi v30 c0_i32
  let v32 : BitVec 32 := Scalar.subi v31 c0_i32_22
  let c1_i32_23 : BitVec 32 := 1#32
  let v34 : BitVec 32 := Scalar.divsi v32 c1_i32_23
  let v35 : BitVec 32 := Scalar.muli v34 c1_i32_23
  let v36 : BitVec 32 := Scalar.addi c0_i32_22 v35
  let c1_i32_25 : BitVec 32 := 1#32
  let arg12 : BitVec 32 := Scf.iv v36 c1_i32_25 k0_t2
  let c512_i32_164 : BitVec 32 := 512#32
  let v232 : BitVec 32 := Scalar.muli arg12 c512_i32_164
  let v233 : BitVec 32 := v232
  let v234 : Index := Scalar.indexCast v233
  let c0_166 : Index := 0#32
  ![0, v234.toNat, 0]
def k0_cond1 (i : grid0.Coords) : BitVec 1 :=
  let arg2 : BitVec 32 := BitVec.ofNat 32 (i 2).val
  let c1_i32_34 : BitVec 32 := 1#32
  let v41 : BitVec 1 := Scalar.cmpi .sge arg2 c1_i32_34
  let v42 : BitVec 32 := Scalar.extui v41
  let c0_i32_35 : BitVec 32 := 0#32
  let v43 : BitVec 1 := Scalar.cmpi .ne v42 c0_i32_35
  v43

def k0_mult3 (i : grid0.Coords) : BitVec 32 :=
  let c2_i32_164 : BitVec 32 := 2#32
  let arg2 : BitVec 32 := BitVec.ofNat 32 (i 2).val
  let v232 : BitVec 32 := Scalar.muli c2_i32_164 arg2
  let c1_i32_165 : BitVec 32 := 1#32
  let v233 : BitVec 32 := Scalar.subi v232 c1_i32_165
  let c512_i32_166 : BitVec 32 := 512#32
  let v234 : BitVec 32 := Scalar.muli v233 c512_i32_166
  v234
def k0_off3 (i : grid0.Coords) : Fin 3 → Nat :=
  let c0_167 : Index := 0#32
  let c2_i32_164 : BitVec 32 := 2#32
  let arg2 : BitVec 32 := BitVec.ofNat 32 (i 2).val
  let v232 : BitVec 32 := Scalar.muli c2_i32_164 arg2
  let c1_i32_165 : BitVec 32 := 1#32
  let v233 : BitVec 32 := Scalar.subi v232 c1_i32_165
  let c512_i32_166 : BitVec 32 := 512#32
  let v234 : BitVec 32 := Scalar.muli v233 c512_i32_166
  let v235 : BitVec 32 := v234
  let v236 : Index := Scalar.indexCast v235
  let c0_168 : Index := 0#32
  ![0, v236.toNat, 0]
def k0_mult4 (i : grid0.Coords) : BitVec 32 :=
  let c2_i32_36 : BitVec 32 := 2#32
  let arg2 : BitVec 32 := BitVec.ofNat 32 (i 2).val
  let v44 : BitVec 32 := Scalar.muli c2_i32_36 arg2
  let c512_i32 : BitVec 32 := 512#32
  let v46 : BitVec 32 := Scalar.muli v44 c512_i32
  v46
def k0_off4 (i : grid0.Coords) : Fin 3 → Nat :=
  let c0_37 : Index := 0#32
  let c2_i32_36 : BitVec 32 := 2#32
  let arg2 : BitVec 32 := BitVec.ofNat 32 (i 2).val
  let v44 : BitVec 32 := Scalar.muli c2_i32_36 arg2
  let c512_i32 : BitVec 32 := 512#32
  let v46 : BitVec 32 := Scalar.muli v44 c512_i32
  let v47 : BitVec 32 := v46
  let v48 : Index := Scalar.indexCast v47
  let c0_38 : Index := 0#32
  ![0, v48.toNat, 0]
def k0_mult5 (i : grid0.Coords) : BitVec 32 :=
  let c2_i32_91 : BitVec 32 := 2#32
  let arg2 : BitVec 32 := BitVec.ofNat 32 (i 2).val
  let v130 : BitVec 32 := Scalar.muli c2_i32_91 arg2
  let c1_i32_92 : BitVec 32 := 1#32
  let v131 : BitVec 32 := Scalar.addi v130 c1_i32_92
  let c512_i32_93 : BitVec 32 := 512#32
  let v132 : BitVec 32 := Scalar.muli v131 c512_i32_93
  v132
def k0_off5 (i : grid0.Coords) : Fin 3 → Nat :=
  let c0_94 : Index := 0#32
  let c2_i32_91 : BitVec 32 := 2#32
  let arg2 : BitVec 32 := BitVec.ofNat 32 (i 2).val
  let v130 : BitVec 32 := Scalar.muli c2_i32_91 arg2
  let c1_i32_92 : BitVec 32 := 1#32
  let v131 : BitVec 32 := Scalar.addi v130 c1_i32_92
  let c512_i32_93 : BitVec 32 := 512#32
  let v132 : BitVec 32 := Scalar.muli v131 c512_i32_93
  let v133 : BitVec 32 := v132
  let v134 : Index := Scalar.indexCast v133
  let c0_95 : Index := 0#32
  ![0, v134.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DattnIdeal.lean ====
variable {F : FTy → Type} [FloatOps F] [Named F]
def κ : String → Option EReal := fun
  | "mask" => some ⊥
  | _ => none
-- ==== DattnRefIdeal.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S4096 : Shape := ⟨1, ![4096]⟩
abbrev S4x4x2x4096x4096 : Shape := ⟨5, ![4, 4, 2, 4096, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x2x4096x128 : Shape := ⟨5, ![4, 4, 2, 4096, 128]⟩
abbrev S4x4096x4x2x128 : Shape := ⟨5, ![4, 4096, 4, 2, 128]⟩
abbrev S4x4096x1024 : Shape := ⟨3, ![4, 4096, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S32x4, .f32⟩
  | .hbm, ⟨4, _⟩ => ⟨S4096, .i32⟩
  | .hbm, ⟨5, _⟩ => ⟨S4x4x2x4096x4096, .f32⟩
  | .hbm, ⟨6, _⟩ => ⟨S4096x1, .i32⟩
  | .hbm, ⟨7, _⟩ => ⟨S1x4096, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S4096x4096x1, .i32⟩
  | .hbm, ⟨47, _⟩ => ⟨S4096x4096x4, .f32⟩
  | .hbm, ⟨48, _⟩ => ⟨S4x4096x4096, .f32⟩
  | .hbm, ⟨49, _⟩ => ⟨S1x4x1x4096x4096, .f32⟩
  | .hbm, ⟨50, _⟩ => ⟨S4x4x2x4096x4096, .f32⟩
  | .hbm, ⟨51, _⟩ => ⟨S4x4x2x4096x4096, .f32⟩
  | .hbm, ⟨52, _⟩ => ⟨S1x4096, .i32⟩
  | .hbm, ⟨53, _⟩ => ⟨S4096x1, .i32⟩
  | .hbm, ⟨54, _⟩ => ⟨S4096x4096, .i32⟩
  | .hbm, ⟨55, _⟩ => ⟨S4096x4096, .i32⟩
  | .hbm, ⟨56, _⟩ => ⟨S4096x4096, .i1⟩
  | .hbm, ⟨57, _⟩ => ⟨S_, .f32⟩
  | .hbm, ⟨58, _⟩ => ⟨S_, .f32⟩
  | .hbm, ⟨59, _⟩ => ⟨S4x4x2x4096x4096, .i1⟩
  | .hbm, ⟨60, _⟩ => ⟨S4x4x2x4096x4096, .f32⟩
  | .hbm, ⟨61, _⟩ => ⟨S4x4x2x4096x4096, .f32⟩
  | .hbm, ⟨62, _⟩ => ⟨S_, .f32⟩
  | .hbm, ⟨63, _⟩ => ⟨S4x4x2x4096, .f32⟩
  | .hbm, ⟨64, _⟩ => ⟨S_, .f32⟩
  | .hbm, ⟨65, _⟩ => ⟨S4x4x2x4096, .f32⟩
  | .hbm, ⟨66, _⟩ => ⟨S4x4x2x4096, .f32⟩
  | .hbm, ⟨67, _⟩ => ⟨S4x4x2x4096x1, .f32⟩
  | .hbm, ⟨68, _⟩ => ⟨S4x4x2x4096x4096, .f32⟩
  | .hbm, ⟨69, _⟩ => ⟨S4x4x2x4096x4096, .f32⟩
  | .hbm, ⟨70, _⟩ => ⟨S4x4x2x4096x4096, .f32⟩
  | .hbm, ⟨71, _⟩ => ⟨S_, .f32⟩
  | .hbm, ⟨72, _⟩ => ⟨S4x4x2x4096, .f32⟩
  | .hbm, ⟨73, _⟩ => ⟨S4x4x2x4096x1, .f32⟩
  | .hbm, ⟨74, _⟩ => ⟨S4x4x2x4096x4096, .f32⟩
  | .hbm, ⟨75, _⟩ => ⟨S4x4x2x4096x4096, .f32⟩
  | .hbm, ⟨76, _⟩ => ⟨S4x4x2x4096x128, .f32⟩
  | .hbm, ⟨77, _⟩ => ⟨S4x4096x4x2x128, .f32⟩
  | .hbm, ⟨78, _⟩ => ⟨S4x4096x1024, .f32⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Ffns.lean ====
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024x1024, .f32⟩
  | .hbm, ⟨9, _⟩ => ⟨S1x1024, .f32⟩
  | .hbm, ⟨10, _⟩ => ⟨S1024x1024, .f32⟩
  | .local _ .vmem, ⟨0, _⟩ => ⟨S1024x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v24 : BitVec 32 := Scalar.addi c0_i32 c11_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  v32
def k0_off1 (k0_t1 : Fin k0_t1_loop.trips) : Fin 2 → Nat :=
  let c0_20 : Index := 0#32
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  let v33 : BitVec 32 := v32
  let v35 : Index := Scalar.indexCast v33
  ![0, v35.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v32 : BitVec 32 := Scalar.muli arg9 c256_i32
  let v33 : BitVec 32 := v32
  let v48 : Index := Scalar.indexCast v33
  let c0_26 : Index := 0#32
  ![v48.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnsRefIdeal.lean ====
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2816 : Shape := ⟨3, ![128, 8, 2816]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S128x8x2816, .f32⟩
  | .hbm, ⟨22, _⟩ => ⟨S128x8x2816, .f32⟩
  | .hbm, ⟨23, _⟩ => ⟨S128x8x2816, .f32⟩
  | .hbm, ⟨24, _⟩ => ⟨S_, .f32⟩
  | .hbm, ⟨25, _⟩ => ⟨S128x8x2816, .f32⟩
  | .hbm, ⟨26, _⟩ => ⟨S128x8x2816, .f32⟩
  | .hbm, ⟨27, _⟩ => ⟨S_, .f32⟩
  | .hbm, ⟨28, _⟩ => ⟨S128x8x2816, .f32⟩
  | .hbm, ⟨29, _⟩ => ⟨S128x8x2816, .f32⟩
  | .hbm, ⟨30, _⟩ => ⟨S128x8x2816, .f32⟩
  | .hbm, ⟨31, _⟩ => ⟨S128x8x2816, .f32⟩
  | .hbm, ⟨32, _⟩ => ⟨S128x8x2816, .f32⟩
  | .hbm, ⟨33, _⟩ => ⟨S128x8x1024, .f32⟩
  | .hbm, ⟨34, _⟩ => ⟨S_, .f32⟩
  | .hbm, ⟨35, _⟩ => ⟨S128x8x1024, .f32⟩
  | .hbm, ⟨36, _⟩ => ⟨S128x8x1024, .f32⟩
  | .hbm, ⟨37, _⟩ => ⟨S128x8x1024, .f32⟩
  | .hbm, ⟨38, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Memk.lean ====
abbrev S4x256x1024 : Shape := ⟨3, ![4, 256, 1024]⟩
abbrev S1024 : Shape := ⟨1, ![1024]⟩
abbrev S1024x1024 : Shape := ⟨2, ![1024, 1024]⟩
abbrev S256 : Shape := ⟨1, ![256]⟩
abbrev S1x1024 : Shape := ⟨2, ![1, 1024]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S256, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S1x256, .f32⟩
  | .hbm, ⟨8, _⟩ => ⟨S1024x1024, .f32⟩
  | .hbm, ⟨9, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkRefIdeal.lean ====
abbrev S4x256x1024 : Shape := ⟨3, ![4, 256, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x4x256 : Shape := ⟨4, ![4, 256, 4, 256]⟩
abbrev S4x256x4 : Shape := ⟨3, ![4, 256, 4]⟩
abbrev S4x256x4x1 : Shape := ⟨4, ![4, 256, 4, 1]⟩
abbrev S1x1x1x256 : Shape := ⟨4, ![1, 1, 1, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S256, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x4x256, .f32⟩
  | .hbm, ⟨22, _⟩ => ⟨S4x256x4x256, .f32⟩
  | .hbm, ⟨23, _⟩ => ⟨S_, .f32⟩
  | .hbm, ⟨24, _⟩ => ⟨S4x256x4, .f32⟩
  | .hbm, ⟨25, _⟩ => ⟨S4x256x4x1, .f32⟩
  | .hbm, ⟨26, _⟩ => ⟨S_, .f32⟩
  | .hbm, ⟨27, _⟩ => ⟨S4x256x4x1, .f32⟩
  | .hbm, ⟨28, _⟩ => ⟨S4x256x4x1, .f32⟩
  | .hbm, ⟨29, _⟩ => ⟨S_, .f32⟩
  | .hbm, ⟨30, _⟩ => ⟨S4x256x4x1, .f32⟩
  | .hbm, ⟨31, _⟩ => ⟨S4x256x4x1, .f32⟩
  | .hbm, ⟨32, _⟩ => ⟨S4x256x4x1, .f32⟩
  | .hbm, ⟨33, _⟩ => ⟨S4x256x4x256, .f32⟩
  | .hbm, ⟨34, _⟩ => ⟨S4x256x4x256, .f32⟩
  | .hbm, ⟨35, _⟩ => ⟨S1x1x1x256, .f32⟩
  | .hbm, ⟨36, _⟩ => ⟨S4x256x4x256, .f32⟩
  | .hbm, ⟨37, _⟩ => ⟨S4x256x4x256, .f32⟩
  | .hbm, ⟨38, _⟩ => ⟨S1024x1024, .f32⟩
  | .hbm, ⟨39, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Memv.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S1x256 : Shape := ⟨2, ![1, 256]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S_, .f32⟩
  | .hbm, ⟨7, _⟩ => ⟨S1x256, .f32⟩
  | .hbm, ⟨8, _⟩ => ⟨S1024x1024, .f32⟩
  | .hbm, ⟨9, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemvRefIdeal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S1024x1024, .f32⟩
  | .hbm, ⟨21, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Mixs.lean ====
abbrev S128x8x1024 : Shape := ⟨3, ![128, 8, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S64 : Shape := ⟨1, ![64]⟩
abbrev S1024x1024 : Shape := ⟨2, ![1024, 1024]⟩
abbrev S1024x1536 : Shape := ⟨2, ![1024, 1536]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S1x256 : Shape := ⟨2, ![1, 256]⟩
abbrev S512x512 : Shape := ⟨2, ![512, 512]⟩
abbrev S1024x256 : Shape := ⟨2, ![1024, 256]⟩
abbrev S1024x512 : Shape := ⟨2, ![1024, 512]⟩
abbrev S4096x128 : Shape := ⟨2, ![4096, 128]⟩
abbrev S512x1024 : Shape := ⟨2, ![512, 1024]⟩
abbrev S512x256 : Shape := ⟨2, ![512, 256]⟩
abbrev S2048x128 : Shape := ⟨2, ![2048, 128]⟩
abbrev S512x1 : Shape := ⟨2, ![512, 1]⟩
abbrev S512x3072 : Shape := ⟨2, ![512, 3072]⟩
abbrev S512x128 : Shape := ⟨2, ![512, 128]⟩

abbrev nBuf : Space → Nat
  | .hbm => 56
  | .vmem => 30
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S64, .f32⟩
  | .hbm, ⟨7, _⟩ => ⟨S1024x1024, .f32⟩
  | .hbm, ⟨8, _⟩ => ⟨S1024x1536, .f32⟩
  | .hbm, ⟨9, _⟩ => ⟨S1024x1536, .f32⟩
  | .hbm, ⟨10, _⟩ => ⟨S1024x3072, .f32⟩
  | .hbm, ⟨11, _⟩ => ⟨S1024x3072, .bf16⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S128x256, .bf16⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x1024, .f32⟩
  | .hbm, ⟨30, _⟩ => ⟨S1x256, .f32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S_, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .bf16⟩
  | .hbm, ⟨46, _⟩ => ⟨S1024x256, .f32⟩
  | .hbm, ⟨47, _⟩ => ⟨S1024x256, .f32⟩
  | .hbm, ⟨48, _⟩ => ⟨S1024x512, .f32⟩
  | .hbm, ⟨49, _⟩ => ⟨S1024x512, .f32⟩
  | .hbm, ⟨50, _⟩ => ⟨S1024x256, .f32⟩
  | .hbm, ⟨51, _⟩ => ⟨S1024x512, .bf16⟩
  | .hbm, ⟨52, _⟩ => ⟨S1024x512, .f32⟩
  | .hbm, ⟨53, _⟩ => ⟨S1024x512, .bf16⟩
  | .hbm, ⟨54, _⟩ => ⟨S4096x128, .f32⟩
  | .hbm, ⟨55, _⟩ => ⟨S1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S2048x128, .f32⟩
  | .local _ .vmem, ⟨27, _⟩ => ⟨S2048x128, .f32⟩
  | .local _ .vmem, ⟨28, _⟩ => ⟨S512x512, .bf16⟩
  | .local _ .vmem, ⟨29, _⟩ => ⟨S512x512, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev main_v31_4 : Ref sig .tc := ⟨.hbm, 50, rfl⟩
abbrev main_v31_5 : Ref sig .tc := ⟨.hbm, 51, rfl⟩
abbrev main_v31_6 : Ref sig .tc := ⟨.hbm, 52, rfl⟩
abbrev main_v31_7 : Ref sig .tc := ⟨.hbm, 53, rfl⟩
abbrev main_v31_8 : Ref sig .tc := ⟨.hbm, 54, rfl⟩
abbrev main_v31_9 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixsIdeal.lean ====
variable {F : FTy → Type} [FloatOps F] [Named F]
def κ : String → Option EReal := fun
  | "qscale" => some (((1 / 8) * (Real.log 2)⁻¹ : ℝ) : EReal)
  | _ => none
-- ==== MixsRefIdeal.lean ====
abbrev S128x8x1024 : Shape := ⟨3, ![128, 8, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x3088 : Shape := ⟨3, ![128, 8, 3088]⟩
abbrev S128x8x256 : Shape := ⟨3, ![128, 8, 256]⟩
abbrev S128x8x512 : Shape := ⟨3, ![128, 8, 512]⟩
abbrev S128x8x16 : Shape := ⟨3, ![128, 8, 16]⟩
abbrev S1x1x256 : Shape := ⟨3, ![1, 1, 256]⟩
abbrev S128x8x4x2x64 : Shape := ⟨5, ![128, 8, 4, 2, 64]⟩
abbrev S128x8x4x2 : Shape := ⟨4, ![128, 8, 4, 2]⟩
abbrev S128x8x4x2x1 : Shape := ⟨5, ![128, 8, 4, 2, 1]⟩
abbrev S1x1x1x1x64 : Shape := ⟨5, ![1, 1, 1, 1, 64]⟩
abbrev S1024x512 : Shape := ⟨2, ![1024, 512]⟩
abbrev S1024x256 : Shape := ⟨2, ![1024, 256]⟩
abbrev S4096x128 : Shape := ⟨2, ![4096, 128]⟩

abbrev nBuf : Space → Nat
  | .hbm => 113
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S64, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x8x3088, .f32⟩
  | .hbm, ⟨24, _⟩ => ⟨S128x8x256, .f32⟩
  | .hbm, ⟨25, _⟩ => ⟨S128x8x256, .f32⟩
  | .hbm, ⟨26, _⟩ => ⟨S128x8x512, .f32⟩
  | .hbm, ⟨27, _⟩ => ⟨S128x8x512, .f32⟩
  | .hbm, ⟨28, _⟩ => ⟨S128x8x16, .f32⟩
  | .hbm, ⟨29, _⟩ => ⟨S128x8x512, .f32⟩
  | .hbm, ⟨30, _⟩ => ⟨S128x8x512, .f32⟩
  | .hbm, ⟨31, _⟩ => ⟨S128x8x512, .f32⟩
  | .hbm, ⟨32, _⟩ => ⟨S_, .f32⟩
  | .hbm, ⟨33, _⟩ => ⟨S128x8x256, .f32⟩
  | .hbm, ⟨34, _⟩ => ⟨S128x8x256, .f32⟩
  | .hbm, ⟨35, _⟩ => ⟨S128x8x256, .f32⟩
  | .hbm, ⟨36, _⟩ => ⟨S1x1x256, .f32⟩
  | .hbm, ⟨37, _⟩ => ⟨S128x8x256, .f32⟩
  | .hbm, ⟨38, _⟩ => ⟨S128x8x256, .f32⟩
  | .hbm, ⟨39, _⟩ => ⟨S128x8x256, .f32⟩
  | .hbm, ⟨40, _⟩ => ⟨S_, .f32⟩
  | .hbm, ⟨41, _⟩ => ⟨S128x8x256, .f32⟩
  | .hbm, ⟨42, _⟩ => ⟨S128x8x256, .f32⟩
  | .hbm, ⟨43, _⟩ => ⟨S128x8x256, .f32⟩
  | .hbm, ⟨44, _⟩ => ⟨S128x8x256, .f32⟩
  | .hbm, ⟨45, _⟩ => ⟨S128x8x256, .i1⟩
  | .hbm, ⟨46, _⟩ => ⟨S128x8x256, .f32⟩
  | .hbm, ⟨47, _⟩ => ⟨S128x8x256, .f32⟩
  | .hbm, ⟨48, _⟩ => ⟨S128x8x256, .f32⟩
  | .hbm, ⟨49, _⟩ => ⟨S128x8x256, .f32⟩
  | .hbm, ⟨50, _⟩ => ⟨S128x8x256, .f32⟩
  | .hbm, ⟨51, _⟩ => ⟨S128x8x256, .f32⟩
  | .hbm, ⟨52, _⟩ => ⟨S128x8x256, .f32⟩
  | .hbm, ⟨53, _⟩ => ⟨S128x8x256, .f32⟩
  | .hbm, ⟨54, _⟩ => ⟨S128x8x256, .f32⟩
  | .hbm, ⟨55, _⟩ => ⟨S_, .f32⟩
  | .hbm, ⟨56, _⟩ => ⟨S128x8x256, .f32⟩
  | .hbm, ⟨57, _⟩ => ⟨S128x8x256, .f32⟩
  | .hbm, ⟨58, _⟩ => ⟨S128x8x4x2x64, .f32⟩
  | .hbm, ⟨59, _⟩ => ⟨S128x8x4x2x64, .f32⟩
  | .hbm, ⟨60, _⟩ => ⟨S_, .f32⟩
  | .hbm, ⟨61, _⟩ => ⟨S128x8x4x2, .f32⟩
  | .hbm, ⟨62, _⟩ => ⟨S128x8x4x2x1, .f32⟩
  | .hbm, ⟨63, _⟩ => ⟨S_, .f32⟩
  | .hbm, ⟨64, _⟩ => ⟨S128x8x4x2x1, .f32⟩
  | .hbm, ⟨65, _⟩ => ⟨S128x8x4x2x1, .f32⟩
  | .hbm, ⟨66, _⟩ => ⟨S_, .f32⟩
  | .hbm, ⟨67, _⟩ => ⟨S128x8x4x2x1, .f32⟩
  | .hbm, ⟨68, _⟩ => ⟨S128x8x4x2x1, .f32⟩
  | .hbm, ⟨69, _⟩ => ⟨S128x8x4x2x1, .f32⟩
  | .hbm, ⟨70, _⟩ => ⟨S128x8x4x2x64, .f32⟩
  | .hbm, ⟨71, _⟩ => ⟨S128x8x4x2x64, .f32⟩
  | .hbm, ⟨72, _⟩ => ⟨S1x1x1x1x64, .f32⟩
  | .hbm, ⟨73, _⟩ => ⟨S128x8x4x2x64, .f32⟩
  | .hbm, ⟨74, _⟩ => ⟨S128x8x4x2x64, .f32⟩
  | .hbm, ⟨75, _⟩ => ⟨S_, .f32⟩
  | .hbm, ⟨76, _⟩ => ⟨S128x8x4x2x64, .f32⟩
  | .hbm, ⟨77, _⟩ => ⟨S128x8x4x2x64, .f32⟩
  | .hbm, ⟨78, _⟩ => ⟨S128x8x4x2x64, .f32⟩
  | .hbm, ⟨79, _⟩ => ⟨S128x8x4x2x64, .f32⟩
  | .hbm, ⟨80, _⟩ => ⟨S_, .f32⟩
  | .hbm, ⟨81, _⟩ => ⟨S128x8x4x2, .f32⟩
  | .hbm, ⟨82, _⟩ => ⟨S128x8x4x2x1, .f32⟩
  | .hbm, ⟨83, _⟩ => ⟨S_, .f32⟩
  | .hbm, ⟨84, _⟩ => ⟨S128x8x4x2x1, .f32⟩
  | .hbm, ⟨85, _⟩ => ⟨S128x8x4x2x1, .f32⟩
  | .hbm, ⟨86, _⟩ => ⟨S_, .f32⟩
  | .hbm, ⟨87, _⟩ => ⟨S128x8x4x2x1, .f32⟩
  | .hbm, ⟨88, _⟩ => ⟨S128x8x4x2x1, .f32⟩
  | .hbm, ⟨89, _⟩ => ⟨S128x8x4x2x1, .f32⟩
  | .hbm, ⟨90, _⟩ => ⟨S128x8x4x2x64, .f32⟩
  | .hbm, ⟨91, _⟩ => ⟨S128x8x4x2x64, .f32⟩
  | .hbm, ⟨92, _⟩ => ⟨S1x1x1x1x64, .f32⟩
  | .hbm, ⟨93, _⟩ => ⟨S128x8x4x2x64, .f32⟩
  | .hbm, ⟨94, _⟩ => ⟨S128x8x4x2x64, .f32⟩
  | .hbm, ⟨95, _⟩ => ⟨S1024x512, .f32⟩
  | .hbm, ⟨96, _⟩ => ⟨S1024x512, .f32⟩
  | .hbm, ⟨97, _⟩ => ⟨S1024x256, .f32⟩
  | .hbm, ⟨98, _⟩ => ⟨S1024x256, .f32⟩
  | .hbm, ⟨99, _⟩ => ⟨S1024x512, .f32⟩
  | .hbm, ⟨100, _⟩ => ⟨S1024x512, .f32⟩
  | .hbm, ⟨101, _⟩ => ⟨S1024x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S128x8x4x2x64, .f32⟩
  | .hbm, ⟨107, _⟩ => ⟨S128x8x4x2x64, .f32⟩
  | .hbm, ⟨108, _⟩ => ⟨S1024x512, .f32⟩
  | .hbm, ⟨109, _⟩ => ⟨S1024x512, .bf16⟩
  | .hbm, ⟨110, _⟩ => ⟨S1024x512, .bf16⟩
  | .hbm, ⟨111, _⟩ => ⟨S4096x128, .f32⟩
  | .hbm, ⟨112, _⟩ => ⟨S1024x512, .bf16⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Mixp.lean ====
abbrev S4x4096x1024 : Shape := ⟨3, ![4, 4096, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S64 : Shape := ⟨1, ![64]⟩
abbrev S16384x1024 : Shape := ⟨2, ![16384, 1024]⟩
abbrev S1024x1536 : Shape := ⟨2, ![1024, 1536]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S1x256 : Shape := ⟨2, ![1, 256]⟩
abbrev S512x512 : Shape := ⟨2, ![512, 512]⟩
abbrev S16384x256 : Shape := ⟨2, ![16384, 256]⟩
abbrev S16384x512 : Shape := ⟨2, ![16384, 512]⟩
abbrev S4x512x4096 : Shape := ⟨3, ![4, 512, 4096]⟩
abbrev S65536x128 : Shape := ⟨2, ![65536, 128]⟩
abbrev S512x1024 : Shape := ⟨2, ![512, 1024]⟩
abbrev S512x256 : Shape := ⟨2, ![512, 256]⟩
abbrev S1x512x512 : Shape := ⟨3, ![1, 512, 512]⟩
abbrev S2048x128 : Shape := ⟨2, ![2048, 128]⟩
abbrev S512x1 : Shape := ⟨2, ![512, 1]⟩
abbrev S512x3072 : Shape := ⟨2, ![512, 3072]⟩
abbrev S512x128 : Shape := ⟨2, ![512, 128]⟩

abbrev nBuf : Space → Nat
  | .hbm => 56
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S64, .f32⟩
  | .hbm, ⟨7, _⟩ => ⟨S16384x1024, .f32⟩
  | .hbm, ⟨8, _⟩ => ⟨S1024x1536, .f32⟩
  | .hbm, ⟨9, _⟩ => ⟨S1024x1536, .f32⟩
  | .hbm, ⟨10, _⟩ => ⟨S1024x3072, .f32⟩
  | .hbm, ⟨11, _⟩ => ⟨S1024x3072, .bf16⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S128x256, .bf16⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x1024, .f32⟩
  | .hbm, ⟨30, _⟩ => ⟨S1x256, .f32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S_, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .bf16⟩
  | .hbm, ⟨46, _⟩ => ⟨S16384x256, .f32⟩
  | .hbm, ⟨47, _⟩ => ⟨S16384x256, .f32⟩
  | .hbm, ⟨48, _⟩ => ⟨S16384x512, .f32⟩
  | .hbm, ⟨49, _⟩ => ⟨S16384x512, .f32⟩
  | .hbm, ⟨50, _⟩ => ⟨S16384x256, .f32⟩
  | .hbm, ⟨51, _⟩ => ⟨S16384x512, .bf16⟩
  | .hbm, ⟨52, _⟩ => ⟨S4x512x4096, .f32⟩
  | .hbm, ⟨53, _⟩ => ⟨S16384x512, .bf16⟩
  | .hbm, ⟨54, _⟩ => ⟨S65536x128, .f32⟩
  | .hbm, ⟨55, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S1x512x512, .f32⟩
  | .local _ .vmem, ⟨23, _⟩ => ⟨S1x512x512, .f32⟩
  | .local _ .vmem, ⟨24, _⟩ => ⟨S512x512, .bf16⟩
  | .local _ .vmem, ⟨25, _⟩ => ⟨S512x512, .bf16⟩
  | .local _ .vmem, ⟨26, _⟩ => ⟨S2048x128, .f32⟩
  | .local _ .vmem, ⟨27, _⟩ => ⟨S2048x128, .f32⟩
  | .local _ .vmem, ⟨28, _⟩ => ⟨S512x512, .bf16⟩
  | .local _ .vmem, ⟨29, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev main_v31_4 : Ref sig .tc := ⟨.hbm, 50, rfl⟩
abbrev main_v31_5 : Ref sig .tc := ⟨.hbm, 51, rfl⟩
abbrev main_v31_6 : Ref sig .tc := ⟨.hbm, 52, rfl⟩
abbrev main_v31_7 : Ref sig .tc := ⟨.hbm, 53, rfl⟩
abbrev main_v31_8 : Ref sig .tc := ⟨.hbm, 54, rfl⟩
abbrev main_v31_9 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixpIdeal.lean ====
variable {F : FTy → Type} [FloatOps F] [Named F]
def κ : String → Option EReal := fun
  | "qscale" => some (((1 / 8) * (Real.log 2)⁻¹ : ℝ) : EReal)
  | _ => none
-- ==== MixpRefIdeal.lean ====
abbrev S4x4096x1024 : Shape := ⟨3, ![4, 4096, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S4x4096x256 : Shape := ⟨3, ![4, 4096, 256]⟩
abbrev S4x4096x512 : Shape := ⟨3, ![4, 4096, 512]⟩
abbrev S4x4096x16 : Shape := ⟨3, ![4, 4096, 16]⟩
abbrev S1x1x256 : Shape := ⟨3, ![1, 1, 256]⟩
abbrev S4x4096x4x2x64 : Shape := ⟨5, ![4, 4096, 4, 2, 64]⟩
abbrev S4x4096x4x2 : Shape := ⟨4, ![4, 4096, 4, 2]⟩
abbrev S4x4096x4x2x1 : Shape := ⟨5, ![4, 4096, 4, 2, 1]⟩
abbrev S1x1x1x1x64 : Shape := ⟨5, ![1, 1, 1, 1, 64]⟩
abbrev S16384x512 : Shape := ⟨2, ![16384, 512]⟩
abbrev S16384x256 : Shape := ⟨2, ![16384, 256]⟩
abbrev S4x512x4096 : Shape := ⟨3, ![4, 512, 4096]⟩
abbrev S65536x128 : Shape := ⟨2, ![65536, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S64, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x3088, .f32⟩
  | .hbm, ⟨24, _⟩ => ⟨S4x4096x256, .f32⟩
  | .hbm, ⟨25, _⟩ => ⟨S4x4096x256, .f32⟩
  | .hbm, ⟨26, _⟩ => ⟨S4x4096x512, .f32⟩
  | .hbm, ⟨27, _⟩ => ⟨S4x4096x512, .f32⟩
  | .hbm, ⟨28, _⟩ => ⟨S4x4096x16, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x256, .f32⟩
  | .hbm, ⟨34, _⟩ => ⟨S4x4096x256, .f32⟩
  | .hbm, ⟨35, _⟩ => ⟨S4x4096x256, .f32⟩
  | .hbm, ⟨36, _⟩ => ⟨S1x1x256, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S4x4096x256, .f32⟩
  | .hbm, ⟨45, _⟩ => ⟨S4x4096x256, .i1⟩
  | .hbm, ⟨46, _⟩ => ⟨S4x4096x256, .f32⟩
  | .hbm, ⟨47, _⟩ => ⟨S4x4096x256, .f32⟩
  | .hbm, ⟨48, _⟩ => ⟨S4x4096x256, .f32⟩
  | .hbm, ⟨49, _⟩ => ⟨S4x4096x256, .f32⟩
  | .hbm, ⟨50, _⟩ => ⟨S4x4096x256, .f32⟩
  | .hbm, ⟨51, _⟩ => ⟨S4x4096x256, .f32⟩
  | .hbm, ⟨52, _⟩ => ⟨S4x4096x256, .f32⟩
  | .hbm, ⟨53, _⟩ => ⟨S4x4096x256, .f32⟩
  | .hbm, ⟨54, _⟩ => ⟨S4x4096x256, .f32⟩
  | .hbm, ⟨55, _⟩ => ⟨S_, .f32⟩
  | .hbm, ⟨56, _⟩ => ⟨S4x4096x256, .f32⟩
  | .hbm, ⟨57, _⟩ => ⟨S4x4096x256, .f32⟩
  | .hbm, ⟨58, _⟩ => ⟨S4x4096x4x2x64, .f32⟩
  | .hbm, ⟨59, _⟩ => ⟨S4x4096x4x2x64, .f32⟩
  | .hbm, ⟨60, _⟩ => ⟨S_, .f32⟩
  | .hbm, ⟨61, _⟩ => ⟨S4x4096x4x2, .f32⟩
  | .hbm, ⟨62, _⟩ => ⟨S4x4096x4x2x1, .f32⟩
  | .hbm, ⟨63, _⟩ => ⟨S_, .f32⟩
  | .hbm, ⟨64, _⟩ => ⟨S4x4096x4x2x1, .f32⟩
  | .hbm, ⟨65, _⟩ => ⟨S4x4096x4x2x1, .f32⟩
  | .hbm, ⟨66, _⟩ => ⟨S_, .f32⟩
  | .hbm, ⟨67, _⟩ => ⟨S4x4096x4x2x1, .f32⟩
  | .hbm, ⟨68, _⟩ => ⟨S4x4096x4x2x1, .f32⟩
  | .hbm, ⟨69, _⟩ => ⟨S4x4096x4x2x1, .f32⟩
  | .hbm, ⟨70, _⟩ => ⟨S4x4096x4x2x64, .f32⟩
  | .hbm, ⟨71, _⟩ => ⟨S4x4096x4x2x64, .f32⟩
  | .hbm, ⟨72, _⟩ => ⟨S1x1x1x1x64, .f32⟩
  | .hbm, ⟨73, _⟩ => ⟨S4x4096x4x2x64, .f32⟩
  | .hbm, ⟨74, _⟩ => ⟨S4x4096x4x2x64, .f32⟩
  | .hbm, ⟨75, _⟩ => ⟨S_, .f32⟩
  | .hbm, ⟨76, _⟩ => ⟨S4x4096x4x2x64, .f32⟩
  | .hbm, ⟨77, _⟩ => ⟨S4x4096x4x2x64, .f32⟩
  | .hbm, ⟨78, _⟩ => ⟨S4x4096x4x2x64, .f32⟩
  | .hbm, ⟨79, _⟩ => ⟨S4x4096x4x2x64, .f32⟩
  | .hbm, ⟨80, _⟩ => ⟨S_, .f32⟩
  | .hbm, ⟨81, _⟩ => ⟨S4x4096x4x2, .f32⟩
  | .hbm, ⟨82, _⟩ => ⟨S4x4096x4x2x1, .f32⟩
  | .hbm, ⟨83, _⟩ => ⟨S_, .f32⟩
  | .hbm, ⟨84, _⟩ => ⟨S4x4096x4x2x1, .f32⟩
  | .hbm, ⟨85, _⟩ => ⟨S4x4096x4x2x1, .f32⟩
  | .hbm, ⟨86, _⟩ => ⟨S_, .f32⟩
  | .hbm, ⟨87, _⟩ => ⟨S4x4096x4x2x1, .f32⟩
  | .hbm, ⟨88, _⟩ => ⟨S4x4096x4x2x1, .f32⟩
  | .hbm, ⟨89, _⟩ => ⟨S4x4096x4x2x1, .f32⟩
  | .hbm, ⟨90, _⟩ => ⟨S4x4096x4x2x64, .f32⟩
  | .hbm, ⟨91, _⟩ => ⟨S4x4096x4x2x64, .f32⟩
  | .hbm, ⟨92, _⟩ => ⟨S1x1x1x1x64, .f32⟩
  | .hbm, ⟨93, _⟩ => ⟨S4x4096x4x2x64, .f32⟩
  | .hbm, ⟨94, _⟩ => ⟨S4x4096x4x2x64, .f32⟩
  | .hbm, ⟨95, _⟩ => ⟨S16384x512, .f32⟩
  | .hbm, ⟨96, _⟩ => ⟨S16384x512, .f32⟩
  | .hbm, ⟨97, _⟩ => ⟨S16384x256, .f32⟩
  | .hbm, ⟨98, _⟩ => ⟨S16384x256, .f32⟩
  | .hbm, ⟨99, _⟩ => ⟨S16384x512, .f32⟩
  | .hbm, ⟨100, _⟩ => ⟨S16384x512, .f32⟩
  | .hbm, ⟨101, _⟩ => ⟨S16384x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S4x4096x4x2x64, .f32⟩
  | .hbm, ⟨107, _⟩ => ⟨S4x4096x4x2x64, .f32⟩
  | .hbm, ⟨108, _⟩ => ⟨S16384x512, .f32⟩
  | .hbm, ⟨109, _⟩ => ⟨S16384x512, .bf16⟩
  | .hbm, ⟨110, _⟩ => ⟨S4x4096x512, .f32⟩
  | .hbm, ⟨111, _⟩ => ⟨S4x512x4096, .f32⟩
  | .hbm, ⟨112, _⟩ => ⟨S16384x512, .bf16⟩
  | .hbm, ⟨113, _⟩ => ⟨S65536x128, .f32⟩
  | .hbm, ⟨114, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Proof.FfnKernel.lean ====
module

public import proofs.«01_k».proof.Proof.Gen.FfnIdeal.Value
public import Idealize.ShloMosaic.Lib.Pointwise
public import Idealize.ShloMosaic.Lib.Tactic

@[expose] public section

set_option maxRecDepth 16384

noncomputable section

/-! # The feed-forward kernel's body as a function of its blocks -/

namespace Cert.FfnIdeal.Ker

open Cert.FfnIdeal Cert.FfnIdeal.Gen Idealize.ShloMosaic Idealize.ShloMosaic.TcCoe Idealize.SL.Sem
open Idealize.ShloMosaic.Pipeline (Dat)

variable {F : FTy → Type} [FloatOps F]

/-- The literal zero offset is the zero function. -/
theorem hz : (![0, 0] : Fin 2 → Nat) = fun _ => 0 := funext fun a => by fin_cases a <;> rfl

/-- The 256 hidden columns that trip `k` reads of a gate or up matrix. -/
abbrev cols (w : Vec F S1024x2816 .bf16) (k : Fin k0_t1_loop.trips) : Vec F S1024x256 .bf16 :=
  View.ld w (Rect.unit (s := S1024x2816) (k0_off1 k) S1024x256.size (k0_off1_inb k))

/-- The 256 rows that trip `k` reads of the down matrix. -/
abbrev rows (w : Vec F S2816x1024 .bf16) (k : Fin k0_t1_loop.trips) : Vec F S256x1024 .bf16 :=
  View.ld w (Rect.unit (s := S2816x1024) (k0_off2 k) S256x1024.size (k0_off2_inb k))

/-- The accumulator after `n` trips: zeros, then one chunk's product added per trip. -/
def accAt (h : Vec F S1024x1024 .bf16) (wg wu : Vec F S1024x2816 .bf16) (wd : Vec F S2816x1024 .bf16) :
    ℕ → Vec F S1024x1024 .f32
  | 0 => k0_pay2
  | n + 1 => if hn : n < k0_t1_loop.trips then
      k0_pay3 h (cols wg ⟨n, hn⟩) (cols wu ⟨n, hn⟩) (accAt h wg wu wd n) (rows wd ⟨n, hn⟩)
    else accAt h wg wu wd n

/-- What one trip stores: the whole accumulator, once. -/
theorem trip_eq (𝒱 : Variants) (bd : Option 𝒱.V) (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (X3 : BufTy.Contents (Elt F) arg3.view.ty) (X4 : BufTy.Contents (Elt F) arg4.view.ty) (X5 : BufTy.Contents (Elt F) arg5.view.ty) (X7 : BufTy.Contents (Elt F) arg7.view.ty) (k : Fin k0_t1_loop.trips) (f8 : BufTy.Contents (Elt F) arg8.view.ty) :
    tripL_k0_t1 𝒱 c bd i arg1 harg1 arg2 harg2 arg3 harg3 arg4 harg4 arg5 harg5 arg6 harg6 arg7 harg7 arg8 harg8 X3 X4 X5 X7 k f8
      = [⟨Rect.unit (s := S1024x1024) ![0, 0] S1024x1024.size inb_S1024x1024_S1024x1024_0_0,
          k0_pay3 (arg7.view.read (Elt F) X7) (cols (arg3.view.read (Elt F) X3) k) (cols (arg4.view.read (Elt F) X4) k)
            (arg8.view.read (Elt F) f8) (rows (arg5.view.read (Elt F) X5) k)⟩] := by
  unfold tripL_k0_t1 trip_k0_t1
  dsimp only
  sl_unfold_words
  simp only [View.readAt_eq_ld, View.ld_unit_zero (S := S1024x1024) hz, shapeCast_self]
  rfl

/-- The accumulator buffer after `n` trips reads as `accAt n`. -/
theorem acc_read (𝒱 : Variants) (bd : Option 𝒱.V) (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (X3 : BufTy.Contents (Elt F) arg3.view.ty) (X4 : BufTy.Contents (Elt F) arg4.view.ty) (X5 : BufTy.Contents (Elt F) arg5.view.ty) (X7 : BufTy.Contents (Elt F) arg7.view.ty) (G8 : BufTy.Contents (Elt F) arg8.view.ty)
    (hG : arg8.view.read (Elt F) G8 = k0_pay2) : ∀ n : ℕ, n ≤ k0_t1_loop.trips →
    arg8.view.read (Elt F) (arg8.view.writes (Elt F) G8 (pb_k0_t1 𝒱 c bd i arg1 harg1 arg2 harg2 arg3 harg3 arg4 harg4 arg5 harg5 arg6 harg6 arg7 harg7 arg8 harg8 X3 X4 X5 X7 G8 n))
      = accAt (arg7.view.read (Elt F) X7) (arg3.view.read (Elt F) X3) (arg4.view.read (Elt F) X4) (arg5.view.read (Elt F) X5) n
  | 0, _ => hG
  | n + 1, hn => by
    have ih := acc_read 𝒱 bd c i arg1 harg1 arg2 harg2 arg3 harg3 arg4 harg4 arg5 harg5 arg6 harg6 arg7 harg7 arg8 harg8 X3 X4 X5 X7 G8 hG n (Nat.le_of_succ_le hn)
    have hs := pb_k0_t1_succ 𝒱 c bd i arg1 harg1 arg2 harg2 arg3 harg3 arg4 harg4 arg5 harg5 arg6 harg6 arg7 harg7 arg8 harg8 X3 X4 X5 X7 G8 ⟨n, hn⟩
    dsimp only at hs
    rw [hs, trip_eq, ih, List.singleton_append]
    rw [View.read_writes_eq_canon _ _ _ (fun y => ⟨_, List.mem_cons_self, by
      rw [Rect.mem_set_unit]
      intro a
      match a with
      | ⟨0, _⟩ => exact ⟨Nat.zero_le _, by have := (y 0).isLt; simpa using this⟩
      | ⟨1, _⟩ => exact ⟨Nat.zero_le _, by have := (y 1).isLt; simpa using this⟩⟩)]
    rw [View.canon_cons_unit_zero (S := S1024x1024) hz, accAt, dif_pos (show n < k0_t1_loop.trips from hn)]

/-- The loop makes eleven trips. -/
theorem trips_eq : Scf.trips (0#32) (Scalar.addi 0#32 11#32) 1#32 = k0_t1_loop.trips := rfl

/-- THE BODY'S VALUE: the input block plus half the accumulator after all the trips, over the normalised block. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (x0 : Vec F S1024x1024 .f32) (x1 : Vec F S1x1024 .f32) (x2 : Vec F S1024x2816 .bf16) (x3 : Vec F S1024x2816 .bf16) (x4 : Vec F S2816x1024 .bf16) :
    out0_A_5 c i arg1 harg1 arg2 harg2 arg3 harg3 arg4 harg4 arg5 harg5 arg6 harg6 arg7 harg7 arg8 harg8 x0 x1 x2 x3 x4 = k0_pay4 x0 (accAt (k0_pay1 x0 x1) x2 x3 x4 k0_t1_loop.trips) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, View.ld_unit_zero (S := S1024x1024) hz, View.ld_unit_zero (S := S1x1024) hz, shapeCast_self]
  have hcov : ∀ L : List (View.Piece (Elt F) S1024x1024 .f32),
      arg8.view.readCov L (Rect.unit (s := S1024x1024) ![0, 0] S1024x1024.size inb_S1024x1024_S1024x1024_0_0).toLoadRect
        = View.ld (arg8.view.read (Elt F) (arg8.view.writes (Elt F) arg8.view.junk L))
            (Rect.unit (s := S1024x1024) ![0, 0] S1024x1024.size inb_S1024x1024_S1024x1024_0_0) := by
    intro L
    rw [View.readCov_eq_canon', View.read_writes_junk_eq_canon]
  rw [trips_eq]
  refine congrArg (k0_pay4 x0) ((hcov _).trans ?_)
  rw [View.ld_unit_zero (S := S1024x1024) hz, View.writes_append]
  have hone : ∀ {e : EltTy} (v : View sig .tc .vmem S1024x1024 e) (f : v.ty.Contents (Elt F)) (w : Vec F S1024x1024 e),
      v.read (Elt F) (v.writes (Elt F) f [⟨Rect.unit (s := S1024x1024) ![0, 0] S1024x1024.size inb_S1024x1024_S1024x1024_0_0, w⟩]) = w := by
    intro e v f w
    rw [View.read_writes_eq_canon _ _ _ (fun y => ⟨_, List.mem_cons_self, by
      rw [Rect.mem_set_unit]
      intro a
      match a with
      | ⟨0, _⟩ => exact ⟨Nat.zero_le _, by have := (y 0).isLt; simpa using this⟩
      | ⟨1, _⟩ => exact ⟨Nat.zero_le _, by have := (y 1).isLt; simpa using this⟩⟩)]
    exact View.canon_unit_zero hz _ _
  rw [acc_read Variants.none none c i arg1 harg1 arg2 harg2 arg3 harg3 arg4 harg4 arg5 harg5 arg6 harg6 arg7 harg7 arg8 harg8 _ _ _ _ _ (hone _ _ _) _ le_rfl, hone]
  simp only [harg3.read_unread, harg4.read_unread, harg5.read_unread]

end Cert.FfnIdeal.Ker
end
-- ==== Proof.FfnValue.lean ====
module

public import proofs.«01_k».proof.Defs
public import proofs.«01_k».proof.Proof.FfnKernel
public import proofs.«01_k».proof.Proof.Gen.FfnRefIdeal.Run
public import Idealize.ShloMosaic.Lib.IdealHost
public import Idealize.ShloMosaic.Lib.Quiescent

@[expose] public section

set_option maxRecDepth 16384

noncomputable section

/-! # The feed-forward call computes the feed-forward layer, over the extended reals -/

namespace Cert.FfnIdeal.Ker

open Cert.FfnIdeal Cert.FfnIdeal.Gen Idealize.ShloMosaic Idealize.ShloMosaic.TcCoe Idealize.SL.Sem
open Idealize.ShloMosaic.Pipeline (Dat)

/-! ## One row of the layer, in scalars -/

/-- The root-mean-square normalised row, scaled by the gain. -/
def nrm (x g : Fin 1024 → EReal) (j : Fin 1024) : EReal :=
  x j * Ideal.rsqrt (Ideal.div (∑ q, x q * x q) (Ideal.ofBits FTy.f32 1149239296#32) + Ideal.ofBits FTy.f32 897988541#32) * g j

/-- Gate times its logistic times up, at one hidden unit. -/
def hid (h : Fin 1024 → EReal) (wg wu : S1024x2816.Idx → EReal) (n : Fin 2816) : EReal :=
  (∑ q, h q * wg (ix2 q n)) * Ideal.logistic (∑ q, h q * wg (ix2 q n)) * ∑ q, h q * wu (ix2 q n)

/-- One output of the layer: the residual plus half the down projection of the hidden units. -/
def ffn (x g : Fin 1024 → EReal) (wg wu : S1024x2816.Idx → EReal) (wd : S2816x1024.Idx → EReal) (l : Fin 1024) : EReal :=
  x l + Ideal.ofBits FTy.f32 1056964608#32 * ∑ n, hid (nrm x g) wg wu n * wd (ix2 n l)

/-! ## The body's payloads at an index -/

/-- The normalised block at an index. -/
theorem pay1_apply (x : Vec Ideal S1024x1024 .f32) (g : Vec Ideal S1x1024 .f32) (r l : Fin 1024) :
    k0_pay1 x g (ix2 r l) = nrm (fun j => x (ix2 r j)) (fun j => g (ix2 0 j)) l := by
  unfold nrm
  pointwise [k0_pay1]

/-- One step of the accumulator at an index. -/
theorem pay3_apply (h : Vec Ideal S1024x1024 .bf16) (g u : Vec Ideal S1024x256 .bf16) (a : Vec Ideal S1024x1024 .f32)
    (d : Vec Ideal S256x1024 .bf16) (r l : Fin 1024) :
    k0_pay3 h g u a d (ix2 r l) = a (ix2 r l) + ∑ t : Fin 256,
      ((∑ q : Fin 1024, h (ix2 r q) * g (ix2 q t)) * Ideal.logistic (∑ q : Fin 1024, h (ix2 r q) * g (ix2 q t))
        * ∑ q : Fin 1024, h (ix2 r q) * u (ix2 q t)) * d (ix2 t l) := by
  pointwise [k0_pay3]

/-- Where the columns of the gate and up matrices start at each step. -/
theorem off1_eq : ∀ k : Fin k0_t1_loop.trips, k0_off1 k = ![0, k.val * 256] := by decide +kernel
/-- Where the rows of the down matrix start at each step. -/
theorem off2_eq : ∀ k : Fin k0_t1_loop.trips, k0_off2 k = ![k.val * 256, 0] := by decide +kernel
/-- The number of steps. -/
theorem trips_val : k0_t1_loop.trips = 11 := by decide +kernel

/-- Hidden unit `t` of chunk `k`. -/
abbrev unitOf (k : Fin 11) (t : Fin 256) : Fin 2816 := ⟨k.val * 256 + t.val, by omega⟩

/-- A step's columns of a gate or up matrix. -/
theorem cols_apply (w : Vec Ideal S1024x2816 .bf16) (k : Fin k0_t1_loop.trips) (q : Fin 1024) (t : Fin 256) :
    cols w k (ix2 q t) = w (ix2 q (unitOf (k.cast trips_val) t)) := by
  refine congrArg w (funext fun a => Fin.ext ?_)
  match a with
  | ⟨0, _⟩ => show k0_off1 k 0 + 1 * q.val = q.val; rw [off1_eq]; simp
  | ⟨1, _⟩ => show k0_off1 k 1 + 1 * t.val = k.val * 256 + t.val; rw [off1_eq]; simp

/-- A step's rows of the down matrix. -/
theorem rows_apply (w : Vec Ideal S2816x1024 .bf16) (k : Fin k0_t1_loop.trips) (t : Fin 256) (l : Fin 1024) :
    rows w k (ix2 t l) = w (ix2 (unitOf (k.cast trips_val) t) l) := by
  refine congrArg w (funext fun a => Fin.ext ?_)
  match a with
  | ⟨0, _⟩ => show k0_off2 k 0 + 1 * t.val = k.val * 256 + t.val; rw [off2_eq]; simp
  | ⟨1, _⟩ => show k0_off2 k 1 + 1 * l.val = l.val; rw [off2_eq]; simp

/-- The accumulator after `n` trips is the sum over the first `n` chunks. -/
theorem accAt_apply (h : Vec Ideal S1024x1024 .bf16) (wg wu : Vec Ideal S1024x2816 .bf16) (wd : Vec Ideal S2816x1024 .bf16)
    (r l : Fin 1024) : ∀ (n : ℕ) (hn : n ≤ 11), accAt h wg wu wd n (ix2 r l)
      = ∑ k : Fin n, ∑ t : Fin 256, hid (fun q => h (ix2 r q)) wg wu (unitOf (k.castLE hn) t) * wd (ix2 (unitOf (k.castLE hn) t) l)
  | 0, _ => by
    show k0_pay2 (F := Ideal) (ix2 r l) = _
    pointwise [k0_pay2]
    rfl
  | n + 1, hn => by
    rw [accAt, dif_pos (show n < k0_t1_loop.trips by rw [trips_val]; exact hn), pay3_apply,
      accAt_apply h wg wu wd r l n (Nat.le_of_succ_le hn), Fin.sum_univ_castSucc (n := n)]
    refine congrArg₂ (fun a b : EReal => a + b) rfl (Finset.sum_congr rfl fun t _ => ?_)
    have e : ∀ w : Vec Ideal S1024x2816 .bf16, (∑ q : Fin 1024, h (ix2 r q) * cols w ⟨n, by rw [trips_val]; exact hn⟩ (ix2 q t))
        = ∑ q : Fin 1024, h (ix2 r q) * w (ix2 q (unitOf ⟨n, hn⟩ t)) := fun w =>
      Finset.sum_congr rfl fun q _ => congrArg (fun a : EReal => h (ix2 r q) * a) (cols_apply w _ q t)
    exact congrArg₂ (fun a b : EReal => a * b) (congrArg₂ (fun a b : EReal => a * Ideal.logistic a * b) (e wg) (e wu))
      (rows_apply wd _ t l)

/-- The body's output block, row by row, is the layer of the block's rows. -/
theorem out_apply (x : Vec Ideal S1024x1024 .f32) (g : Vec Ideal S1x1024 .f32) (wg wu : Vec Ideal S1024x2816 .bf16)
    (wd : Vec Ideal S2816x1024 .bf16) (r l : Fin 1024) :
    k0_pay4 x (accAt (k0_pay1 x g) wg wu wd k0_t1_loop.trips) (ix2 r l)
      = ffn (fun j => x (ix2 r j)) (fun j => g (ix2 0 j)) wg wu wd l := by
  have e : k0_pay4 x (accAt (k0_pay1 x g) wg wu wd k0_t1_loop.trips) (ix2 r l)
      = x (ix2 r l) + Ideal.ofBits FTy.f32 1056964608#32 * accAt (k0_pay1 x g) wg wu wd k0_t1_loop.trips (ix2 r l) := by
    pointwise [k0_pay4]
  rw [e, trips_val, accAt_apply _ _ _ _ _ _ 11 le_rfl, ffn, Fin.sum_univ_tiles 11 256 rfl]
  simp only [pay1_apply]
  rfl

/-! ## From the blocks to the result array -/

variable (m : (ℓ : Loc nD τ sig) → Buf (Elt Ideal) ℓ) (ρ : Dev nD → PrngReg)

/-- The rows of the flattened input. -/
abbrev xrow (x : S4x4096x1024.Idx → EReal) (R : Fin 16384) (j : Fin 1024) : EReal :=
  x (ix3 ⟨R.val / 4096, by omega⟩ ⟨R.val % 4096, by omega⟩ j)

/-- The layer over the whole flattened input. -/
def layer (x : S4x4096x1024.Idx → EReal) (g : S1024.Idx → EReal) (wg wu : S1024x2816.Idx → EReal)
    (wd : S2816x1024.Idx → EReal) : S16384x1024.Idx → EReal := fun i =>
  ffn (xrow x ⟨(i 0).val, (i 0).isLt⟩) (fun j => g (ix1 j)) wg wu wd ⟨(i 1).val, (i 1).isLt⟩

/-- The flattened input handed to the call. -/
theorem V_x (c : Dev nD) : V m c main_v3 = shapeCast S16384x1024 (m ((c : Thread nD τ).loc main_arg0)) shapeCasts_S4x4096x1024_S16384x1024 := by
  show StableHlo.after hostOps0 _ _ = _
  simp only [hostOps0]
  after_results_simp
  rfl
/-- The gain handed to the call. -/
theorem V_g (c : Dev nD) : V m c main_v4 = shapeCast S1x1024 (m ((c : Thread nD τ).loc main_arg1)) shapeCasts_S1024_S1x1024 := by
  show StableHlo.after hostOps0 _ _ = _
  simp only [hostOps0]
  after_results_simp
  rfl
/-- The gate matrix handed to the call. -/
theorem V_wg (c : Dev nD) : V m c main_v0 = m ((c : Thread nD τ).loc main_arg2) := by
  show StableHlo.after hostOps0 _ _ = _
  simp only [hostOps0]
  after_results_simp
  rfl
/-- The up matrix handed to the call. -/
theorem V_wu (c : Dev nD) : V m c main_v1 = m ((c : Thread nD τ).loc main_arg3) := by
  show StableHlo.after hostOps0 _ _ = _
  simp only [hostOps0]
  after_results_simp
  rfl
/-- The down matrix handed to the call. -/
theorem V_wd (c : Dev nD) : V m c main_v2 = m ((c : Thread nD τ).loc main_arg4) := by
  show StableHlo.after hostOps0 _ _ = _
  simp only [hostOps0]
  after_results_simp
  rfl

/-- Which block each window has at each grid point. -/
theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- Row `r` of block `t`. -/
abbrev rowOf (t : Fin cfg0.N) (r : Fin 1024) : Fin 16384 :=
  ⟨t.val * 1024 + r.val, by have h := t.isLt; have : cfg0.N = 16 := N_0; omega⟩

/-- An entry of the flattened input. -/
theorem flat_apply (x : FVec Ideal S4x4096x1024 .f32) (R : Fin 16384) (j : Fin 1024) :
    shapeCast S16384x1024 x shapeCasts_S4x4096x1024_S16384x1024 (ix2 R j) = xrow x R j := by
  pointwise

/-- The input's block at an index. -/
theorem blk_x (c : Dev nD) (t : Fin cfg0.N) (r j : Fin 1024) :
    (iblk m c 0 t : Vec Ideal S1024x1024 .f32) (ix2 r j) = xrow (m ((c : Thread nD τ).loc main_arg0)) (rowOf t r) j := by
  have e : (iblk m c 0 t : Vec Ideal S1024x1024 .f32) (ix2 r j) = V m c main_v3 (ix2 (rowOf t r) j) := by
    unfold iblk
    rw [View.read_apply]
    show V m c main_v3 _ = _
    refine congrArg _ (funext fun a => Fin.ext ?_)
    match a with
    | ⟨0, _⟩ => show win0_0.index t 0 * 1024 + 1 * r.val = t.val * 1024 + r.val; rw [(index_eq t).1]; simp
    | ⟨1, _⟩ => show win0_0.index t 1 * 1024 + 1 * j.val = j.val; rw [(index_eq t).1]; simp
  rw [e, V_x]
  exact flat_apply _ _ _

/-- The gain's block at an index. -/
theorem blk_g (c : Dev nD) (t : Fin cfg0.N) (j : Fin 1024) :
    (iblk m c 1 t : Vec Ideal S1x1024 .f32) (ix2 0 j) = m ((c : Thread nD τ).loc main_arg1) (ix1 j) := by
  have e : (iblk m c 1 t : Vec Ideal S1x1024 .f32) (ix2 0 j) = V m c main_v4 (ix2 0 j) := by
    unfold iblk
    rw [View.read_apply]
    show V m c main_v4 _ = _
    refine congrArg _ (funext fun a => Fin.ext ?_)
    match a with
    | ⟨0, _⟩ => show win0_1.index t 0 * 1 + 1 * 0 = 0; rw [(index_eq t).2.1]; simp
    | ⟨1, _⟩ => show win0_1.index t 1 * 1024 + 1 * j.val = j.val; rw [(index_eq t).2.1]; simp
  rw [e, V_g]
  pointwise

/-- The gate matrix's block is the matrix. -/
theorem blk_wg (c : Dev nD) (t : Fin cfg0.N) : (iblk m c 2 t : Vec Ideal S1024x2816 .bf16) = m ((c : Thread nD τ).loc main_arg2) := by
  rw [← V_wg m c]
  funext y
  unfold iblk
  rw [View.read_apply]
  show V m c main_v0 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 2816 + 1 * (y 1).val = (y 1).val; rw [(index_eq t).2.2.1]; simp

/-- The up matrix's block is the matrix. -/
theorem blk_wu (c : Dev nD) (t : Fin cfg0.N) : (iblk m c 3 t : Vec Ideal S1024x2816 .bf16) = m ((c : Thread nD τ).loc main_arg3) := by
  rw [← V_wu m c]
  funext y
  unfold iblk
  rw [View.read_apply]
  show V m c main_v1 _ = _
  refine congrArg _ (funext fun a => Fin.ext ?_)
  match a with
  | ⟨0, _⟩ => show win0_3.index t 0 * 1024 + 1 * (y 0).val = (y 0).val; rw [(index_eq t).2.2.2.1]; simp
  | ⟨1, _⟩ => show win0_3.index t 1 * 2816 + 1 * (y 1).val = (y 1).val; rw [(index_eq t).2.2.2.1]; simp

/-- The down matrix's block is the matrix. -/
theorem blk_wd (c : Dev nD) (t : Fin cfg0.N) : (iblk m c 4 t : Vec Ideal S2816x1024 .bf16) = m ((c : Thread nD τ).loc main_arg4) := by
  rw [← V_wd m c]
  funext y
  unfold iblk
  rw [View.read_apply]
  show V m c main_v2 _ = _
  refine congrArg _ (funext fun a => Fin.ext ?_)
  match a with
  | ⟨0, _⟩ => show win0_4.index t 0 * 2816 + 1 * (y 0).val = (y 0).val; rw [(index_eq t).2.2.2.2.1]; simp
  | ⟨1, _⟩ => show win0_4.index t 1 * 1024 + 1 * (y 1).val = (y 1).val; rw [(index_eq t).2.2.2.2.1]; simp

/-- The result the run is shown to leave. -/
abbrev result (c : Dev nD) : Buf (Elt Ideal) ((c : Thread nD τ).loc main_v5) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the layer. -/
theorem flushed_eq (c : Dev nD) (t : Fin cfg0.N) :
    (dats m 0 c).flushed 5 t = ((cfg0.win 5).blk t).view.read (Elt Ideal) (result m c) := by
  rw [Value.flushed5_A, out_eq]
  funext y
  have hy : ∃ (r l : Fin 1024), y = ix2 r l := ⟨⟨(y 0).val, (y 0).isLt⟩, ⟨(y 1).val, (y 1).isLt⟩, funext fun a => by
    match a with
    | ⟨0, _⟩ => rfl
    | ⟨1, _⟩ => rfl⟩
  obtain ⟨r, l, rfl⟩ := hy
  have hl : (cfg0.win 5).cut (grid0.coords t) (k0_pay4 (iblk m c 0 t) (accAt (k0_pay1 (iblk m c 0 t) (iblk m c 1 t)) (iblk m c 2 t) (iblk m c 3 t) (iblk m c 4 t) k0_t1_loop.trips)) (ix2 r l)
      = k0_pay4 (iblk m c 0 t) (accAt (k0_pay1 (iblk m c 0 t) (iblk m c 1 t)) (iblk m c 2 t) (iblk m c 3 t) (iblk m c 4 t) k0_t1_loop.trips) (ix2 r l) := rfl
  refine hl.trans ?_
  rw [out_apply, View.read_apply]
  have hi : ∀ i : S16384x1024.Idx, i = ix2 (rowOf t r) l → result m c i
      = ffn (xrow (m ((c : Thread nD τ).loc main_arg0)) (rowOf t r)) (fun j => m ((c : Thread nD τ).loc main_arg1) (ix1 j))
        (m ((c : Thread nD τ).loc main_arg2)) (m ((c : Thread nD τ).loc main_arg3)) (m ((c : Thread nD τ).loc main_arg4)) l := by
    rintro _ rfl; rfl
  refine Eq.trans ?_ (hi _ (funext fun a => Fin.ext ?_)).symm
  · simp only [blk_x, blk_g]
    rw [blk_wg, blk_wu, blk_wd]
  · match a with
    | ⟨0, _⟩ => show win0_5.index t 0 * 1024 + 1 * r.val = t.val * 1024 + r.val; rw [(index_eq t).2.2.2.2.2]; simp
    | ⟨1, _⟩ => show win0_5.index t 1 * 1024 + 1 * l.val = l.val; rw [(index_eq t).2.2.2.2.2]; simp

/-- Every index of the result is in some point's block. -/
theorem cover (i : S16384x1024.Idx) :
    ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 16 := N_0
  have ht : (i 0 : Nat) / 1024 < cfg0.N := by omega
  refine ⟨⟨(i 0 : Nat) / 1024, ht⟩, flush0_5 _, ?_⟩
  show i ∈ ((View.whole main_v5).slice (win0_5.rect ⟨(i 0 : Nat) / 1024, ht⟩)).set
  rw [View.set_slice_whole, Rect.mem_set_unit]
  have e := (index_eq ⟨(i 0 : Nat) / 1024, ht⟩).2.2.2.2.2
  intro a
  match a with
  | ⟨0, _⟩ =>
    show win0_5.index ⟨(i 0 : Nat) / 1024, ht⟩ 0 * 1024 ≤ (i 0 : Nat) ∧ (i 0 : Nat) < win0_5.index ⟨(i 0 : Nat) / 1024, ht⟩ 0 * 1024 + 1024
    rw [e]; dsimp; omega
  | ⟨1, _⟩ =>
    show win0_5.index ⟨(i 0 : Nat) / 1024, ht⟩ 1 * 1024 ≤ (i 1 : Nat) ∧ (i 1 : Nat) < win0_5.index ⟨(i 0 : Nat) / 1024, ht⟩ 1 * 1024 + 1024
    rw [e]; dsimp; omega

/-- The kernel's run: the result array ends holding the layer, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 (result m c) (fun t _ => flushed_eq m c t) cover), (h c).2⟩)
    (Value.run_blocks m ρ)

end Cert.FfnIdeal.Ker

namespace Cert.Proof.Ffn

open Cert.FfnIdeal.Ker Cert.FfnRefIdeal Cert.FfnRefIdeal.Gen Idealize.ShloMosaic Idealize.ShloMosaic.TcCoe Idealize.SL.Sem

/-- The reference's normalised input. -/
abbrev refNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf x x) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The reference's product of a normalised input with a gate or up matrix. -/
abbrev refGate (h : FVec Ideal S4x4096x1024 .f32) (w : FVec Ideal S1024x2816 .f32) : FVec Ideal S4x4096x2816 .f32 :=
  Host.dotGeneral dot_S4x4096x1024_S1024x2816_S4x4096x2816_2_0_01_1_n_n none h w

/-- The reference's composed term. -/
abbrev refOut (x : FVec Ideal S4x4096x1024 .f32) (g : FVec Ideal S1024 .f32) (wg wu : FVec Ideal S1024x2816 .f32) (wd : FVec Ideal S2816x1024 .f32) :
    FVec Ideal S16384x1024 .f32 :=
  shapeCast S16384x1024 (addf x (mulf (broadcastInDim S4x4096x1024 ![] bcast_S_S4x4096x1024 (constant S_ .f32 0x3F000000#32))
    (Host.dotGeneral dot_S4x4096x2816_S2816x1024_S4x4096x1024_2_0_01_1_n_n none
      (mulf (mulf (refGate (refNorm x g) wg) (Host.divf (broadcastInDim S4x4096x2816 ![] bcast_S_S4x4096x2816 (constant S_ .f32 0x3F800000#32))
        (addf (broadcastInDim S4x4096x2816 ![] bcast_S_S4x4096x2816 (constant S_ .f32 0x3F800000#32)) (Host.exp (Host.negf (refGate (refNorm x g) wg))))))
        (refGate (refNorm x g) wu)) wd))) shapeCasts_S4x4096x1024_S16384x1024

/-- The reference's composed term, read at an index, is the layer. -/
theorem ref_eq (x : FVec Ideal S4x4096x1024 .f32) (g : FVec Ideal S1024 .f32) (wg wu : FVec Ideal S1024x2816 .f32) (wd : FVec Ideal S2816x1024 .f32) :
    refOut x g wg wu wd = layer x g wg wu wd := by
  funext i
  idx_vars i
  pointwise [refOut, refGate, refNorm, layer, ffn, hid, nrm, Ideal.logistic]

/-- The reference's run leaves its argument arrays as they were and its counters at zero. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The kernel's result is the reference's, at every extended-real input. -/
theorem algebraic : Cert.algebraic_FfnIdeal_FfnRefIdeal := fun m ρ m' ρ' _ hag =>
  ⟨fun c => result m c, Cert.FfnIdeal.Ker.run m ρ,
    (θ_run _ _ _).mono (fun _ h c => ⟨(h c).1.trans (by
      rw [(hag c).1, (hag c).2.1, (hag c).2.2.1, (hag c).2.2.2.1, (hag c).2.2.2.2]
      exact ref_eq _ _ _ _ _), (h c).2⟩)
    (Cert.FfnRefIdeal.Value.run (F := Ideal) m' ρ')⟩

end Cert.Proof.Ffn
end
-- ==== Proof.DattnStep.lean ====
module

public import proofs.«01_k».proof.Proof.Gen.DattnIdeal.Skeleton
public import Idealize.ShloMosaic.Lib.Pointwise

@[expose] public section

set_option maxRecDepth 16384

noncomputable section

/-! # One block of keys folded into the running maximum, sum and accumulator

The differential attention call visits its keys in blocks of 512 columns. For each of the two maps it holds, row by row, a
running maximum, a running sum and an accumulator of 128 value lanes, each in 128 lanes. Here is one such update, at 1024
and at 512 rows, as the composition of the operations the body performs, and its reading at an index. -/

namespace Cert.DattnIdeal.Ker

open Cert.DattnIdeal Cert.DattnIdeal.Gen Idealize.ShloMosaic Idealize.ShloMosaic.TcCoe Idealize.SL.Sem

section Ops
variable {F : FTy → Type} [FloatOps F] [Named F]

/-- The 1024 rows' scores against one block of 512 keys. -/
def sc (q : Vec F S1x1024x128 .bf16) (k : Vec F S1x512x128 .bf16) : FVec F S1024x512 .f32 :=
  matmul dot_S1024x128_S512x128_S1024x512_1_1_0_0_n_n none (shapeCast S1024x128 q shapeCasts_S1x1024x128_S1024x128)
    (shapeCast S512x128 k shapeCasts_S1x512x128_S512x128) (constant S1024x512 .f32 0x00000000#32)

/-- The scores with the bias tile of the block below the diagonal added to the first 512 rows. -/
def scSub (q : Vec F S1x1024x128 .bf16) (k : Vec F S1x512x128 .bf16) (b : Vec F S1x1x512x512 .f32) : FVec F S1024x512 .f32 :=
  concatenate S1024x512 0 [⟨S512x512, addf (extractStridedSlice S512x512 ![0, 0] (sc q k) slices_S1024x512_o0_0_S512x512)
      (shapeCast S512x512 b shapeCasts_S1x1x512x512_S512x512)⟩,
    ⟨S512x512, extractStridedSlice S512x512 ![512, 0] (sc q k) slices_S1024x512_o512_0_S512x512⟩] concatenates_S512x512_S512x512_S1024x512_d0

/-- The scores with the diagonal tile added to the first 512 rows and the tile below it to the others. -/
def scDiag (q : Vec F S1x1024x128 .bf16) (k : Vec F S1x512x128 .bf16) (b0 b1 : Vec F S1x1x512x512 .f32) : FVec F S1024x512 .f32 :=
  addf (sc q k) (concatenate S1024x512 0 [⟨S512x512, shapeCast S512x512 b0 shapeCasts_S1x1x512x512_S512x512⟩,
    ⟨S512x512, shapeCast S512x512 b1 shapeCasts_S1x1x512x512_S512x512⟩] concatenates_S512x512_S512x512_S1024x512_d0)

/-- The new running maximum. -/
def mx (s : FVec F S1024x512 .f32) (m : Vec F S1x1024x128 .f32) : FVec F S1024x128 .f32 :=
  maximumf (shapeCast S1024x128 m shapeCasts_S1x1024x128_S1024x128) (broadcastTo S1024x128 (shapeCast S1024x1
    (multiReduction .maximumf [1] S1024 s 0xFF800000#32 reduces_S1024x512_S1024 (.inl rfl) rfl) shapeCasts_S1024_S1024x1) broadcasts_S1024x1_S1024x128)

/-- The block's weights, against the new maximum. -/
def wt (s : FVec F S1024x512 .f32) (m : Vec F S1x1024x128 .f32) : FVec F S1024x512 .bf16 :=
  exp2 (truncf .bf16 (subf s (concatenate S1024x512 1 [⟨S1024x128, mx s m⟩, ⟨S1024x128, mx s m⟩, ⟨S1024x128, mx s m⟩, ⟨S1024x128, mx s m⟩]
    concatenates_S1024x128_S1024x128_S1024x128_S1024x128_S1024x512_d1)) bitsLt_bf16_f32)

/-- The factor that carries what was held to the new maximum. -/
def cr (s : FVec F S1024x512 .f32) (m : Vec F S1x1024x128 .f32) : FVec F S1024x128 .f32 :=
  exp2 (subf (shapeCast S1024x128 m shapeCasts_S1x1024x128_S1024x128) (mx s m))

/-- What is stored: the maximum. -/
def m9 (s : FVec F S1024x512 .f32) (m : Vec F S1x1024x128 .f32) : FVec F S1x1024x128 .f32 :=
  shapeCast S1x1024x128 (mx s m) shapeCasts_S1024x128_S1x1024x128

/-- What is stored: the sum. -/
def l10 (s : FVec F S1024x512 .f32) (m l : Vec F S1x1024x128 .f32) : FVec F S1x1024x128 .f32 :=
  shapeCast S1x1024x128 (addf (mulf (shapeCast S1024x128 l shapeCasts_S1x1024x128_S1024x128) (cr s m))
    (broadcastTo S1024x128 (shapeCast S1024x1 (multiReduction .add [1] S1024 (extf .f32 (wt s m) bitsLt_bf16_f32) 0x00000000#32
      reduces_S1024x512_S1024 (.inl rfl) rfl) shapeCasts_S1024_S1024x1) broadcasts_S1024x1_S1024x128)) shapeCasts_S1024x128_S1x1024x128

/-- What is stored: the accumulator. -/
def a11 (s : FVec F S1024x512 .f32) (m a : Vec F S1x1024x128 .f32) (v : Vec F S1x512x128 .bf16) : FVec F S1x1024x128 .f32 :=
  shapeCast S1x1024x128 (addf (mulf (shapeCast S1024x128 a shapeCasts_S1x1024x128_S1024x128) (cr s m))
    (matmul dot_S1024x512_S512x128_S1024x128_1_0_0_1_n_n none (wt s m) (shapeCast S512x128 v shapeCasts_S1x512x128_S512x128)
      (constant S1024x128 .f32 0x00000000#32))) shapeCasts_S1024x128_S1x1024x128

/-- The 512-row scores with the diagonal tile. -/
def scH (q k : Vec F S1x512x128 .bf16) (b : Vec F S1x1x512x512 .f32) : FVec F S512x512 .f32 :=
  addf (matmul dot_S512x128_S512x128_S512x512_1_1_0_0_n_n none (shapeCast S512x128 q shapeCasts_S1x512x128_S512x128)
    (shapeCast S512x128 k shapeCasts_S1x512x128_S512x128) (constant S512x512 .f32 0x00000000#32)) (shapeCast S512x512 b shapeCasts_S1x1x512x512_S512x512)

/-- The new running maximum, at 512 rows. -/
def mxH (s : FVec F S512x512 .f32) (m : Vec F S1x512x128 .f32) : FVec F S512x128 .f32 :=
  maximumf (shapeCast S512x128 m shapeCasts_S1x512x128_S512x128) (broadcastTo S512x128 (shapeCast S512x1
    (multiReduction .maximumf [1] S512 s 0xFF800000#32 reduces_S512x512_S512 (.inl rfl) rfl) shapeCasts_S512_S512x1) broadcasts_S512x1_S512x128)

/-- The block's weights, at 512 rows. -/
def wtH (s : FVec F S512x512 .f32) (m : Vec F S1x512x128 .f32) : FVec F S512x512 .bf16 :=
  exp2 (truncf .bf16 (subf s (concatenate S512x512 1 [⟨S512x128, mxH s m⟩, ⟨S512x128, mxH s m⟩, ⟨S512x128, mxH s m⟩, ⟨S512x128, mxH s m⟩]
    concatenates_S512x128_S512x128_S512x128_S512x128_S512x512_d1)) bitsLt_bf16_f32)

/-- The factor that carries what was held to the new maximum, at 512 rows. -/
def crH (s : FVec F S512x512 .f32) (m : Vec F S1x512x128 .f32) : FVec F S512x128 .f32 :=
  exp2 (subf (shapeCast S512x128 m shapeCasts_S1x512x128_S512x128) (mxH s m))

/-- What is stored: the maximum, at 512 rows. -/
def m9H (s : FVec F S512x512 .f32) (m : Vec F S1x512x128 .f32) : FVec F S1x512x128 .f32 :=
  shapeCast S1x512x128 (mxH s m) shapeCasts_S512x128_S1x512x128

/-- What is stored: the sum, at 512 rows. -/
def l10H (s : FVec F S512x512 .f32) (m l : Vec F S1x512x128 .f32) : FVec F S1x512x128 .f32 :=
  shapeCast S1x512x128 (addf (mulf (shapeCast S512x128 l shapeCasts_S1x512x128_S512x128) (crH s m))
    (broadcastTo S512x128 (shapeCast S512x1 (multiReduction .add [1] S512 (extf .f32 (wtH s m) bitsLt_bf16_f32) 0x00000000#32
      reduces_S512x512_S512 (.inl rfl) rfl) shapeCasts_S512_S512x1) broadcasts_S512x1_S512x128)) shapeCasts_S512x128_S1x512x128

/-- What is stored: the accumulator, at 512 rows. -/
def a11H (s : FVec F S512x512 .f32) (m a : Vec F S1x512x128 .f32) (v : Vec F S1x512x128 .bf16) : FVec F S1x512x128 .f32 :=
  shapeCast S1x512x128 (addf (mulf (shapeCast S512x128 a shapeCasts_S1x512x128_S512x128) (crH s m))
    (matmul dot_S512x512_S512x128_S512x128_1_0_0_1_n_n none (wtH s m) (shapeCast S512x128 v shapeCasts_S1x512x128_S512x128)
      (constant S512x128 .f32 0x00000000#32))) shapeCasts_S512x128_S1x512x128

end Ops

/-! ## Read at an index -/

/-- The bits of minus infinity. -/
theorem bits_neg_inf : Ideal.ofBits FTy.f32 4286578688#32 = ⊥ := by
  simp [Ideal.ofBits, Ideal.ieee, -EReal.coe_mul]

/-- A score is the sum over the lanes. -/
theorem sc_apply (q : Vec Ideal S1x1024x128 .bf16) (k : Vec Ideal S1x512x128 .bf16) (r : Fin 1024) (t : Fin 512) :
    sc q k (ix2 r t) = ∑ e : Fin 128, q (ix3 0 r e) * k (ix3 0 t e) := by
  pointwise [sc]

/-- The first 512 rows' scores of the block below the diagonal. -/
theorem scSub_lo (q : Vec Ideal S1x1024x128 .bf16) (k : Vec Ideal S1x512x128 .bf16) (b : Vec Ideal S1x1x512x512 .f32) (r : Fin 1024)
    (hr : r.val < 512) (t : Fin 512) :
    scSub q k b (ix2 r t) = sc q k (ix2 r t) + b (ix4 0 0 ⟨r.val, hr⟩ t) := by
  pointwise [scSub]
  simp only [dif_pos hr]

/-- The other rows' scores of that block: no bias. -/
theorem scSub_hi (q : Vec Ideal S1x1024x128 .bf16) (k : Vec Ideal S1x512x128 .bf16) (b : Vec Ideal S1x1x512x512 .f32) (r : Fin 1024)
    (hr : ¬ r.val < 512) (t : Fin 512) :
    scSub q k b (ix2 r t) = sc q k (ix2 r t) := by
  pointwise [scSub]
  simp only [dif_neg hr]
  congr 2
  exact Fin.ext (by simp; omega)

/-- The first 512 rows' scores of the diagonal block. -/
theorem scDiag_lo (q : Vec Ideal S1x1024x128 .bf16) (k : Vec Ideal S1x512x128 .bf16) (b0 b1 : Vec Ideal S1x1x512x512 .f32) (r : Fin 1024)
    (hr : r.val < 512) (t : Fin 512) :
    scDiag q k b0 b1 (ix2 r t) = sc q k (ix2 r t) + b0 (ix4 0 0 ⟨r.val, hr⟩ t) := by
  pointwise [scDiag]
  simp only [dif_pos hr]

/-- The other rows' scores of the diagonal block. -/
theorem scDiag_hi (q : Vec Ideal S1x1024x128 .bf16) (k : Vec Ideal S1x512x128 .bf16) (b0 b1 : Vec Ideal S1x1x512x512 .f32) (r : Fin 1024)
    (hr : ¬ r.val < 512) (t : Fin 512) :
    scDiag q k b0 b1 (ix2 r t) = sc q k (ix2 r t) + b1 (ix4 0 0 ⟨r.val - 512, by omega⟩ t) := by
  pointwise [scDiag]
  simp only [dif_neg hr]

/-- The new maximum at a row and lane. -/
theorem mx_apply (s : FVec Ideal S1024x512 .f32) (m : Vec Ideal S1x1024x128 .f32) (r : Fin 1024) (d : Fin 128) :
    mx s m (ix2 r d) = max (m (ix3 0 r d)) (Finset.univ.fold max ⊥ fun t : Fin 512 => s (ix2 r t)) := by
  rw [← bits_neg_inf]
  pointwise [mx]

/-- What is stored as the maximum at a row and lane. -/
theorem m9_apply (s : FVec Ideal S1024x512 .f32) (m : Vec Ideal S1x1024x128 .f32) (r : Fin 1024) (d : Fin 128) :
    m9 s m (ix3 0 r d) = mx s m (ix2 r d) := by
  pointwise [m9]

/-- A weight, where the lanes of the new maximum agree. -/
theorem wt_apply (s : FVec Ideal S1024x512 .f32) (m : Vec Ideal S1x1024x128 .f32) (r : Fin 1024) (t : Fin 512) (M : EReal)
    (hM : ∀ d, mx s m (ix2 r d) = M) : wt s m (ix2 r t) = Ideal.exp2 (s (ix2 r t) - M) := by
  pointwise [wt]
  simp only [hM, dite_eq_ite, ite_self]
  rfl

/-- The stored sum at a row and lane. -/
theorem l10_apply (s : FVec Ideal S1024x512 .f32) (m l : Vec Ideal S1x1024x128 .f32) (r : Fin 1024) (d : Fin 128) :
    l10 s m l (ix3 0 r d) = l (ix3 0 r d) * Ideal.exp2 (m (ix3 0 r d) - mx s m (ix2 r d)) + ∑ t : Fin 512, wt s m (ix2 r t) := by
  pointwise [l10, cr]
  rfl

/-- The stored accumulator at a row and lane. -/
theorem a11_apply (s : FVec Ideal S1024x512 .f32) (m a : Vec Ideal S1x1024x128 .f32) (v : Vec Ideal S1x512x128 .bf16) (r : Fin 1024) (d : Fin 128) :
    a11 s m a v (ix3 0 r d) = a (ix3 0 r d) * Ideal.exp2 (m (ix3 0 r d) - mx s m (ix2 r d)) + ∑ t : Fin 512, wt s m (ix2 r t) * v (ix3 0 t d) := by
  pointwise [a11, cr]
  rfl

/-- The 512-row score. -/
theorem scH_apply (q k : Vec Ideal S1x512x128 .bf16) (b : Vec Ideal S1x1x512x512 .f32) (r t : Fin 512) :
    scH q k b (ix2 r t) = (∑ e : Fin 128, q (ix3 0 r e) * k (ix3 0 t e)) + b (ix4 0 0 r t) := by
  pointwise [scH]

/-- The new maximum at a row and lane. -/
theorem mxH_apply (s : FVec Ideal S512x512 .f32) (m : Vec Ideal S1x512x128 .f32) (r : Fin 512) (d : Fin 128) :
    mxH s m (ix2 r d) = max (m (ix3 0 r d)) (Finset.univ.fold max ⊥ fun t : Fin 512 => s (ix2 r t)) := by
  rw [← bits_neg_inf]
  pointwise [mxH]

/-- What is stored as the maximum at a row and lane. -/
theorem m9H_apply (s : FVec Ideal S512x512 .f32) (m : Vec Ideal S1x512x128 .f32) (r : Fin 512) (d : Fin 128) :
    m9H s m (ix3 0 r d) = mxH s m (ix2 r d) := by
  pointwise [m9H]

/-- A weight, where the lanes of the new maximum agree. -/
theorem wtH_apply (s : FVec Ideal S512x512 .f32) (m : Vec Ideal S1x512x128 .f32) (r : Fin 512) (t : Fin 512) (M : EReal)
    (hM : ∀ d, mxH s m (ix2 r d) = M) : wtH s m (ix2 r t) = Ideal.exp2 (s (ix2 r t) - M) := by
  pointwise [wtH]
  simp only [hM, dite_eq_ite, ite_self]
  rfl

/-- The stored sum at a row and lane. -/
theorem l10H_apply (s : FVec Ideal S512x512 .f32) (m l : Vec Ideal S1x512x128 .f32) (r : Fin 512) (d : Fin 128) :
    l10H s m l (ix3 0 r d) = l (ix3 0 r d) * Ideal.exp2 (m (ix3 0 r d) - mxH s m (ix2 r d)) + ∑ t : Fin 512, wtH s m (ix2 r t) := by
  pointwise [l10H, crH]
  rfl

/-- The stored accumulator at a row and lane. -/
theorem a11H_apply (s : FVec Ideal S512x512 .f32) (m a : Vec Ideal S1x512x128 .f32) (v : Vec Ideal S1x512x128 .bf16) (r : Fin 512) (d : Fin 128) :
    a11H s m a v (ix3 0 r d) = a (ix3 0 r d) * Ideal.exp2 (m (ix3 0 r d) - mxH s m (ix2 r d)) + ∑ t : Fin 512, wtH s m (ix2 r t) * v (ix3 0 t d) := by
  pointwise [a11H, crH]
  rfl

end Cert.DattnIdeal.Ker

end
-- ==== Proof.Softmax.lean ====
module

public import Idealize.ShloMosaic.PureOps.Ideal

@[expose] public section

noncomputable section

/-! # Softmax sums held against a running maximum, over the extended reals -/

namespace Cert.Softmax

open Idealize.ShloMosaic

/-- A base-two exponential is not negative. -/
theorem exp2_nonneg (x : EReal) : 0 ≤ Ideal.exp2 x := by
  induction x with
  | bot => simp
  | top => simp
  | coe r => rw [Ideal.exp2_coe]; exact EReal.coe_nonneg.mpr (Real.rpow_nonneg (by norm_num) r)

/-- The exponential of a difference that does not exceed zero is finite. -/
theorem exp2_sub_ne_top {a b : EReal} (h : a ≤ b) : Ideal.exp2 (a - b) ≠ ⊤ := by
  induction b with
  | bot => simp [le_bot_iff.mp h]
  | top => simp
  | coe b =>
    induction a with
    | bot => simp
    | top => simp at h
    | coe a => rw [← EReal.coe_sub, Ideal.exp2_coe]; exact EReal.coe_ne_top _

/-- Two exponentials of differences join. -/
theorem exp2_mul {s m n : EReal} (hs : s ≤ m) (hm : m ≤ n) :
    Ideal.exp2 (s - m) * Ideal.exp2 (m - n) = Ideal.exp2 (s - n) := by
  induction n with
  | top => simp
  | bot =>
    obtain rfl := le_bot_iff.mp hm
    obtain rfl := le_bot_iff.mp hs
    simp
  | coe n =>
    induction m with
    | top => simp at hm
    | bot => simp [le_bot_iff.mp hs]
    | coe m =>
      induction s with
      | top => simp at hs
      | bot => simp
      | coe s =>
        rw [← EReal.coe_sub, ← EReal.coe_sub, ← EReal.coe_sub, Ideal.exp2_coe, Ideal.exp2_coe, Ideal.exp2_coe, ← EReal.coe_mul]
        congr 1
        show (2 : ℝ) ^ (s - m) * (2 : ℝ) ^ (m - n) = (2 : ℝ) ^ (s - n)
        rw [← Real.rpow_add (by norm_num)]
        congr 1; ring

/-- A finite factor that is not negative goes inside a sum. -/
theorem sum_mul_right {ι : Type} (J : Finset ι) (f : ι → EReal) {c : EReal} (h0 : 0 ≤ c) (ht : c ≠ ⊤) :
    (∑ j ∈ J, f j) * c = ∑ j ∈ J, f j * c := by
  classical
  induction J using Finset.induction_on with
  | empty => simp
  | insert a J ha ih =>
    rw [Finset.sum_insert ha, Finset.sum_insert ha, EReal.right_distrib_of_nonneg_of_ne_top h0 ht, ih]

/-- What a row holds after the columns `J`: the maximum of their scores, the sum of their weights against it, and the
    weighted sums of the values. The lanes `d` of the maximum and of the sum all hold the same. -/
structure Held (u : Fin 4096 → EReal) (v : Fin 4096 → Fin 128 → EReal) (J : Finset (Fin 4096)) (m l a : Fin 128 → EReal) : Prop where
  hm : ∀ d, m d = J.sup u
  hl : ∀ d, l d = ∑ j ∈ J, Ideal.exp2 (u j - J.sup u)
  ha : ∀ d, a d = ∑ j ∈ J, Ideal.exp2 (u j - J.sup u) * v j d

variable {u : Fin 4096 → EReal} {v : Fin 4096 → Fin 128 → EReal}

/-- Nothing is held before the first column. -/
theorem Held.nil {m l a : Fin 128 → EReal} (hm : ∀ d, m d = ⊥) (hl : ∀ d, l d = 0) (ha : ∀ d, a d = 0) : Held u v ∅ m l a :=
  ⟨fun d => by simp [hm], fun d => by simp [hl], fun d => by simp [ha]⟩

/-- The columns before `n` blocks of 512. -/
def upto (n : ℕ) : Finset (Fin 4096) := Finset.univ.filter fun j => j.val < 512 * n

/-- The fold of a maximum is the supremum. -/
theorem fold_max_eq_sup {n : ℕ} (s : Fin n → EReal) : (Finset.univ.fold max ⊥ s) = Finset.univ.sup s := by
  rfl

/-- One more block of 512 columns. -/
theorem Held.step {n : ℕ} (hn : n < 8) {m l a m' l' a' : Fin 128 → EReal} (h : Held u v (upto n) m l a) (s : Fin 512 → EReal)
    (hs : ∀ t : Fin 512, s t = u ⟨512 * n + t.val, by omega⟩)
    (hm' : ∀ d, m' d = max (m d) (Finset.univ.fold max ⊥ s))
    (hl' : ∀ d, l' d = l d * Ideal.exp2 (m d - m' d) + ∑ t : Fin 512, Ideal.exp2 (s t - m' d))
    (ha' : ∀ d, a' d = a d * Ideal.exp2 (m d - m' d) + ∑ t : Fin 512, Ideal.exp2 (s t - m' d) * v ⟨512 * n + t.val, by omega⟩ d) :
    Held u v (upto (n + 1)) m' l' a' := by
  let e : Fin 512 ↪ Fin 4096 := ⟨fun t => ⟨512 * n + t.val, by omega⟩, fun a b hab => by
    have := congrArg Fin.val hab; simp only [] at this; exact Fin.ext (by omega)⟩
  have he : ∀ t, (e t).val = 512 * n + t.val := fun _ => rfl
  have hJ : upto (n + 1) = (upto n).disjUnion (Finset.univ.map e) (by
      rw [Finset.disjoint_left]
      intro j hj hj'
      simp only [upto, Finset.mem_filter, Finset.mem_univ, true_and, Finset.mem_map] at hj hj'
      obtain ⟨t, rfl⟩ := hj'
      rw [he] at hj
      omega) := by
    ext j
    simp only [upto, Finset.mem_filter, Finset.mem_univ, true_and, Finset.mem_disjUnion, Finset.mem_map]
    constructor
    · intro hj
      by_cases hj' : j.val < 512 * n
      · exact .inl hj'
      · exact .inr ⟨⟨j.val - 512 * n, by omega⟩, Fin.ext (by rw [he]; simp only []; omega)⟩
    · rintro (hj | ⟨t, rfl⟩)
      · omega
      · rw [he]; omega
  have hsup : (upto (n + 1)).sup u = max ((upto n).sup u) (Finset.univ.sup s) := by
    rw [hJ, Finset.disjUnion_eq_union, Finset.sup_union, Finset.sup_map]
    congr 1
    exact Finset.sup_congr rfl fun t _ => (hs t).symm
  have hM : ∀ d, m' d = (upto (n + 1)).sup u := fun d => by rw [hm', h.hm, hsup, fold_max_eq_sup]
  have hle : (upto n).sup u ≤ (upto (n + 1)).sup u := hsup ▸ le_max_left _ _
  have h0 := exp2_nonneg ((upto n).sup u - (upto (n + 1)).sup u)
  have ht := exp2_sub_ne_top hle
  refine ⟨hM, fun d => ?_, fun d => ?_⟩
  · rw [hl', h.hl, h.hm, hM, sum_mul_right _ _ h0 ht]
    conv_rhs => rw [hJ, Finset.sum_disjUnion, Finset.sum_map, ← hJ]
    refine congrArg₂ (fun a b : EReal => a + b) (Finset.sum_congr rfl fun j hj => exp2_mul (Finset.le_sup hj) hle)
      (Finset.sum_congr rfl fun t _ => ?_)
    rw [hs]; rfl
  · rw [ha', h.ha, h.hm, hM, sum_mul_right _ _ h0 ht]
    conv_rhs => rw [hJ, Finset.sum_disjUnion, Finset.sum_map, ← hJ]
    refine congrArg₂ (fun a b : EReal => a + b) (Finset.sum_congr rfl fun j hj => ?_)
      (Finset.sum_congr rfl fun t _ => ?_)
    · rw [mul_right_comm, exp2_mul (Finset.le_sup hj) hle]
    · rw [hs]; rfl

end Cert.Softmax

end
-- ==== Proof.DattnWords.lean ====
module

public import proofs.«01_k».proof.Proof.Gen.DattnIdeal.Frame
public import proofs.«01_k».proof.Proof.DattnStep
public import proofs.«01_k».proof.Proof.Softmax
public import Idealize.ShloMosaic.Lib.Pipeline.ReadBack
public import Idealize.ShloMosaic.Lib.Tactic

@[expose] public section

set_option maxRecDepth 16384

noncomputable section

/-! # The scratch's written pieces, as steps

The body's running maximum, sum and accumulator live in three scratch buffers of two maps. What a run has written there is a
list of pieces, newest first. Here each stage of that list is named as one step over the stage before it. -/

namespace Cert.DattnIdeal.Ker

open Cert.DattnIdeal Cert.DattnIdeal.Gen Idealize.ShloMosaic Idealize.ShloMosaic.TcCoe Idealize.SL.Sem

section Words
variable {F : FTy → Type} [FloatOps F] [Named F]

/-- Map 0's slab of a scratch buffer. -/
abbrev bx0 : Rect S2x1024x128 := Rect.unit (s := S2x1024x128) ![0, 0, 0] S1x1024x128.size inb_S2x1024x128_S1x1024x128_0_0_0
/-- Map 1's slab. -/
abbrev bx1 : Rect S2x1024x128 := Rect.unit (s := S2x1024x128) ![1, 0, 0] S1x1024x128.size inb_S2x1024x128_S1x1024x128_1_0_0
/-- The last 512 rows of map 0's slab. -/
abbrev hx0 : Rect S2x1024x128 := Rect.unit (s := S2x1024x128) ![0, 512, 0] S1x512x128.size inb_S2x1024x128_S1x512x128_0_512_0
/-- The last 512 rows of map 1's slab. -/
abbrev hx1 : Rect S2x1024x128 := Rect.unit (s := S2x1024x128) ![1, 512, 0] S1x512x128.size inb_S2x1024x128_S1x512x128_1_512_0

variable (F) in
/-- What a run has written to a scratch buffer, newest first. -/
abbrev Ws : Type := List (View.Piece (Elt F) S2x1024x128 .f32)

/-- The maxima after a step of both maps. -/
def push9 (s0 s1 : FVec F S1024x512 .f32) (m0 m1 : Vec F S1x1024x128 .f32) (L : Ws F) : Ws F :=
  ⟨bx1, m9 s1 m1⟩ :: ⟨bx0, m9 s0 m0⟩ :: L
/-- The sums after a step of both maps. -/
def push10 (s0 s1 : FVec F S1024x512 .f32) (m0 m1 l0 l1 : Vec F S1x1024x128 .f32) (L : Ws F) : Ws F :=
  ⟨bx1, l10 s1 m1 l1⟩ :: ⟨bx0, l10 s0 m0 l0⟩ :: L
/-- The accumulators after a step of both maps. -/
def push11 (s0 s1 : FVec F S1024x512 .f32) (m0 m1 a0 a1 : Vec F S1x1024x128 .f32) (v : Vec F S1x512x128 .bf16) (L : Ws F) : Ws F :=
  ⟨bx1, a11 s1 m1 a1 v⟩ :: ⟨bx0, a11 s0 m0 a0 v⟩ :: L
/-- The maxima after a step of the last 512 rows, map 0 only (map 1's are not stored). -/
def half9 (s0 : FVec F S512x512 .f32) (m0 : Vec F S1x512x128 .f32) (L : Ws F) : Ws F :=
  ⟨hx0, m9H s0 m0⟩ :: L
/-- The sums after a step of the last 512 rows. -/
def half10 (s0 s1 : FVec F S512x512 .f32) (m0 m1 l0 l1 : Vec F S1x512x128 .f32) (L : Ws F) : Ws F :=
  ⟨hx1, l10H s1 m1 l1⟩ :: ⟨hx0, l10H s0 m0 l0⟩ :: L
/-- The accumulators after a step of the last 512 rows. -/
def half11 (s0 s1 : FVec F S512x512 .f32) (m0 m1 a0 a1 : Vec F S1x512x128 .f32) (v : Vec F S1x512x128 .bf16) (L : Ws F) : Ws F :=
  ⟨hx1, a11H s1 m1 a1 v⟩ :: ⟨hx0, a11H s0 m0 a0 v⟩ :: L

variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x2x512x512 .f32) (harg6 : arg6.IsWhole) (arg7 : Memref sig .tc .vmem S1x1024x256 .f32) (harg7 : arg7.IsWhole) (arg8 : Memref sig .tc .vmem S2x1024x128 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole)
  (x0 : Vec F S1x1024x128 .bf16) (x1 x2 : Vec F S1x4096x128 .bf16) (x3 : Vec F S1x2x512x512 .f32)

/-- A block of 512 keys. -/
abbrev kblk (o : Fin 3 → ℕ) (ho : ∀ a, o a + S1x512x128.size a ≤ S1x4096x128.size a) : Vec F S1x512x128 .bf16 :=
  View.readAt (Elt F) arg4.view (Rect.unit (s := S1x4096x128) o S1x512x128.size ho).toLoadRect (harg4.unread x1)
/-- A block of 512 values. -/
abbrev vblk (o : Fin 3 → ℕ) (ho : ∀ a, o a + S1x512x128.size a ≤ S1x4096x128.size a) : Vec F S1x512x128 .bf16 :=
  View.readAt (Elt F) arg5.view (Rect.unit (s := S1x4096x128) o S1x512x128.size ho).toLoadRect (harg5.unread x2)
/-- The diagonal bias tile. -/
abbrev btile0 : Vec F S1x1x512x512 .f32 :=
  View.readAt (Elt F) arg6.view (Rect.unit (s := S1x2x512x512) ![0, 0, 0, 0] S1x1x512x512.size inb_S1x2x512x512_S1x1x512x512_0_0_0_0).toLoadRect (harg6.unread x3)
/-- The bias tile below the diagonal. -/
abbrev btile1 : Vec F S1x1x512x512 .f32 :=
  View.readAt (Elt F) arg6.view (Rect.unit (s := S1x2x512x512) ![0, 1, 0, 0] S1x1x512x512.size inb_S1x2x512x512_S1x1x512x512_0_1_0_0).toLoadRect (harg6.unread x3)

/-- One trip of the loop over the blocks far from the diagonal is one step of both maps. -/
theorem trip_eq (arg2 : BitVec 32) (v25 : FVec F S1024x128 .bf16) (X4 : BufTy.Contents (Elt F) arg4.view.ty) (X5 : BufTy.Contents (Elt F) arg5.view.ty) (X8 : BufTy.Contents (Elt F) arg8.view.ty) (k : Fin (k0_t1_loop i).trips) (f9 : BufTy.Contents (Elt F) arg9.view.ty) (f10 : BufTy.Contents (Elt F) arg10.view.ty) (f11 : BufTy.Contents (Elt F) arg11.view.ty) :
    tripL_k0_t1 (F := F) Variants.none c none i arg3 harg3 arg4 harg4 arg5 harg5 arg6 harg6 arg7 harg7 arg8 harg8 arg9 harg9 arg10 harg10 arg11 harg11 arg2 v25 X4 X5 X8 k f9 f10 f11
      = (push9 (sc (View.readAt (Elt F) arg8.view bx0.toLoadRect X8) (View.readAt (Elt F) arg4.view (Rect.unit (s := S1x4096x128) (k0_off1 i k) S1x512x128.size (k0_off1_inb i k)).toLoadRect X4)) (sc (View.readAt (Elt F) arg8.view bx1.toLoadRect X8) (View.readAt (Elt F) arg4.view (Rect.unit (s := S1x4096x128) (k0_off1 i k) S1x512x128.size (k0_off1_inb i k)).toLoadRect X4)) (View.readAt (Elt F) arg9.view bx0.toLoadRect f9) (View.readAt (Elt F) arg9.view bx1.toLoadRect f9) [],
         push10 (sc (View.readAt (Elt F) arg8.view bx0.toLoadRect X8) (View.readAt (Elt F) arg4.view (Rect.unit (s := S1x4096x128) (k0_off1 i k) S1x512x128.size (k0_off1_inb i k)).toLoadRect X4)) (sc (View.readAt (Elt F) arg8.view bx1.toLoadRect X8) (View.readAt (Elt F) arg4.view (Rect.unit (s := S1x4096x128) (k0_off1 i k) S1x512x128.size (k0_off1_inb i k)).toLoadRect X4)) (View.readAt (Elt F) arg9.view bx0.toLoadRect f9) (View.readAt (Elt F) arg9.view bx1.toLoadRect f9) (View.readAt (Elt F) arg10.view bx0.toLoadRect f10) (View.readAt (Elt F) arg10.view bx1.toLoadRect f10) [],
         push11 (sc (View.readAt (Elt F) arg8.view bx0.toLoadRect X8) (View.readAt (Elt F) arg4.view (Rect.unit (s := S1x4096x128) (k0_off1 i k) S1x512x128.size (k0_off1_inb i k)).toLoadRect X4)) (sc (View.readAt (Elt F) arg8.view bx1.toLoadRect X8) (View.readAt (Elt F) arg4.view (Rect.unit (s := S1x4096x128) (k0_off1 i k) S1x512x128.size (k0_off1_inb i k)).toLoadRect X4)) (View.readAt (Elt F) arg9.view bx0.toLoadRect f9) (View.readAt (Elt F) arg9.view bx1.toLoadRect f9) (View.readAt (Elt F) arg11.view bx0.toLoadRect f11) (View.readAt (Elt F) arg11.view bx1.toLoadRect f11) (View.readAt (Elt F) arg5.view (Rect.unit (s := S1x4096x128) (k0_off1 i k) S1x512x128.size (k0_off1_inb i k)).toLoadRect X5) []) := by
  unfold tripL_k0_t1 trip_k0_t1
  rfl

section CaseA
/-- Case A: the maxima after the diagonal block. -/
theorem a_diag1 :
    (kernelRun0_A.sl.HS1_2 c i arg3 harg3 arg4 harg4 arg5 harg5 arg6 harg6 arg7 harg7 arg8 harg8 arg9 harg9 arg10 harg10 arg11 harg11 x0 x1 x2 x3)
      = push9 (scDiag (arg8.view.readCov (kernelRun0_A.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_A.sl.HS0_2 c arg3 harg3 x0) bx1.toLoadRect) (kblk arg4 harg4 x1 (k0_off4 i) (k0_off4_inb i)) (btile0 arg6 harg6 x3) (btile1 arg6 harg6 x3)) (arg9.view.readCov (List.tail (kernelRun0_A.sl.HS1_1_1 c i arg3 harg3 arg4 harg4 arg5 harg5 arg6 harg6 arg7 harg7 arg8 harg8 arg9 harg9 arg10 harg10 arg11 harg11 x0 x1 x2 x3)) bx0.toLoadRect) (arg9.view.readCov (kernelRun0_A.sl.HS1_1_1 c i arg3 harg3 arg4 harg4 arg5 harg5 arg6 harg6 arg7 harg7 arg8 harg8 arg9 harg9 arg10 harg10 arg11 harg11 x0 x1 x2 x3) bx1.toLoadRect) (List.tail (kernelRun0_A.sl.HS1_1_1 c i arg3 harg3 arg4 harg4 arg5 harg5 arg6 harg6 arg7 harg7 arg8 harg8 arg9 harg9 arg10 harg10 arg11 harg11 x0 x1 x2 x3)) := rfl

/-- Case A: the sums after the diagonal block. -/
theorem a_diag2 :
    (kernelRun0_A.sl.HS2_2 c i arg3 harg3 arg4 harg4 arg5 harg5 arg6 harg6 arg7 harg7 arg8 harg8 arg9 harg9 arg10 harg10 arg11 harg11 x0 x1 x2 x3)
      = push10 (scDiag (arg8.view.readCov (kernelRun0_A.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_A.sl.HS0_2 c arg3 harg3 x0) bx1.toLoadRect) (kblk arg4 harg4 x1 (k0_off4 i) (k0_off4_inb i)) (btile0 arg6 harg6 x3) (btile1 arg6 harg6 x3)) (arg9.view.readCov (List.tail (kernelRun0_A.sl.HS1_1_1 c i arg3 harg3 arg4 harg4 arg5 harg5 arg6 harg6 arg7 harg7 arg8 harg8 arg9 harg9 arg10 harg10 arg11 harg11 x0 x1 x2 x3)) bx0.toLoadRect) (arg9.view.readCov (kernelRun0_A.sl.HS1_1_1 c i arg3 harg3 arg4 harg4 arg5 harg5 arg6 harg6 arg7 harg7 arg8 harg8 arg9 harg9 arg10 harg10 arg11 harg11 x0 x1 x2 x3) bx1.toLoadRect) (arg10.view.readCov (List.tail (kernelRun0_A.sl.HS2_1_1 c i arg3 harg3 arg4 harg4 arg5 harg5 arg6 harg6 arg7 harg7 arg8 harg8 arg9 harg9 arg10 harg10 arg11 harg11 x0 x1 x2 x3)) bx0.toLoadRect) (arg10.view.readCov (kernelRun0_A.sl.HS2_1_1 c i arg3 harg3 arg4 harg4 arg5 harg5 arg6 harg6 arg7 harg7 arg8 harg8 arg9 harg9 arg10 harg10 arg11 harg11 x0 x1 x2 x3) bx1.toLoadRect) (List.tail (kernelRun0_A.sl.HS2_1_1 c i arg3 harg3 arg4 harg4 arg5 harg5 arg6 harg6 arg7 harg7 arg8 harg8 arg9 harg9 arg10 harg10 arg11 harg11 x0 x1 x2 x3)) := rfl

/-- Case A: the accumulators after the diagonal block. -/
theorem a_diag3 :
    (kernelRun0_A.sl.HS3_2 c i arg3 harg3 arg4 harg4 arg5 harg5 arg6 harg6 arg7 harg7 arg8 harg8 arg9 harg9 arg10 harg10 arg11 harg11 x0 x1 x2 x3)
      = push11 (scDiag (arg8.view.readCov (kernelRun0_A.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_A.sl.HS0_2 c arg3 harg3 x0) bx1.toLoadRect) (kblk arg4 harg4 x1 (k0_off4 i) (k0_off4_inb i)) (btile0 arg6 harg6 x3) (btile1 arg6 harg6 x3)) (arg9.view.readCov (List.tail (kernelRun0_A.sl.HS1_1_1 c i arg3 harg3 arg4 harg4 arg5 harg5 arg6 harg6 arg7 harg7 arg8 harg8 arg9 harg9 arg10 harg10 arg11 harg11 x0 x1 x2 x3)) bx0.toLoadRect) (arg9.view.readCov (kernelRun0_A.sl.HS1_1_1 c i arg3 harg3 arg4 harg4 arg5 harg5 arg6 harg6 arg7 harg7 arg8 harg8 arg9 harg9 arg10 harg10 arg11 harg11 x0 x1 x2 x3) bx1.toLoadRect) (arg11.view.readCov (List.tail (kernelRun0_A.sl.HS3_1_1 c i arg3 harg3 arg4 harg4 arg5 harg5 arg6 harg6 arg7 harg7 arg8 harg8 arg9 harg9 arg10 harg10 arg11 harg11 x0 x1 x2 x3)) bx0.toLoadRect) (arg11.view.readCov (kernelRun0_A.sl.HS3_1_1 c i arg3 harg3 arg4 harg4 arg5 harg5 arg6 harg6 arg7 harg7 arg8 harg8 arg9 harg9 arg10 harg10 arg11 harg11 x0 x1 x2 x3) bx1.toLoadRect) (vblk arg5 harg5 x2 (k0_off4 i) (k0_off4_inb i)) (List.tail (kernelRun0_A.sl.HS3_1_1 c i arg3 harg3 arg4 harg4 arg5 harg5 arg6 harg6 arg7 harg7 arg8 harg8 arg9 harg9 arg10 harg10 arg11 harg11 x0 x1 x2 x3)) := rfl

/-- Case A: the sums after the last block. -/
theorem a_last2 :
    (kernelRun0_A.sl.HS2_4 c i arg3 harg3 arg4 harg4 arg5 harg5 arg6 harg6 arg7 harg7 arg8 harg8 arg9 harg9 arg10 harg10 arg11 harg11 x0 x1 x2 x3)
      = half10 (scH (arg8.view.readCov (kernelRun0_A.sl.HS0_2 c arg3 harg3 x0) hx0.toLoadRect) (kblk arg4 harg4 x1 (k0_off5 i) (k0_off5_inb i)) (btile0 arg6 harg6 x3)) (scH (arg8.view.readCov (kernelRun0_A.sl.HS0_2 c arg3 harg3 x0) hx1.toLoadRect) (kblk arg4 harg4 x1 (k0_off5 i) (k0_off5_inb i)) (btile0 arg6 harg6 x3)) (arg9.view.readCov (kernelRun0_A.sl.HS1_2 c i arg3 harg3 arg4 harg4 arg5 harg5 arg6 harg6 arg7 harg7 arg8 harg8 arg9 harg9 arg10 harg10 arg11 harg11 x0 x1 x2 x3) hx0.toLoadRect) (arg9.view.readCov (kernelRun0_A.sl.HS1_3 c i arg3 harg3 arg4 harg4 arg5 harg5 arg6 harg6 arg7 harg7 arg8 harg8 arg9 harg9 arg10 harg10 arg11 harg11 x0 x1 x2 x3) hx1.toLoadRect) (arg10.view.readCov (kernelRun0_A.sl.HS2_2 c i arg3 harg3 arg4 harg4 arg5 harg5 arg6 harg6 arg7 harg7 arg8 harg8 arg9 harg9 arg10 harg10 arg11 harg11 x0 x1 x2 x3) hx0.toLoadRect) (arg10.view.readCov (kernelRun0_A.sl.HS2_3 c i arg3 harg3 arg4 harg4 arg5 harg5 arg6 harg6 arg7 harg7 arg8 harg8 arg9 harg9 arg10 harg10 arg11 harg11 x0 x1 x2 x3) hx1.toLoadRect) (kernelRun0_A.sl.HS2_2 c i arg3 harg3 arg4 harg4 arg5 harg5 arg6 harg6 arg7 harg7 arg8 harg8 arg9 harg9 arg10 harg10 arg11 harg11 x0 x1 x2 x3) := rfl

/-- Case A: the accumulators after the last block. -/
theorem a_last3 :
    (kernelRun0_A.sl.HS3_4 c i arg3 harg3 arg4 harg4 arg5 harg5 arg6 harg6 arg7 harg7 arg8 harg8 arg9 harg9 arg10 harg10 arg11 harg11 x0 x1 x2 x3)
      = half11 (scH (arg8.view.readCov (kernelRun0_A.sl.HS0_2 c arg3 harg3 x0) hx0.toLoadRect) (kblk arg4 harg4 x1 (k0_off5 i) (k0_off5_inb i)) (btile0 arg6 harg6 x3)) (scH (arg8.view.readCov (kernelRun0_A.sl.HS0_2 c arg3 harg3 x0) hx1.toLoadRect) (kblk arg4 harg4 x1 (k0_off5 i) (k0_off5_inb i)) (btile0 arg6 harg6 x3)) (arg9.view.readCov (kernelRun0_A.sl.HS1_2 c i arg3 harg3 arg4 harg4 arg5 harg5 arg6 harg6 arg7 harg7 arg8 harg8 arg9 harg9 arg10 harg10 arg11 harg11 x0 x1 x2 x3) hx0.toLoadRect) (arg9.view.readCov (kernelRun0_A.sl.HS1_3 c i arg3 harg3 arg4 harg4 arg5 harg5 arg6 harg6 arg7 harg7 arg8 harg8 arg9 harg9 arg10 harg10 arg11 harg11 x0 x1 x2 x3) hx1.toLoadRect) (arg11.view.readCov (kernelRun0_A.sl.HS3_2 c i arg3 harg3 arg4 harg4 arg5 harg5 arg6 harg6 arg7 harg7 arg8 harg8 arg9 harg9 arg10 harg10 arg11 harg11 x0 x1 x2 x3) hx0.toLoadRect) (arg11.view.readCov (kernelRun0_A.sl.HS3_3 c i arg3 harg3 arg4 harg4 arg5 harg5 arg6 harg6 arg7 harg7 arg8 harg8 arg9 harg9 arg10 harg10 arg11 harg11 x0 x1 x2 x3) hx1.toLoadRect) (vblk arg5 harg5 x2 (k0_off5 i) (k0_off5_inb i)) (kernelRun0_A.sl.HS3_2 c i arg3 harg3 arg4 harg4 arg5 harg5 arg6 harg6 arg7 harg7 arg8 harg8 arg9 harg9 arg10 harg10 arg11 harg11 x0 x1 x2 x3) := rfl

end CaseA

section CaseB
variable (hc0 : cond0_0 i)

/-- Case B: the maxima after the block below the diagonal. -/
theorem b_sub1 :
    (kernelRun0_B.sl.HS1_2 c i arg3 harg3 arg4 harg4 arg5 harg5 arg6 harg6 arg7 harg7 arg8 harg8 arg9 harg9 arg10 harg10 arg11 harg11 hc0 x0 x1 x2 x3)
      = push9 (scSub (arg8.view.readCov (kernelRun0_B.sl.HS0_2 c arg3 harg3 x0) bx0.toLoadRect) (kblk arg4 harg4 x1 (k0_off3 i) (k0_off3_inb i hc0)) (btile1 arg6 harg6 x3)) (scSub (arg8.view.readCov (kernelRun0_B.sl.HS0_2 c arg3 harg3 x0) bx1.toLoadRect) (kblk arg4 harg4 x1 (k0_off3 i) (k0_off3_inb i hc0)) (btile1 arg6 harg6 x3)) (arg9.view.readCov (List.tail (kernelRun0_B.sl.HS1_1_1 c i arg3 harg3 arg4 harg4 arg5 harg5 arg6 harg6 arg7 harg7 arg8 harg8 arg9 harg9 arg10 harg10 arg11 harg11 hc0 x0 x1 x2 x3)) bx0.toLoadRect) (arg9.view.readCov (kernelRun0_B.sl.HS1_1_1 c i arg3 harg3 arg4 harg4 arg5 harg5 arg6 harg6 arg7 harg7 arg8 harg8 arg9 harg9 arg10 harg10 arg11 harg11 hc0 x0 x1 x2 x3) bx1.toLoadRect) (List.tail (kernelRun0_B.sl.HS1_1_1 c i arg3 harg3 arg4 harg4 arg5 harg5 arg6 harg6 arg7 harg7 arg8 harg8 arg9 harg9 arg10 harg10 arg11 harg11 hc0 x0 x1 x2 x3)) := rfl

/-- Case B: the sums after the block below the diagonal. -/
theorem b_sub2 :
    (kernelRun0_B.sl.HS2_2 c i arg3 harg3 arg4 harg4 arg5 harg5 arg6 harg6 arg7 harg7 arg8 harg8 arg9 harg9 arg10 harg10 arg11 harg11 hc0 x0 x1 x2 x3)
      = push10 (scSub (arg8.view.readCov (kernelRun0_B.sl.HS0_2 c arg3 harg3 x0) bx0.toLoadRect) (kblk arg4 harg4 x1 (k0_off3 i) (k0_off3_inb i hc0)) (btile1 arg6 harg6 x3)) (scSub (arg8.view.readCov (kernelRun0_B.sl.HS0_2 c arg3 harg3 x0) bx1.toLoadRect) (kblk arg4 harg4 x1 (k0_off3 i) (k0_off3_inb i hc0)) (btile1 arg6 harg6 x3)) (arg9.view.readCov (List.tail (kernelRun0_B.sl.HS1_1_1 c i arg3 harg3 arg4 harg4 arg5 harg5 arg6 harg6 arg7 harg7 arg8 harg8 arg9 harg9 arg10 harg10 arg11 harg11 hc0 x0 x1 x2 x3)) bx0.toLoadRect) (arg9.view.readCov (kernelRun0_B.sl.HS1_1_1 c i arg3 harg3 arg4 harg4 arg5 harg5 arg6 harg6 arg7 harg7 arg8 harg8 arg9 harg9 arg10 harg10 arg11 harg11 hc0 x0 x1 x2 x3) bx1.toLoadRect) (arg10.view.readCov (List.tail (kernelRun0_B.sl.HS2_1_1 c i arg3 harg3 arg4 harg4 arg5 harg5 arg6 harg6 arg7 harg7 arg8 harg8 arg9 harg9 arg10 harg10 arg11 harg11 hc0 x0 x1 x2 x3)) bx0.toLoadRect) (arg10.view.readCov (kernelRun0_B.sl.HS2_1_1 c i arg3 harg3 arg4 harg4 arg5 harg5 arg6 harg6 arg7 harg7 arg8 harg8 arg9 harg9 arg10 harg10 arg11 harg11 hc0 x0 x1 x2 x3) bx1.toLoadRect) (List.tail (kernelRun0_B.sl.HS2_1_1 c i arg3 harg3 arg4 harg4 arg5 harg5 arg6 harg6 arg7 harg7 arg8 harg8 arg9 harg9 arg10 harg10 arg11 harg11 hc0 x0 x1 x2 x3)) := rfl

/-- Case B: the accumulators after the block below the diagonal. -/
theorem b_sub3 :
    (kernelRun0_B.sl.HS3_2 c i arg3 harg3 arg4 harg4 arg5 harg5 arg6 harg6 arg7 harg7 arg8 harg8 arg9 harg9 arg10 harg10 arg11 harg11 hc0 x0 x1 x2 x3)
      = push11 (scSub (arg8.view.readCov (kernelRun0_B.sl.HS0_2 c arg3 harg3 x0) bx0.toLoadRect) (kblk arg4 harg4 x1 (k0_off3 i) (k0_off3_inb i hc0)) (btile1 arg6 harg6 x3)) (scSub (arg8.view.readCov (kernelRun0_B.sl.HS0_2 c arg3 harg3 x0) bx1.toLoadRect) (kblk arg4 harg4 x1 (k0_off3 i) (k0_off3_inb i hc0)) (btile1 arg6 harg6 x3)) (arg9.view.readCov (List.tail (kernelRun0_B.sl.HS1_1_1 c i arg3 harg3 arg4 harg4 arg5 harg5 arg6 harg6 arg7 harg7 arg8 harg8 arg9 harg9 arg10 harg10 arg11 harg11 hc0 x0 x1 x2 x3)) bx0.toLoadRect) (arg9.view.readCov (kernelRun0_B.sl.HS1_1_1 c i arg3 harg3 arg4 harg4 arg5 harg5 arg6 harg6 arg7 harg7 arg8 harg8 arg9 harg9 arg10 harg10 arg11 harg11 hc0 x0 x1 x2 x3) bx1.toLoadRect) (arg11.view.readCov (List.tail (kernelRun0_B.sl.HS3_1_1 c i arg3 harg3 arg4 harg4 arg5 harg5 arg6 harg6 arg7 harg7 arg8 harg8 arg9 harg9 arg10 harg10 arg11 harg11 hc0 x0 x1 x2 x3)) bx0.toLoadRect) (arg11.view.readCov (kernelRun0_B.sl.HS3_1_1 c i arg3 harg3 arg4 harg4 arg5 harg5 arg6 harg6 arg7 harg7 arg8 harg8 arg9 harg9 arg10 harg10 arg11 harg11 hc0 x0 x1 x2 x3) bx1.toLoadRect) (vblk arg5 harg5 x2 (k0_off3 i) (k0_off3_inb i hc0)) (List.tail (kernelRun0_B.sl.HS3_1_1 c i arg3 harg3 arg4 harg4 arg5 harg5 arg6 harg6 arg7 harg7 arg8 harg8 arg9 harg9 arg10 harg10 arg11 harg11 hc0 x0 x1 x2 x3)) := rfl

/-- Case B: the maxima after the diagonal block. -/
theorem b_diag1 :
    (kernelRun0_B.sl.HS1_4 c i arg3 harg3 arg4 harg4 arg5 harg5 arg6 harg6 arg7 harg7 arg8 harg8 arg9 harg9 arg10 harg10 arg11 harg11 hc0 x0 x1 x2 x3)
      = push9 (scDiag (arg8.view.readCov (kernelRun0_B.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_B.sl.HS0_2 c arg3 harg3 x0) bx1.toLoadRect) (kblk arg4 harg4 x1 (k0_off4 i) (k0_off4_inb i)) (btile0 arg6 harg6 x3) (btile1 arg6 harg6 x3)) (arg9.view.readCov (kernelRun0_B.sl.HS1_2 c i arg3 harg3 arg4 harg4 arg5 harg5 arg6 harg6 arg7 harg7 arg8 harg8 arg9 harg9 arg10 harg10 arg11 harg11 hc0 x0 x1 x2 x3) bx0.toLoadRect) (arg9.view.readCov (kernelRun0_B.sl.HS1_3 c i arg3 harg3 arg4 harg4 arg5 harg5 arg6 harg6 arg7 harg7 arg8 harg8 arg9 harg9 arg10 harg10 arg11 harg11 hc0 x0 x1 x2 x3) bx1.toLoadRect) (kernelRun0_B.sl.HS1_2 c i arg3 harg3 arg4 harg4 arg5 harg5 arg6 harg6 arg7 harg7 arg8 harg8 arg9 harg9 arg10 harg10 arg11 harg11 hc0 x0 x1 x2 x3) := rfl

/-- Case B: the sums after the diagonal block. -/
theorem b_diag2 :
    (kernelRun0_B.sl.HS2_4 c i arg3 harg3 arg4 harg4 arg5 harg5 arg6 harg6 arg7 harg7 arg8 harg8 arg9 harg9 arg10 harg10 arg11 harg11 hc0 x0 x1 x2 x3)
      = push10 (scDiag (arg8.view.readCov (kernelRun0_B.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_B.sl.HS0_2 c arg3 harg3 x0) bx1.toLoadRect) (kblk arg4 harg4 x1 (k0_off4 i) (k0_off4_inb i)) (btile0 arg6 harg6 x3) (btile1 arg6 harg6 x3)) (arg9.view.readCov (kernelRun0_B.sl.HS1_2 c i arg3 harg3 arg4 harg4 arg5 harg5 arg6 harg6 arg7 harg7 arg8 harg8 arg9 harg9 arg10 harg10 arg11 harg11 hc0 x0 x1 x2 x3) bx0.toLoadRect) (arg9.view.readCov (kernelRun0_B.sl.HS1_3 c i arg3 harg3 arg4 harg4 arg5 harg5 arg6 harg6 arg7 harg7 arg8 harg8 arg9 harg9 arg10 harg10 arg11 harg11 hc0 x0 x1 x2 x3) bx1.toLoadRect) (arg10.view.readCov (kernelRun0_B.sl.HS2_2 c i arg3 harg3 arg4 harg4 arg5 harg5 arg6 harg6 arg7 harg7 arg8 harg8 arg9 harg9 arg10 harg10 arg11 harg11 hc0 x0 x1 x2 x3) bx0.toLoadRect) (arg10.view.readCov (kernelRun0_B.sl.HS2_3 c i arg3 harg3 arg4 harg4 arg5 harg5 arg6 harg6 arg7 harg7 arg8 harg8 arg9 harg9 arg10 harg10 arg11 harg11 hc0 x0 x1 x2 x3) bx1.toLoadRect) (kernelRun0_B.sl.HS2_2 c i arg3 harg3 arg4 harg4 arg5 harg5 arg6 harg6 arg7 harg7 arg8 harg8 arg9 harg9 arg10 harg10 arg11 harg11 hc0 x0 x1 x2 x3) := rfl

/-- Case B: the accumulators after the diagonal block. -/
theorem b_diag3 :
    (kernelRun0_B.sl.HS3_4 c i arg3 harg3 arg4 harg4 arg5 harg5 arg6 harg6 arg7 harg7 arg8 harg8 arg9 harg9 arg10 harg10 arg11 harg11 hc0 x0 x1 x2 x3)
      = push11 (scDiag (arg8.view.readCov (kernelRun0_B.sl.HS0_2 c arg3 harg3 x0) bx0.toLoadRect) (kblk arg4 harg4 x1 (k0_off4 i) (k0_off4_inb i)) (btile0 arg6 harg6 x3) (btile1 arg6 harg6 x3)) (scDiag (arg8.view.readCov (kernelRun0_B.sl.HS0_2 c arg3 harg3 x0) bx1.toLoadRect) (kblk arg4 harg4 x1 (k0_off4 i) (k0_off4_inb i)) (btile0 arg6 harg6 x3) (btile1 arg6 harg6 x3)) (arg9.view.readCov (kernelRun0_B.sl.HS1_2 c i arg3 harg3 arg4 harg4 arg5 harg5 arg6 harg6 arg7 harg7 arg8 harg8 arg9 harg9 arg10 harg10 arg11 harg11 hc0 x0 x1 x2 x3) bx0.toLoadRect) (arg9.view.readCov (kernelRun0_B.sl.HS1_3 c i arg3 harg3 arg4 harg4 arg5 harg5 arg6 harg6 arg7 harg7 arg8 harg8 arg9 harg9 arg10 harg10 arg11 harg11 hc0 x0 x1 x2 x3) bx1.toLoadRect) (arg11.view.readCov (kernelRun0_B.sl.HS3_2 c i arg3 harg3 arg4 harg4 arg5 harg5 arg6 harg6 arg7 harg7 arg8 harg8 arg9 harg9 arg10 harg10 arg11 harg11 hc0 x0 x1 x2 x3) bx0.toLoadRect) (arg11.view.readCov (kernelRun0_B.sl.HS3_3 c i arg3 harg3 arg4 harg4 arg5 harg5 arg6 harg6 arg7 harg7 arg8 harg8 arg9 harg9 arg10 harg10 arg11 harg11 hc0 x0 x1 x2 x3) bx1.toLoadRect) (vblk arg5 harg5 x2 (k0_off4 i) (k0_off4_inb i)) (kernelRun0_B.sl.HS3_2 c i arg3 harg3 arg4 harg4 arg5 harg5 arg6 harg6 arg7 harg7 arg8 harg8 arg9 harg9 arg10 harg10 arg11 harg11 hc0 x0 x1 x2 x3) := rfl

/-- Case B: the sums after the last block. -/
theorem b_last2 :
    (kernelRun0_B.sl.HS2_6 c i arg3 harg3 arg4 harg4 arg5 harg5 arg6 harg6 arg7 harg7 arg8 harg8 arg9 harg9 arg10 harg10 arg11 harg11 hc0 x0 x1 x2 x3)
      = half10 (scH (arg8.view.readCov (kernelRun0_B.sl.HS0_2 c arg3 harg3 x0) hx0.toLoadRect) (kblk arg4 harg4 x1 (k0_off5 i) (k0_off5_inb i)) (btile0 arg6 harg6 x3)) (scH (arg8.view.readCov (kernelRun0_B.sl.HS0_2 c arg3 harg3 x0) hx1.toLoadRect) (kblk arg4 harg4 x1 (k0_off5 i) (k0_off5_inb i)) (btile0 arg6 harg6 x3)) (arg9.view.readCov (kernelRun0_B.sl.HS1_4 c i arg3 harg3 arg4 harg4 arg5 harg5 arg6 harg6 arg7 harg7 arg8 harg8 arg9 harg9 arg10 harg10 arg11 harg11 hc0 x0 x1 x2 x3) hx0.toLoadRect) (arg9.view.readCov (kernelRun0_B.sl.HS1_5 c i arg3 harg3 arg4 harg4 arg5 harg5 arg6 harg6 arg7 harg7 arg8 harg8 arg9 harg9 arg10 harg10 arg11 harg11 hc0 x0 x1 x2 x3) hx1.toLoadRect) (arg10.view.readCov (kernelRun0_B.sl.HS2_4 c i arg3 harg3 arg4 harg4 arg5 harg5 arg6 harg6 arg7 harg7 arg8 harg8 arg9 harg9 arg10 harg10 arg11 harg11 hc0 x0 x1 x2 x3) hx0.toLoadRect) (arg10.view.readCov (kernelRun0_B.sl.HS2_5 c i arg3 harg3 arg4 harg4 arg5 harg5 arg6 harg6 arg7 harg7 arg8 harg8 arg9 harg9 arg10 harg10 arg11 harg11 hc0 x0 x1 x2 x3) hx1.toLoadRect) (kernelRun0_B.sl.HS2_4 c i arg3 harg3 arg4 harg4 arg5 harg5 arg6 harg6 arg7 harg7 arg8 harg8 arg9 harg9 arg10 harg10 arg11 harg11 hc0 x0 x1 x2 x3) := rfl

/-- Case B: the accumulators after the last block. -/
theorem b_last3 :
    (kernelRun0_B.sl.HS3_6 c i arg3 harg3 arg4 harg4 arg5 harg5 arg6 harg6 arg7 harg7 arg8 harg8 arg9 harg9 arg10 harg10 arg11 harg11 hc0 x0 x1 x2 x3)
      = half11 (scH (arg8.view.readCov (kernelRun0_B.sl.HS0_2 c arg3 harg3 x0) hx0.toLoadRect) (kblk arg4 harg4 x1 (k0_off5 i) (k0_off5_inb i)) (btile0 arg6 harg6 x3)) (scH (arg8.view.readCov (kernelRun0_B.sl.HS0_2 c arg3 harg3 x0) hx1.toLoadRect) (kblk arg4 harg4 x1 (k0_off5 i) (k0_off5_inb i)) (btile0 arg6 harg6 x3)) (arg9.view.readCov (kernelRun0_B.sl.HS1_4 c i arg3 harg3 arg4 harg4 arg5 harg5 arg6 harg6 arg7 harg7 arg8 harg8 arg9 harg9 arg10 harg10 arg11 harg11 hc0 x0 x1 x2 x3) hx0.toLoadRect) (arg9.view.readCov (kernelRun0_B.sl.HS1_5 c i arg3 harg3 arg4 harg4 arg5 harg5 arg6 harg6 arg7 harg7 arg8 harg8 arg9 harg9 arg10 harg10 arg11 harg11 hc0 x0 x1 x2 x3) hx1.toLoadRect) (arg11.view.readCov (kernelRun0_B.sl.HS3_4 c i arg3 harg3 arg4 harg4 arg5 harg5 arg6 harg6 arg7 harg7 arg8 harg8 arg9 harg9 arg10 harg10 arg11 harg11 hc0 x0 x1 x2 x3) hx0.toLoadRect) (arg11.view.readCov (kernelRun0_B.sl.HS3_5 c i arg3 harg3 arg4 harg4 arg5 harg5 arg6 harg6 arg7 harg7 arg8 harg8 arg9 harg9 arg10 harg10 arg11 harg11 hc0 x0 x1 x2 x3) hx1.toLoadRect) (vblk arg5 harg5 x2 (k0_off5 i) (k0_off5_inb i)) (kernelRun0_B.sl.HS3_4 c i arg3 harg3 arg4 harg4 arg5 harg5 arg6 harg6 arg7 harg7 arg8 harg8 arg9 harg9 arg10 harg10 arg11 harg11 hc0 x0 x1 x2 x3) := rfl

end CaseB

end Words

end Cert.DattnIdeal.Ker

end
-- ==== Proof.DattnHeld.lean ====
module

public import proofs.«01_k».proof.Proof.DattnWords

@[expose] public section

set_option maxRecDepth 16384

noncomputable section

/-! # What the scratch holds, step by step

The maximum, the sum and the accumulator that the scratch buffers hold after each step, at any row of either map, are the
maximum, the weights' sum and the weighted values' sum over the columns visited so far. -/

namespace Cert.DattnIdeal.Ker

open Cert.DattnIdeal Cert.DattnIdeal.Gen Idealize.ShloMosaic Idealize.ShloMosaic.TcCoe Idealize.SL.Sem
open Cert.Softmax

/-! ## Pieces at an index -/

section Pieces
variable {F : FTy → Type} [FloatOps F] [Named F] {e : EltTy} [∀ e, Nonempty (Elt F e)]

/-- Map 0's slab places row `r`. -/
theorem bx0_idx (r : Fin 1024) (d : Fin 128) : bx0.toLoadRect.idx (ix3 0 r d) = (ix3 0 r d : S2x1024x128.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

/-- Map 1's slab places row `r`. -/
theorem bx1_idx (r : Fin 1024) (d : Fin 128) : bx1.toLoadRect.idx (ix3 0 r d) = (ix3 1 r d : S2x1024x128.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

/-- Map 0's last half places row `r`. -/
theorem hx0_idx (r : Fin 512) (d : Fin 128) : hx0.toLoadRect.idx (ix3 0 r d) = (ix3 0 ⟨512 + r.val, by omega⟩ d : S2x1024x128.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

/-- Map 1's last half places row `r`. -/
theorem hx1_idx (r : Fin 512) (d : Fin 128) : hx1.toLoadRect.idx (ix3 0 r d) = (ix3 1 ⟨512 + r.val, by omega⟩ d : S2x1024x128.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

variable (L : List (View.Piece (Elt F) S2x1024x128 e))

/-- A write of map 0's slab is read there. -/
theorem hit0 (w : Vec F S1x1024x128 e) (r : Fin 1024) (d : Fin 128) : View.canon (⟨bx0, w⟩ :: L) (ix3 0 r d) = w (ix3 0 r d) := by
  have h := View.canon_cons_emb bx0 w L (ix3 0 r d)
  rw [← bx0_idx r d]; exact h

/-- A write of map 1's slab is read there. -/
theorem hit1 (w : Vec F S1x1024x128 e) (r : Fin 1024) (d : Fin 128) : View.canon (⟨bx1, w⟩ :: L) (ix3 1 r d) = w (ix3 0 r d) := by
  have h := View.canon_cons_emb bx1 w L (ix3 0 r d)
  rw [← bx1_idx r d]; exact h

/-- A write of map 0's last half is read there. -/
theorem hitH0 (w : Vec F S1x512x128 e) (r : Fin 512) (d : Fin 128) :
    View.canon (⟨hx0, w⟩ :: L) (ix3 0 ⟨512 + r.val, by omega⟩ d) = w (ix3 0 r d) := by
  have h := View.canon_cons_emb hx0 w L (ix3 0 r d)
  rw [← hx0_idx r d]; exact h

/-- A write of map 1's last half is read there. -/
theorem hitH1 (w : Vec F S1x512x128 e) (r : Fin 512) (d : Fin 128) :
    View.canon (⟨hx1, w⟩ :: L) (ix3 1 ⟨512 + r.val, by omega⟩ d) = w (ix3 0 r d) := by
  have h := View.canon_cons_emb hx1 w L (ix3 0 r d)
  rw [← hx1_idx r d]; exact h

/-- A write of map 0's slab leaves map 1's. -/
theorem miss0 (w : Vec F S1x1024x128 e) (r : Fin 1024) (d : Fin 128) : View.canon (⟨bx0, w⟩ :: L) (ix3 1 r d) = View.canon L (ix3 1 r d) := by
  refine View.canon_cons_of_not_mem _ _ fun h => ?_
  have := (((Rect.mem_set_unit (inb := inb_S2x1024x128_S1x1024x128_0_0_0)).mp h) 0).2
  simp [ix3] at this

/-- A write of map 1's slab leaves map 0's. -/
theorem miss1 (w : Vec F S1x1024x128 e) (r : Fin 1024) (d : Fin 128) : View.canon (⟨bx1, w⟩ :: L) (ix3 0 r d) = View.canon L (ix3 0 r d) := by
  refine View.canon_cons_of_not_mem _ _ fun h => ?_
  have := (((Rect.mem_set_unit (inb := inb_S2x1024x128_S1x1024x128_1_0_0)).mp h) 0).1
  simp [ix3] at this

/-- A write of map 0's last half leaves map 1. -/
theorem missH0 (w : Vec F S1x512x128 e) (r : Fin 1024) (d : Fin 128) : View.canon (⟨hx0, w⟩ :: L) (ix3 1 r d) = View.canon L (ix3 1 r d) := by
  refine View.canon_cons_of_not_mem _ _ fun h => ?_
  have := (((Rect.mem_set_unit (inb := inb_S2x1024x128_S1x512x128_0_512_0)).mp h) 0).2
  simp [ix3] at this

/-- A write of map 1's last half leaves map 0. -/
theorem missH1 (w : Vec F S1x512x128 e) (r : Fin 1024) (d : Fin 128) : View.canon (⟨hx1, w⟩ :: L) (ix3 0 r d) = View.canon L (ix3 0 r d) := by
  refine View.canon_cons_of_not_mem _ _ fun h => ?_
  have := (((Rect.mem_set_unit (inb := inb_S2x1024x128_S1x512x128_1_512_0)).mp h) 0).1
  simp [ix3] at this

/-- A write of map 0's last half leaves its first. -/
theorem lowH0 (w : Vec F S1x512x128 e) (r : Fin 1024) (hr : r.val < 512) (d : Fin 128) :
    View.canon (⟨hx0, w⟩ :: L) (ix3 0 r d) = View.canon L (ix3 0 r d) := by
  refine View.canon_cons_of_not_mem _ _ fun h => ?_
  have := (((Rect.mem_set_unit (inb := inb_S2x1024x128_S1x512x128_0_512_0)).mp h) 1).1
  simp [ix3] at this
  omega

/-- A write of map 1's last half leaves its first. -/
theorem lowH1 (w : Vec F S1x512x128 e) (r : Fin 1024) (hr : r.val < 512) (d : Fin 128) :
    View.canon (⟨hx1, w⟩ :: L) (ix3 1 r d) = View.canon L (ix3 1 r d) := by
  refine View.canon_cons_of_not_mem _ _ fun h => ?_
  have := (((Rect.mem_set_unit (inb := inb_S2x1024x128_S1x512x128_1_512_0)).mp h) 1).1
  simp [ix3] at this
  omega

variable (v : View sig .tc .vmem S2x1024x128 e)

/-- A load of map 0's slab. -/
theorem rd0 (r : Fin 1024) (d : Fin 128) : v.readCov L bx0.toLoadRect (ix3 0 r d) = View.canon L (ix3 0 r d) := by
  rw [View.readCov_eq_canon']; exact congrArg _ (bx0_idx r d)

/-- A load of map 1's slab. -/
theorem rd1 (r : Fin 1024) (d : Fin 128) : v.readCov L bx1.toLoadRect (ix3 0 r d) = View.canon L (ix3 1 r d) := by
  rw [View.readCov_eq_canon']; exact congrArg _ (bx1_idx r d)

/-- A load of map 0's last half. -/
theorem rdH0 (r : Fin 512) (d : Fin 128) : v.readCov L hx0.toLoadRect (ix3 0 r d) = View.canon L (ix3 0 ⟨512 + r.val, by omega⟩ d) := by
  rw [View.readCov_eq_canon']; exact congrArg _ (hx0_idx r d)

/-- A load of map 1's last half. -/
theorem rdH1 (r : Fin 512) (d : Fin 128) : v.readCov L hx1.toLoadRect (ix3 0 r d) = View.canon L (ix3 1 ⟨512 + r.val, by omega⟩ d) := by
  rw [View.readCov_eq_canon']; exact congrArg _ (hx1_idx r d)

/-- A load of map 1's slab past a write of map 0's. -/
theorem rd1' (w : Vec F S1x1024x128 e) (r : Fin 1024) (d : Fin 128) :
    v.readCov (⟨bx0, w⟩ :: L) bx1.toLoadRect (ix3 0 r d) = View.canon L (ix3 1 r d) := (rd1 _ v r d).trans (miss0 L w r d)

/-- A load of map 1's last half past a write of map 0's. -/
theorem rdH1' (w : Vec F S1x512x128 e) (r : Fin 512) (d : Fin 128) :
    v.readCov (⟨hx0, w⟩ :: L) hx1.toLoadRect (ix3 0 r d) = View.canon L (ix3 1 ⟨512 + r.val, by omega⟩ d) :=
  (rdH1 _ v r d).trans (missH0 L w _ d)

/-- A load of map 0's slab of contents written over junk. -/
theorem ra0 (L' : List (View.Piece (Elt F) S2x1024x128 e)) (r : Fin 1024) (d : Fin 128) :
    v.readAt (Elt F) bx0.toLoadRect (v.writes (Elt F) (v.writes (Elt F) v.junk L') L) (ix3 0 r d) = View.canon (L ++ L') (ix3 0 r d) := by
  rw [← View.writes_append, View.readAt_writes_junk_eq_canon]; exact congrArg _ (bx0_idx r d)

/-- A load of map 1's slab of contents written over junk. -/
theorem ra1 (L' : List (View.Piece (Elt F) S2x1024x128 e)) (r : Fin 1024) (d : Fin 128) :
    v.readAt (Elt F) bx1.toLoadRect (v.writes (Elt F) (v.writes (Elt F) v.junk L') L) (ix3 0 r d) = View.canon (L ++ L') (ix3 1 r d) := by
  rw [← View.writes_append, View.readAt_writes_junk_eq_canon]; exact congrArg _ (bx1_idx r d)

/-- A load of map 0's slab of contents written once over junk. -/
theorem rb0 (r : Fin 1024) (d : Fin 128) :
    v.readAt (Elt F) bx0.toLoadRect (v.writes (Elt F) v.junk L) (ix3 0 r d) = View.canon L (ix3 0 r d) := by
  rw [View.readAt_writes_junk_eq_canon]; exact congrArg _ (bx0_idx r d)

/-- A load of map 1's slab of contents written once over junk. -/
theorem rb1 (r : Fin 1024) (d : Fin 128) :
    v.readAt (Elt F) bx1.toLoadRect (v.writes (Elt F) v.junk L) (ix3 0 r d) = View.canon L (ix3 1 r d) := by
  rw [View.readAt_writes_junk_eq_canon]; exact congrArg _ (bx1_idx r d)

/-- A load of 512 rows of a whole memref's block. -/
theorem blk_read (arg : Memref sig .tc .vmem S1x4096x128 e) (harg : arg.IsWhole) (x : Vec F S1x4096x128 e) (o : Fin 3 → ℕ)
    (ho : ∀ a, o a + S1x512x128.size a ≤ S1x4096x128.size a) (n : ℕ) (hn : n < 8) (h : o = ![0, 512 * n, 0]) (t : Fin 512) (d : Fin 128) :
    View.readAt (Elt F) arg.view (Rect.unit (s := S1x4096x128) o S1x512x128.size ho).toLoadRect (harg.unread x) (ix3 0 t d)
      = x (ix3 0 ⟨512 * n + t.val, by omega⟩ d) := by
  subst h
  rw [View.readAt_apply, harg.read_unread]
  refine congrArg x (funext fun a => ?_)
  match a with
  | ⟨0, _⟩ => rfl
  | ⟨1, _⟩ => exact Fin.ext (by simp [LoadRect.idx, Rect.unit, ix3])
  | ⟨2, _⟩ => exact Fin.ext (by simp [LoadRect.idx, Rect.unit, ix3])

end Pieces

/-! ## One step of a row -/

section Row
variable {u : Fin 4096 → EReal} {V : Fin 4096 → Fin 128 → EReal}

/-- One block of 512 columns folded into a row of 1024. -/
theorem row_step {n : ℕ} (hn : n < 8) (s : FVec Ideal S1024x512 .f32) (m l a : Vec Ideal S1x1024x128 .f32) (v : Vec Ideal S1x512x128 .bf16) (r : Fin 1024)
    (h : Held u V (upto n) (fun d => m (ix3 0 r d)) (fun d => l (ix3 0 r d)) (fun d => a (ix3 0 r d)))
    (hs : ∀ t : Fin 512, s (ix2 r t) = u ⟨512 * n + t.val, by omega⟩)
    (hv : ∀ (t : Fin 512) d, v (ix3 0 t d) = V ⟨512 * n + t.val, by omega⟩ d) :
    Held u V (upto (n + 1)) (fun d => m9 s m (ix3 0 r d)) (fun d => l10 s m l (ix3 0 r d)) (fun d => a11 s m a v (ix3 0 r d)) := by
  have hM : ∀ d, mx s m (ix2 r d) = max ((upto n).sup u) (Finset.univ.fold max ⊥ fun t : Fin 512 => s (ix2 r t)) := fun d => by
    rw [mx_apply, h.hm d]
  refine Held.step hn h (fun t => s (ix2 r t)) hs (fun d => ?_) (fun d => ?_) (fun d => ?_)
  · rw [m9_apply, mx_apply]
  · rw [l10_apply, m9_apply]
    simp only [wt_apply s m r _ _ hM, hM]
  · rw [a11_apply, m9_apply]
    simp only [wt_apply s m r _ _ hM, hM, hv]

/-- The same at 512 rows. -/
theorem row_stepH {n : ℕ} (hn : n < 8) (s : FVec Ideal S512x512 .f32) (m l a v : Vec Ideal S1x512x128 .f32) (r : Fin 512)
    (h : Held u V (upto n) (fun d => m (ix3 0 r d)) (fun d => l (ix3 0 r d)) (fun d => a (ix3 0 r d)))
    (hs : ∀ t : Fin 512, s (ix2 r t) = u ⟨512 * n + t.val, by omega⟩)
    (hv : ∀ (t : Fin 512) d, v (ix3 0 t d) = V ⟨512 * n + t.val, by omega⟩ d) :
    Held u V (upto (n + 1)) (fun d => m9H s m (ix3 0 r d)) (fun d => l10H s m l (ix3 0 r d)) (fun d => a11H s m a v (ix3 0 r d)) := by
  have hM : ∀ d, mxH s m (ix2 r d) = max ((upto n).sup u) (Finset.univ.fold max ⊥ fun t : Fin 512 => s (ix2 r t)) := fun d => by
    rw [mxH_apply, h.hm d]
  refine Held.step hn h (fun t => s (ix2 r t)) hs (fun d => ?_) (fun d => ?_) (fun d => ?_)
  · rw [m9H_apply, mxH_apply]
  · rw [l10H_apply, m9H_apply]
    simp only [wtH_apply s m r _ _ hM, hM]
  · rw [a11H_apply, m9H_apply]
    simp only [wtH_apply s m r _ _ hM, hM, hv]

end Row

/-! ## One step of the scratch -/

section Scratch
variable {U : Fin 2 → Fin 1024 → Fin 4096 → EReal} {V : Fin 4096 → Fin 128 → EReal}

/-- Every row of both maps holds the columns before block `n`. -/
def AllHeld (U : Fin 2 → Fin 1024 → Fin 4096 → EReal) (V : Fin 4096 → Fin 128 → EReal) (n : ℕ) (L9 L10 L11 : Ws Ideal) : Prop :=
  ∀ p r, Held (U p r) V (upto n) (fun d => View.canon L9 (ix3 p r d)) (fun d => View.canon L10 (ix3 p r d)) (fun d => View.canon L11 (ix3 p r d))

/-- One step of both maps at all rows. -/
theorem push_held {n : ℕ} (hn : n < 8) {L9 L10 L11 : Ws Ideal} (h : AllHeld U V n L9 L10 L11)
    (s0 s1 : FVec Ideal S1024x512 .f32) (m0 m1 l0 l1 a0 a1 : Vec Ideal S1x1024x128 .f32) (v : Vec Ideal S1x512x128 .bf16)
    (hs0 : ∀ (r : Fin 1024) (t : Fin 512), s0 (ix2 r t) = U 0 r ⟨512 * n + t.val, by omega⟩)
    (hs1 : ∀ (r : Fin 1024) (t : Fin 512), s1 (ix2 r t) = U 1 r ⟨512 * n + t.val, by omega⟩)
    (hv : ∀ (t : Fin 512) d, v (ix3 0 t d) = V ⟨512 * n + t.val, by omega⟩ d)
    (hm0 : ∀ r d, m0 (ix3 0 r d) = View.canon L9 (ix3 0 r d)) (hm1 : ∀ r d, m1 (ix3 0 r d) = View.canon L9 (ix3 1 r d))
    (hl0 : ∀ r d, l0 (ix3 0 r d) = View.canon L10 (ix3 0 r d)) (hl1 : ∀ r d, l1 (ix3 0 r d) = View.canon L10 (ix3 1 r d))
    (ha0 : ∀ r d, a0 (ix3 0 r d) = View.canon L11 (ix3 0 r d)) (ha1 : ∀ r d, a1 (ix3 0 r d) = View.canon L11 (ix3 1 r d)) :
    AllHeld U V (n + 1) (push9 s0 s1 m0 m1 L9) (push10 s0 s1 m0 m1 l0 l1 L10) (push11 s0 s1 m0 m1 a0 a1 v L11) := by
  intro p r
  match p with
  | 0 =>
    have := row_step hn s0 m0 l0 a0 v r (by simp only [hm0, hl0, ha0]; exact h 0 r) (hs0 r) hv
    simpa only [push9, push10, push11, miss1, hit0] using this
  | 1 =>
    have := row_step hn s1 m1 l1 a1 v r (by simp only [hm1, hl1, ha1]; exact h 1 r) (hs1 r) hv
    simpa only [push9, push10, push11, hit1] using this

/-- The columns a row has visited when the last block has been folded into the last 512 rows. -/
def upto' (n : ℕ) (r : Fin 1024) : Finset (Fin 4096) := upto (if r.val < 512 then n else n + 1)

/-- The last step: 512 rows of both maps; the sums and accumulators it leaves. -/
theorem half_held {n : ℕ} (hn : n < 8) {L9 L10 L11 : Ws Ideal} (h : AllHeld U V n L9 L10 L11)
    (s0 s1 : FVec Ideal S512x512 .f32) (m0 m1 l0 l1 a0 a1 : Vec Ideal S1x512x128 .f32) (v : Vec Ideal S1x512x128 .bf16)
    (hs0 : ∀ r t : Fin 512, s0 (ix2 r t) = U 0 ⟨512 + r.val, by omega⟩ ⟨512 * n + t.val, by omega⟩)
    (hs1 : ∀ r t : Fin 512, s1 (ix2 r t) = U 1 ⟨512 + r.val, by omega⟩ ⟨512 * n + t.val, by omega⟩)
    (hv : ∀ (t : Fin 512) d, v (ix3 0 t d) = V ⟨512 * n + t.val, by omega⟩ d)
    (hm0 : ∀ (r : Fin 512) d, m0 (ix3 0 r d) = View.canon L9 (ix3 0 ⟨512 + r.val, by omega⟩ d))
    (hm1 : ∀ (r : Fin 512) d, m1 (ix3 0 r d) = View.canon L9 (ix3 1 ⟨512 + r.val, by omega⟩ d))
    (hl0 : ∀ (r : Fin 512) d, l0 (ix3 0 r d) = View.canon L10 (ix3 0 ⟨512 + r.val, by omega⟩ d))
    (hl1 : ∀ (r : Fin 512) d, l1 (ix3 0 r d) = View.canon L10 (ix3 1 ⟨512 + r.val, by omega⟩ d))
    (ha0 : ∀ (r : Fin 512) d, a0 (ix3 0 r d) = View.canon L11 (ix3 0 ⟨512 + r.val, by omega⟩ d))
    (ha1 : ∀ (r : Fin 512) d, a1 (ix3 0 r d) = View.canon L11 (ix3 1 ⟨512 + r.val, by omega⟩ d)) (p : Fin 2) (r : Fin 1024) (d : Fin 128) :
    View.canon (half10 s0 s1 m0 m1 l0 l1 L10) (ix3 p r d) = ∑ j ∈ upto' n r, Ideal.exp2 (U p r j - (upto' n r).sup (U p r))
    ∧ View.canon (half11 s0 s1 m0 m1 a0 a1 v L11) (ix3 p r d) = ∑ j ∈ upto' n r, Ideal.exp2 (U p r j - (upto' n r).sup (U p r)) * V j d := by
  by_cases hr : r.val < 512
  · simp only [upto', if_pos hr, half10, half11]
    match p with
    | 0 => rw [missH1, missH1, lowH0 _ _ _ hr, lowH0 _ _ _ hr]; exact ⟨(h 0 r).hl d, (h 0 r).ha d⟩
    | 1 => rw [lowH1 _ _ _ hr, lowH1 _ _ _ hr, missH0, missH0]; exact ⟨(h 1 r).hl d, (h 1 r).ha d⟩
  · obtain ⟨r', hb, rfl⟩ : ∃ (r' : Fin 512) (hb : 512 + r'.val < 1024), r = ⟨512 + r'.val, hb⟩ :=
      ⟨⟨r.val - 512, by omega⟩, by simp; omega, Fin.ext (by simp; omega)⟩
    simp only [upto', if_neg hr, half10, half11]
    match p with
    | 0 =>
      have := row_stepH hn s0 m0 l0 a0 v r' (by simp only [hm0, hl0, ha0]; exact h 0 _) (hs0 r') hv
      rw [missH1, missH1, hitH0, hitH0]; exact ⟨this.hl d, this.ha d⟩
    | 1 =>
      have := row_stepH hn s1 m1 l1 a1 v r' (by simp only [hm1, hl1, ha1]; exact h 1 _) (hs1 r') hv
      rw [hitH1, hitH1]; exact ⟨this.hl d, this.ha d⟩

end Scratch

end Cert.DattnIdeal.Ker

end
-- ==== Proof.DattnRun.lean ====
module

public import proofs.«01_k».proof.Proof.DattnHeld

@[expose] public section

set_option maxRecDepth 16384

noncomputable section

/-! # What a point of the grid leaves in its output block

A point holds 1024 query rows of one head. It visits the blocks of 512 keys from the first to the one on the diagonal of its
last 512 rows. What it leaves is, for either map, the weighted values' sum over the weights' sum. -/

namespace Cert.DattnIdeal.Ker

open Cert.DattnIdeal Cert.DattnIdeal.Gen Idealize.ShloMosaic Idealize.ShloMosaic.TcCoe Idealize.SL.Sem
open Cert.Softmax

/-- What the body computes from a point's coordinates, where the row tile is the `n`-th. -/
structure Pt (i : grid0.Coords) (n : ℕ) : Prop where
  lt : n < 4
  t1 : (k0_t1_loop i).trips = 2 * n - 1
  t2 : (k0_t2_loop i).trips = 0
  off1 : ∀ k : Fin (k0_t1_loop i).trips, k0_off1 i k = ![0, 512 * k.val, 0]
  off3 : 1 ≤ n → k0_off3 i = ![0, 512 * (2 * n - 1), 0]
  off4 : k0_off4 i = ![0, 512 * (2 * n), 0]
  off5 : k0_off5 i = ![0, 512 * (2 * n + 1), 0]

/-- Every point of the grid: its row tile is its number modulo 4. -/
theorem pt (t : Fin grid0.N) : Pt (grid0.coords t) (t.val % 4) where
  lt := Nat.mod_lt _ (by norm_num)
  t1 := (by decide +kernel : ∀ t : Fin grid0.N, (k0_t1_loop (grid0.coords t)).trips = 2 * (t.val % 4) - 1) t
  t2 := (by decide +kernel : ∀ t : Fin grid0.N, (k0_t2_loop (grid0.coords t)).trips = 0) t
  off1 := (by decide +kernel : ∀ t : Fin grid0.N, ∀ k : Fin (k0_t1_loop (grid0.coords t)).trips, k0_off1 (grid0.coords t) k = ![0, 512 * k.val, 0]) t
  off3 := (by decide +kernel : ∀ t : Fin grid0.N, 1 ≤ t.val % 4 → k0_off3 (grid0.coords t) = ![0, 512 * (2 * (t.val % 4) - 1), 0]) t
  off4 := (by decide +kernel : ∀ t : Fin grid0.N, k0_off4 (grid0.coords t) = ![0, 512 * (2 * (t.val % 4)), 0]) t
  off5 := (by decide +kernel : ∀ t : Fin grid0.N, k0_off5 (grid0.coords t) = ![0, 512 * (2 * (t.val % 4) + 1), 0]) t

/-! ## The scores -/

/-- The bias a row meets at a column: of the diagonal tile, of the tile below it, or none. -/
def beta (x3 : Vec Ideal S1x2x512x512 .f32) (n : ℕ) (r : Fin 1024) (j : Fin 4096) : EReal :=
  if j.val / 512 = 2 * n + r.val / 512 then x3 (ix4 0 0 ⟨r.val % 512, Nat.mod_lt _ (by norm_num)⟩ ⟨j.val % 512, Nat.mod_lt _ (by norm_num)⟩)
  else if j.val / 512 + 1 = 2 * n + r.val / 512 then x3 (ix4 0 1 ⟨r.val % 512, Nat.mod_lt _ (by norm_num)⟩ ⟨j.val % 512, Nat.mod_lt _ (by norm_num)⟩)
  else 0

/-- The score of a row of a map against a key, with its bias. -/
def score (Q : Fin 2 → Fin 1024 → Fin 128 → EReal) (x1 : Vec Ideal S1x4096x128 .bf16) (x3 : Vec Ideal S1x2x512x512 .f32) (n : ℕ)
    (p : Fin 2) (r : Fin 1024) (j : Fin 4096) : EReal :=
  (∑ e : Fin 128, Q p r e * x1 (ix3 0 j e)) + beta x3 n r j

section Score
variable (x3 : Vec Ideal S1x2x512x512 .f32) (n : ℕ)

/-- No bias two or more blocks below the diagonal. -/
theorem beta_far (r : Fin 1024) (m : ℕ) (t : Fin 512) (hb : 512 * m + t.val < 4096) (h : m + 1 < 2 * n + r.val / 512) :
    beta x3 n r ⟨512 * m + t.val, hb⟩ = 0 := by
  have e : (512 * m + t.val) / 512 = m := by omega
  unfold beta
  simp only [e]
  rw [if_neg (by omega), if_neg (by omega)]

/-- The diagonal tile. -/
theorem beta_diag (r : Fin 1024) (m : ℕ) (t r' : Fin 512) (hb : 512 * m + t.val < 4096) (h : m = 2 * n + r.val / 512) (hr : r'.val = r.val % 512) :
    beta x3 n r ⟨512 * m + t.val, hb⟩ = x3 (ix4 0 0 r' t) := by
  have e : (512 * m + t.val) / 512 = m := by omega
  have e' : (⟨(512 * m + t.val) % 512, Nat.mod_lt _ (by norm_num)⟩ : Fin 512) = t := Fin.ext (by simp <;> omega)
  have e'' : (⟨r.val % 512, Nat.mod_lt _ (by norm_num)⟩ : Fin 512) = r' := Fin.ext hr.symm
  unfold beta
  simp only [e, e', e'']
  rw [if_pos h]

/-- The tile below the diagonal. -/
theorem beta_sub (r : Fin 1024) (m : ℕ) (t r' : Fin 512) (hb : 512 * m + t.val < 4096) (h : m + 1 = 2 * n + r.val / 512) (hr : r'.val = r.val % 512) :
    beta x3 n r ⟨512 * m + t.val, hb⟩ = x3 (ix4 0 1 r' t) := by
  have e : (512 * m + t.val) / 512 = m := by omega
  have e' : (⟨(512 * m + t.val) % 512, Nat.mod_lt _ (by norm_num)⟩ : Fin 512) = t := Fin.ext (by simp <;> omega)
  have e'' : (⟨r.val % 512, Nat.mod_lt _ (by norm_num)⟩ : Fin 512) = r' := Fin.ext hr.symm
  unfold beta
  simp only [e, e', e'']
  rw [if_neg (by omega), if_pos h]

end Score

/-! ## The scratch before the first block, and the two query maps -/

/-- All starts are at the origin. -/
theorem hz3 : (![0, 0, 0] : Fin 3 → ℕ) = fun _ => 0 := by decide

/-- The running maxima start at minus infinity. -/
theorem pay52_apply (p : Fin 2) (r : Fin 1024) (d : Fin 128) : (k0_pay52 : FVec Ideal S2x1024x128 .f32) (ix3 p r d) = ⊥ := by
  have h : (k0_pay52 : FVec Ideal S2x1024x128 .f32) (ix3 p r d) = Named.named (F := Ideal) κ "mask" 0xF149F2CA#32 := by
    pointwise [k0_pay52]
  rw [h]
  exact IdealRules.named_const.ideal_named_scalar _ _ _ _ rfl

/-- The running sums start at zero. -/
theorem pay53_apply (p : Fin 2) (r : Fin 1024) (d : Fin 128) : (k0_pay53 : FVec Ideal S2x1024x128 .f32) (ix3 p r d) = 0 := by
  pointwise [k0_pay53]

/-- The accumulators start at zero. -/
theorem pay54_apply (p : Fin 2) (r : Fin 1024) (d : Fin 128) : (k0_pay54 : FVec Ideal S2x1024x128 .f32) (ix3 p r d) = 0 := by
  pointwise [k0_pay54]

/-- Map 0's query keeps the first 64 lanes. -/
theorem pay56_apply (x : Vec Ideal S1x1024x128 .bf16) (r : Fin 1024) (e : Fin 128) :
    k0_pay56 x (ix3 0 r e) = if e.val < 64 then x (ix3 0 r e) else 0 := by
  pointwise [k0_pay56, k0_pay55]
  rw [(by decide +kernel : ∀ e : Fin 128, IntOp.cmpi .slt (BitVec.ofNat 32 e.val) 64#32 = if e.val < 64 then 1#1 else 0#1) e]
  split <;> rfl

/-- Map 1's query keeps the last 64 lanes. -/
theorem pay58_apply (x : Vec Ideal S1x1024x128 .bf16) (r : Fin 1024) (e : Fin 128) :
    k0_pay58 (k0_pay57 x) (ix3 0 r e) = if e.val < 64 then 0 else x (ix3 0 r e) := by
  pointwise [k0_pay58, k0_pay57, k0_pay55]
  rw [(by decide +kernel : ∀ e : Fin 128, IntOp.cmpi .sge (BitVec.ofNat 32 e.val) 64#32 = if e.val < 64 then 0#1 else 1#1) e]
  split <;> rfl

/-- A finished row. -/
theorem pay109_apply (a l : Vec Ideal S1x1024x128 .f32) (r : Fin 1024) (d : Fin 128) :
    k0_pay109 a l (ix3 0 r d) = Ideal.div (a (ix3 0 r d)) (l (ix3 0 r d)) := by
  pointwise [k0_pay109]

/-- A finished row of map 1. -/
theorem pay1_apply (a l : Vec Ideal S1x1024x128 .f32) (r : Fin 1024) (d : Fin 128) :
    k0_pay1 (k0_pay110 a) l (ix3 0 r d) = Ideal.div (a (ix3 0 r d)) (l (ix3 0 r d)) := by
  pointwise [k0_pay1, k0_pay110]

/-- The query of a map: one half of the lanes, the others zero. -/
def qmap (x0 : Vec Ideal S1x1024x128 .bf16) (p : Fin 2) (r : Fin 1024) (e : Fin 128) : EReal :=
  if e.val / 64 = p.val then x0 (ix3 0 r e) else 0

section Run
variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x2x512x512 .f32) (harg6 : arg6.IsWhole) (arg7 : Memref sig .tc .vmem S1x1024x256 .f32) (harg7 : arg7.IsWhole) (arg8 : Memref sig .tc .vmem S2x1024x128 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole)
  (x0 : Vec Ideal S1x1024x128 .bf16) (x1 x2 : Vec Ideal S1x4096x128 .bf16) (x3 : Vec Ideal S1x2x512x512 .f32) (n : ℕ)

/-- The scratch of the query maps reads as the two maps. -/
theorem q_apply (p : Fin 2) (r : Fin 1024) (e : Fin 128) :
    View.canon (kernelRun0_A.sl.HS0_2 c arg3 harg3 x0) (ix3 p r e) = qmap x0 p r e := by
  have hx : View.readAt (Elt Ideal) arg3.view (Rect.unit (s := S1x1024x128) ![0, 0, 0] S1x1024x128.size inb_S1x1024x128_S1x1024x128_0_0_0).toLoadRect (harg3.unread x0) = x0 := by
    rw [View.readAt_eq_ld, harg3.read_unread, View.ld_unit_zero (S := S1x1024x128) hz3]
  have hL : (kernelRun0_A.sl.HS0_2 c arg3 harg3 x0) = [⟨bx1, k0_pay58 (k0_pay57 (View.readAt (Elt Ideal) arg3.view (Rect.unit (s := S1x1024x128) ![0, 0, 0] S1x1024x128.size inb_S1x1024x128_S1x1024x128_0_0_0).toLoadRect (harg3.unread x0)))⟩,
      ⟨bx0, k0_pay56 (View.readAt (Elt Ideal) arg3.view (Rect.unit (s := S1x1024x128) ![0, 0, 0] S1x1024x128.size inb_S1x1024x128_S1x1024x128_0_0_0).toLoadRect (harg3.unread x0))⟩] := rfl
  rw [hx] at hL
  rw [hL]
  unfold qmap
  match p with
  | 0 =>
    rw [miss1, hit0, pay56_apply]
    by_cases h : e.val < 64
    · rw [if_pos h, if_pos (by simp <;> omega)]
    · rw [if_neg h, if_neg (by simp <;> omega)]
  | 1 =>
    rw [hit1, pay58_apply]
    by_cases h : e.val < 64
    · rw [if_pos h, if_neg (by simp <;> omega)]
    · rw [if_neg h, if_pos (by have := e.isLt; simp; omega)]

/-- The scores this point forms. -/
abbrev US : Fin 2 → Fin 1024 → Fin 4096 → EReal := score (qmap x0) x1 x3 n

/-- The values this point reads. -/
abbrev VS (j : Fin 4096) (d : Fin 128) : EReal := x2 (ix3 0 j d)

/-- After `m` trips of the first loop every row holds the columns before block `m`. -/
theorem loop_held (hp : Pt i n) : ∀ m : ℕ, m ≤ (k0_t1_loop i).trips →
    AllHeld (US x0 x1 x3 n) (VS x2) m ((pb_k0_t1 (F := Ideal) Variants.none c none i arg3 harg3 arg4 harg4 arg5 harg5 arg6 harg6 arg7 harg7 arg8 harg8 arg9 harg9 arg10 harg10 arg11 harg11 (BitVec.ofNat 32 (i 2).val) (kernelRun0_A.sl.r c arg3 harg3 x0) (harg4.unread x1) (harg5.unread x2) (arg8.view.writes (Elt Ideal) arg8.view.junk (kernelRun0_A.sl.HS0_2 c arg3 harg3 x0)) (arg9.view.writes (Elt Ideal) arg9.view.junk kernelRun0_A.sl.HS1_1) (arg10.view.writes (Elt Ideal) arg10.view.junk kernelRun0_A.sl.HS2_1) (arg11.view.writes (Elt Ideal) arg11.view.junk kernelRun0_A.sl.HS3_1) m).1 ++ kernelRun0_A.sl.HS1_1)
      ((pb_k0_t1 (F := Ideal) Variants.none c none i arg3 harg3 arg4 harg4 arg5 harg5 arg6 harg6 arg7 harg7 arg8 harg8 arg9 harg9 arg10 harg10 arg11 harg11 (BitVec.ofNat 32 (i 2).val) (kernelRun0_A.sl.r c arg3 harg3 x0) (harg4.unread x1) (harg5.unread x2) (arg8.view.writes (Elt Ideal) arg8.view.junk (kernelRun0_A.sl.HS0_2 c arg3 harg3 x0)) (arg9.view.writes (Elt Ideal) arg9.view.junk kernelRun0_A.sl.HS1_1) (arg10.view.writes (Elt Ideal) arg10.view.junk kernelRun0_A.sl.HS2_1) (arg11.view.writes (Elt Ideal) arg11.view.junk kernelRun0_A.sl.HS3_1) m).2.1 ++ kernelRun0_A.sl.HS2_1) ((pb_k0_t1 (F := Ideal) Variants.none c none i arg3 harg3 arg4 harg4 arg5 harg5 arg6 harg6 arg7 harg7 arg8 harg8 arg9 harg9 arg10 harg10 arg11 harg11 (BitVec.ofNat 32 (i 2).val) (kernelRun0_A.sl.r c arg3 harg3 x0) (harg4.unread x1) (harg5.unread x2) (arg8.view.writes (Elt Ideal) arg8.view.junk (kernelRun0_A.sl.HS0_2 c arg3 harg3 x0)) (arg9.view.writes (Elt Ideal) arg9.view.junk kernelRun0_A.sl.HS1_1) (arg10.view.writes (Elt Ideal) arg10.view.junk kernelRun0_A.sl.HS2_1) (arg11.view.writes (Elt Ideal) arg11.view.junk kernelRun0_A.sl.HS3_1) m).2.2 ++ kernelRun0_A.sl.HS3_1)
  | 0, _ => by
    intro p r
    have h0 : upto 0 = ∅ := by simp [upto]
    rw [h0]
    refine Held.nil (fun d => ?_) (fun d => ?_) (fun d => ?_)
    · show View.canon ([⟨Rect.unit (s := S2x1024x128) ![0, 0, 0] S2x1024x128.size inb_S2x1024x128_S2x1024x128_0_0_0, (k0_pay52 : FVec Ideal S2x1024x128 .f32)⟩] : Ws Ideal) (ix3 p r d) = ⊥
      rw [View.canon_unit_zero hz3, pay52_apply]
    · show View.canon ([⟨Rect.unit (s := S2x1024x128) ![0, 0, 0] S2x1024x128.size inb_S2x1024x128_S2x1024x128_0_0_0, (k0_pay53 : FVec Ideal S2x1024x128 .f32)⟩] : Ws Ideal) (ix3 p r d) = 0
      rw [View.canon_unit_zero hz3, pay53_apply]
    · show View.canon ([⟨Rect.unit (s := S2x1024x128) ![0, 0, 0] S2x1024x128.size inb_S2x1024x128_S2x1024x128_0_0_0, (k0_pay54 : FVec Ideal S2x1024x128 .f32)⟩] : Ws Ideal) (ix3 p r d) = 0
      rw [View.canon_unit_zero hz3, pay54_apply]
  | m + 1, hm => by
    have ih := loop_held hp m (by omega)
    have hlt := hp.lt
    have ht := hp.t1
    have hm8 : m < 8 := by omega
    have ho := hp.off1 ⟨m, hm⟩
    rw [pb_k0_t1_succ Variants.none c none i arg3 harg3 arg4 harg4 arg5 harg5 arg6 harg6 arg7 harg7 arg8 harg8 arg9 harg9 arg10 harg10 arg11 harg11 _ _ _ _ _ _ _ _ ⟨m, hm⟩]
    rw [trip_eq]
    refine push_held hm8 ih _ _ _ _ _ _ _ _ _ (fun r t => ?_) (fun r t => ?_) (fun t d => ?_)
      (ra0 _ _ _) (ra1 _ _ _) (ra0 _ _ _) (ra1 _ _ _) (ra0 _ _ _) (ra1 _ _ _)
    · rw [sc_apply]
      unfold US score
      rw [beta_far x3 n r m t _ (by omega), add_zero]
      refine Finset.sum_congr rfl fun e _ => congrArg₂ (fun a b : EReal => a * b) ?_ (blk_read arg4 harg4 x1 _ _ m hm8 ho t e)
      rw [rb0, q_apply]
    · rw [sc_apply]
      unfold US score
      rw [beta_far x3 n r m t _ (by omega), add_zero]
      refine Finset.sum_congr rfl fun e _ => congrArg₂ (fun a b : EReal => a * b) ?_ (blk_read arg4 harg4 x1 _ _ m hm8 ho t e)
      rw [rb1, q_apply]
    · exact blk_read arg5 harg5 x2 _ _ m hm8 ho t d

/-- Before the blocks near the diagonal every row holds the columns before block `2 n - 1`. -/
theorem base_held (hp : Pt i n) : AllHeld (US x0 x1 x3 n) (VS x2) (2 * n - 1)
    (List.tail (kernelRun0_A.sl.HS1_1_1 c i arg3 harg3 arg4 harg4 arg5 harg5 arg6 harg6 arg7 harg7 arg8 harg8 arg9 harg9 arg10 harg10 arg11 harg11 x0 x1 x2 x3)) (List.tail (kernelRun0_A.sl.HS2_1_1 c i arg3 harg3 arg4 harg4 arg5 harg5 arg6 harg6 arg7 harg7 arg8 harg8 arg9 harg9 arg10 harg10 arg11 harg11 x0 x1 x2 x3)) (List.tail (kernelRun0_A.sl.HS3_1_1 c i arg3 harg3 arg4 harg4 arg5 harg5 arg6 harg6 arg7 harg7 arg8 harg8 arg9 harg9 arg10 harg10 arg11 harg11 x0 x1 x2 x3)) := by
  have h := loop_held c i arg3 harg3 arg4 harg4 arg5 harg5 arg6 harg6 arg7 harg7 arg8 harg8 arg9 harg9 arg10 harg10 arg11 harg11 x0 x1 x2 x3 n hp _ le_rfl
  rw [hp.t1] at h
  have e1 : Scf.trips (k0_t1_loop i).lb (k0_t1_loop i).ub (k0_t1_loop i).st = 2 * n - 1 := hp.t1
  have e2 : Scf.trips (k0_t2_loop i).lb (k0_t2_loop i).ub (k0_t2_loop i).st = 0 := hp.t2
  unfold kernelRun0_A.sl.HS1_1_1 kernelRun0_A.sl.HS2_1_1 kernelRun0_A.sl.HS3_1_1
  simp only [List.tail_cons]
  rw [e2, e1]
  exact h

/-- Before the blocks near the diagonal every row holds the columns before block `2 n - 1`, where there is a block below the diagonal. -/
theorem base_held' (hc0 : cond0_0 i) (hp : Pt i n) : AllHeld (US x0 x1 x3 n) (VS x2) (2 * n - 1)
    (List.tail (kernelRun0_B.sl.HS1_1_1 c i arg3 harg3 arg4 harg4 arg5 harg5 arg6 harg6 arg7 harg7 arg8 harg8 arg9 harg9 arg10 harg10 arg11 harg11 hc0 x0 x1 x2 x3)) (List.tail (kernelRun0_B.sl.HS2_1_1 c i arg3 harg3 arg4 harg4 arg5 harg5 arg6 harg6 arg7 harg7 arg8 harg8 arg9 harg9 arg10 harg10 arg11 harg11 hc0 x0 x1 x2 x3)) (List.tail (kernelRun0_B.sl.HS3_1_1 c i arg3 harg3 arg4 harg4 arg5 harg5 arg6 harg6 arg7 harg7 arg8 harg8 arg9 harg9 arg10 harg10 arg11 harg11 hc0 x0 x1 x2 x3)) := by
  have h := loop_held c i arg3 harg3 arg4 harg4 arg5 harg5 arg6 harg6 arg7 harg7 arg8 harg8 arg9 harg9 arg10 harg10 arg11 harg11 x0 x1 x2 x3 n hp _ le_rfl
  rw [hp.t1] at h
  have e1 : Scf.trips (k0_t1_loop i).lb (k0_t1_loop i).ub (k0_t1_loop i).st = 2 * n - 1 := hp.t1
  have e2 : Scf.trips (k0_t2_loop i).lb (k0_t2_loop i).ub (k0_t2_loop i).st = 0 := hp.t2
  unfold kernelRun0_B.sl.HS1_1_1 kernelRun0_B.sl.HS2_1_1 kernelRun0_B.sl.HS3_1_1
  simp only [List.tail_cons]
  rw [e2, e1]
  exact h

/-- The diagonal bias tile's entries. -/
theorem btile0_apply (r t : Fin 512) : btile0 (F := Ideal) arg6 harg6 x3 (ix4 0 0 r t) = x3 (ix4 0 0 r t) := by
  show View.readAt (Elt Ideal) arg6.view _ (harg6.unread x3) _ = _
  rw [View.readAt_apply, harg6.read_unread]
  refine congrArg x3 (funext fun a => ?_)
  match a with
  | ⟨0, _⟩ => rfl
  | ⟨1, _⟩ => rfl
  | ⟨2, _⟩ => exact Fin.ext (by simp [LoadRect.idx, Rect.unit, ix4])
  | ⟨3, _⟩ => exact Fin.ext (by simp [LoadRect.idx, Rect.unit, ix4])

/-- The entries of the tile below the diagonal. -/
theorem btile1_apply (r t : Fin 512) : btile1 (F := Ideal) arg6 harg6 x3 (ix4 0 0 r t) = x3 (ix4 0 1 r t) := by
  show View.readAt (Elt Ideal) arg6.view _ (harg6.unread x3) _ = _
  rw [View.readAt_apply, harg6.read_unread]
  refine congrArg x3 (funext fun a => ?_)
  match a with
  | ⟨0, _⟩ => rfl
  | ⟨1, _⟩ => rfl
  | ⟨2, _⟩ => exact Fin.ext (by simp [LoadRect.idx, Rect.unit, ix4])
  | ⟨3, _⟩ => exact Fin.ext (by simp [LoadRect.idx, Rect.unit, ix4])

/-- The lanes' sum of a map against a key of a block. -/
theorem dot_blk (p : Fin 2) (r : Fin 1024) (q : Fin 128 → EReal) (hq : ∀ e, q e = View.canon (kernelRun0_A.sl.HS0_2 c arg3 harg3 x0) (ix3 p r e))
    (o : Fin 3 → ℕ) (ho : ∀ a, o a + S1x512x128.size a ≤ S1x4096x128.size a) (m : ℕ) (hm : m < 8) (h : o = ![0, 512 * m, 0]) (t : Fin 512) :
    ∑ e : Fin 128, q e * kblk (F := Ideal) arg4 harg4 x1 o ho (ix3 0 t e) = ∑ e : Fin 128, qmap x0 p r e * x1 (ix3 0 ⟨512 * m + t.val, by omega⟩ e) := by
  refine Finset.sum_congr rfl fun e _ => congrArg₂ (fun a b : EReal => a * b) ?_ (blk_read arg4 harg4 x1 _ _ m hm h t e)
  rw [hq, q_apply]

/-- The scores of the block below the diagonal. -/
theorem sub_score (hp : Pt i n) (hn : 1 ≤ n) (ho) (p : Fin 2) (q : Vec Ideal S1x1024x128 .bf16)
    (hq : ∀ r e, q (ix3 0 r e) = View.canon (kernelRun0_A.sl.HS0_2 c arg3 harg3 x0) (ix3 p r e)) (r : Fin 1024) (t : Fin 512) :
    scSub q (kblk (F := Ideal) arg4 harg4 x1 (k0_off3 i) ho) (btile1 (F := Ideal) arg6 harg6 x3) (ix2 r t)
      = US x0 x1 x3 n p r ⟨512 * (2 * n - 1) + t.val, by have := hp.lt; omega⟩ := by
  have hlt := hp.lt
  unfold US score
  by_cases hr : r.val < 512
  · rw [scSub_lo _ _ _ _ hr, sc_apply, btile1_apply, beta_sub x3 n r _ t ⟨r.val, hr⟩ _ (by omega) (by simp <;> omega)]
    exact congrArg (fun a : EReal => a + _) (dot_blk c arg3 harg3 arg4 harg4 x0 x1 p r _ (hq r) _ ho (2 * n - 1) (by omega) (hp.off3 hn) t)
  · rw [scSub_hi _ _ _ _ hr, sc_apply, beta_far x3 n r _ t _ (by omega), add_zero]
    exact dot_blk c arg3 harg3 arg4 harg4 x0 x1 p r _ (hq r) _ ho (2 * n - 1) (by omega) (hp.off3 hn) t

/-- The scores of the diagonal block. -/
theorem diag_score (hp : Pt i n) (ho) (p : Fin 2) (q : Vec Ideal S1x1024x128 .bf16)
    (hq : ∀ r e, q (ix3 0 r e) = View.canon (kernelRun0_A.sl.HS0_2 c arg3 harg3 x0) (ix3 p r e)) (r : Fin 1024) (t : Fin 512) :
    scDiag q (kblk (F := Ideal) arg4 harg4 x1 (k0_off4 i) ho) (btile0 (F := Ideal) arg6 harg6 x3) (btile1 (F := Ideal) arg6 harg6 x3) (ix2 r t)
      = US x0 x1 x3 n p r ⟨512 * (2 * n) + t.val, by have := hp.lt; omega⟩ := by
  have hlt := hp.lt
  unfold US score
  by_cases hr : r.val < 512
  · rw [scDiag_lo _ _ _ _ _ hr, sc_apply, btile0_apply, beta_diag x3 n r _ t ⟨r.val, hr⟩ _ (by omega) (by simp <;> omega)]
    exact congrArg (fun a : EReal => a + _) (dot_blk c arg3 harg3 arg4 harg4 x0 x1 p r _ (hq r) _ ho (2 * n) (by omega) hp.off4 t)
  · rw [scDiag_hi _ _ _ _ _ hr, sc_apply, btile1_apply, beta_sub x3 n r _ t ⟨r.val - 512, by omega⟩ _ (by omega) (by simp <;> omega)]
    exact congrArg (fun a : EReal => a + _) (dot_blk c arg3 harg3 arg4 harg4 x0 x1 p r _ (hq r) _ ho (2 * n) (by omega) hp.off4 t)

/-- The scores of the last block. -/
theorem last_score (hp : Pt i n) (ho) (p : Fin 2) (q : Vec Ideal S1x512x128 .bf16)
    (hq : ∀ (r : Fin 512) e, q (ix3 0 r e) = View.canon (kernelRun0_A.sl.HS0_2 c arg3 harg3 x0) (ix3 p ⟨512 + r.val, by omega⟩ e)) (r t : Fin 512) :
    scH q (kblk (F := Ideal) arg4 harg4 x1 (k0_off5 i) ho) (btile0 (F := Ideal) arg6 harg6 x3) (ix2 r t)
      = US x0 x1 x3 n p ⟨512 + r.val, by omega⟩ ⟨512 * (2 * n + 1) + t.val, by have := hp.lt; omega⟩ := by
  have hlt := hp.lt
  unfold US score
  rw [scH_apply, btile0_apply, beta_diag x3 n ⟨512 + r.val, by omega⟩ _ t r _ (by simp <;> omega) (by simp <;> omega)]
  exact congrArg (fun a : EReal => a + _) (dot_blk c arg3 harg3 arg4 harg4 x0 x1 p ⟨512 + r.val, by omega⟩ _ (hq r) _ ho (2 * n + 1) (by omega) hp.off5 t)

/-- Case A: after the diagonal block. -/
theorem a_diag_held (hp : Pt i n) (hn : n = 0) : AllHeld (US x0 x1 x3 n) (VS x2) (2 * n + 1) (kernelRun0_A.sl.HS1_2 c i arg3 harg3 arg4 harg4 arg5 harg5 arg6 harg6 arg7 harg7 arg8 harg8 arg9 harg9 arg10 harg10 arg11 harg11 x0 x1 x2 x3) (kernelRun0_A.sl.HS2_2 c i arg3 harg3 arg4 harg4 arg5 harg5 arg6 harg6 arg7 harg7 arg8 harg8 arg9 harg9 arg10 harg10 arg11 harg11 x0 x1 x2 x3) (kernelRun0_A.sl.HS3_2 c i arg3 harg3 arg4 harg4 arg5 harg5 arg6 harg6 arg7 harg7 arg8 harg8 arg9 harg9 arg10 harg10 arg11 harg11 x0 x1 x2 x3) := by
  have hb := base_held c i arg3 harg3 arg4 harg4 arg5 harg5 arg6 harg6 arg7 harg7 arg8 harg8 arg9 harg9 arg10 harg10 arg11 harg11 x0 x1 x2 x3 n hp
  have hlt := hp.lt
  rw [a_diag1 (F := Ideal) c i arg3 harg3 arg4 harg4 arg5 harg5 arg6 harg6 arg7 harg7 arg8 harg8 arg9 harg9 arg10 harg10 arg11 harg11 x0 x1 x2 x3, a_diag2 (F := Ideal) c i arg3 harg3 arg4 harg4 arg5 harg5 arg6 harg6 arg7 harg7 arg8 harg8 arg9 harg9 arg10 harg10 arg11 harg11 x0 x1 x2 x3, a_diag3 (F := Ideal) c i arg3 harg3 arg4 harg4 arg5 harg5 arg6 harg6 arg7 harg7 arg8 harg8 arg9 harg9 arg10 harg10 arg11 harg11 x0 x1 x2 x3]
  have h2 : 2 * n - 1 = 2 * n := by omega
  rw [h2] at hb
  exact push_held (by omega) hb _ _ _ _ _ _ _ _ _ (diag_score c i arg3 harg3 arg4 harg4 arg6 harg6 x0 x1 x3 n hp _ 0 _ (rd0 _ _)) (diag_score c i arg3 harg3 arg4 harg4 arg6 harg6 x0 x1 x3 n hp _ 1 _ (rd1 _ _))
    (fun t d => blk_read arg5 harg5 x2 _ _ (2 * n) (by omega) hp.off4 t d)
    (rd0 _ _) (rd1' _ _ _) (rd0 _ _) (rd1' _ _ _) (rd0 _ _) (rd1' _ _ _)

/-- Case A: the sums and accumulators the point ends with. -/
theorem a_final (hp : Pt i n) (hn : n = 0) (p : Fin 2) (r : Fin 1024) (d : Fin 128) :
    View.canon (kernelRun0_A.sl.HS2_4 c i arg3 harg3 arg4 harg4 arg5 harg5 arg6 harg6 arg7 harg7 arg8 harg8 arg9 harg9 arg10 harg10 arg11 harg11 x0 x1 x2 x3) (ix3 p r d) = ∑ j ∈ upto' (2 * n + 1) r, Ideal.exp2 (US x0 x1 x3 n p r j - (upto' (2 * n + 1) r).sup (US x0 x1 x3 n p r))
    ∧ View.canon (kernelRun0_A.sl.HS3_4 c i arg3 harg3 arg4 harg4 arg5 harg5 arg6 harg6 arg7 harg7 arg8 harg8 arg9 harg9 arg10 harg10 arg11 harg11 x0 x1 x2 x3) (ix3 p r d)
      = ∑ j ∈ upto' (2 * n + 1) r, Ideal.exp2 (US x0 x1 x3 n p r j - (upto' (2 * n + 1) r).sup (US x0 x1 x3 n p r)) * VS x2 j d := by
  have hb := a_diag_held c i arg3 harg3 arg4 harg4 arg5 harg5 arg6 harg6 arg7 harg7 arg8 harg8 arg9 harg9 arg10 harg10 arg11 harg11 x0 x1 x2 x3 n hp hn
  have hlt := hp.lt
  rw [a_last2 (F := Ideal) c i arg3 harg3 arg4 harg4 arg5 harg5 arg6 harg6 arg7 harg7 arg8 harg8 arg9 harg9 arg10 harg10 arg11 harg11 x0 x1 x2 x3, a_last3 (F := Ideal) c i arg3 harg3 arg4 harg4 arg5 harg5 arg6 harg6 arg7 harg7 arg8 harg8 arg9 harg9 arg10 harg10 arg11 harg11 x0 x1 x2 x3]
  exact half_held (by omega) hb _ _ _ _ _ _ _ _ _ (last_score c i arg3 harg3 arg4 harg4 arg6 harg6 x0 x1 x3 n hp _ 0 _ (rdH0 _ _)) (last_score c i arg3 harg3 arg4 harg4 arg6 harg6 x0 x1 x3 n hp _ 1 _ (rdH1 _ _))
    (fun t d => blk_read arg5 harg5 x2 _ _ (2 * n + 1) (by omega) hp.off5 t d)
    (rdH0 _ _) (rdH1' _ _ _) (rdH0 _ _) (rdH1' _ _ _) (rdH0 _ _) (rdH1' _ _ _) p r d

/-- Case B: after the block below the diagonal. -/
theorem b_sub_held (hc0 : cond0_0 i) (hp : Pt i n) (hn : 1 ≤ n) : AllHeld (US x0 x1 x3 n) (VS x2) (2 * n - 1 + 1) (kernelRun0_B.sl.HS1_2 c i arg3 harg3 arg4 harg4 arg5 harg5 arg6 harg6 arg7 harg7 arg8 harg8 arg9 harg9 arg10 harg10 arg11 harg11 hc0 x0 x1 x2 x3) (kernelRun0_B.sl.HS2_2 c i arg3 harg3 arg4 harg4 arg5 harg5 arg6 harg6 arg7 harg7 arg8 harg8 arg9 harg9 arg10 harg10 arg11 harg11 hc0 x0 x1 x2 x3) (kernelRun0_B.sl.HS3_2 c i arg3 harg3 arg4 harg4 arg5 harg5 arg6 harg6 arg7 harg7 arg8 harg8 arg9 harg9 arg10 harg10 arg11 harg11 hc0 x0 x1 x2 x3) := by
  have hb := base_held' c i arg3 harg3 arg4 harg4 arg5 harg5 arg6 harg6 arg7 harg7 arg8 harg8 arg9 harg9 arg10 harg10 arg11 harg11 x0 x1 x2 x3 n hc0 hp
  have hlt := hp.lt
  rw [b_sub1 (F := Ideal) c i arg3 harg3 arg4 harg4 arg5 harg5 arg6 harg6 arg7 harg7 arg8 harg8 arg9 harg9 arg10 harg10 arg11 harg11 x0 x1 x2 x3 hc0, b_sub2 (F := Ideal) c i arg3 harg3 arg4 harg4 arg5 harg5 arg6 harg6 arg7 harg7 arg8 harg8 arg9 harg9 arg10 harg10 arg11 harg11 x0 x1 x2 x3 hc0, b_sub3 (F := Ideal) c i arg3 harg3 arg4 harg4 arg5 harg5 arg6 harg6 arg7 harg7 arg8 harg8 arg9 harg9 arg10 harg10 arg11 harg11 x0 x1 x2 x3 hc0]
  exact push_held (by omega) hb _ _ _ _ _ _ _ _ _ (sub_score c i arg3 harg3 arg4 harg4 arg6 harg6 x0 x1 x3 n hp hn _ 0 _ (rd0 _ _)) (sub_score c i arg3 harg3 arg4 harg4 arg6 harg6 x0 x1 x3 n hp hn _ 1 _ (rd1 _ _))
    (fun t d => blk_read arg5 harg5 x2 _ _ (2 * n - 1) (by omega) (hp.off3 hn) t d)
    (rd0 _ _) (rd1' _ _ _) (rd0 _ _) (rd1' _ _ _) (rd0 _ _) (rd1' _ _ _)

/-- Case B: after the diagonal block. -/
theorem b_diag_held (hc0 : cond0_0 i) (hp : Pt i n) (hn : 1 ≤ n) : AllHeld (US x0 x1 x3 n) (VS x2) (2 * n + 1) (kernelRun0_B.sl.HS1_4 c i arg3 harg3 arg4 harg4 arg5 harg5 arg6 harg6 arg7 harg7 arg8 harg8 arg9 harg9 arg10 harg10 arg11 harg11 hc0 x0 x1 x2 x3) (kernelRun0_B.sl.HS2_4 c i arg3 harg3 arg4 harg4 arg5 harg5 arg6 harg6 arg7 harg7 arg8 harg8 arg9 harg9 arg10 harg10 arg11 harg11 hc0 x0 x1 x2 x3) (kernelRun0_B.sl.HS3_4 c i arg3 harg3 arg4 harg4 arg5 harg5 arg6 harg6 arg7 harg7 arg8 harg8 arg9 harg9 arg10 harg10 arg11 harg11 hc0 x0 x1 x2 x3) := by
  have hb := b_sub_held c i arg3 harg3 arg4 harg4 arg5 harg5 arg6 harg6 arg7 harg7 arg8 harg8 arg9 harg9 arg10 harg10 arg11 harg11 x0 x1 x2 x3 n hc0 hp hn
  have hlt := hp.lt
  rw [b_diag1 (F := Ideal) c i arg3 harg3 arg4 harg4 arg5 harg5 arg6 harg6 arg7 harg7 arg8 harg8 arg9 harg9 arg10 harg10 arg11 harg11 x0 x1 x2 x3 hc0, b_diag2 (F := Ideal) c i arg3 harg3 arg4 harg4 arg5 harg5 arg6 harg6 arg7 harg7 arg8 harg8 arg9 harg9 arg10 harg10 arg11 harg11 x0 x1 x2 x3 hc0, b_diag3 (F := Ideal) c i arg3 harg3 arg4 harg4 arg5 harg5 arg6 harg6 arg7 harg7 arg8 harg8 arg9 harg9 arg10 harg10 arg11 harg11 x0 x1 x2 x3 hc0]
  have h2 : 2 * n - 1 + 1 = 2 * n := by omega
  rw [h2] at hb
  exact push_held (by omega) hb _ _ _ _ _ _ _ _ _ (diag_score c i arg3 harg3 arg4 harg4 arg6 harg6 x0 x1 x3 n hp _ 0 _ (rd0 _ _)) (diag_score c i arg3 harg3 arg4 harg4 arg6 harg6 x0 x1 x3 n hp _ 1 _ (rd1 _ _))
    (fun t d => blk_read arg5 harg5 x2 _ _ (2 * n) (by omega) hp.off4 t d)
    (rd0 _ _) (rd1' _ _ _) (rd0 _ _) (rd1' _ _ _) (rd0 _ _) (rd1' _ _ _)

/-- Case B: the sums and accumulators the point ends with. -/
theorem b_final (hc0 : cond0_0 i) (hp : Pt i n) (hn : 1 ≤ n) (p : Fin 2) (r : Fin 1024) (d : Fin 128) :
    View.canon (kernelRun0_B.sl.HS2_6 c i arg3 harg3 arg4 harg4 arg5 harg5 arg6 harg6 arg7 harg7 arg8 harg8 arg9 harg9 arg10 harg10 arg11 harg11 hc0 x0 x1 x2 x3) (ix3 p r d) = ∑ j ∈ upto' (2 * n + 1) r, Ideal.exp2 (US x0 x1 x3 n p r j - (upto' (2 * n + 1) r).sup (US x0 x1 x3 n p r))
    ∧ View.canon (kernelRun0_B.sl.HS3_6 c i arg3 harg3 arg4 harg4 arg5 harg5 arg6 harg6 arg7 harg7 arg8 harg8 arg9 harg9 arg10 harg10 arg11 harg11 hc0 x0 x1 x2 x3) (ix3 p r d)
      = ∑ j ∈ upto' (2 * n + 1) r, Ideal.exp2 (US x0 x1 x3 n p r j - (upto' (2 * n + 1) r).sup (US x0 x1 x3 n p r)) * VS x2 j d := by
  have hb := b_diag_held c i arg3 harg3 arg4 harg4 arg5 harg5 arg6 harg6 arg7 harg7 arg8 harg8 arg9 harg9 arg10 harg10 arg11 harg11 x0 x1 x2 x3 n hc0 hp hn
  have hlt := hp.lt
  rw [b_last2 (F := Ideal) c i arg3 harg3 arg4 harg4 arg5 harg5 arg6 harg6 arg7 harg7 arg8 harg8 arg9 harg9 arg10 harg10 arg11 harg11 x0 x1 x2 x3 hc0, b_last3 (F := Ideal) c i arg3 harg3 arg4 harg4 arg5 harg5 arg6 harg6 arg7 harg7 arg8 harg8 arg9 harg9 arg10 harg10 arg11 harg11 x0 x1 x2 x3 hc0]
  exact half_held (by omega) hb _ _ _ _ _ _ _ _ _ (last_score c i arg3 harg3 arg4 harg4 arg6 harg6 x0 x1 x3 n hp _ 0 _ (rdH0 _ _)) (last_score c i arg3 harg3 arg4 harg4 arg6 harg6 x0 x1 x3 n hp _ 1 _ (rdH1 _ _))
    (fun t d => blk_read arg5 harg5 x2 _ _ (2 * n + 1) (by omega) hp.off5 t d)
    (rdH0 _ _) (rdH1' _ _ _) (rdH0 _ _) (rdH1' _ _ _) (rdH0 _ _) (rdH1' _ _ _) p r d

end Run

end Cert.DattnIdeal.Ker

end
-- ==== Proof.DattnOut.lean ====
module

public import proofs.«01_k».proof.Proof.DattnRun

@[expose] public section

set_option maxRecDepth 16384

noncomputable section

/-! # A point's output block, read at an index -/

namespace Cert.DattnIdeal.Ker

open Cert.DattnIdeal Cert.DattnIdeal.Gen Idealize.ShloMosaic Idealize.ShloMosaic.TcCoe Idealize.SL.Sem
open Cert.Softmax

/-- The output block's first 128 lanes. -/
abbrev ox0 : Rect S1x1024x256 := Rect.unit (s := S1x1024x256) ![0, 0, 0] S1x1024x128.size inb_S1x1024x256_S1x1024x128_0_0_0

/-- The output block's last 128 lanes. -/
abbrev ox1 : Rect S1x1024x256 := Rect.unit (s := S1x1024x256) ![0, 0, 128] S1x1024x128.size inb_S1x1024x256_S1x1024x128_0_0_128

/-- The first half places a lane. -/
theorem ox0_idx (r : Fin 1024) (d : Fin 128) : ox0.toLoadRect.idx (ix3 0 r d) = (ix3 0 r ⟨d.val, by omega⟩ : S1x1024x256.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

/-- The last half places a lane. -/
theorem ox1_idx (r : Fin 1024) (d : Fin 128) : ox1.toLoadRect.idx (ix3 0 r d) = (ix3 0 r ⟨128 + d.val, by omega⟩ : S1x1024x256.Idx) := by
  funext a
  match a with
  | ⟨0, _⟩ => rfl
  | ⟨1, _⟩ => exact Fin.ext (by simp [LoadRect.idx, Rect.unit, ix3])
  | ⟨2, _⟩ => exact Fin.ext (by simp [LoadRect.idx, Rect.unit, ix3])

/-- The two halves of the output block, at an index. -/
theorem halves (w0 w1 : Vec Ideal S1x1024x128 .f32) (f : Fin 2 → Fin 1024 → Fin 128 → EReal)
    (h0 : ∀ r d, w0 (ix3 0 r d) = f 0 r d) (h1 : ∀ r d, w1 (ix3 0 r d) = f 1 r d) (p : Fin 2) (r : Fin 1024) (d : Fin 128) :
    View.canon ([⟨ox1, w1⟩, ⟨ox0, w0⟩] : List (View.Piece (Elt Ideal) S1x1024x256 .f32)) (ix3 0 r ⟨128 * p.val + d.val, by omega⟩) = f p r d := by
  match p with
  | 0 =>
    rw [← h0]
    have e : (ix3 0 r ⟨128 * (0 : Fin 2).val + d.val, by simp; omega⟩ : S1x1024x256.Idx) = ox0.toLoadRect.idx (ix3 0 r d) := by
      rw [ox0_idx]; congr 1; exact Fin.ext (by simp)
    have hm : View.canon ([⟨ox1, w1⟩, ⟨ox0, w0⟩] : List (View.Piece (Elt Ideal) S1x1024x256 .f32)) (ix3 0 r ⟨128 * (0 : Fin 2).val + d.val, by simp; omega⟩)
        = View.canon ([⟨ox0, w0⟩] : List (View.Piece (Elt Ideal) S1x1024x256 .f32)) (ix3 0 r ⟨128 * (0 : Fin 2).val + d.val, by simp; omega⟩) := by
      refine View.canon_cons_of_not_mem _ _ fun h => ?_
      have := (((Rect.mem_set_unit (inb := inb_S1x1024x256_S1x1024x128_0_0_128)).mp h) 2).1
      simp [ix3] at this
      omega
    refine hm.trans ?_
    rw [e]
    exact View.canon_cons_emb ox0 w0 [] (ix3 0 r d)
  | 1 =>
    rw [← h1]
    have e : (ix3 0 r ⟨128 * (1 : Fin 2).val + d.val, by simp; omega⟩ : S1x1024x256.Idx) = ox1.toLoadRect.idx (ix3 0 r d) := by
      rw [ox1_idx]; congr 1
    exact (congrArg _ e).trans (View.canon_cons_emb ox1 w1 _ (ix3 0 r d))

section Out
variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x2x512x512 .f32) (harg6 : arg6.IsWhole) (arg7 : Memref sig .tc .vmem S1x1024x256 .f32) (harg7 : arg7.IsWhole) (arg8 : Memref sig .tc .vmem S2x1024x128 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x128 .f32) (harg11 : arg11.IsWhole)
  (x0 : Vec Ideal S1x1024x128 .bf16) (x1 x2 : Vec Ideal S1x4096x128 .bf16) (x3 : Vec Ideal S1x2x512x512 .f32) (n : ℕ)

/-- What a point leaves at a row and lane of a map: the weighted values over the weights. -/
def leaves (p : Fin 2) (r : Fin 1024) (d : Fin 128) : EReal :=
  Ideal.div (∑ j ∈ upto' (2 * n + 1) r, Ideal.exp2 (US x0 x1 x3 n p r j - (upto' (2 * n + 1) r).sup (US x0 x1 x3 n p r)) * VS x2 j d)
    (∑ j ∈ upto' (2 * n + 1) r, Ideal.exp2 (US x0 x1 x3 n p r j - (upto' (2 * n + 1) r).sup (US x0 x1 x3 n p r)))

/-- Case A: the output block. -/
theorem out_A (hc0 : ¬ cond0_0 i) (hp : Pt i n) (hn : n = 0) (p : Fin 2) (r : Fin 1024) (d : Fin 128) :
    out0_A_4 c i arg3 harg3 arg4 harg4 arg5 harg5 arg6 harg6 arg7 harg7 arg8 harg8 arg9 harg9 arg10 harg10 arg11 harg11 hc0 x0 x1 x2 x3 (ix3 0 r ⟨128 * p.val + d.val, by omega⟩)
      = leaves x0 x1 x2 x3 n p r d := by
  have hf := a_final c i arg3 harg3 arg4 harg4 arg5 harg5 arg6 harg6 arg7 harg7 arg8 harg8 arg9 harg9 arg10 harg10 arg11 harg11 x0 x1 x2 x3 n hp hn
  unfold out0_A_4
  rw [View.read_writes_eq_canon _ _ _ (cover0_A_4 c i arg3 harg3 arg4 harg4 arg5 harg5 arg6 harg6 arg7 harg7 arg8 harg8 arg9 harg9 arg10 harg10 arg11 harg11 hc0 x0 x1 x2 x3)]
  refine halves (k0_pay109 (arg11.view.readCov (kernelRun0_A.sl.HS3_4 c i arg3 harg3 arg4 harg4 arg5 harg5 arg6 harg6 arg7 harg7 arg8 harg8 arg9 harg9 arg10 harg10 arg11 harg11 x0 x1 x2 x3) bx0.toLoadRect) (arg10.view.readCov (kernelRun0_A.sl.HS2_4 c i arg3 harg3 arg4 harg4 arg5 harg5 arg6 harg6 arg7 harg7 arg8 harg8 arg9 harg9 arg10 harg10 arg11 harg11 x0 x1 x2 x3) bx0.toLoadRect))
    (k0_pay1 (k0_pay110 (arg11.view.readCov (kernelRun0_A.sl.HS3_4 c i arg3 harg3 arg4 harg4 arg5 harg5 arg6 harg6 arg7 harg7 arg8 harg8 arg9 harg9 arg10 harg10 arg11 harg11 x0 x1 x2 x3) bx1.toLoadRect)) (arg10.view.readCov (kernelRun0_A.sl.HS2_4 c i arg3 harg3 arg4 harg4 arg5 harg5 arg6 harg6 arg7 harg7 arg8 harg8 arg9 harg9 arg10 harg10 arg11 harg11 x0 x1 x2 x3) bx1.toLoadRect))
    (leaves x0 x1 x2 x3 n) (fun r d => ?_) (fun r d => ?_) p r d
  · rw [pay109_apply, rd0, rd0, (hf 0 r d).1, (hf 0 r d).2, leaves]
  · rw [pay1_apply, rd1, rd1, (hf 1 r d).1, (hf 1 r d).2, leaves]

/-- Case B: the output block. -/
theorem out_B (hc0 : cond0_0 i) (hp : Pt i n) (hn : 1 ≤ n) (p : Fin 2) (r : Fin 1024) (d : Fin 128) :
    out0_B_4 c i arg3 harg3 arg4 harg4 arg5 harg5 arg6 harg6 arg7 harg7 arg8 harg8 arg9 harg9 arg10 harg10 arg11 harg11 hc0 x0 x1 x2 x3 (ix3 0 r ⟨128 * p.val + d.val, by omega⟩)
      = leaves x0 x1 x2 x3 n p r d := by
  have hf := b_final c i arg3 harg3 arg4 harg4 arg5 harg5 arg6 harg6 arg7 harg7 arg8 harg8 arg9 harg9 arg10 harg10 arg11 harg11 x0 x1 x2 x3 n hc0 hp hn
  unfold out0_B_4
  rw [View.read_writes_eq_canon _ _ _ (cover0_B_4 c i arg3 harg3 arg4 harg4 arg5 harg5 arg6 harg6 arg7 harg7 arg8 harg8 arg9 harg9 arg10 harg10 arg11 harg11 hc0 x0 x1 x2 x3)]
  refine halves (k0_pay109 (arg11.view.readCov (kernelRun0_B.sl.HS3_6 c i arg3 harg3 arg4 harg4 arg5 harg5 arg6 harg6 arg7 harg7 arg8 harg8 arg9 harg9 arg10 harg10 arg11 harg11 hc0 x0 x1 x2 x3) bx0.toLoadRect) (arg10.view.readCov (kernelRun0_B.sl.HS2_6 c i arg3 harg3 arg4 harg4 arg5 harg5 arg6 harg6 arg7 harg7 arg8 harg8 arg9 harg9 arg10 harg10 arg11 harg11 hc0 x0 x1 x2 x3) bx0.toLoadRect))
    (k0_pay1 (k0_pay110 (arg11.view.readCov (kernelRun0_B.sl.HS3_6 c i arg3 harg3 arg4 harg4 arg5 harg5 arg6 harg6 arg7 harg7 arg8 harg8 arg9 harg9 arg10 harg10 arg11 harg11 hc0 x0 x1 x2 x3) bx1.toLoadRect)) (arg10.view.readCov (kernelRun0_B.sl.HS2_6 c i arg3 harg3 arg4 harg4 arg5 harg5 arg6 harg6 arg7 harg7 arg8 harg8 arg9 harg9 arg10 harg10 arg11 harg11 hc0 x0 x1 x2 x3) bx1.toLoadRect))
    (leaves x0 x1 x2 x3 n) (fun r d => ?_) (fun r d => ?_) p r d
  · rw [pay109_apply, rd0, rd0, (hf 0 r d).1, (hf 0 r d).2, leaves]
  · rw [pay1_apply, rd1, rd1, (hf 1 r d).1, (hf 1 r d).2, leaves]

end Out

end Cert.DattnIdeal.Ker

end
-- ==== Proof.DattnMath.lean ====
module

public import proofs.«01_k».proof.Proof.Softmax
public import Mathlib.Analysis.SpecialFunctions.Pow.Real

@[expose] public section

noncomputable section

/-! # Two ways of writing one row of attention

On one side the scores are in base two, shifted by a constant and visited up to a bound; on the other they are natural,
masked, and the weights are divided before the values are summed. -/

namespace Cert.Softmax

open Idealize.ShloMosaic

/-- A sum of real numbers. -/
theorem coe_sum {ι : Type} (J : Finset ι) (f : ι → ℝ) : ∑ j ∈ J, ((f j : ℝ) : EReal) = ((∑ j ∈ J, f j : ℝ) : EReal) := by
  classical
  induction J using Finset.induction_on with
  | empty => simp
  | insert a J ha ih => rw [Finset.sum_insert ha, Finset.sum_insert ha, ih, EReal.coe_add]

variable {n : ℕ} (P : Fin n → Prop) [DecidablePred P] (J : Finset (Fin n)) (x : Fin n → ℝ) (far : ℝ)

/-- A row of attention: the base-two form over the visited columns is the natural form over all of them. -/
theorem row_eq (hJ : ∀ j, P j → j ∈ J) (j0 : Fin n) (h0 : P j0) (t u v : Fin n → EReal)
    (ht : ∀ j, t j = if P j then ((x j : ℝ) : EReal) else ⊥)
    (hu : ∀ j ∈ J, u j = if P j then (((x j - far) * (1 / Real.log 2) : ℝ) : EReal) else ⊥) :
    Ideal.div (∑ j ∈ J, Ideal.exp2 (u j - J.sup u) * v j) (∑ j ∈ J, Ideal.exp2 (u j - J.sup u))
      = ∑ j, Ideal.div (Ideal.exp (t j - max ⊥ (Finset.univ.fold max ⊥ t))) (∑ k, Ideal.exp (t k - max ⊥ (Finset.univ.fold max ⊥ t))) * v j := by
  classical
  have hl2 : 0 < Real.log 2 := Real.log_pos (by norm_num)
  obtain ⟨j1, hj1, hmax⟩ := Finset.exists_max_image (Finset.univ.filter P) x ⟨j0, by simpa using h0⟩
  have hP1 : P j1 := (Finset.mem_filter.mp hj1).2
  have hmax' : ∀ j, P j → x j ≤ x j1 := fun j hj => hmax j (by simpa using hj)
  have hM : max ⊥ (Finset.univ.fold max ⊥ t) = ((x j1 : ℝ) : EReal) := by
    rw [fold_max_eq_sup, max_eq_right bot_le]
    refine le_antisymm (Finset.sup_le fun j _ => ?_) ?_
    · rw [ht]; split
      · next h => exact EReal.coe_le_coe_iff.mpr (hmax' j h)
      · exact bot_le
    · have := Finset.le_sup (f := t) (Finset.mem_univ j1)
      rwa [ht, if_pos hP1] at this
  have hU : J.sup u = (((x j1 - far) * (1 / Real.log 2) : ℝ) : EReal) := by
    refine le_antisymm (Finset.sup_le fun j hj => ?_) ?_
    · rw [hu j hj]; split
      · next h => exact EReal.coe_le_coe_iff.mpr (mul_le_mul_of_nonneg_right (by linarith [hmax' j h]) (by positivity))
      · exact bot_le
    · have := Finset.le_sup (f := u) (hJ j1 hP1)
      rwa [hu j1 (hJ j1 hP1), if_pos hP1] at this
  set w : Fin n → ℝ := fun j => if P j then Real.exp (x j - x j1) else 0 with hw
  have hwt : ∀ j, Ideal.exp (t j - ((x j1 : ℝ) : EReal)) = ((w j : ℝ) : EReal) := fun j => by
    rw [ht, hw]
    by_cases h : P j
    · simp only [if_pos h]; rw [← EReal.coe_sub, Ideal.exp_coe]
    · simp only [if_neg h]; simp
  have hwu : ∀ j ∈ J, Ideal.exp2 (u j - (((x j1 - far) * (1 / Real.log 2) : ℝ) : EReal)) = ((w j : ℝ) : EReal) := fun j hj => by
    rw [hu j hj, hw]
    by_cases h : P j
    · simp only [if_pos h]; rw [← EReal.coe_sub, Ideal.exp2_coe]
      congr 1
      rw [show Real.rpow 2 _ = (2 : ℝ) ^ ((x j - far) * (1 / Real.log 2) - (x j1 - far) * (1 / Real.log 2)) from rfl,
        Real.rpow_def_of_pos (by norm_num)]
      congr 1; field_simp; ring
    · simp only [if_neg h]; simp
  have hw0 : ∀ j, j ∉ J → w j = 0 := fun j hj => by
    simp only [hw]; rw [if_neg fun h => hj (hJ j h)]
  rw [hM, hU]
  simp only [hwt]
  rw [Finset.sum_congr rfl fun j hj => by rw [hwu j hj], Finset.sum_congr rfl (g := fun j => ((w j : ℝ) : EReal)) fun j hj => hwu j hj]
  have hs1 : ∑ j ∈ J, ((w j : ℝ) : EReal) * v j = ∑ j, ((w j : ℝ) : EReal) * v j :=
    Finset.sum_subset (Finset.subset_univ J) fun j _ hj => by rw [hw0 j hj]; simp
  have hs2 : ∑ j ∈ J, ((w j : ℝ) : EReal) = ∑ j, ((w j : ℝ) : EReal) :=
    Finset.sum_subset (Finset.subset_univ J) fun j _ hj => by rw [hw0 j hj]; simp
  rw [hs1, hs2, coe_sum]
  have hpos : 0 < ∑ j, w j := by
    refine Finset.sum_pos' (fun j _ => ?_) ⟨j1, Finset.mem_univ _, ?_⟩
    · simp only [hw]; split
      · exact (Real.exp_pos _).le
      · exact le_rfl
    · simp only [hw]; rw [if_pos hP1]; exact Real.exp_pos _
  have hne : (∑ j, w j) ≠ 0 := hpos.ne'
  rw [Ideal.div_coe hne, sum_mul_right _ _ (EReal.coe_nonneg.mpr (by positivity)) (EReal.coe_ne_top _)]
  refine Finset.sum_congr rfl fun j _ => ?_
  rw [Ideal.div_coe hne]
  exact mul_right_comm _ _ _

end Cert.Softmax

end
-- ==== Proof.DattnBucket.lean ====
module

public import Idealize.ShloMosaic.Lib.IdealHost
public import Idealize.ShloMosaic.Lib.Pointwise
public import Idealize.ShloMosaic.Lib.Tactic
public import Mathlib.Analysis.SpecialFunctions.Log.Basic

@[expose] public section

noncomputable section

/-! # The bias table's row of a distance -/

namespace Cert.Dattn

open Idealize.ShloMosaic

/-- The bucket of a distance that is not negative: itself below sixteen, and beyond that sixteen more buckets spaced
evenly in the logarithm, the last of them open. -/
def bucket (n : BitVec 32) : BitVec 32 :=
  Scalar.select (IntOp.cmpi .slt n 16#32) n
    (IntOp.minsi
      (IntOp.addi 16#32
        (FloatOps.fptosi (F := Ideal) (φ := FTy.f32) 32
          (Ideal.div (Ideal.log (Ideal.div (FloatOps.sitofp (F := Ideal) FTy.f32 (IntOp.maxsi n 1#32)) (Ideal.ofBits FTy.f32 1098907648#32)))
              (Ideal.ofBits FTy.f32 1074075026#32) * Ideal.ofBits FTy.f32 1098907648#32 : EReal)))
      31#32)

/-- The row of the bias table of a distance: its bucket, counted from the end where negative. -/
def row (n : BitVec 32) : BitVec 32 :=
  Scalar.select (IntOp.cmpi .slt (bucket n) 0#32) (IntOp.addi (bucket n) 32#32) (bucket n)

/-- The distance of a word, nought where negative. -/
def near (d : BitVec 32) : BitVec 32 := IntOp.maxsi d 0#32

/-- The word sixteen. -/
theorem bits_16 : Ideal.ofBits FTy.f32 1098907648#32 = ((16 : ℝ) : EReal) := by
  simp [Ideal.ofBits, Ideal.ieee, -EReal.coe_mul]; norm_num

/-- The logarithm of eight, as its word is. -/
theorem bits_log8 : Ideal.ofBits FTy.f32 1074075026#32 = ((8721810 / 4194304 : ℝ) : EReal) := by
  simp [Ideal.ofBits, Ideal.ieee, -EReal.coe_mul]; norm_num

/-- The logarithm's scale at a far distance. -/
theorem far_real (n : ℕ) (h0 : 512 ≤ n) (h1 : n < 4096) :
    15 ≤ Real.log (n / 16) / (8721810 / 4194304) * 16 ∧ Real.log (n / 16) / (8721810 / 4194304) * 16 ≤ 3000 := by
  have hn : (512 : ℝ) ≤ n := by exact_mod_cast h0
  have hn' : (n : ℝ) ≤ 4096 := by exact_mod_cast h1.le
  have hl : Real.log 32 ≤ Real.log (n / 16) := Real.log_le_log (by norm_num) (by linarith)
  have h32 : Real.log 32 = 5 * Real.log 2 := by
    rw [show (32 : ℝ) = 2 ^ (5 : ℕ) by norm_num, Real.log_pow]; norm_num
  have h2 := Real.one_sub_inv_le_log_of_pos (x := 2) (by norm_num)
  norm_num at h2
  have hu : Real.log (n / 16) ≤ n / 16 - 1 := Real.log_le_sub_one_of_pos (by linarith)
  constructor
  · have : (2.5 : ℝ) ≤ Real.log (n / 16) := by linarith
    rw [div_mul_eq_mul_div, le_div_iff₀ (by norm_num)]
    linarith
  · rw [div_mul_eq_mul_div, div_le_iff₀ (by norm_num)]
    linarith

/-- A signed word's number, of a number below four thousand. -/
theorem toInt_ofNat (n : ℕ) (h : n < 4096) : (BitVec.ofNat 32 n).toInt = n := by
  rw [BitVec.toInt_ofNat', Int.bmod_eq_of_le (by omega) (by omega)]

/-- A whole number that is a word's sum with sixteen. -/
theorem toInt_add (k : ℤ) (h0 : 15 ≤ k) (h1 : k ≤ 3000) : ((16#32 : BitVec 32) + BitVec.ofInt 32 k).toInt = 16 + k := by
  rw [BitVec.toInt_add, BitVec.toInt_ofInt]
  have e : (16#32 : BitVec 32).toInt = 16 := rfl
  rw [e, Int.bmod_eq_of_le (n := k) (by omega) (by omega), Int.bmod_eq_of_le (by omega) (by omega)]

/-- The whole part of the logarithm's scale is clamped nowhere. -/
theorem clamp_eq (r : ℝ) (h0 : 15 ≤ r) (h1 : r ≤ 3000) :
    Ideal.fptosi 32 ((r : ℝ) : EReal) = BitVec.ofInt 32 ⌊r⌋ ∧ 15 ≤ ⌊r⌋ ∧ ⌊r⌋ ≤ 3000 := by
  have hl : 15 ≤ ⌊r⌋ := Int.le_floor.mpr (by exact_mod_cast h0)
  have hu : ⌊r⌋ ≤ 3000 := by
    have := (Int.floor_le r).trans h1
    exact_mod_cast this
  refine ⟨?_, hl, hu⟩
  show BitVec.ofInt 32 (max _ (min _ (if 0 ≤ r then ⌊r⌋ else ⌈r⌉))) = _
  rw [if_pos (by linarith)]
  congr 1
  rw [min_eq_right (by norm_num; omega), max_eq_right (by norm_num; omega)]

/-- Beyond five hundred positions the row is the last. -/
theorem row_far (n : ℕ) (h0 : 512 ≤ n) (h1 : n < 4096) : row (BitVec.ofNat 32 n) = 31#32 := by
  have hi := toInt_ofNat n h1
  have hm : IntOp.maxsi (BitVec.ofNat 32 n) 1#32 = BitVec.ofNat 32 n := by
    unfold IntOp.maxsi
    simp only [BitVec.slt, hi, show (1#32 : BitVec 32).toInt = 1 from rfl]
    simp; omega
  have hb : bucket (BitVec.ofNat 32 n) = 31#32 := by
    unfold bucket
    rw [hm, bits_16, bits_log8]
    have hs : FloatOps.sitofp (F := Ideal) FTy.f32 (BitVec.ofNat 32 n) = (((n : ℝ) : ℝ) : EReal) := by
      show (((BitVec.ofNat 32 n).toInt : ℝ) : EReal) = _
      rw [hi]; norm_cast
    obtain ⟨hr0, hr1⟩ := far_real n h0 h1
    have hn : (512 : ℝ) ≤ n := by exact_mod_cast h0
    have he : Ideal.div (Ideal.log (Ideal.div (FloatOps.sitofp (F := Ideal) FTy.f32 (BitVec.ofNat 32 n)) ((16 : ℝ) : EReal)))
        ((8721810 / 4194304 : ℝ) : EReal) * ((16 : ℝ) : EReal) = ((Real.log (n / 16) / (8721810 / 4194304) * 16 : ℝ) : EReal) := by
      have hd : Ideal.div ((n : ℝ) : EReal) ((16 : ℝ) : EReal) = ((n / 16 : ℝ) : EReal) := by
        rw [Ideal.div_coe (by norm_num), ← EReal.coe_mul]
        congr 1; ring
      rw [hs, hd, Ideal.log_coe, if_neg (by rw [not_le]; linarith), Ideal.div_coe (by norm_num), ← EReal.coe_mul, ← EReal.coe_mul]
      congr 1; ring
    rw [he]
    obtain ⟨hc, hk0, hk1⟩ := clamp_eq _ hr0 hr1
    show Scalar.select _ _ (IntOp.minsi (16#32 + Ideal.fptosi 32 _) 31#32) = _
    rw [hc]
    have ha := toInt_add _ hk0 hk1
    have hsel : IntOp.cmpi .slt (BitVec.ofNat 32 n) 16#32 = 0#1 := by
      show BitVec.ofBool (BitVec.slt _ _) = _
      rw [BitVec.slt, hi, show (16#32 : BitVec 32).toInt = 16 from rfl, decide_eq_false (by omega)]
      rfl
    rw [hsel]
    unfold Scalar.select IntOp.minsi
    rw [if_neg (by decide)]
    rw [BitVec.slt, ha, show (31#32 : BitVec 32).toInt = 31 from rfl, decide_eq_false (by omega)]
    rfl
  unfold row
  rw [hb]
  rfl

/-! ## Distances as words -/

/-- The word of a difference of two numbers below eight thousand. -/
theorem toInt_sub (a b : ℕ) (ha : a < 8192) (hb : b < 8192) : (IntOp.subi (BitVec.ofNat 32 a) (BitVec.ofNat 32 b)).toInt = (a : ℤ) - b := by
  show (BitVec.ofNat 32 a - BitVec.ofNat 32 b).toInt = _
  rw [BitVec.toInt_sub, BitVec.toInt_ofNat', BitVec.toInt_ofNat', Int.bmod_eq_of_le (n := (a : ℤ)) (by omega) (by omega),
    Int.bmod_eq_of_le (n := (b : ℤ)) (by omega) (by omega), Int.bmod_eq_of_le (by omega) (by omega)]

/-- A word whose number is a small natural number is that number's word. -/
theorem eq_ofNat (d : BitVec 32) (n : ℕ) (hn : n < 4096) (h : d.toInt = n) : d = BitVec.ofNat 32 n :=
  BitVec.eq_of_toInt_eq (h.trans (toInt_ofNat n hn).symm)

/-- A small number's word is not negative. -/
theorem near_ofNat (n : ℕ) (hn : n < 4096) : near (BitVec.ofNat 32 n) = BitVec.ofNat 32 n := by
  unfold near IntOp.maxsi
  have h0 : (0#32 : BitVec 32).toInt = 0 := rfl
  simp only [BitVec.slt, toInt_ofNat n hn, h0]
  rcases Nat.eq_zero_or_pos n with rfl | h
  · rfl
  · rw [decide_eq_true (by omega)]; rfl

/-- Comparing a word with nought, by its number. -/
theorem sge_zero (d : BitVec 32) : IntOp.cmpi .sge d 0#32 = if 0 ≤ d.toInt then 1#1 else 0#1 := by
  have h0 : (0#32 : BitVec 32).toInt = 0 := rfl
  show BitVec.ofBool (BitVec.sle 0#32 d) = _
  rw [BitVec.sle, h0]
  split
  · next h => rw [decide_eq_true h]; rfl
  · next h => rw [decide_eq_false h]; rfl

/-- Comparing two positions' words. -/
theorem sle_pos (j i : ℕ) (hj : j < 4096) (hi : i < 4096) : IntOp.cmpi .sle (BitVec.ofNat 32 j) (BitVec.ofNat 32 i) = if j ≤ i then 1#1 else 0#1 := by
  show BitVec.ofBool (BitVec.sle _ _) = _
  rw [BitVec.sle, toInt_ofNat j hj, toInt_ofNat i hi]
  split
  · next h => rw [decide_eq_true (by exact_mod_cast h)]; rfl
  · next h => rw [decide_eq_false (by exact_mod_cast h)]; rfl

/-- The row of the table for a distance. -/
def rowIx (n : ℕ) : Fin 32 := ⟨min (row (BitVec.ofNat 32 n)).toInt.toNat 31, by omega⟩

/-- The row of a far distance is the last. -/
theorem rowIx_far (n : ℕ) (h0 : 512 ≤ n) (h1 : n < 4096) : rowIx n = 31 := by
  unfold rowIx
  refine Fin.ext ?_
  show min _ 31 = 31
  rw [row_far n h0 h1]
  rfl

end Cert.Dattn

end
-- ==== Proof.DattnHost.lean ====
module

public import proofs.«01_k».proof.Proof.DattnBucket
public import proofs.«01_k».proof.Proof.Gen.DattnIdeal.Frame
public import Idealize.ShloMosaic.Lib.IdealHost
public import Idealize.ShloMosaic.Lib.Pointwise
public import Idealize.ShloMosaic.Lib.Tactic

@[expose] public section

set_option maxRecDepth 16384

noncomputable section

/-! # What the host code hands the attention call -/

namespace Cert.DattnIdeal.Ker

open Cert.DattnIdeal Cert.DattnIdeal.Gen Idealize.ShloMosaic Idealize.ShloMosaic.TcCoe Idealize.SL.Sem

/-- One over the logarithm of two. -/
abbrev prepL : FVec Ideal S_ .f32 := Host.divf (constant S_ .f32 0x3F800000#32) (Host.log (constant S_ .f32 0x40000000#32))

/-- The queries handed over. -/
abbrev prepQ (q : FVec Ideal S4x4096x4x2x64 .f32) : FVec Ideal S4x4096x512 .bf16 :=
  truncf .bf16 (shapeCast S4x4096x512 (mulf q (broadcastInDim S4x4096x4x2x64 ![] bcast_S_S4x4096x4x2x64 prepL)) shapeCasts_S4x4096x4x2x64_S4x4096x512) bitsLt_bf16_f32

/-- The keys handed over. -/
abbrev prepK (k : FVec Ideal S4x4096x4x2x64 .f32) : FVec Ideal S4x4096x512 .bf16 :=
  truncf .bf16 (shapeCast S4x4096x512 k shapeCasts_S4x4096x4x2x64_S4x4096x512) bitsLt_bf16_f32

/-- The values handed over. -/
abbrev prepV (v : FVec Ideal S4x4096x4x128 .f32) : FVec Ideal S4x4096x512 .bf16 :=
  truncf .bf16 (shapeCast S4x4096x512 v shapeCasts_S4x4096x4x128_S4x4096x512) bitsLt_bf16_f32

/-- The signed distances of the two tiles. -/
abbrev tileD : IVec S2x512x512 32 :=
  addi (subi (iotaInDim S2x512x512 32 1) (iotaInDim S2x512x512 32 2)) (muli (iotaInDim S2x512x512 32 0) (broadcastInDim S2x512x512 ![] bcast_S_S2x512x512 (constantI S_ 32 512#32)))

/-- The distances, nought where negative. -/
abbrev tileN : IVec S2x512x512 32 := maxsi tileD (broadcastInDim S2x512x512 ![] bcast_S_S2x512x512 (constantI S_ 32 0#32))

/-- The buckets of distances. -/
abbrev tileB (n : IVec S2x512x512 32) : IVec S2x512x512 32 :=
  select (cmpi .slt n (broadcastInDim S2x512x512 ![] bcast_S_S2x512x512 (constantI S_ 32 16#32))) n (minsi (addi (broadcastInDim S2x512x512 ![] bcast_S_S2x512x512 (constantI S_ 32 16#32)) (fptosi 32 (mulf (Host.divf (Host.log (Host.divf (sitofp .f32 (maxsi n (broadcastInDim S2x512x512 ![] bcast_S_S2x512x512 (constantI S_ 32 1#32)))) (broadcastInDim S2x512x512 ![] bcast_S_S2x512x512 (constant S_ .f32 0x41800000#32)))) (broadcastInDim S2x512x512 ![] bcast_S_S2x512x512 (constant S_ .f32 0x40051592#32))) (broadcastInDim S2x512x512 ![] bcast_S_S2x512x512 (constant S_ .f32 0x41800000#32)) : FVec Ideal S2x512x512 .f32))) (broadcastInDim S2x512x512 ![] bcast_S_S2x512x512 (constantI S_ 32 31#32)))

/-- The rows of the table that buckets read. -/
abbrev tileR (b : IVec S2x512x512 32) : IVec S2x512x512 32 :=
  select (cmpi .slt b (broadcastInDim S2x512x512 ![] bcast_S_S2x512x512 (constantI S_ 32 0#32))) (addi b (broadcastInDim S2x512x512 ![] bcast_S_S2x512x512 (constantI S_ 32 32#32))) b

/-- The table's entries at rows. -/
def tileG (rb : FVec Ideal S32x4 .f32) (r : IVec S2x512x512 32) : FVec Ideal S2x512x512x4 .f32 :=
  Host.gather gather_S32x4_S2x512x512x1_S2x512x512x4_3_0_n_n_0_3_14 rb (broadcastInDim S2x512x512x1 ![0, 1, 2] bcast_S2x512x512_S2x512x512x1_0_1_2 r)

/-- The bias tiles, given the gathered entries and the signed distances. -/
abbrev tileW (rb : FVec Ideal S32x4 .f32) (g : FVec Ideal S2x512x512x4 .f32) (d : IVec S2x512x512 32) : FVec Ideal S4x2x512x512 .f32 :=
  select (broadcastInDim S4x2x512x512 ![1, 2, 3] bcast_S2x512x512_S4x2x512x512_1_2_3 (cmpi .sge d (broadcastInDim S2x512x512 ![] bcast_S_S2x512x512 (constantI S_ 32 0#32))))
    (transpose S4x2x512x512 [3, 0, 1, 2] (mulf (subf g (broadcastInDim S2x512x512x4 ![0, 1, 2, 3] bcast_S1x1x1x4_S2x512x512x4_0_1_2_3 (broadcastInDim S1x1x1x4 ![3] bcast_S4_S1x1x1x4_3 (shapeCast S4 (extractStridedSlice S1x4 ![31, 0] rb slices_S32x4_S1x4_31_0) shapeCasts_S1x4_S4)))) (broadcastInDim S2x512x512x4 ![] bcast_S_S2x512x512x4 prepL)) transposes_S2x512x512x4_S4x2x512x512_3_0_1_2)
    (broadcastInDim S4x2x512x512 ![] bcast_S_S4x2x512x512 (id (constant S_ .f32 0xFF800000#32)))

/-- The bias tiles handed over. -/
abbrev prepB (rb : FVec Ideal S32x4 .f32) : FVec Ideal S4x2x512x512 .f32 := tileW rb (tileG rb (tileR (tileB tileN))) tileD

section Read
variable (m : (ℓ : Loc nD τ sig) → Buf (Elt Ideal) ℓ) (c : Dev nD)

/-- The queries' array. -/
theorem V_q : V m c main_v5 = prepQ (m ((c : Thread nD τ).loc main_arg0)) := by
  show StableHlo.after (List.flatten [hostOps0, hostOps0_1, hostOps0_2, hostOps0_3]) _ _ = _
  simp only [hostOps0, hostOps0_1, hostOps0_2, hostOps0_3, List.flatten_cons, List.flatten_nil, List.append_nil, List.cons_append, List.nil_append]
  after_results_simp
  rfl

/-- The keys' array. -/
theorem V_k : V m c main_v7 = prepK (m ((c : Thread nD τ).loc main_arg1)) := by
  show StableHlo.after (List.flatten [hostOps0, hostOps0_1, hostOps0_2, hostOps0_3]) _ _ = _
  simp only [hostOps0, hostOps0_1, hostOps0_2, hostOps0_3, List.flatten_cons, List.flatten_nil, List.append_nil, List.cons_append, List.nil_append]
  after_results_simp
  rfl

/-- The values' array. -/
theorem V_v : V m c main_v9 = prepV (m ((c : Thread nD τ).loc main_arg2)) := by
  show StableHlo.after (List.flatten [hostOps0, hostOps0_1, hostOps0_2, hostOps0_3]) _ _ = _
  simp only [hostOps0, hostOps0_1, hostOps0_2, hostOps0_3, List.flatten_cons, List.flatten_nil, List.append_nil, List.cons_append, List.nil_append]
  after_results_simp
  rfl

/-- The bias tiles' array. -/
theorem V_b : V m c main_v56 = prepB (m ((c : Thread nD τ).loc main_arg3)) := by
  show StableHlo.after (List.flatten [hostOps0, hostOps0_1, hostOps0_2, hostOps0_3]) _ _ = _
  simp only [hostOps0, hostOps0_1, hostOps0_2, hostOps0_3, List.flatten_cons, List.flatten_nil, List.append_nil, List.cons_append, List.nil_append]
  after_results_simp
  rfl

end Read

/-! ## At an index -/

/-- The scale, as a real number. -/
theorem scale_eq : Ideal.div (Ideal.ofBits FTy.f32 1065353216#32) (Ideal.log (Ideal.ofBits FTy.f32 1073741824#32)) = ((1 / Real.log 2 : ℝ) : EReal) := by
  have h1 : Ideal.ofBits FTy.f32 1065353216#32 = ((1 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have hl : 0 < Real.log 2 := Real.log_pos (by norm_num)
  rw [h1, h2, Ideal.log_coe, if_neg (by norm_num), Ideal.div_coe hl.ne', ← EReal.coe_mul, one_mul]

/-- A query entry. -/
theorem prepQ_apply (q : FVec Ideal S4x4096x4x2x64 .f32) (b : Fin 4) (s : Fin 4096) (l : Fin 512) :
    prepQ q (ix3 b s l) = q (ix5 b s ⟨l.val / 128, by omega⟩ ⟨l.val / 64 % 2, by omega⟩ ⟨l.val % 64, by omega⟩) * ((1 / Real.log 2 : ℝ) : EReal) := by
  rw [← scale_eq]
  pointwise [prepQ, prepL]

/-- A key entry. -/
theorem prepK_apply (k : FVec Ideal S4x4096x4x2x64 .f32) (b : Fin 4) (s : Fin 4096) (l : Fin 512) :
    prepK k (ix3 b s l) = k (ix5 b s ⟨l.val / 128, by omega⟩ ⟨l.val / 64 % 2, by omega⟩ ⟨l.val % 64, by omega⟩) := by
  pointwise [prepK]

/-- A value entry. -/
theorem prepV_apply (v : FVec Ideal S4x4096x4x128 .f32) (b : Fin 4) (s : Fin 4096) (l : Fin 512) :
    prepV v (ix3 b s l) = v (ix4 b s ⟨l.val / 128, by omega⟩ ⟨l.val % 128, by omega⟩) := by
  pointwise [prepV]

/-- A signed distance of a tile. -/
def dist (t : Fin 2) (r c : Fin 512) : BitVec 32 :=
  IntOp.addi (IntOp.subi (BitVec.ofNat 32 r.val) (BitVec.ofNat 32 c.val)) (IntOp.muli (BitVec.ofNat 32 t.val) 512#32)

/-- The signed distances at an index. -/
theorem tileD_apply (t : Fin 2) (r c : Fin 512) : tileD (ix3 t r c) = dist t r c := by
  unfold dist
  pointwise [tileD]

/-- The distances at an index. -/
theorem tileN_apply (t : Fin 2) (r c : Fin 512) : tileN (ix3 t r c) = Cert.Dattn.near (dist t r c) := by
  unfold Cert.Dattn.near
  rw [← tileD_apply]
  unfold tileN
  generalize tileD = d
  pointwise

/-- The buckets at an index. -/
theorem tileB_apply (n : IVec S2x512x512 32) (t : Fin 2) (r c : Fin 512) : tileB n (ix3 t r c) = Cert.Dattn.bucket (n (ix3 t r c)) := by
  unfold Cert.Dattn.bucket
  pointwise [tileB]

/-- The rows at an index. -/
theorem tileR_apply (n : IVec S2x512x512 32) (t : Fin 2) (r c : Fin 512) : tileR (tileB n) (ix3 t r c) = Cert.Dattn.row (n (ix3 t r c)) := by
  unfold Cert.Dattn.row
  rw [← tileB_apply]
  generalize tileB n = b
  pointwise

/-- A gathered entry, by its word. -/
theorem gather_apply (rb : FVec Ideal S32x4 .f32) (idx : IVec S2x512x512x1 32) (t : Fin 2) (r c : Fin 512) (h : Fin 4) :
    Host.gather gather_S32x4_S2x512x512x1_S2x512x512x4_3_0_n_n_0_3_14 rb idx (ix4 t r c h) = rb (ix2 ⟨min (idx (ix4 t r c 0)).toInt.toNat 31, by omega⟩ h) := by
  unfold Host.gather
  refine congrArg rb (funext fun a => Fin.ext ?_)
  show gather_S32x4_S2x512x512x1_S2x512x512x4_3_0_n_n_0_3_14.start (ix4 t r c h) idx a + gather_S32x4_S2x512x512x1_S2x512x512x4_3_0_n_n_0_3_14.batchCoord (ix4 t r c h) a + gather_S32x4_S2x512x512x1_S2x512x512x4_3_0_n_n_0_3_14.offCoord (ix4 t r c h) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x4_S2x512x512x1_S2x512x512x4_3_0_n_n_0_3_14.startIndexMap from List.mem_singleton.mpr rfl)]
    have hsi : ∀ q, gather_S32x4_S2x512x512x1_S2x512x512x4_3_0_n_n_0_3_14.siIdx (ix4 t r c h) q = ix4 t r c 0 := fun q => by
      funext b; refine Fin.ext ?_
      match b with
      | ⟨0, _⟩ => rfl
      | ⟨1, _⟩ => rfl
      | ⟨2, _⟩ => rfl
      | ⟨3, _⟩ => show q.val = 0; have := q.isLt; exact Nat.lt_one_iff.mp this
    rw [hsi]
    rfl
  · have hs : gather_S32x4_S2x512x512x1_S2x512x512x4_3_0_n_n_0_3_14.start (ix4 t r c h) idx 1 = 0 := by
      unfold GatherDims.start
      rw [dif_neg (show (1 : Fin 2) ∉ gather_S32x4_S2x512x512x1_S2x512x512x4_3_0_n_n_0_3_14.startIndexMap from fun h => absurd (List.mem_singleton.mp h) (by decide))]
    rw [hs, Nat.zero_add]
    unfold GatherDims.offCoord
    rw [dif_pos ((GatherDims.mem_sKept gather_S32x4_S2x512x512x1_S2x512x512x4_3_0_n_n_0_3_14 1).mpr ⟨fun h => absurd (List.mem_singleton.mp h) (by decide), List.not_mem_nil⟩)]
    rfl

/-- The gathered entries at an index. -/
theorem tileG_apply (rb : FVec Ideal S32x4 .f32) (x : IVec S2x512x512 32) (t : Fin 2) (r c : Fin 512) (h : Fin 4) :
    tileG rb x (ix4 t r c h) = rb (ix2 ⟨min (x (ix3 t r c)).toInt.toNat 31, by omega⟩ h) := by
  have hx : broadcastInDim S2x512x512x1 ![0, 1, 2] bcast_S2x512x512_S2x512x512x1_0_1_2 x (ix4 t r c 0) = x (ix3 t r c) := by pointwise
  simp only [← hx]
  exact gather_apply rb _ t r c h

/-- The tiles at an index, given the gathered entries. -/
theorem tileW_apply (rb : FVec Ideal S32x4 .f32) (g : FVec Ideal S2x512x512x4 .f32) (d : IVec S2x512x512 32) (h : Fin 4) (t : Fin 2) (r c : Fin 512) :
    tileW rb g d (ix4 h t r c) = Scalar.select (IntOp.cmpi .sge (d (ix3 t r c)) 0#32)
      ((g (ix4 t r c h) - rb (ix2 31 h)) * ((1 / Real.log 2 : ℝ) : EReal)) (Ideal.ofBits FTy.f32 4286578688#32) := by
  rw [← scale_eq]
  pointwise [tileW, prepL]
  rfl

/-- A bias tile's entry: the table's entry of the distance over that of the last row, in base two, and no score above the diagonal. -/
theorem prepB_apply (rb : FVec Ideal S32x4 .f32) (h : Fin 4) (t : Fin 2) (r c : Fin 512) :
    prepB rb (ix4 h t r c) = Scalar.select (IntOp.cmpi .sge (dist t r c) 0#32)
      ((rb (ix2 ⟨min (Cert.Dattn.row (Cert.Dattn.near (dist t r c))).toInt.toNat 31, by omega⟩ h) - rb (ix2 31 h)) * ((1 / Real.log 2 : ℝ) : EReal))
      (Ideal.ofBits FTy.f32 4286578688#32) := by
  unfold prepB
  rw [tileW_apply, tileD_apply, tileG_apply]
  simp only [tileR_apply, tileN_apply]

end Cert.DattnIdeal.Ker

end
-- ==== Proof.DattnRead.lean ====
module

public import proofs.«01_k».proof.Defs
public import proofs.«01_k».proof.Proof.Gen.DattnRefIdeal.Run
public import proofs.«01_k».proof.Proof.DattnBucket
public import Idealize.ShloMosaic.Lib.IdealHost
public import Idealize.ShloMosaic.Lib.Quiescent
public import Idealize.ShloMosaic.Lib.Pointwise
public import Idealize.ShloMosaic.Lib.Tactic

@[expose] public section

set_option maxRecDepth 16384

noncomputable section

/-! # The attention's reference, read at an index -/

namespace Cert.DattnRefIdeal.Read

open Cert.DattnRefIdeal Cert.DattnRefIdeal.Gen Idealize.ShloMosaic Idealize.ShloMosaic.TcCoe Idealize.SL.Sem

/-- The distances. -/
abbrev refN : IVec S4096x4096 32 :=
  maxsi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 0#32))

/-- The buckets. -/
abbrev refB : IVec S4096x4096 32 :=
  select (cmpi .slt refN (broadcastInDim S4096x4096 ![] bcast_S_S4096x4096 (constantI S_ 32 16#32))) refN (minsi (addi (broadcastInDim S4096x4096 ![] bcast_S_S4096x4096 (constantI S_ 32 16#32)) (fptosi 32 (mulf (Host.divf (Host.log (Host.divf (sitofp .f32 (maxsi refN (broadcastInDim S4096x4096 ![] bcast_S_S4096x4096 (constantI S_ 32 1#32)))) (broadcastInDim S4096x4096 ![] bcast_S_S4096x4096 (constant S_ .f32 0x41800000#32)))) (broadcastInDim S4096x4096 ![] bcast_S_S4096x4096 (constant S_ .f32 0x40051592#32))) (broadcastInDim S4096x4096 ![] bcast_S_S4096x4096 (constant S_ .f32 0x41800000#32)) : FVec Ideal S4096x4096 .f32))) (broadcastInDim S4096x4096 ![] bcast_S_S4096x4096 (constantI S_ 32 31#32)))

/-- The bias of every pair of positions. -/
abbrev refBias (rb : FVec Ideal S32x4 .f32) : FVec Ideal S4096x4096x4 .f32 :=
  Host.gather gather_S32x4_S4096x4096x1_S4096x4096x4_2_0_n_n_0_2_14 rb (broadcastInDim S4096x4096x1 ![0, 1] bcast_S4096x4096_S4096x4096x1_0_1 (select (cmpi .slt refB (broadcastInDim S4096x4096 ![] bcast_S_S4096x4096 (constantI S_ 32 0#32))) (addi refB (broadcastInDim S4096x4096 ![] bcast_S_S4096x4096 (constantI S_ 32 32#32))) refB))

/-- The masked scores. -/
abbrev refT (q k : FVec Ideal S4x4096x4x2x64 .f32) (rb : FVec Ideal S32x4 .f32) : FVec Ideal S4x4x2x4096x4096 .f32 :=
  select (broadcastInDim S4x4x2x4096x4096 ![3, 4] bcast_S4096x4096_S4x4x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (Host.dotGeneral dot_S4x4096x4x2x64_S4x4096x4x2x64_S4x4x2x4096x4096_4_4_1_1_023_023 none q k) (broadcastInDim S4x4x2x4096x4096 ![0, 1, 2, 3, 4] bcast_S1x4x1x4096x4096_S4x4x2x4096x4096_0_1_2_3_4 (broadcastInDim S1x4x1x4096x4096 ![1, 3, 4] bcast_S4x4096x4096_S1x4x1x4096x4096_1_3_4 (transpose S4x4096x4096 [2, 0, 1] (refBias rb) transposes_S4096x4096x4_S4x4096x4096_2_0_1)))) (broadcastInDim S4x4x2x4096x4096 ![] bcast_S_S4x4x2x4096x4096 (id (constant S_ .f32 0xFF800000#32)))

/-- The row maximum. -/
def refM (t : FVec Ideal S4x4x2x4096x4096 .f32) : FVec Ideal S4x4x2x4096 .f32 :=
  maximumf (broadcastInDim S4x4x2x4096 ![] bcast_S_S4x4x2x4096 (constant S_ .f32 0xFF800000#32)) (Host.reduce FloatOps.maximumf t (constant S_ .f32 0xFF800000#32) reducesTo_S4x4x2x4096x4096_S4x4x2x4096_d4 h_S_)

/-- The exponentials of the scores less the row's maximum. -/
def refE (t : FVec Ideal S4x4x2x4096x4096 .f32) : FVec Ideal S4x4x2x4096x4096 .f32 :=
  Host.exp (subf t (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (refM t))))

/-- The reference's composed term. -/
abbrev refOut (t : FVec Ideal S4x4x2x4096x4096 .f32) (v : FVec Ideal S4x4096x4x128 .f32) : FVec Ideal S4x4096x1024 .f32 :=
  shapeCast S4x4096x1024 (transpose S4x4096x4x2x128 [0, 3, 1, 2, 4] (Host.dotGeneral dot_S4x4x2x4096x4096_S4x4096x4x128_S4x4x2x4096x128_4_1_23_3_01_02 none (Host.divf (refE t) (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd (refE t) (constant S_ .f32 0x00000000#32) reducesTo_S4x4x2x4096x4096_S4x4x2x4096_d4 h_S_)))) v) transposes_S4x4x2x4096x128_S4x4096x4x2x128_0_3_1_2_4) shapeCasts_S4x4096x4x2x128_S4x4096x1024

variable (m : (ℓ : Loc nD τ sig) → Buf (Elt Ideal) ℓ) (c : Dev nD)

/-- The array the reference's run leaves is its composed term. -/
theorem res_eq : Value.res_main_v57 m c = refOut (refT (m ((c : Thread nD τ).loc main_arg0)) (m ((c : Thread nD τ).loc main_arg1)) (m ((c : Thread nD τ).loc main_arg3))) (m ((c : Thread nD τ).loc main_arg2)) := rfl

/-- A maximum over the last of five axes, at an index. -/
theorem fold_max {n0 n1 n2 n3 n4 : ℕ} (h : (⟨5, ![n0, n1, n2, n3, n4]⟩ : Shape).ReducesTo [4] ⟨4, ![n0, n1, n2, n3]⟩)
    (t : FVec Ideal ⟨5, ![n0, n1, n2, n3, n4]⟩ .f32) (w : BitVec 32) (hu : 0 < S_.numel) (a : Fin n0) (b : Fin n1) (c : Fin n2) (d : Fin n3) :
    Host.reduce FloatOps.maximumf t (constant S_ .f32 w) h hu (ix4 a b c d) = Finset.fold max (Ideal.ofBits FTy.f32 w) (fun x => t (ix5 a b c d x)) Finset.univ := by
  pointwise

/-- A larger-of against a spread constant, at an index. -/
theorem max_bcast {S : Shape} (hb : S_.BroadcastsInDim S (![] : Fin 0 → Fin S.rank)) (z : FVec Ideal S .f32) (w : BitVec 32) (i : S.Idx) :
    maximumf (broadcastInDim S ![] hb (constant (F := Ideal) S_ .f32 w)) z i = max (Ideal.ofBits FTy.f32 w) (z i) := rfl

/-- The row maximum at an index. -/
theorem m_apply (t : FVec Ideal S4x4x2x4096x4096 .f32) (b h : Fin 4) (p : Fin 2) (i : Fin 4096) :
    refM t (ix4 b h p i) = max (Ideal.ofBits FTy.f32 4286578688#32) (Finset.fold max (Ideal.ofBits FTy.f32 4286578688#32) (fun x => t (ix5 b h p i x)) Finset.univ) := by
  unfold refM
  rw [max_bcast, fold_max]

/-- An exponential at an index. -/
theorem e_apply (t : FVec Ideal S4x4x2x4096x4096 .f32) (b h : Fin 4) (p : Fin 2) (i j : Fin 4096) :
    refE t (ix5 b h p i j) = Ideal.exp (t (ix5 b h p i j) - refM t (ix4 b h p i)) := by
  pointwise [refE]

/-- The weights. -/
abbrev refP (e : FVec Ideal S4x4x2x4096x4096 .f32) : FVec Ideal S4x4x2x4096x4096 .f32 :=
  Host.divf e (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd e (constant S_ .f32 0x00000000#32) reducesTo_S4x4x2x4096x4096_S4x4x2x4096_d4 h_S_)))

/-- A weight at an index: the exponential over the sum of its row. -/
theorem p_apply (e : FVec Ideal S4x4x2x4096x4096 .f32) (b h : Fin 4) (p : Fin 2) (i j : Fin 4096) :
    refP e (ix5 b h p i j) = Ideal.div (e (ix5 b h p i j)) (∑ x, e (ix5 b h p i x)) := by
  pointwise [refP]

/-- The weighted values. -/
abbrev refV (w : FVec Ideal S4x4x2x4096x4096 .f32) (v : FVec Ideal S4x4096x4x128 .f32) : FVec Ideal S4x4x2x4096x128 .f32 :=
  Host.dotGeneral dot_S4x4x2x4096x4096_S4x4096x4x128_S4x4x2x4096x128_4_1_23_3_01_02 none w v

/-- A map's output at an index: the weights times the values. -/
theorem v_apply (w : FVec Ideal S4x4x2x4096x4096 .f32) (v : FVec Ideal S4x4096x4x128 .f32) (b h : Fin 4) (p : Fin 2) (i : Fin 4096) (d : Fin 128) :
    refV w v (ix5 b h p i d) = ∑ x, w (ix5 b h p i x) * v (ix4 b x h d) := by
  pointwise [refV]

/-- The flattening of head, map and lane to one axis, at an index. -/
theorem flat_apply (w : FVec Ideal S4x4x2x4096x128 .f32) (b : Fin 4) (i : Fin 4096) (l : Fin 1024) :
    shapeCast S4x4096x1024 (transpose S4x4096x4x2x128 [0, 3, 1, 2, 4] w transposes_S4x4x2x4096x128_S4x4096x4x2x128_0_3_1_2_4) shapeCasts_S4x4096x4x2x128_S4x4096x1024 (ix3 b i l)
      = w (ix5 b ⟨l.val / 256, by omega⟩ ⟨l.val / 128 % 2, by omega⟩ i ⟨l.val % 128, by omega⟩) := by
  pointwise

/-- The output, by its parts. -/
theorem out_split (t : FVec Ideal S4x4x2x4096x4096 .f32) (v : FVec Ideal S4x4096x4x128 .f32) :
    refOut t v = shapeCast S4x4096x1024 (transpose S4x4096x4x2x128 [0, 3, 1, 2, 4] (refV (refP (refE t)) v) transposes_S4x4x2x4096x128_S4x4096x4x2x128_0_3_1_2_4) shapeCasts_S4x4096x4x2x128_S4x4096x1024 := rfl

/-- The output at an index, of the exponentials. -/
theorem out_e (e : FVec Ideal S4x4x2x4096x4096 .f32) (v : FVec Ideal S4x4096x4x128 .f32) (b h : Fin 4) (p : Fin 2) (i : Fin 4096) (d : Fin 128) :
    refV (refP e) v (ix5 b h p i d) = ∑ j, Ideal.div (e (ix5 b h p i j)) (∑ k, e (ix5 b h p i k)) * v (ix4 b j h d) := by
  rw [v_apply]
  simp only [p_apply]

/-- The output at an index, of the masked scores. -/
theorem out_t (t : FVec Ideal S4x4x2x4096x4096 .f32) (v : FVec Ideal S4x4096x4x128 .f32) (b h : Fin 4) (p : Fin 2) (i : Fin 4096) (d : Fin 128) (M : EReal)
    (hM : refM t (ix4 b h p i) = M) :
    refV (refP (refE t)) v (ix5 b h p i d) = ∑ j, Ideal.div (Ideal.exp (t (ix5 b h p i j) - M)) (∑ k, Ideal.exp (t (ix5 b h p i k) - M)) * v (ix4 b j h d) := by
  rw [out_e]
  simp only [e_apply, hM]

/-- The average of a row's values under its weights, written at the extended reals. -/
def avg {n : ℕ} (f g : Fin n → EReal) (M : EReal) : EReal :=
  ∑ j, Ideal.div (Ideal.exp (f j - M)) (∑ k, Ideal.exp (f k - M)) * g j

/-- The average, read off two arrays along any row. -/
theorem avg_eq {n : ℕ} {s s' : Shape} (t : FVec Ideal s .f32) (v : FVec Ideal s' .f32) (e : Fin n → s.Idx) (e' : Fin n → s'.Idx) (M : EReal) :
    ∑ j, Ideal.div (Ideal.exp (t (e j) - M)) (∑ k, Ideal.exp (t (e k) - M)) * v (e' j) = avg (fun j => t (e j)) (fun j => v (e' j)) M := rfl

/-- The greatest of a row, written at the extended reals. -/
def top {n : ℕ} (f : Fin n → EReal) : EReal := max ⊥ (Finset.univ.fold max ⊥ f)

/-- The greatest of a row, read off an array along any row. -/
theorem top_eq {n : ℕ} {s : Shape} (t : FVec Ideal s .f32) (e : Fin n → s.Idx) (w : BitVec 32) (hw : Ideal.ofBits FTy.f32 w = ⊥) :
    max (Ideal.ofBits FTy.f32 w) (Finset.fold max (Ideal.ofBits FTy.f32 w) (fun x => t (e x)) Finset.univ) = top (fun x => t (e x)) := by
  rw [hw]
  rfl

/-- The output at an index. -/
theorem out_apply (t : FVec Ideal S4x4x2x4096x4096 .f32) (v : FVec Ideal S4x4096x4x128 .f32) (b : Fin 4) (i : Fin 4096) (h : Fin 4) (p : Fin 2) (d : Fin 128) (M : EReal)
    (hM : refM t (ix4 b h p i) = M) :
    refOut t v (ix3 b i ⟨256 * h.val + (128 * p.val + d.val), by omega⟩)
      = avg (fun j => t (ix5 b h p i j)) (fun j => v (ix4 b j h d)) M := by
  have e1 : (⟨(256 * h.val + (128 * p.val + d.val)) / 256, by omega⟩ : Fin 4) = h := Fin.ext (by show _ / 256 = h.val; omega)
  have e2 : (⟨(256 * h.val + (128 * p.val + d.val)) / 128 % 2, by omega⟩ : Fin 2) = p := Fin.ext (by show _ / 128 % 2 = p.val; omega)
  have e3 : (⟨(256 * h.val + (128 * p.val + d.val)) % 128, by omega⟩ : Fin 128) = d := Fin.ext (by show _ % 128 = d.val; omega)
  rw [out_split, flat_apply]
  simp only [e1, e2, e3]
  rw [out_t t v b h p i d M hM]
  exact avg_eq t v (fun j => ix5 b h p i j) (fun j => ix4 b j h d) M

/-- The row maximum at an index, as the greatest of the row. -/
theorem m_top (t : FVec Ideal S4x4x2x4096x4096 .f32) (b h : Fin 4) (p : Fin 2) (i : Fin 4096) (hw : Ideal.ofBits FTy.f32 4286578688#32 = ⊥) :
    refM t (ix4 b h p i) = top (fun x => t (ix5 b h p i x)) := by
  rw [m_apply]
  exact top_eq t (fun x => ix5 b h p i x) _ hw

/-- The gather down the table's rows, at an index. -/
theorem gather_apply (rb : FVec Ideal S32x4 .f32) (idx : IVec S4096x4096x1 32) (i j : Fin 4096) (h : Fin 4) :
    Host.gather gather_S32x4_S4096x4096x1_S4096x4096x4_2_0_n_n_0_2_14 rb idx (ix3 i j h) = rb (ix2 ⟨min (idx (ix3 i j 0)).toInt.toNat 31, by omega⟩ h) := by
  unfold Host.gather
  refine congrArg rb (funext fun a => Fin.ext ?_)
  show gather_S32x4_S4096x4096x1_S4096x4096x4_2_0_n_n_0_2_14.start (ix3 i j h) idx a + gather_S32x4_S4096x4096x1_S4096x4096x4_2_0_n_n_0_2_14.batchCoord (ix3 i j h) a + gather_S32x4_S4096x4096x1_S4096x4096x4_2_0_n_n_0_2_14.offCoord (ix3 i j h) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S32x4_S4096x4096x1_S4096x4096x4_2_0_n_n_0_2_14.startIndexMap from List.mem_singleton.mpr rfl)]
    have hsi : ∀ q, gather_S32x4_S4096x4096x1_S4096x4096x4_2_0_n_n_0_2_14.siIdx (ix3 i j h) q = ix3 i j 0 := fun q => by
      funext b; refine Fin.ext ?_
      match b with
      | ⟨0, _⟩ => rfl
      | ⟨1, _⟩ => rfl
      | ⟨2, _⟩ => show q.val = 0; have := q.isLt; exact Nat.lt_one_iff.mp this
    rw [hsi]
    rfl
  · have hs : gather_S32x4_S4096x4096x1_S4096x4096x4_2_0_n_n_0_2_14.start (ix3 i j h) idx 1 = 0 := by
      unfold GatherDims.start
      rw [dif_neg (show (1 : Fin 2) ∉ gather_S32x4_S4096x4096x1_S4096x4096x4_2_0_n_n_0_2_14.startIndexMap from fun h => absurd (List.mem_singleton.mp h) (by decide))]
    rw [hs, Nat.zero_add]
    unfold GatherDims.offCoord
    rw [dif_pos ((GatherDims.mem_sKept gather_S32x4_S4096x4096x1_S4096x4096x4_2_0_n_n_0_2_14 1).mpr ⟨fun h => absurd (List.mem_singleton.mp h) (by decide), List.not_mem_nil⟩)]
    rfl

/-- The masked scores at an index. -/
theorem t_apply (q k : FVec Ideal S4x4096x4x2x64 .f32) (rb : FVec Ideal S32x4 .f32) (b h : Fin 4) (p : Fin 2) (i j : Fin 4096) :
    refT q k rb (ix5 b h p i j) = Scalar.select (IntOp.cmpi .sle (BitVec.ofNat 32 j.val) (BitVec.ofNat 32 i.val))
      (∑ x, q (ix5 b i h p x) * k (ix5 b j h p x) + refBias rb (ix3 i j h)) (Ideal.ofBits FTy.f32 4286578688#32) := by
  unfold refT
  generalize refBias rb = z
  pointwise
  rfl

/-- A distance at an index. -/
theorem n_apply (i j : Fin 4096) : refN (ix2 i j) = IntOp.maxsi (IntOp.subi (BitVec.ofNat 32 i.val) (BitVec.ofNat 32 j.val)) 0#32 := by
  pointwise [refN]

/-- The row of the table that a distance reads. -/
theorem idx_apply (i j : Fin 4096) (h : Fin 4) (rb : FVec Ideal S32x4 .f32) :
    refBias rb (ix3 i j h) = rb (ix2 ⟨min (Cert.Dattn.row (IntOp.maxsi (IntOp.subi (BitVec.ofNat 32 i.val) (BitVec.ofNat 32 j.val)) 0#32)).toInt.toNat 31, by omega⟩ h) := by
  unfold refBias
  rw [gather_apply]
  congr 2

end Cert.DattnRefIdeal.Read

end
-- ==== Proof.DattnCore.lean ====
module

public import proofs.«01_k».proof.Proof.DattnOut
public import proofs.«01_k».proof.Proof.DattnMath
public import proofs.«01_k».proof.Proof.DattnHost
public import proofs.«01_k».proof.Proof.DattnRead

@[expose] public section

set_option maxRecDepth 16384

noncomputable section

/-! # One row of the attention: what a point leaves is the reference's row -/

namespace Cert.DattnIdeal.Ker

open Cert.DattnIdeal Cert.DattnIdeal.Gen Idealize.ShloMosaic Idealize.ShloMosaic.TcCoe Idealize.SL.Sem
open Cert.Softmax Cert.Dattn

/-- The attention over whole arrays. -/
def att (q k : FVec Ideal S4x4096x4x2x64 .f32) (v : FVec Ideal S4x4096x4x128 .f32) (rb : FVec Ideal S32x4 .f32) : FVec Ideal S4x4096x1024 .f32 :=
  Cert.DattnRefIdeal.Read.refOut (Cert.DattnRefIdeal.Read.refT q k rb) v

/-- The reference's masked score. -/
def tsc (q k : FVec Ideal S4x4096x4x2x64 .f32) (rb : FVec Ideal S32x4 .f32) (b h : Fin 4) (p : Fin 2) (i j : Fin 4096) : EReal :=
  Cert.DattnRefIdeal.Read.refT q k rb (ix5 b h p i j)

/-- The attention is the reference's composed term. -/
theorem att_eq (q k : FVec Ideal S4x4096x4x2x64 .f32) (v : FVec Ideal S4x4096x4x128 .f32) (rb : FVec Ideal S32x4 .f32) :
    att q k v rb = Cert.DattnRefIdeal.Read.refOut (Cert.DattnRefIdeal.Read.refT q k rb) v := by
  unfold att
  rfl

/-- The row's scores as a function of the column. -/
theorem tsc_fun (q k : FVec Ideal S4x4096x4x2x64 .f32) (rb : FVec Ideal S32x4 .f32) (b h : Fin 4) (p : Fin 2) (i : Fin 4096) :
    (fun j => Cert.DattnRefIdeal.Read.refT q k rb (ix5 b h p i j)) = tsc q k rb b h p i := rfl

/-- The attention at an index. -/
theorem att_apply (q k : FVec Ideal S4x4096x4x2x64 .f32) (v : FVec Ideal S4x4096x4x128 .f32) (rb : FVec Ideal S32x4 .f32) (b : Fin 4) (i : Fin 4096)
    (h : Fin 4) (p : Fin 2) (d : Fin 128) :
    att q k v rb (ix3 b i ⟨256 * h.val + (128 * p.val + d.val), by omega⟩)
      = Cert.DattnRefIdeal.Read.avg (tsc q k rb b h p i) (fun j => v (ix4 b j h d)) (Cert.DattnRefIdeal.Read.top (tsc q k rb b h p i)) := by
  rw [att_eq, Cert.DattnRefIdeal.Read.out_apply _ v b i h p d _ (Cert.DattnRefIdeal.Read.m_top _ b h p i bits_neg_inf), tsc_fun]

section Real
variable (q k : FVec Ideal S4x4096x4x2x64 .f32) (rb : FVec Ideal S32x4 .f32)
  (qr kr : S4x4096x4x2x64.Idx → ℝ) (rr : S32x4.Idx → ℝ)
  (hq : ∀ y, q y = ((qr y : ℝ) : EReal)) (hk : ∀ y, k y = ((kr y : ℝ) : EReal)) (hr : ∀ y, rb y = ((rr y : ℝ) : EReal))

/-- The product of a query and a key, over the 64 lanes of a map. -/
def qk (b h : Fin 4) (p : Fin 2) (i j : Fin 4096) : ℝ := ∑ e : Fin 64, qr (ix5 b i h p e) * kr (ix5 b j h p e)

include hq hk hr in
/-- The reference's masked score, of real arrays. -/
theorem tsc_eq (b h : Fin 4) (p : Fin 2) (i j : Fin 4096) :
    tsc q k rb b h p i j = if j.val ≤ i.val then ((qk qr kr b h p i j + rr (ix2 (rowIx (i.val - j.val)) h) : ℝ) : EReal) else ⊥ := by
  unfold tsc
  rw [Cert.DattnRefIdeal.Read.t_apply, sle_pos _ _ j.isLt i.isLt, bits_neg_inf]
  by_cases hji : j.val ≤ i.val
  · rw [if_pos hji, if_pos hji]
    rw [show Scalar.select 1#1 _ (⊥ : EReal) = _ from rfl]
    have hw : IntOp.maxsi (IntOp.subi (BitVec.ofNat 32 i.val) (BitVec.ofNat 32 j.val)) 0#32 = BitVec.ofNat 32 (i.val - j.val) := by
      rw [eq_ofNat _ (i.val - j.val) (by omega) ((toInt_sub i.val j.val (by omega) (by omega)).trans (by omega))]
      exact near_ofNat _ (by omega)
    have hb := Cert.DattnRefIdeal.Read.idx_apply i j h rb
    simp only [hw] at hb
    rw [hb]
    have hs : (∑ x : Fin 64, q (ix5 b i h p x) * k (ix5 b j h p x) : EReal) = ((qk qr kr b h p i j : ℝ) : EReal) := by
      unfold qk
      rw [← coe_sum]
      exact Finset.sum_congr rfl fun e _ => by rw [hq, hk, ← EReal.coe_mul]
    rw [hs, hr, ← EReal.coe_add]
    rfl
  · rw [if_neg hji, if_neg hji]
    rfl

include hr in
/-- A bias tile's entry, of a real table. -/
theorem prepB_eq (h : Fin 4) (t : Fin 2) (r c : Fin 512) (n : ℕ) (hn : n + c.val = r.val + 512 * t.val) :
    prepB rb (ix4 h t r c) = (((rr (ix2 (rowIx n) h) - rr (ix2 31 h)) * (1 / Real.log 2) : ℝ) : EReal) := by
  have hd : dist t r c = BitVec.ofNat 32 n := by
    refine eq_ofNat _ n (by omega) ?_
    have e : dist t r c = IntOp.subi (BitVec.ofNat 32 (r.val + 512 * t.val)) (BitVec.ofNat 32 c.val) := by
      show BitVec.ofNat 32 r.val - BitVec.ofNat 32 c.val + BitVec.ofNat 32 t.val * 512#32 = BitVec.ofNat 32 (r.val + 512 * t.val) - BitVec.ofNat 32 c.val
      rw [BitVec.ofNat_add, BitVec.ofNat_mul, BitVec.sub_eq_add_neg, BitVec.sub_eq_add_neg, BitVec.mul_comm (BitVec.ofNat 32 512), BitVec.add_assoc, BitVec.add_assoc,
        BitVec.add_comm (-BitVec.ofNat 32 c.val)]
    rw [e, toInt_sub _ _ (by omega) (by omega)]
    omega
  rw [prepB_apply]
  have hs : IntOp.cmpi .sge (dist t r c) 0#32 = 1#1 := by
    rw [sge_zero, hd, toInt_ofNat n (by omega), if_pos (by omega)]
  have hN : near (dist t r c) = BitVec.ofNat 32 n := by rw [hd]; exact near_ofNat n (by omega)
  rw [hs]
  simp only [hN]
  rw [hr, hr, ← EReal.coe_sub, ← EReal.coe_mul]
  rfl

/-- A bias tile's entry above the diagonal. -/
theorem prepB_above (h : Fin 4) (r c : Fin 512) (hc : r.val < c.val) : prepB rb (ix4 h 0 r c) = ⊥ := by
  have e : dist 0 r c = IntOp.subi (BitVec.ofNat 32 r.val) (BitVec.ofNat 32 c.val) := by
    unfold dist
    exact BitVec.add_zero _
  rw [prepB_apply]
  have hs : IntOp.cmpi .sge (dist 0 r c) 0#32 = 0#1 := by
    rw [sge_zero, e, toInt_sub _ _ (by omega) (by omega), if_neg (by omega)]
  rw [hs, bits_neg_inf]
  rfl

variable (x0 : Vec Ideal S1x1024x128 .bf16) (x1 x2 : Vec Ideal S1x4096x128 .bf16) (x3 : Vec Ideal S1x2x512x512 .f32)
  (b h : Fin 4) (n : ℕ) (hn : n < 4)
  (hx3 : ∀ (t : Fin 2) (r c : Fin 512), x3 (ix4 0 t r c) = prepB rb (ix4 h t r c))

include hq hk hn in
/-- The lanes' sum of a map's query with a key: only the map's half counts. -/
theorem lanes_eq
    (hx0 : ∀ (r : Fin 1024) (e : Fin 128), x0 (ix3 0 r e) = prepQ q (ix3 b ⟨1024 * n + r.val, by omega⟩ ⟨128 * h.val + e.val, by omega⟩))
    (hx1 : ∀ (j : Fin 4096) (e : Fin 128), x1 (ix3 0 j e) = prepK k (ix3 b j ⟨128 * h.val + e.val, by omega⟩))
    (p : Fin 2) (r : Fin 1024) (j : Fin 4096) :
    (∑ e : Fin 128, qmap x0 p r e * x1 (ix3 0 j e) : EReal)
      = ((qk qr kr b h p ⟨1024 * n + r.val, by omega⟩ j * (1 / Real.log 2) : ℝ) : EReal) := by
  have hterm : ∀ (p' : Fin 2) (e : Fin 64), qmap x0 p r ⟨p'.val * 64 + e.val, by omega⟩ * x1 (ix3 0 j ⟨p'.val * 64 + e.val, by omega⟩)
      = (((if p' = p then qr (ix5 b ⟨1024 * n + r.val, by omega⟩ h p e) * kr (ix5 b j h p e) * (1 / Real.log 2) else 0 : ℝ)) : EReal) := fun p' e => by
    unfold qmap
    have hd : (p'.val * 64 + e.val) / 64 = p'.val := by omega
    by_cases hp : p' = p
    · subst hp
      rw [if_pos hd, if_pos rfl, hx0, hx1, prepQ_apply, prepK_apply, hq, hk, ← EReal.coe_mul, ← EReal.coe_mul]
      have e1 : (⟨(128 * h.val + (p'.val * 64 + e.val)) / 128, by omega⟩ : Fin 4) = h := Fin.ext (by show _ / 128 = h.val; omega)
      have e2 : (⟨(128 * h.val + (p'.val * 64 + e.val)) / 64 % 2, by omega⟩ : Fin 2) = p' := Fin.ext (by show _ / 64 % 2 = p'.val; omega)
      have e3 : (⟨(128 * h.val + (p'.val * 64 + e.val)) % 64, by omega⟩ : Fin 64) = e := Fin.ext (by show _ % 64 = e.val; omega)
      simp only [e1, e2, e3]
      congr 1; ring
    · rw [if_neg (by rw [hd]; exact fun h => hp (Fin.ext h)), if_neg hp]
      simp
  rw [Fin.sum_univ_tiles 2 64 rfl]
  refine (Finset.sum_congr rfl fun p' _ => Finset.sum_congr rfl fun e _ => hterm p' e).trans ?_
  simp only [coe_sum]
  congr 1
  rw [Finset.sum_comm]
  simp only [Finset.sum_ite_eq', Finset.mem_univ, if_true]
  unfold qk
  rw [Finset.sum_mul]

include hr hx3 hn in
/-- The bias a row meets at a column it visits. -/
theorem beta_eq (r : Fin 1024) (j : Fin 4096) (hj : j ∈ upto' (2 * n + 1) r) :
    beta x3 n r j = if j.val ≤ 1024 * n + r.val then (((rr (ix2 (rowIx (1024 * n + r.val - j.val)) h) - rr (ix2 31 h)) * (1 / Real.log 2) : ℝ) : EReal) else ⊥ := by
  have hj' : j.val / 512 ≤ 2 * n + r.val / 512 := by
    have hm := (Finset.mem_filter.mp hj).2
    split at hm <;> omega
  unfold beta
  by_cases h1 : j.val / 512 = 2 * n + r.val / 512
  · rw [if_pos h1, hx3]
    by_cases hji : j.val ≤ 1024 * n + r.val
    · rw [if_pos hji, prepB_eq rb rr hr h 0 _ _ (1024 * n + r.val - j.val) (by simp; omega)]
    · rw [if_neg hji, prepB_above rb h _ _ (by simp; omega)]
  · rw [if_neg h1]
    by_cases h2 : j.val / 512 + 1 = 2 * n + r.val / 512
    · rw [if_pos h2, hx3, if_pos (by omega), prepB_eq rb rr hr h 1 _ _ (1024 * n + r.val - j.val) (by simp; omega)]
    · rw [if_neg h2, if_pos (by omega), rowIx_far _ (by omega) (by omega), sub_self, zero_mul]
      rfl

end Real

/-- What a point leaves is the attention of its rows. -/
theorem leaves_eq (q k : FVec Ideal S4x4096x4x2x64 .f32) (rb : FVec Ideal S32x4 .f32) (qr kr : S4x4096x4x2x64.Idx → ℝ) (rr : S32x4.Idx → ℝ)
    (hq : ∀ y, q y = ((qr y : ℝ) : EReal)) (hk : ∀ y, k y = ((kr y : ℝ) : EReal)) (hr : ∀ y, rb y = ((rr y : ℝ) : EReal))
    (x0 : Vec Ideal S1x1024x128 .bf16) (x1 x2 : Vec Ideal S1x4096x128 .bf16) (x3 : Vec Ideal S1x2x512x512 .f32)
    (b h : Fin 4) (n : ℕ) (hn : n < 4)
    (hx0 : ∀ (r : Fin 1024) (e : Fin 128), x0 (ix3 0 r e) = prepQ q (ix3 b ⟨1024 * n + r.val, by omega⟩ ⟨128 * h.val + e.val, by omega⟩))
    (hx1 : ∀ (j : Fin 4096) (e : Fin 128), x1 (ix3 0 j e) = prepK k (ix3 b j ⟨128 * h.val + e.val, by omega⟩))
    (hx3 : ∀ (t : Fin 2) (r c : Fin 512), x3 (ix4 0 t r c) = prepB rb (ix4 h t r c))
    (v : FVec Ideal S4x4096x4x128 .f32) (hx2 : ∀ (j : Fin 4096) (d : Fin 128), x2 (ix3 0 j d) = v (ix4 b j h d))
    (p : Fin 2) (r : Fin 1024) (d : Fin 128) :
    leaves x0 x1 x2 x3 n p r d = att q k v rb (ix3 b ⟨1024 * n + r.val, by omega⟩ ⟨256 * h.val + (128 * p.val + d.val), by omega⟩) := by
  rw [att_apply]
  unfold leaves Cert.DattnRefIdeal.Read.avg Cert.DattnRefIdeal.Read.top
  have hv : ∀ j, VS x2 j d = v (ix4 b j h d) := fun j => hx2 j d
  simp only [hv]
  refine row_eq (fun j : Fin 4096 => j.val ≤ 1024 * n + r.val) (upto' (2 * n + 1) r)
    (fun j => qk qr kr b h p ⟨1024 * n + r.val, by omega⟩ j + rr (ix2 (rowIx (1024 * n + r.val - j.val)) h)) (rr (ix2 31 h))
    (fun j hj => ?_) ⟨0, by norm_num⟩ (Nat.zero_le _) _ _ _ (fun j => ?_) (fun j hj => ?_)
  · refine Finset.mem_filter.mpr ⟨Finset.mem_univ _, ?_⟩
    split <;> omega
  · exact tsc_eq q k rb qr kr rr hq hk hr b h p _ j
  · show (∑ e : Fin 128, qmap x0 p r e * x1 (ix3 0 j e)) + beta x3 n r j = _
    rw [lanes_eq q k qr kr hq hk x0 x1 b h n hn hx0 hx1 p r j, beta_eq rb rr hr x3 h n hn hx3 r j hj]
    split
    · rw [← EReal.coe_add]; congr 1; ring
    · exact EReal.add_bot _

end Cert.DattnIdeal.Ker

end
-- ==== Proof.DattnValue.lean ====
module

public import proofs.«01_k».proof.Defs
public import proofs.«01_k».proof.Proof.DattnCore
public import proofs.«01_k».proof.Proof.Gen.DattnIdeal.Value
public import proofs.«01_k».proof.Proof.Gen.DattnRefIdeal.Run
public import proofs.«01_k».proof.Proof.Gen.Pre_finite_qkb
public import Idealize.ShloMosaic.Lib.Quiescent

@[expose] public section

set_option maxRecDepth 16384

noncomputable section

/-! # The differential attention call computes the differential attention, over the extended reals -/

namespace Cert.DattnIdeal.Ker

open Cert.DattnIdeal Cert.DattnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The blocks -/

/-- Which block each window has at each grid point: batch, head and row tile are the point's number in mixed radix 4. -/
theorem index_eq : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 4 % 4, 0, 0, 0] ∧ win0_4.index t = ![t.val / 16, t.val % 4, t.val / 4 % 4] :=
  (by decide +kernel : ∀ t : Fin grid0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 4 % 4, 0, 0, 0] ∧ win0_4.index t = ![t.val / 16, t.val % 4, t.val / 4 % 4])

/-- The batch of a point. -/
abbrev bOf (t : Fin cfg0.N) : Fin 4 := ⟨t.val / 16, by have h := t.isLt; have : cfg0.N = 64 := N_0; omega⟩

/-- The head of a point. -/
abbrev hOf (t : Fin cfg0.N) : Fin 4 := ⟨t.val / 4 % 4, Nat.mod_lt _ (by norm_num)⟩

/-- The queries' block. -/
theorem blk_q (c : Dev nD) (t : Fin cfg0.N) (r : Fin 1024) (e : Fin 128) :
    (iblk m c 0 t : Vec Ideal S1x1024x128 .bf16) (ix3 0 r e)
      = prepQ (m ((c : Thread nD τ).loc main_arg0)) (ix3 (bOf t) ⟨1024 * (t.val % 4) + r.val, by omega⟩ ⟨128 * (hOf t).val + e.val, by omega⟩) := by
  rw [← V_q m c]
  unfold iblk
  rw [View.read_apply]
  show V m c main_v5 _ = _
  refine congrArg _ (funext fun a => Fin.ext ?_)
  match a with
  | ⟨0, _⟩ => show win0_0.index t 0 * 1 + 1 * 0 = t.val / 16; rw [(index_eq t).1]; simp
  | ⟨1, _⟩ => show win0_0.index t 1 * 1024 + 1 * r.val = 1024 * (t.val % 4) + r.val; rw [(index_eq t).1]; simp; omega
  | ⟨2, _⟩ => show win0_0.index t 2 * 128 + 1 * e.val = 128 * (t.val / 4 % 4) + e.val; rw [(index_eq t).1]; simp; omega

/-- The keys' block. -/
theorem blk_k (c : Dev nD) (t : Fin cfg0.N) (j : Fin 4096) (e : Fin 128) :
    (iblk m c 1 t : Vec Ideal S1x4096x128 .bf16) (ix3 0 j e)
      = prepK (m ((c : Thread nD τ).loc main_arg1)) (ix3 (bOf t) j ⟨128 * (hOf t).val + e.val, by omega⟩) := by
  rw [← V_k m c]
  unfold iblk
  rw [View.read_apply]
  show V m c main_v7 _ = _
  refine congrArg _ (funext fun a => Fin.ext ?_)
  match a with
  | ⟨0, _⟩ => show win0_1.index t 0 * 1 + 1 * 0 = t.val / 16; rw [(index_eq t).2.1]; simp
  | ⟨1, _⟩ => show win0_1.index t 1 * 4096 + 1 * j.val = j.val; rw [(index_eq t).2.1]; simp
  | ⟨2, _⟩ => show win0_1.index t 2 * 128 + 1 * e.val = 128 * (t.val / 4 % 4) + e.val; rw [(index_eq t).2.1]; simp; omega

/-- The values' block. -/
theorem blk_v (c : Dev nD) (t : Fin cfg0.N) (j : Fin 4096) (d : Fin 128) :
    (iblk m c 2 t : Vec Ideal S1x4096x128 .bf16) (ix3 0 j d) = m ((c : Thread nD τ).loc main_arg2) (ix4 (bOf t) j (hOf t) d) := by
  have e : (iblk m c 2 t : Vec Ideal S1x4096x128 .bf16) (ix3 0 j d)
      = prepV (m ((c : Thread nD τ).loc main_arg2)) (ix3 (bOf t) j ⟨128 * (hOf t).val + d.val, by omega⟩) := by
    rw [← V_v m c]
    unfold iblk
    rw [View.read_apply]
    show V m c main_v9 _ = _
    refine congrArg _ (funext fun a => Fin.ext ?_)
    match a with
    | ⟨0, _⟩ => show win0_2.index t 0 * 1 + 1 * 0 = t.val / 16; rw [(index_eq t).2.2.1]; simp
    | ⟨1, _⟩ => show win0_2.index t 1 * 4096 + 1 * j.val = j.val; rw [(index_eq t).2.2.1]; simp
    | ⟨2, _⟩ => show win0_2.index t 2 * 128 + 1 * d.val = 128 * (t.val / 4 % 4) + d.val; rw [(index_eq t).2.2.1]; simp; omega
  have e1 : (⟨(128 * (hOf t).val + d.val) / 128, by omega⟩ : Fin 4) = hOf t := Fin.ext (by show _ / 128 = (hOf t).val; omega)
  have e2 : (⟨(128 * (hOf t).val + d.val) % 128, by omega⟩ : Fin 128) = d := Fin.ext (by show _ % 128 = d.val; omega)
  rw [e, prepV_apply, e1, e2]

/-- The bias tiles' block. -/
theorem blk_b (c : Dev nD) (t : Fin cfg0.N) (u : Fin 2) (r s : Fin 512) :
    (iblk m c 3 t : Vec Ideal S1x2x512x512 .f32) (ix4 0 u r s) = prepB (m ((c : Thread nD τ).loc main_arg3)) (ix4 (hOf t) u r s) := by
  rw [← V_b m c]
  unfold iblk
  rw [View.read_apply]
  show V m c main_v56 _ = _
  refine congrArg _ (funext fun a => Fin.ext ?_)
  match a with
  | ⟨0, _⟩ => show win0_3.index t 0 * 1 + 1 * 0 = t.val / 4 % 4; rw [(index_eq t).2.2.2.1]; simp
  | ⟨1, _⟩ => show win0_3.index t 1 * 2 + 1 * u.val = u.val; rw [(index_eq t).2.2.2.1]; simp
  | ⟨2, _⟩ => show win0_3.index t 2 * 512 + 1 * r.val = r.val; rw [(index_eq t).2.2.2.1]; simp
  | ⟨3, _⟩ => show win0_3.index t 3 * 512 + 1 * s.val = s.val; rw [(index_eq t).2.2.2.1]; simp

/-! ## The result array -/

/-- The result the run is shown to leave. -/
def result (c : Dev nD) : Buf (Elt Ideal) ((c : Thread nD τ).loc main_v57) :=
  att (m ((c : Thread nD τ).loc main_arg0)) (m ((c : Thread nD τ).loc main_arg1)) (m ((c : Thread nD τ).loc main_arg2)) (m ((c : Thread nD τ).loc main_arg3))

section Value
variable (c : Dev nD) (qr kr : S4x4096x4x2x64.Idx → ℝ) (rr : S32x4.Idx → ℝ)
  (hq : ∀ y, (m ((c : Thread nD τ).loc main_arg0) : FVec Ideal S4x4096x4x2x64 .f32) y = ((qr y : ℝ) : EReal))
  (hk : ∀ y, (m ((c : Thread nD τ).loc main_arg1) : FVec Ideal S4x4096x4x2x64 .f32) y = ((kr y : ℝ) : EReal))
  (hr : ∀ y, (m ((c : Thread nD τ).loc main_arg3) : FVec Ideal S32x4 .f32) y = ((rr y : ℝ) : EReal))

include hq hk hr in
/-- What a point leaves, from its blocks. -/
theorem point_eq (t : Fin cfg0.N) (p : Fin 2) (r : Fin 1024) (d : Fin 128) :
    leaves (iblk m c 0 t) (iblk m c 1 t) (iblk m c 2 t) (iblk m c 3 t) (t.val % 4) p r d
      = result m c (ix3 (bOf t) ⟨1024 * (t.val % 4) + r.val, by omega⟩ ⟨256 * (hOf t).val + (128 * p.val + d.val), by omega⟩) :=
  leaves_eq _ _ _ qr kr rr hq hk hr _ _ _ _ (bOf t) (hOf t) (t.val % 4) (Nat.mod_lt _ (by norm_num)) (blk_q m c t) (blk_k m c t) (blk_b m c t) _ (blk_v m c t) p r d

/-- An index of the output block by its map and lane. -/
theorem idx_split (y : S1x1024x256.Idx) : ∃ (p : Fin 2) (r : Fin 1024) (d : Fin 128), y = ix3 0 r ⟨128 * p.val + d.val, by omega⟩ := by
  have h2 : (y 2).val < 256 := (y 2).isLt
  refine ⟨⟨(y 2).val / 128, by omega⟩, ⟨(y 1).val, (y 1).isLt⟩, ⟨(y 2).val % 128, Nat.mod_lt _ (by norm_num)⟩, funext fun a => Fin.ext ?_⟩
  match a with
  | ⟨0, _⟩ => have h0 : (y 0).val < 1 := (y 0).isLt; show (y 0).val = 0; omega
  | ⟨1, _⟩ => rfl
  | ⟨2, _⟩ => show (y 2).val = 128 * ((y 2).val / 128) + (y 2).val % 128; omega

/-- A block of the output window, from what it holds at each map, row and lane. -/
theorem out_block (t : Fin cfg0.N) (G : Buf (Elt Ideal) ((c : Thread nD τ).loc main_v57)) (o : Vec Ideal S1x1024x256 .f32)
    (ho : ∀ (p : Fin 2) (r : Fin 1024) (d : Fin 128), o (ix3 0 r ⟨128 * p.val + d.val, by omega⟩)
      = G (ix3 (bOf t) ⟨1024 * (t.val % 4) + r.val, by omega⟩ ⟨256 * (hOf t).val + (128 * p.val + d.val), by omega⟩)) :
    (cfg0.win 4).cut (grid0.coords t) o = ((cfg0.win 4).blk t).view.read (Elt Ideal) G := by
  funext y
  obtain ⟨p, r, d, rfl⟩ := idx_split y
  rw [View.read_apply]
  refine (ho p r d).trans (congrArg G (funext fun a => Fin.ext ?_))
  match a with
  | ⟨0, _⟩ => show t.val / 16 = win0_4.index t 0 * 1 + 1 * 0; rw [(index_eq t).2.2.2.2]; simp
  | ⟨1, _⟩ => show 1024 * (t.val % 4) + r.val = win0_4.index t 1 * 1024 + 1 * r.val; rw [(index_eq t).2.2.2.2]; simp; omega
  | ⟨2, _⟩ => show 256 * (t.val / 4 % 4) + (128 * p.val + d.val) = win0_4.index t 2 * 256 + 1 * (128 * p.val + d.val); rw [(index_eq t).2.2.2.2]; simp; omega

include hq hk hr in
/-- What point `t` writes back is block `t` of the attention. -/
theorem flushed_eq (t : Fin cfg0.N) :
    (dats m 0 c).flushed 4 t = ((cfg0.win 4).blk t).view.read (Elt Ideal) (result m c) := by
  by_cases h0 : 1 ≤ t.val % 4
  · rw [Value.flushed4_B m c t h0]
    exact out_block c t _ _ fun p r d => (out_B c _ _ _ _ _ _ _ _ _ _ _ _ _ _ _ _ _ _ _ _ _ _ _ _ ((hcond0_0 t).mpr h0) (pt t) h0 p r d).trans (point_eq m c qr kr rr hq hk hr t p r d)
  · rw [Value.flushed4_A m c t h0]
    exact out_block c t _ _ fun p r d => (out_A c _ _ _ _ _ _ _ _ _ _ _ _ _ _ _ _ _ _ _ _ _ _ _ _ (fun h => h0 ((hcond0_0 t).mp h)) (pt t) (by omega) p r d).trans (point_eq m c qr kr rr hq hk hr t p r d)

/-- Every index of the result is in some point's block. -/
theorem cover (i : S4x4096x1024.Idx) :
    ∃ t : Fin cfg0.N, (cfg0.win 4).flush t = true ∧ i ∈ ((cfg0.win 4).blk t).view.set := by
  have h0 : (i 0 : Nat) < 4 := (i 0).isLt
  have h1 : (i 1 : Nat) < 4096 := (i 1).isLt
  have h2 : (i 2 : Nat) < 1024 := (i 2).isLt
  have hN : cfg0.N = 64 := N_0
  obtain ⟨t, ht⟩ : ∃ t : Fin cfg0.N, t.val = 16 * (i 0).val + 4 * ((i 2).val / 256) + (i 1).val / 1024 := ⟨⟨_, by omega⟩, rfl⟩
  refine ⟨t, flush0_4 _, ?_⟩
  show i ∈ ((View.whole main_v57).slice (win0_4.rect t)).set
  rw [View.set_slice_whole, Rect.mem_set_unit]
  have e := (index_eq t).2.2.2.2
  intro a
  match a with
  | ⟨0, _⟩ =>
    show win0_4.index t 0 * 1 ≤ (i 0 : Nat) ∧ (i 0 : Nat) < win0_4.index t 0 * 1 + 1
    rw [e]; dsimp; omega
  | ⟨1, _⟩ =>
    show win0_4.index t 1 * 1024 ≤ (i 1 : Nat) ∧ (i 1 : Nat) < win0_4.index t 1 * 1024 + 1024
    rw [e]; dsimp; omega
  | ⟨2, _⟩ =>
    show win0_4.index t 2 * 256 ≤ (i 2 : Nat) ∧ (i 2 : Nat) < win0_4.index t 2 * 256 + 256
    rw [e]; dsimp; omega

end Value

/-! ## The precondition -/

/-- A number strictly between the infinities is real. -/
theorem real_of_between (x : EReal)
    (h : IntOp.andi (Ideal.cmp .ogt x (Ideal.ofBits FTy.f32 0xFF800000#32)) (Ideal.cmp .olt x (Ideal.ofBits FTy.f32 0x7F800000#32)) = 1#1) :
    x = ((x.toReal : ℝ) : EReal) := by
  have hb : Ideal.ofBits FTy.f32 0xFF800000#32 = ⊥ := bits_neg_inf
  have ht : Ideal.ofBits FTy.f32 0x7F800000#32 = ⊤ := rfl
  rw [hb, ht] at h
  refine (EReal.coe_toReal ?_ ?_).symm
  · rintro rfl
    revert h
    simp [Ideal.cmp, IntOp.andi]
  · rintro rfl
    revert h
    simp [Ideal.cmp, IntOp.andi]

/-- The kernel's run: the result array ends holding the attention, the arguments unchanged. -/
theorem run (hpre : Cert.Pre_DattnIdeal_finite_qkb m) : θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (result m c) (fun t _ =>
      flushed_eq m c _ _ _ (fun y => real_of_between _ (congrFun (hpre c).1 y)) (fun y => real_of_between _ (congrFun (hpre c).2.1 y))
        (fun y => real_of_between _ (congrFun (hpre c).2.2 y)) t) cover), (h c).2⟩)
    (Value.run_blocks m ρ)

end Cert.DattnIdeal.Ker

namespace Cert.Proof.Dattn

open Idealize.ShloMosaic Idealize.ShloMosaic.TcCoe Idealize.SL.Sem

/-- The reference's run leaves its argument arrays as they were and its counters at zero. -/
theorem frame_ref : Cert.quiescent_DattnRefIdeal := fun m ρ _ =>
  (θ_run Cert.DattnRefIdeal.defs _ _).mono (fun r h => ⟨fun c => (h c).2, Idealize.ShloMosaic.sem_eq_zero_of_no_sems (by decide) r.2⟩)
    (Cert.DattnRefIdeal.Value.run (F := Ideal) m ρ)

/-- The kernel's result is the reference's, at real queries, keys and bias table and every extended-real value array. -/
theorem algebraic : Cert.algebraic_DattnIdeal_DattnRefIdeal_pre_finite_qkb := fun m ρ m' ρ' hpre hag =>
  ⟨fun c => Cert.DattnIdeal.Ker.result m c, Cert.DattnIdeal.Ker.run m ρ hpre,
    (θ_run _ _ _).mono (fun _ h c => ⟨(h c).1.trans (by
      rw [Cert.DattnRefIdeal.Read.res_eq, (hag c).1, (hag c).2.1, (hag c).2.2.1, (hag c).2.2.2]
      exact (Cert.DattnIdeal.Ker.att_eq _ _ _ _).symm), (h c).2⟩)
    (Cert.DattnRefIdeal.Value.run (F := Ideal) m' ρ')⟩

end Cert.Proof.Dattn
end
-- ==== Proof.FfnsKernel.lean ====
module

public import proofs.«01_k».proof.Proof.Gen.FfnsIdeal.Value
public import Idealize.ShloMosaic.Lib.Pointwise
public import Idealize.ShloMosaic.Lib.Tactic

@[expose] public section

set_option maxRecDepth 16384

noncomputable section

/-! # The feed-forward kernel's body as a function of its blocks -/

namespace Cert.FfnsIdeal.Ker

open Cert.FfnsIdeal Cert.FfnsIdeal.Gen Idealize.ShloMosaic Idealize.ShloMosaic.TcCoe Idealize.SL.Sem
open Idealize.ShloMosaic.Pipeline (Dat)

variable {F : FTy → Type} [FloatOps F]

/-- The literal zero offset is the zero function. -/
theorem hz : (![0, 0] : Fin 2 → Nat) = fun _ => 0 := funext fun a => by fin_cases a <;> rfl

/-- The 256 hidden columns that trip `k` reads of a gate or up matrix. -/
abbrev cols (w : Vec F S1024x2816 .bf16) (k : Fin k0_t1_loop.trips) : Vec F S1024x256 .bf16 :=
  View.ld w (Rect.unit (s := S1024x2816) (k0_off1 k) S1024x256.size (k0_off1_inb k))

/-- The 256 rows that trip `k` reads of the down matrix. -/
abbrev rows (w : Vec F S2816x1024 .bf16) (k : Fin k0_t1_loop.trips) : Vec F S256x1024 .bf16 :=
  View.ld w (Rect.unit (s := S2816x1024) (k0_off2 k) S256x1024.size (k0_off2_inb k))

/-- The accumulator after `n` trips: zeros, then one chunk's product added per trip. -/
def accAt (h : Vec F S1024x1024 .bf16) (wg wu : Vec F S1024x2816 .bf16) (wd : Vec F S2816x1024 .bf16) :
    ℕ → Vec F S1024x1024 .f32
  | 0 => k0_pay2
  | n + 1 => if hn : n < k0_t1_loop.trips then
      k0_pay3 h (cols wg ⟨n, hn⟩) (cols wu ⟨n, hn⟩) (accAt h wg wu wd n) (rows wd ⟨n, hn⟩)
    else accAt h wg wu wd n

/-- What one trip stores: the whole accumulator, once. -/
theorem trip_eq (𝒱 : Variants) (bd : Option 𝒱.V) (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (X3 : BufTy.Contents (Elt F) arg3.view.ty) (X4 : BufTy.Contents (Elt F) arg4.view.ty) (X5 : BufTy.Contents (Elt F) arg5.view.ty) (X7 : BufTy.Contents (Elt F) arg7.view.ty) (k : Fin k0_t1_loop.trips) (f8 : BufTy.Contents (Elt F) arg8.view.ty) :
    tripL_k0_t1 𝒱 c bd i arg1 harg1 arg2 harg2 arg3 harg3 arg4 harg4 arg5 harg5 arg6 harg6 arg7 harg7 arg8 harg8 X3 X4 X5 X7 k f8
      = [⟨Rect.unit (s := S1024x1024) ![0, 0] S1024x1024.size inb_S1024x1024_S1024x1024_0_0,
          k0_pay3 (arg7.view.read (Elt F) X7) (cols (arg3.view.read (Elt F) X3) k) (cols (arg4.view.read (Elt F) X4) k)
            (arg8.view.read (Elt F) f8) (rows (arg5.view.read (Elt F) X5) k)⟩] := by
  unfold tripL_k0_t1 trip_k0_t1
  dsimp only
  sl_unfold_words
  simp only [View.readAt_eq_ld, View.ld_unit_zero (S := S1024x1024) hz, shapeCast_self]
  rfl

/-- The accumulator buffer after `n` trips reads as `accAt n`. -/
theorem acc_read (𝒱 : Variants) (bd : Option 𝒱.V) (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole) (X3 : BufTy.Contents (Elt F) arg3.view.ty) (X4 : BufTy.Contents (Elt F) arg4.view.ty) (X5 : BufTy.Contents (Elt F) arg5.view.ty) (X7 : BufTy.Contents (Elt F) arg7.view.ty) (G8 : BufTy.Contents (Elt F) arg8.view.ty)
    (hG : arg8.view.read (Elt F) G8 = k0_pay2) : ∀ n : ℕ, n ≤ k0_t1_loop.trips →
    arg8.view.read (Elt F) (arg8.view.writes (Elt F) G8 (pb_k0_t1 𝒱 c bd i arg1 harg1 arg2 harg2 arg3 harg3 arg4 harg4 arg5 harg5 arg6 harg6 arg7 harg7 arg8 harg8 X3 X4 X5 X7 G8 n))
      = accAt (arg7.view.read (Elt F) X7) (arg3.view.read (Elt F) X3) (arg4.view.read (Elt F) X4) (arg5.view.read (Elt F) X5) n
  | 0, _ => hG
  | n + 1, hn => by
    have ih := acc_read 𝒱 bd c i arg1 harg1 arg2 harg2 arg3 harg3 arg4 harg4 arg5 harg5 arg6 harg6 arg7 harg7 arg8 harg8 X3 X4 X5 X7 G8 hG n (Nat.le_of_succ_le hn)
    have hs := pb_k0_t1_succ 𝒱 c bd i arg1 harg1 arg2 harg2 arg3 harg3 arg4 harg4 arg5 harg5 arg6 harg6 arg7 harg7 arg8 harg8 X3 X4 X5 X7 G8 ⟨n, hn⟩
    dsimp only at hs
    rw [hs, trip_eq, ih, List.singleton_append]
    rw [View.read_writes_eq_canon _ _ _ (fun y => ⟨_, List.mem_cons_self, by
      rw [Rect.mem_set_unit]
      intro a
      match a with
      | ⟨0, _⟩ => exact ⟨Nat.zero_le _, by have := (y 0).isLt; simpa using this⟩
      | ⟨1, _⟩ => exact ⟨Nat.zero_le _, by have := (y 1).isLt; simpa using this⟩⟩)]
    rw [View.canon_cons_unit_zero (S := S1024x1024) hz, accAt, dif_pos (show n < k0_t1_loop.trips from hn)]

/-- The loop makes eleven trips. -/
theorem trips_eq : Scf.trips (0#32) (Scalar.addi 0#32 11#32) 1#32 = k0_t1_loop.trips := rfl

/-- THE BODY'S VALUE: the input block plus half the accumulator after all the trips, over the normalised block. -/
theorem out_eq (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .f32) (harg8 : arg8.IsWhole)
    (x0 : Vec F S1024x1024 .f32) (x1 : Vec F S1x1024 .f32) (x2 : Vec F S1024x2816 .bf16) (x3 : Vec F S1024x2816 .bf16) (x4 : Vec F S2816x1024 .bf16) :
    out0_A_5 c i arg1 harg1 arg2 harg2 arg3 harg3 arg4 harg4 arg5 harg5 arg6 harg6 arg7 harg7 arg8 harg8 x0 x1 x2 x3 x4 = k0_pay4 x0 (accAt (k0_pay1 x0 x1) x2 x3 x4 k0_t1_loop.trips) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg1.read_unread, harg2.read_unread, View.ld_unit_zero (S := S1024x1024) hz, View.ld_unit_zero (S := S1x1024) hz, shapeCast_self]
  have hcov : ∀ L : List (View.Piece (Elt F) S1024x1024 .f32),
      arg8.view.readCov L (Rect.unit (s := S1024x1024) ![0, 0] S1024x1024.size inb_S1024x1024_S1024x1024_0_0).toLoadRect
        = View.ld (arg8.view.read (Elt F) (arg8.view.writes (Elt F) arg8.view.junk L))
            (Rect.unit (s := S1024x1024) ![0, 0] S1024x1024.size inb_S1024x1024_S1024x1024_0_0) := by
    intro L
    rw [View.readCov_eq_canon', View.read_writes_junk_eq_canon]
  rw [trips_eq]
  refine congrArg (k0_pay4 x0) ((hcov _).trans ?_)
  rw [View.ld_unit_zero (S := S1024x1024) hz, View.writes_append]
  have hone : ∀ {e : EltTy} (v : View sig .tc .vmem S1024x1024 e) (f : v.ty.Contents (Elt F)) (w : Vec F S1024x1024 e),
      v.read (Elt F) (v.writes (Elt F) f [⟨Rect.unit (s := S1024x1024) ![0, 0] S1024x1024.size inb_S1024x1024_S1024x1024_0_0, w⟩]) = w := by
    intro e v f w
    rw [View.read_writes_eq_canon _ _ _ (fun y => ⟨_, List.mem_cons_self, by
      rw [Rect.mem_set_unit]
      intro a
      match a with
      | ⟨0, _⟩ => exact ⟨Nat.zero_le _, by have := (y 0).isLt; simpa using this⟩
      | ⟨1, _⟩ => exact ⟨Nat.zero_le _, by have := (y 1).isLt; simpa using this⟩⟩)]
    exact View.canon_unit_zero hz _ _
  rw [acc_read Variants.none none c i arg1 harg1 arg2 harg2 arg3 harg3 arg4 harg4 arg5 harg5 arg6 harg6 arg7 harg7 arg8 harg8 _ _ _ _ _ (hone _ _ _) _ le_rfl, hone]
  simp only [harg3.read_unread, harg4.read_unread, harg5.read_unread]

end Cert.FfnsIdeal.Ker
end
-- ==== Proof.FfnsValue.lean ====
module

public import proofs.«01_k».proof.Defs
public import proofs.«01_k».proof.Proof.FfnsKernel
public import proofs.«01_k».proof.Proof.FfnValue
public import proofs.«01_k».proof.Proof.Gen.FfnsRefIdeal.Run
public import Idealize.ShloMosaic.Lib.IdealHost
public import Idealize.ShloMosaic.Lib.Quiescent

@[expose] public section

set_option maxRecDepth 16384

noncomputable section

/-! # The feed-forward call of the sampled tokens computes the feed-forward layer, over the extended reals -/

namespace Cert.FfnsIdeal.Ker

open Cert.FfnsIdeal Cert.FfnsIdeal.Gen Idealize.ShloMosaic Idealize.ShloMosaic.TcCoe Idealize.SL.Sem
open Idealize.ShloMosaic.Pipeline (Dat)
open Cert.FfnIdeal.Ker (nrm hid ffn)

/-! ## The body's payloads at an index -/

/-- The normalised block at an index. -/
theorem pay1_apply (x : Vec Ideal S1024x1024 .f32) (g : Vec Ideal S1x1024 .f32) (r l : Fin 1024) :
    k0_pay1 x g (ix2 r l) = nrm (fun j => x (ix2 r j)) (fun j => g (ix2 0 j)) l := by
  unfold nrm
  pointwise [k0_pay1]

/-- One step of the accumulator at an index. -/
theorem pay3_apply (h : Vec Ideal S1024x1024 .bf16) (g u : Vec Ideal S1024x256 .bf16) (a : Vec Ideal S1024x1024 .f32)
    (d : Vec Ideal S256x1024 .bf16) (r l : Fin 1024) :
    k0_pay3 h g u a d (ix2 r l) = a (ix2 r l) + ∑ t : Fin 256,
      ((∑ q : Fin 1024, h (ix2 r q) * g (ix2 q t)) * Ideal.logistic (∑ q : Fin 1024, h (ix2 r q) * g (ix2 q t))
        * ∑ q : Fin 1024, h (ix2 r q) * u (ix2 q t)) * d (ix2 t l) := by
  pointwise [k0_pay3]

/-- Where the columns of the gate and up matrices start at each step. -/
theorem off1_eq : ∀ k : Fin k0_t1_loop.trips, k0_off1 k = ![0, k.val * 256] := by decide +kernel
/-- Where the rows of the down matrix start at each step. -/
theorem off2_eq : ∀ k : Fin k0_t1_loop.trips, k0_off2 k = ![k.val * 256, 0] := by decide +kernel
/-- The number of steps. -/
theorem trips_val : k0_t1_loop.trips = 11 := by decide +kernel

/-- Hidden unit `t` of chunk `k`. -/
abbrev unitOf (k : Fin 11) (t : Fin 256) : Fin 2816 := ⟨k.val * 256 + t.val, by omega⟩

/-- A step's columns of a gate or up matrix. -/
theorem cols_apply (w : Vec Ideal S1024x2816 .bf16) (k : Fin k0_t1_loop.trips) (q : Fin 1024) (t : Fin 256) :
    cols w k (ix2 q t) = w (ix2 q (unitOf (k.cast trips_val) t)) := by
  refine congrArg w (funext fun a => Fin.ext ?_)
  match a with
  | ⟨0, _⟩ => show k0_off1 k 0 + 1 * q.val = q.val; rw [off1_eq]; simp
  | ⟨1, _⟩ => show k0_off1 k 1 + 1 * t.val = k.val * 256 + t.val; rw [off1_eq]; simp

/-- A step's rows of the down matrix. -/
theorem rows_apply (w : Vec Ideal S2816x1024 .bf16) (k : Fin k0_t1_loop.trips) (t : Fin 256) (l : Fin 1024) :
    rows w k (ix2 t l) = w (ix2 (unitOf (k.cast trips_val) t) l) := by
  refine congrArg w (funext fun a => Fin.ext ?_)
  match a with
  | ⟨0, _⟩ => show k0_off2 k 0 + 1 * t.val = k.val * 256 + t.val; rw [off2_eq]; simp
  | ⟨1, _⟩ => show k0_off2 k 1 + 1 * l.val = l.val; rw [off2_eq]; simp

/-- The accumulator after `n` trips is the sum over the first `n` chunks. -/
theorem accAt_apply (h : Vec Ideal S1024x1024 .bf16) (wg wu : Vec Ideal S1024x2816 .bf16) (wd : Vec Ideal S2816x1024 .bf16)
    (r l : Fin 1024) : ∀ (n : ℕ) (hn : n ≤ 11), accAt h wg wu wd n (ix2 r l)
      = ∑ k : Fin n, ∑ t : Fin 256, hid (fun q => h (ix2 r q)) wg wu (unitOf (k.castLE hn) t) * wd (ix2 (unitOf (k.castLE hn) t) l)
  | 0, _ => by
    show k0_pay2 (F := Ideal) (ix2 r l) = _
    pointwise [k0_pay2]
    rfl
  | n + 1, hn => by
    rw [accAt, dif_pos (show n < k0_t1_loop.trips by rw [trips_val]; exact hn), pay3_apply,
      accAt_apply h wg wu wd r l n (Nat.le_of_succ_le hn), Fin.sum_univ_castSucc (n := n)]
    refine congrArg₂ (fun a b : EReal => a + b) rfl (Finset.sum_congr rfl fun t _ => ?_)
    have e : ∀ w : Vec Ideal S1024x2816 .bf16, (∑ q : Fin 1024, h (ix2 r q) * cols w ⟨n, by rw [trips_val]; exact hn⟩ (ix2 q t))
        = ∑ q : Fin 1024, h (ix2 r q) * w (ix2 q (unitOf ⟨n, hn⟩ t)) := fun w =>
      Finset.sum_congr rfl fun q _ => congrArg (fun a : EReal => h (ix2 r q) * a) (cols_apply w _ q t)
    exact congrArg₂ (fun a b : EReal => a * b) (congrArg₂ (fun a b : EReal => a * Ideal.logistic a * b) (e wg) (e wu))
      (rows_apply wd _ t l)

/-- The body's output block, row by row, is the layer of the block's rows. -/
theorem out_apply (x : Vec Ideal S1024x1024 .f32) (g : Vec Ideal S1x1024 .f32) (wg wu : Vec Ideal S1024x2816 .bf16)
    (wd : Vec Ideal S2816x1024 .bf16) (r l : Fin 1024) :
    k0_pay4 x (accAt (k0_pay1 x g) wg wu wd k0_t1_loop.trips) (ix2 r l)
      = ffn (fun j => x (ix2 r j)) (fun j => g (ix2 0 j)) wg wu wd l := by
  have e : k0_pay4 x (accAt (k0_pay1 x g) wg wu wd k0_t1_loop.trips) (ix2 r l)
      = x (ix2 r l) + Ideal.ofBits FTy.f32 1056964608#32 * accAt (k0_pay1 x g) wg wu wd k0_t1_loop.trips (ix2 r l) := by
    pointwise [k0_pay4]
  rw [e, trips_val, accAt_apply _ _ _ _ _ _ 11 le_rfl, ffn, Fin.sum_univ_tiles 11 256 rfl]
  simp only [pay1_apply]
  rfl

/-! ## From the blocks to the result array -/

variable (m : (ℓ : Loc nD τ sig) → Buf (Elt Ideal) ℓ) (ρ : Dev nD → PrngReg)

/-- The rows of the flattened input. -/
abbrev xrow (x : S128x8x1024.Idx → EReal) (R : Fin 1024) (j : Fin 1024) : EReal :=
  x (ix3 ⟨R.val / 8, by omega⟩ ⟨R.val % 8, by omega⟩ j)

/-- The layer over the whole flattened input. -/
def layer (x : S128x8x1024.Idx → EReal) (g : S1024.Idx → EReal) (wg wu : S1024x2816.Idx → EReal)
    (wd : S2816x1024.Idx → EReal) : S1024x1024.Idx → EReal := fun i =>
  ffn (xrow x ⟨(i 0).val, (i 0).isLt⟩) (fun j => g (ix1 j)) wg wu wd ⟨(i 1).val, (i 1).isLt⟩

/-- The flattened input handed to the call. -/
theorem V_x (c : Dev nD) : V m c main_v3 = shapeCast S1024x1024 (m ((c : Thread nD τ).loc main_arg0)) shapeCasts_S128x8x1024_S1024x1024 := by
  show StableHlo.after hostOps0 _ _ = _
  simp only [hostOps0]
  after_results_simp
  rfl
/-- The gain handed to the call. -/
theorem V_g (c : Dev nD) : V m c main_v4 = shapeCast S1x1024 (m ((c : Thread nD τ).loc main_arg1)) shapeCasts_S1024_S1x1024 := by
  show StableHlo.after hostOps0 _ _ = _
  simp only [hostOps0]
  after_results_simp
  rfl
/-- The gate matrix handed to the call. -/
theorem V_wg (c : Dev nD) : V m c main_v0 = m ((c : Thread nD τ).loc main_arg2) := by
  show StableHlo.after hostOps0 _ _ = _
  simp only [hostOps0]
  after_results_simp
  rfl
/-- The up matrix handed to the call. -/
theorem V_wu (c : Dev nD) : V m c main_v1 = m ((c : Thread nD τ).loc main_arg3) := by
  show StableHlo.after hostOps0 _ _ = _
  simp only [hostOps0]
  after_results_simp
  rfl
/-- The down matrix handed to the call. -/
theorem V_wd (c : Dev nD) : V m c main_v2 = m ((c : Thread nD τ).loc main_arg4) := by
  show StableHlo.after hostOps0 _ _ = _
  simp only [hostOps0]
  after_results_simp
  rfl

/-- Which block each window has at each grid point. -/
theorem index_eq : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

/-- Row `r` of block `t`. -/
abbrev rowOf (t : Fin cfg0.N) (r : Fin 1024) : Fin 1024 :=
  ⟨t.val * 1024 + r.val, by have h := t.isLt; have : cfg0.N = 1 := N_0; omega⟩

/-- An entry of the flattened input. -/
theorem flat_apply (x : FVec Ideal S128x8x1024 .f32) (R : Fin 1024) (j : Fin 1024) :
    shapeCast S1024x1024 x shapeCasts_S128x8x1024_S1024x1024 (ix2 R j) = xrow x R j := by
  pointwise

/-- The input's block at an index. -/
theorem blk_x (c : Dev nD) (t : Fin cfg0.N) (r j : Fin 1024) :
    (iblk m c 0 t : Vec Ideal S1024x1024 .f32) (ix2 r j) = xrow (m ((c : Thread nD τ).loc main_arg0)) (rowOf t r) j := by
  have e : (iblk m c 0 t : Vec Ideal S1024x1024 .f32) (ix2 r j) = V m c main_v3 (ix2 (rowOf t r) j) := by
    unfold iblk
    rw [View.read_apply]
    show V m c main_v3 _ = _
    refine congrArg _ (funext fun a => Fin.ext ?_)
    match a with
    | ⟨0, _⟩ => show win0_0.index t 0 * 1024 + 1 * r.val = t.val * 1024 + r.val; rw [(index_eq t).1]; simp
    | ⟨1, _⟩ => show win0_0.index t 1 * 1024 + 1 * j.val = j.val; rw [(index_eq t).1]; simp
  rw [e, V_x]
  exact flat_apply _ _ _

/-- The gain's block at an index. -/
theorem blk_g (c : Dev nD) (t : Fin cfg0.N) (j : Fin 1024) :
    (iblk m c 1 t : Vec Ideal S1x1024 .f32) (ix2 0 j) = m ((c : Thread nD τ).loc main_arg1) (ix1 j) := by
  have e : (iblk m c 1 t : Vec Ideal S1x1024 .f32) (ix2 0 j) = V m c main_v4 (ix2 0 j) := by
    unfold iblk
    rw [View.read_apply]
    show V m c main_v4 _ = _
    refine congrArg _ (funext fun a => Fin.ext ?_)
    match a with
    | ⟨0, _⟩ => show win0_1.index t 0 * 1 + 1 * 0 = 0; rw [(index_eq t).2.1]; simp
    | ⟨1, _⟩ => show win0_1.index t 1 * 1024 + 1 * j.val = j.val; rw [(index_eq t).2.1]; simp
  rw [e, V_g]
  pointwise

/-- The gate matrix's block is the matrix. -/
theorem blk_wg (c : Dev nD) (t : Fin cfg0.N) : (iblk m c 2 t : Vec Ideal S1024x2816 .bf16) = m ((c : Thread nD τ).loc main_arg2) := by
  rw [← V_wg m c]
  funext y
  unfold iblk
  rw [View.read_apply]
  show V m c main_v0 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 2816 + 1 * (y 1).val = (y 1).val; rw [(index_eq t).2.2.1]; simp

/-- The up matrix's block is the matrix. -/
theorem blk_wu (c : Dev nD) (t : Fin cfg0.N) : (iblk m c 3 t : Vec Ideal S1024x2816 .bf16) = m ((c : Thread nD τ).loc main_arg3) := by
  rw [← V_wu m c]
  funext y
  unfold iblk
  rw [View.read_apply]
  show V m c main_v1 _ = _
  refine congrArg _ (funext fun a => Fin.ext ?_)
  match a with
  | ⟨0, _⟩ => show win0_3.index t 0 * 1024 + 1 * (y 0).val = (y 0).val; rw [(index_eq t).2.2.2.1]; simp
  | ⟨1, _⟩ => show win0_3.index t 1 * 2816 + 1 * (y 1).val = (y 1).val; rw [(index_eq t).2.2.2.1]; simp

/-- The down matrix's block is the matrix. -/
theorem blk_wd (c : Dev nD) (t : Fin cfg0.N) : (iblk m c 4 t : Vec Ideal S2816x1024 .bf16) = m ((c : Thread nD τ).loc main_arg4) := by
  rw [← V_wd m c]
  funext y
  unfold iblk
  rw [View.read_apply]
  show V m c main_v2 _ = _
  refine congrArg _ (funext fun a => Fin.ext ?_)
  match a with
  | ⟨0, _⟩ => show win0_4.index t 0 * 2816 + 1 * (y 0).val = (y 0).val; rw [(index_eq t).2.2.2.2.1]; simp
  | ⟨1, _⟩ => show win0_4.index t 1 * 1024 + 1 * (y 1).val = (y 1).val; rw [(index_eq t).2.2.2.2.1]; simp

/-- The result the run is shown to leave. -/
abbrev result (c : Dev nD) : Buf (Elt Ideal) ((c : Thread nD τ).loc main_v5) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the layer. -/
theorem flushed_eq (c : Dev nD) (t : Fin cfg0.N) :
    (dats m 0 c).flushed 5 t = ((cfg0.win 5).blk t).view.read (Elt Ideal) (result m c) := by
  rw [Value.flushed5_A, out_eq]
  funext y
  have hy : ∃ (r l : Fin 1024), y = ix2 r l := ⟨⟨(y 0).val, (y 0).isLt⟩, ⟨(y 1).val, (y 1).isLt⟩, funext fun a => by
    match a with
    | ⟨0, _⟩ => rfl
    | ⟨1, _⟩ => rfl⟩
  obtain ⟨r, l, rfl⟩ := hy
  have hl : (cfg0.win 5).cut (grid0.coords t) (k0_pay4 (iblk m c 0 t) (accAt (k0_pay1 (iblk m c 0 t) (iblk m c 1 t)) (iblk m c 2 t) (iblk m c 3 t) (iblk m c 4 t) k0_t1_loop.trips)) (ix2 r l)
      = k0_pay4 (iblk m c 0 t) (accAt (k0_pay1 (iblk m c 0 t) (iblk m c 1 t)) (iblk m c 2 t) (iblk m c 3 t) (iblk m c 4 t) k0_t1_loop.trips) (ix2 r l) := rfl
  refine hl.trans ?_
  rw [out_apply, View.read_apply]
  have hi : ∀ i : S1024x1024.Idx, i = ix2 (rowOf t r) l → result m c i
      = ffn (xrow (m ((c : Thread nD τ).loc main_arg0)) (rowOf t r)) (fun j => m ((c : Thread nD τ).loc main_arg1) (ix1 j))
        (m ((c : Thread nD τ).loc main_arg2)) (m ((c : Thread nD τ).loc main_arg3)) (m ((c : Thread nD τ).loc main_arg4)) l := by
    rintro _ rfl; rfl
  refine Eq.trans ?_ (hi _ (funext fun a => Fin.ext ?_)).symm
  · simp only [blk_x, blk_g]
    rw [blk_wg, blk_wu, blk_wd]
  · match a with
    | ⟨0, _⟩ => show win0_5.index t 0 * 1024 + 1 * r.val = t.val * 1024 + r.val; rw [(index_eq t).2.2.2.2.2]; simp
    | ⟨1, _⟩ => show win0_5.index t 1 * 1024 + 1 * l.val = l.val; rw [(index_eq t).2.2.2.2.2]; simp

/-- Every index of the result is in some point's block. -/
theorem cover (i : S1024x1024.Idx) :
    ∃ t : Fin cfg0.N, (cfg0.win 5).flush t = true ∧ i ∈ ((cfg0.win 5).blk t).view.set := by
  have h0 : (i 0 : Nat) < 1024 := (i 0).isLt
  have h1 : (i 1 : Nat) < 1024 := (i 1).isLt
  have hN : cfg0.N = 1 := N_0
  have ht : (i 0 : Nat) / 1024 < cfg0.N := by omega
  refine ⟨⟨(i 0 : Nat) / 1024, ht⟩, flush0_5 _, ?_⟩
  show i ∈ ((View.whole main_v5).slice (win0_5.rect ⟨(i 0 : Nat) / 1024, ht⟩)).set
  rw [View.set_slice_whole, Rect.mem_set_unit]
  have e := (index_eq ⟨(i 0 : Nat) / 1024, ht⟩).2.2.2.2.2
  intro a
  match a with
  | ⟨0, _⟩ =>
    show win0_5.index ⟨(i 0 : Nat) / 1024, ht⟩ 0 * 1024 ≤ (i 0 : Nat) ∧ (i 0 : Nat) < win0_5.index ⟨(i 0 : Nat) / 1024, ht⟩ 0 * 1024 + 1024
    rw [e]; dsimp; omega
  | ⟨1, _⟩ =>
    show win0_5.index ⟨(i 0 : Nat) / 1024, ht⟩ 1 * 1024 ≤ (i 1 : Nat) ∧ (i 1 : Nat) < win0_5.index ⟨(i 0 : Nat) / 1024, ht⟩ 1 * 1024 + 1024
    rw [e]; dsimp; omega

/-- The kernel's run: the result array ends holding the layer, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 (result m c) (fun t _ => flushed_eq m c t) cover), (h c).2⟩)
    (Value.run_blocks m ρ)

end Cert.FfnsIdeal.Ker

namespace Cert.Proof.Ffns

open Cert.FfnIdeal.Ker (nrm hid ffn)
open Cert.FfnsIdeal.Ker Cert.FfnsRefIdeal Cert.FfnsRefIdeal.Gen Idealize.ShloMosaic Idealize.ShloMosaic.TcCoe Idealize.SL.Sem

/-- The reference's normalised input. -/
abbrev refNorm (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf
    (broadcastInDim S128x8x1 ![0, 1] bcast_S128x8_S128x8x1_0_1 (Host.reduceAdd (mulf x x) (constant S_ .f32 0x00000000#32) reducesTo_S128x8x1024_S128x8_d2 h_S_))
    (broadcastInDim S128x8x1 ![] bcast_S_S128x8x1 (constant S_ .f32 0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 g))

/-- The reference's product of a normalised input with a gate or up matrix. -/
abbrev refGate (h : FVec Ideal S128x8x1024 .f32) (w : FVec Ideal S1024x2816 .f32) : FVec Ideal S128x8x2816 .f32 :=
  Host.dotGeneral dot_S128x8x1024_S1024x2816_S128x8x2816_2_0_01_1_n_n none h w

/-- The reference's composed term. -/
abbrev refOut (x : FVec Ideal S128x8x1024 .f32) (g : FVec Ideal S1024 .f32) (wg wu : FVec Ideal S1024x2816 .f32) (wd : FVec Ideal S2816x1024 .f32) :
    FVec Ideal S1024x1024 .f32 :=
  shapeCast S1024x1024 (addf x (mulf (broadcastInDim S128x8x1024 ![] bcast_S_S128x8x1024 (constant S_ .f32 0x3F000000#32))
    (Host.dotGeneral dot_S128x8x2816_S2816x1024_S128x8x1024_2_0_01_1_n_n none
      (mulf (mulf (refGate (refNorm x g) wg) (Host.divf (broadcastInDim S128x8x2816 ![] bcast_S_S128x8x2816 (constant S_ .f32 0x3F800000#32))
        (addf (broadcastInDim S128x8x2816 ![] bcast_S_S128x8x2816 (constant S_ .f32 0x3F800000#32)) (Host.exp (Host.negf (refGate (refNorm x g) wg))))))
        (refGate (refNorm x g) wu)) wd))) shapeCasts_S128x8x1024_S1024x1024

/-- The reference's composed term, read at an index, is the layer. -/
theorem ref_eq (x : FVec Ideal S128x8x1024 .f32) (g : FVec Ideal S1024 .f32) (wg wu : FVec Ideal S1024x2816 .f32) (wd : FVec Ideal S2816x1024 .f32) :
    refOut x g wg wu wd = layer x g wg wu wd := by
  funext i
  idx_vars i
  pointwise [refOut, refGate, refNorm, layer, ffn, hid, nrm, Ideal.logistic]

/-- The reference's run leaves its argument arrays as they were and its counters at zero. -/
theorem frame_ref : Cert.quiescent_FfnsRefIdeal := fun m ρ _ =>
  (θ_run Cert.FfnsRefIdeal.defs _ _).mono (fun r h => ⟨fun c => (h c).2, Idealize.ShloMosaic.sem_eq_zero_of_no_sems (by decide) r.2⟩)
    (Cert.FfnsRefIdeal.Value.run (F := Ideal) m ρ)

/-- The kernel's result is the reference's, at every extended-real input. -/
theorem algebraic : Cert.algebraic_FfnsIdeal_FfnsRefIdeal := fun m ρ m' ρ' _ hag =>
  ⟨fun c => result m c, Cert.FfnsIdeal.Ker.run m ρ,
    (θ_run _ _ _).mono (fun _ h c => ⟨(h c).1.trans (by
      rw [(hag c).1, (hag c).2.1, (hag c).2.2.1, (hag c).2.2.2.1, (hag c).2.2.2.2]
      exact ref_eq _ _ _ _ _), (h c).2⟩)
    (Cert.FfnsRefIdeal.Value.run (F := Ideal) m' ρ')⟩

end Cert.Proof.Ffns
end
-- ==== Proof.MemkValue.lean ====
module

public import proofs.«01_k».proof.Defs
public import proofs.«01_k».proof.Proof.FfnValue
public import proofs.«01_k».proof.Proof.Gen.MemkIdeal.Value
public import proofs.«01_k».proof.Proof.Gen.MemkRefIdeal.Run
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The projection call computes the memory keys, over the extended reals -/

namespace Cert.MemkIdeal.Ker

open Cert.MemkIdeal Cert.MemkIdeal.Gen Idealize.ShloMosaic Idealize.ShloMosaic.TcCoe Idealize.SL.Sem
open Idealize.ShloMosaic.Pipeline (Dat)
open Cert.FfnIdeal.Ker (nrm hz)

/-! ## One entry of the projection, in scalars -/

/-- One entry of the normalised row times the weights. -/
def lin (x g : Fin 1024 → EReal) (w : S1024x1024.Idx → EReal) (l : Fin 1024) : EReal := ∑ q, nrm x g q * w (ix2 q l)

/-- The rows of the flattened memory. -/
abbrev xrow (x : S4x256x1024.Idx → EReal) (R j : Fin 1024) : EReal :=
  x (ix3 ⟨R.val / 256, by omega⟩ ⟨R.val % 256, by omega⟩ j)

/-- Column `d` of head `h`. -/
abbrev colOf (h : Fin 4) (d : Fin 256) : Fin 1024 := ⟨256 * h.val + d.val, by omega⟩

/-- The root-mean-square normalised head, scaled by the head's gain. -/
def hnorm (p k : Fin 256 → EReal) (d : Fin 256) : EReal :=
  p d * Ideal.rsqrt (Ideal.div (∑ q, p q * p q) (Ideal.ofBits FTy.f32 1132462080#32) + Ideal.ofBits FTy.f32 897988541#32) * k d

/-- One key: a head of the projected row, normalised. -/
def key (x g : Fin 1024 → EReal) (w : S1024x1024.Idx → EReal) (k : Fin 256 → EReal) (h : Fin 4) (d : Fin 256) : EReal :=
  hnorm (fun e => lin x g w (colOf h e)) k d

/-! ## The body's blocks at an index -/

/-- The projected block at an index: a normalised row times the weights. -/
theorem pay3_apply (x : Vec Ideal S512x1024 .f32) (g : Vec Ideal S1x1024 .f32) (w : Vec Ideal S1024x1024 .bf16) (r : Fin 512) (l : Fin 1024) :
    k0_pay3 x g w (ix2 r l) = lin (fun j => x (ix2 r j)) (fun j => g (ix2 0 j)) w l := by
  unfold lin nrm
  pointwise [k0_pay3]

/-- The first head's columns of the projected block. -/
abbrev part0 (s : FVec Ideal S512x1024 .f32) : FVec Ideal S512x256 .f32 := extractStridedSlice S512x256 ![0, 0] s slices_S512x1024_o0_0_S512x256

/-- The first head, from the projected block. -/
abbrev head0 (s : FVec Ideal S512x1024 .f32) (k : FVec Ideal S1x256 .f32) : FVec Ideal S512x256 .f32 :=
  mulf (mulf (part0 s) (broadcastTo S512x256 (rsqrt (addf (divf (shapeCast S512x1 (multiReduction .add [1] S512 (mulf (part0 s) (part0 s)) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256)) (broadcastTo S512x256 k broadcasts_S1x256_S512x256)

/-- The second head's columns of the projected block. -/
abbrev part1 (s : FVec Ideal S512x1024 .f32) : FVec Ideal S512x256 .f32 := extractStridedSlice S512x256 ![0, 256] s slices_S512x1024_o0_256_S512x256

/-- The second head's mean square, from the projected block. -/
abbrev mean1 (s : FVec Ideal S512x1024 .f32) : FVec Ideal S512x1 .f32 :=
  divf (shapeCast S512x1 (multiReduction .add [1] S512 (mulf (part1 s) (part1 s)) 0x00000000#32 reduces_S512x256_S512 (.inl rfl) rfl) shapeCasts_S512_S512x1)
    (broadcast S512x1 (Scalar.ofBits .f32 0x43800000#32))

/-- The whole block of keys, from the projected block and the heads' gain. -/
def heads (s : FVec Ideal S512x1024 .f32) (k : FVec Ideal S1x256 .f32) : FVec Ideal S512x1024 .f32 :=
  k0_pay1 s k (head0 s k) (part1 s) (mean1 s) (Scalar.ofBits .f32 0x358637BD#32)

/-- Head 0 of the block of keys. -/
theorem heads_0 (s : FVec Ideal S512x1024 .f32) (k : FVec Ideal S1x256 .f32) (r : Fin 512) (d : Fin 256) :
    heads s k (ix2 r (colOf 0 d)) = hnorm (fun e => s (ix2 r (colOf 0 e))) (fun e => k (ix2 0 e)) d := by
  pointwise [heads, k0_pay1, head0, part0, part1, mean1]
  have hc : ∀ e : Fin 256, colOf 0 e = ⟨e.val, by omega⟩ := fun e => Fin.ext (by show 256 * 0 + e.val = e.val; omega)
  simp only [hc]
  rfl

/-- Head 1 of the block of keys. -/
theorem heads_1 (s : FVec Ideal S512x1024 .f32) (k : FVec Ideal S1x256 .f32) (r : Fin 512) (d : Fin 256) :
    heads s k (ix2 r (colOf 1 d)) = hnorm (fun e => s (ix2 r (colOf 1 e))) (fun e => k (ix2 0 e)) d := by
  pointwise [heads, k0_pay1, head0, part0, part1, mean1]
  rfl

/-- Head 2 of the block of keys. -/
theorem heads_2 (s : FVec Ideal S512x1024 .f32) (k : FVec Ideal S1x256 .f32) (r : Fin 512) (d : Fin 256) :
    heads s k (ix2 r (colOf 2 d)) = hnorm (fun e => s (ix2 r (colOf 2 e))) (fun e => k (ix2 0 e)) d := by
  pointwise [heads, k0_pay1, head0, part0, part1, mean1]
  rw [dif_neg (by omega)]
  rw [dif_neg (by omega)]
  rw [dif_pos (by omega)]
  have hd : (⟨512 + d.val - 256 - 256, by omega⟩ : Fin 256) = d := Fin.ext (by show 512 + d.val - 256 - 256 = d.val; omega)
  unfold hnorm
  exact congrArg₂ (fun a b : EReal => a * b) (congrArg₂ (fun a b : EReal => a * b)
    (congrArg (fun a : Fin 256 => s (ix2 r ⟨512 + a.val, by omega⟩)) hd) rfl) (congrArg (fun a : Fin 256 => k (ix2 0 a)) hd)

/-- Head 3 of the block of keys. -/
theorem heads_3 (s : FVec Ideal S512x1024 .f32) (k : FVec Ideal S1x256 .f32) (r : Fin 512) (d : Fin 256) :
    heads s k (ix2 r (colOf 3 d)) = hnorm (fun e => s (ix2 r (colOf 3 e))) (fun e => k (ix2 0 e)) d := by
  pointwise [heads, k0_pay1, head0, part0, part1, mean1]
  rw [dif_neg (by omega)]
  rw [dif_neg (by omega)]
  rw [dif_neg (by omega)]
  have hd : (⟨768 + d.val - 256 - 256 - 256, by omega⟩ : Fin 256) = d := Fin.ext (by show 768 + d.val - 256 - 256 - 256 = d.val; omega)
  unfold hnorm
  exact congrArg₂ (fun a b : EReal => a * b) (congrArg₂ (fun a b : EReal => a * b)
    (congrArg (fun a : Fin 256 => s (ix2 r ⟨768 + a.val, by omega⟩)) hd) rfl) (congrArg (fun a : Fin 256 => k (ix2 0 a)) hd)

/-- A head of the block of keys. -/
theorem heads_apply (s : FVec Ideal S512x1024 .f32) (k : FVec Ideal S1x256 .f32) (r : Fin 512) (h : Fin 4) (d : Fin 256) :
    heads s k (ix2 r (colOf h d)) = hnorm (fun e => s (ix2 r (colOf h e))) (fun e => k (ix2 0 e)) d := by
  match h with
  | ⟨0, _⟩ => exact heads_0 s k r d
  | ⟨1, _⟩ => exact heads_1 s k r d
  | ⟨2, _⟩ => exact heads_2 s k r d
  | ⟨3, _⟩ => exact heads_3 s k r d

/-- A column as a head and a lane. -/
theorem col_split (l : Fin 1024) : l = colOf ⟨l.val / 256, by omega⟩ ⟨l.val % 256, by omega⟩ := Fin.ext (by
  show l.val = 256 * (l.val / 256) + l.val % 256
  omega)

/-- The block of keys over a projected block, at an index. -/
theorem keys_apply (x : Vec Ideal S512x1024 .f32) (g : Vec Ideal S1x1024 .f32) (w : Vec Ideal S1024x1024 .bf16) (k : Vec Ideal S1x256 .f32) (r : Fin 512) (l : Fin 1024) :
    heads (k0_pay3 x g w) k (ix2 r l) = key (fun j => x (ix2 r j)) (fun j => g (ix2 0 j)) w (fun e => k (ix2 0 e)) ⟨l.val / 256, by omega⟩ ⟨l.val % 256, by omega⟩ := by
  refine (congrArg (fun a => heads (k0_pay3 x g w) k (ix2 r a)) (col_split l)).trans ((heads_apply _ k r _ _).trans ?_)
  simp only [pay3_apply]
  rfl

/-- The heads' gain as the body reads it. -/
theorem pay4_eq (k : Vec Ideal S1x256 .f32) : k0_pay4 k = k := by
  unfold k0_pay4
  rw [shapeCast_self]

/-- The first head as the body computes it. -/
theorem pay5_eq (x : Vec Ideal S512x1024 .f32) (g : Vec Ideal S1x1024 .f32) (w : Vec Ideal S1024x1024 .bf16) (k : Vec Ideal S1x256 .f32) :
    k0_pay5 x g w k = head0 (k0_pay3 x g w) k := by
  unfold k0_pay5
  rw [pay4_eq]

/-- The first result's block at an index. -/
theorem out4_apply (x : Vec Ideal S512x1024 .f32) (g : Vec Ideal S1x1024 .f32) (w : Vec Ideal S1024x1024 .bf16) (k : Vec Ideal S1x256 .f32) (r : Fin 512) (l : Fin 1024) :
    out0_4 x g w k (ix2 r l) = key (fun j => x (ix2 r j)) (fun j => g (ix2 0 j)) w (fun e => k (ix2 0 e)) ⟨l.val / 256, by omega⟩ ⟨l.val % 256, by omega⟩ := by
  unfold_out out0_4
  rw [View.canon_unit_zero hz, View.ld_unit_zero hz, View.ld_unit_zero hz, View.ld_unit_zero hz, View.ld_unit_zero hz]
  rw [pay4_eq, pay5_eq]
  exact keys_apply x g w k r l

/-- The second result's block holds the same. -/
theorem out5_apply (x : Vec Ideal S512x1024 .f32) (g : Vec Ideal S1x1024 .f32) (w : Vec Ideal S1024x1024 .bf16) (k : Vec Ideal S1x256 .f32) (r : Fin 512) (l : Fin 1024) :
    out0_5 x g w k (ix2 r l) = key (fun j => x (ix2 r j)) (fun j => g (ix2 0 j)) w (fun e => k (ix2 0 e)) ⟨l.val / 256, by omega⟩ ⟨l.val % 256, by omega⟩ := by
  unfold_out out0_5
  rw [View.canon_unit_zero hz, View.ld_unit_zero hz, View.ld_unit_zero hz, View.ld_unit_zero hz, View.ld_unit_zero hz]
  rw [pay4_eq, pay5_eq]
  exact keys_apply x g w k r l

/-! ## From the blocks to the result arrays -/

variable (m : (ℓ : Loc nD τ sig) → Buf (Elt Ideal) ℓ) (ρ : Dev nD → PrngReg)

/-- The flattened memory handed to the call. -/
theorem V_x (c : Dev nD) : V m c main_v0 = shapeCast S1024x1024 (m ((c : Thread nD τ).loc main_arg0)) shapeCasts_S4x256x1024_S1024x1024 := by
  show StableHlo.after hostOps0 _ _ = _
  simp only [hostOps0]
  after_results_simp
  rfl
/-- The gain handed to the call. -/
theorem V_g (c : Dev nD) : V m c main_v1 = shapeCast S1x1024 (m ((c : Thread nD τ).loc main_arg1)) shapeCasts_S1024_S1x1024 := by
  show StableHlo.after hostOps0 _ _ = _
  simp only [hostOps0]
  after_results_simp
  rfl
/-- The weights handed to the call. -/
theorem V_w (c : Dev nD) : V m c main_v2 = m ((c : Thread nD τ).loc main_arg2) := by
  show StableHlo.after hostOps0 _ _ = _
  simp only [hostOps0]
  after_results_simp
  rfl

/-- Which block each window has at each grid point. -/
theorem index_eq : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- Row `r` of block `t`. -/
abbrev rowOf (t : Fin cfg0.N) (r : Fin 512) : Fin 1024 :=
  ⟨t.val * 512 + r.val, by have h := t.isLt; have : cfg0.N = 2 := N_0; omega⟩

/-- An entry of the flattened memory. -/
theorem flat_apply (x : FVec Ideal S4x256x1024 .f32) (R j : Fin 1024) :
    shapeCast S1024x1024 x shapeCasts_S4x256x1024_S1024x1024 (ix2 R j) = xrow x R j := by
  pointwise

/-- The memory's block at an index. -/
theorem blk_x (c : Dev nD) (t : Fin cfg0.N) (r : Fin 512) (j : Fin 1024) :
    (iblk m c 0 t : Vec Ideal S512x1024 .f32) (ix2 r j) = xrow (m ((c : Thread nD τ).loc main_arg0)) (rowOf t r) j := by
  have e : (iblk m c 0 t : Vec Ideal S512x1024 .f32) (ix2 r j) = V m c main_v0 (ix2 (rowOf t r) j) := by
    unfold iblk
    rw [View.read_apply]
    show V m c main_v0 _ = _
    refine congrArg _ (funext fun a => Fin.ext ?_)
    match a with
    | ⟨0, _⟩ => show win0_0.index t 0 * 512 + 1 * r.val = t.val * 512 + r.val; rw [(index_eq t).1]; simp
    | ⟨1, _⟩ => show win0_0.index t 1 * 1024 + 1 * j.val = j.val; rw [(index_eq t).1]; simp
  rw [e, V_x]
  exact flat_apply _ _ _

/-- The gain's block at an index. -/
theorem blk_g (c : Dev nD) (t : Fin cfg0.N) (j : Fin 1024) :
    (iblk m c 1 t : Vec Ideal S1x1024 .f32) (ix2 0 j) = m ((c : Thread nD τ).loc main_arg1) (ix1 j) := by
  have e : (iblk m c 1 t : Vec Ideal S1x1024 .f32) (ix2 0 j) = V m c main_v1 (ix2 0 j) := by
    unfold iblk
    rw [View.read_apply]
    show V m c main_v1 _ = _
    refine congrArg _ (funext fun a => Fin.ext ?_)
    match a with
    | ⟨0, _⟩ => show win0_1.index t 0 * 1 + 1 * 0 = 0; rw [(index_eq t).2.1]; simp
    | ⟨1, _⟩ => show win0_1.index t 1 * 1024 + 1 * j.val = j.val; rw [(index_eq t).2.1]; simp
  rw [e, V_g]
  pointwise

/-- The weights' block is the weights. -/
theorem blk_w (c : Dev nD) (t : Fin cfg0.N) : (iblk m c 2 t : Vec Ideal S1024x1024 .bf16) = m ((c : Thread nD τ).loc main_arg2) := by
  rw [← V_w m c]
  funext y
  unfold iblk
  rw [View.read_apply]
  show V m c main_v2 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 1024 + 1 * (y 1).val = (y 1).val; rw [(index_eq t).2.2.1]; simp

/-- A block's index as a row and a column. -/
theorem idx_split (y : S512x1024.Idx) : ∃ (r : Fin 512) (l : Fin 1024), y = ix2 r l :=
  ⟨⟨(y 0).val, (y 0).isLt⟩, ⟨(y 1).val, (y 1).isLt⟩, funext fun a => by
    match a with
    | ⟨0, _⟩ => rfl
    | ⟨1, _⟩ => rfl⟩

/-- The heads' gain handed to the call. -/
theorem V_k (c : Dev nD) : V m c main_v3 = shapeCast S1x256 (m ((c : Thread nD τ).loc main_arg3)) shapeCasts_S256_S1x256 := by
  show StableHlo.after hostOps0 _ _ = _
  simp only [hostOps0]
  after_results_simp
  rfl

/-- The heads' gain's block at an index. -/
theorem blk_k (c : Dev nD) (t : Fin cfg0.N) (e : Fin 256) :
    (iblk m c 3 t : Vec Ideal S1x256 .f32) (ix2 0 e) = m ((c : Thread nD τ).loc main_arg3) (ix1 e) := by
  have he : (iblk m c 3 t : Vec Ideal S1x256 .f32) (ix2 0 e) = V m c main_v3 (ix2 0 e) := by
    unfold iblk
    rw [View.read_apply]
    show V m c main_v3 _ = _
    refine congrArg _ (funext fun a => Fin.ext ?_)
    match a with
    | ⟨0, _⟩ => show win0_3.index t 0 * 1 + 1 * 0 = 0; rw [(index_eq t).2.2.2.1]; simp
    | ⟨1, _⟩ => show win0_3.index t 1 * 256 + 1 * e.val = e.val; rw [(index_eq t).2.2.2.1]; simp
  rw [he, V_k]
  pointwise

/-- The keys of the whole memory. -/
def layer (x : S4x256x1024.Idx → EReal) (g : S1024.Idx → EReal) (w : S1024x1024.Idx → EReal) (k : S256.Idx → EReal) : S1024x1024.Idx → EReal := fun i =>
  key (xrow x ⟨(i 0).val, (i 0).isLt⟩) (fun j => g (ix1 j)) w (fun e => k (ix1 e))
    ⟨(i 1).val / 256, by have h : (i 1).val < 1024 := (i 1).isLt; omega⟩ ⟨(i 1).val % 256, Nat.mod_lt _ (by norm_num)⟩

/-- The result the run is shown to leave, in both arrays. -/
abbrev result (c : Dev nD) : S1024x1024.Idx → EReal :=
  layer (m ((c : Thread nD τ).loc main_arg0)) (m ((c : Thread nD τ).loc main_arg1)) (m ((c : Thread nD τ).loc main_arg2)) (m ((c : Thread nD τ).loc main_arg3))

/-- What point `t` computes at row `r` and column `l`. -/
theorem point_eq (c : Dev nD) (t : Fin cfg0.N) (r : Fin 512) (l : Fin 1024) :
    key (fun j => (iblk m c 0 t : Vec Ideal S512x1024 .f32) (ix2 r j)) (fun j => (iblk m c 1 t : Vec Ideal S1x1024 .f32) (ix2 0 j)) (iblk m c 2 t : Vec Ideal S1024x1024 .bf16)
        (fun e => (iblk m c 3 t : Vec Ideal S1x256 .f32) (ix2 0 e)) ⟨l.val / 256, by omega⟩ ⟨l.val % 256, by omega⟩
      = result m c (ix2 (rowOf t r) l) := by
  simp only [blk_x, blk_g, blk_k]
  rw [blk_w]
  rfl

/-- A block of the first result, from what it holds at each row and column. -/
theorem out_block4 (c : Dev nD) (t : Fin cfg0.N) (G : Buf (Elt Ideal) ((c : Thread nD τ).loc main_v4_0)) (o : Vec Ideal S512x1024 .f32)
    (ho : ∀ (r : Fin 512) (l : Fin 1024), o (ix2 r l) = G (ix2 (rowOf t r) l)) :
    (cfg0.win 4).cut (grid0.coords t) o = ((cfg0.win 4).blk t).view.read (Elt Ideal) G := by
  funext y
  obtain ⟨r, l, rfl⟩ := idx_split y
  rw [View.read_apply]
  refine (ho r l).trans (congrArg G (funext fun a => Fin.ext ?_))
  match a with
  | ⟨0, _⟩ => show t.val * 512 + r.val = win0_4.index t 0 * 512 + 1 * r.val; rw [(index_eq t).2.2.2.2.1]; simp
  | ⟨1, _⟩ => show l.val = win0_4.index t 1 * 1024 + 1 * l.val; rw [(index_eq t).2.2.2.2.1]; simp

/-- What point `t` writes back of the first result. -/
theorem flushed_eq4 (c : Dev nD) (t : Fin cfg0.N) :
    (dats m 0 c).flushed 4 t = ((cfg0.win 4).blk t).view.read (Elt Ideal) (result m c) := by
  rw [Value.flushed4]
  refine out_block4 c t _ _ fun r l => ?_
  rw [out4_apply]
  exact point_eq m c t r l

/-- Every index of the first result is in some point's block. -/
theorem cover4 (i : S1024x1024.Idx) :
    ∃ t : Fin cfg0.N, (cfg0.win 4).flush t = true ∧ i ∈ ((cfg0.win 4).blk t).view.set := by
  have h0 : (i 0 : Nat) < 1024 := (i 0).isLt
  have h1 : (i 1 : Nat) < 1024 := (i 1).isLt
  have hN : cfg0.N = 2 := N_0
  have ht : (i 0 : Nat) / 512 < cfg0.N := by omega
  refine ⟨⟨(i 0 : Nat) / 512, ht⟩, flush0_4 _, ?_⟩
  show i ∈ ((View.whole main_v4_0).slice (win0_4.rect ⟨(i 0 : Nat) / 512, ht⟩)).set
  rw [View.set_slice_whole, Rect.mem_set_unit]
  have e := (index_eq ⟨(i 0 : Nat) / 512, ht⟩).2.2.2.2.1
  intro a
  match a with
  | ⟨0, _⟩ =>
    show win0_4.index ⟨(i 0 : Nat) / 512, ht⟩ 0 * 512 ≤ (i 0 : Nat) ∧ (i 0 : Nat) < win0_4.index ⟨(i 0 : Nat) / 512, ht⟩ 0 * 512 + 512
    rw [e]; dsimp; omega
  | ⟨1, _⟩ =>
    show win0_4.index ⟨(i 0 : Nat) / 512, ht⟩ 1 * 1024 ≤ (i 1 : Nat) ∧ (i 1 : Nat) < win0_4.index ⟨(i 0 : Nat) / 512, ht⟩ 1 * 1024 + 1024
    rw [e]; dsimp; omega

/-- A block of the second result, from what it holds at each row and column. -/
theorem out_block5 (c : Dev nD) (t : Fin cfg0.N) (G : Buf (Elt Ideal) ((c : Thread nD τ).loc main_v4_1)) (o : Vec Ideal S512x1024 .bf16)
    (ho : ∀ (r : Fin 512) (l : Fin 1024), o (ix2 r l) = G (ix2 (rowOf t r) l)) :
    (cfg0.win 5).cut (grid0.coords t) o = ((cfg0.win 5).blk t).view.read (Elt Ideal) G := by
  funext y
  obtain ⟨r, l, rfl⟩ := idx_split y
  rw [View.read_apply]
  refine (ho r l).trans (congrArg G (funext fun a => Fin.ext ?_))
  match a with
  | ⟨0, _⟩ => show t.val * 512 + r.val = win0_5.index t 0 * 512 + 1 * r.val; rw [(index_eq t).2.2.2.2.2]; simp
  | ⟨1, _⟩ => show l.val = win0_5.index t 1 * 1024 + 1 * l.val; rw [(index_eq t).2.2.2.2.2]; simp

/-- What point `t` writes back of the second result. -/
theorem flushed_eq5 (c : Dev nD) (t : Fin cfg0.N) :
    (dats m 0 c).flushed 5 t = ((cfg0.win 5).blk t).view.read (Elt Ideal) (result m c) := by
  rw [Value.flushed5]
  refine out_block5 c t _ _ fun r l => ?_
  rw [out5_apply]
  exact point_eq m c t r l

/-- Every index of the second result is in some point's block. -/
theorem cover5 (i : S1024x1024.Idx) :
    ∃ t : Fin cfg0.N, (cfg0.win 5).flush t = true ∧ i ∈ ((cfg0.win 5).blk t).view.set := by
  have h0 : (i 0 : Nat) < 1024 := (i 0).isLt
  have h1 : (i 1 : Nat) < 1024 := (i 1).isLt
  have hN : cfg0.N = 2 := N_0
  have ht : (i 0 : Nat) / 512 < cfg0.N := by omega
  refine ⟨⟨(i 0 : Nat) / 512, ht⟩, flush0_5 _, ?_⟩
  show i ∈ ((View.whole main_v4_1).slice (win0_5.rect ⟨(i 0 : Nat) / 512, ht⟩)).set
  rw [View.set_slice_whole, Rect.mem_set_unit]
  have e := (index_eq ⟨(i 0 : Nat) / 512, ht⟩).2.2.2.2.2
  intro a
  match a with
  | ⟨0, _⟩ =>
    show win0_5.index ⟨(i 0 : Nat) / 512, ht⟩ 0 * 512 ≤ (i 0 : Nat) ∧ (i 0 : Nat) < win0_5.index ⟨(i 0 : Nat) / 512, ht⟩ 0 * 512 + 512
    rw [e]; dsimp; omega
  | ⟨1, _⟩ =>
    show win0_5.index ⟨(i 0 : Nat) / 512, ht⟩ 1 * 1024 ≤ (i 1 : Nat) ∧ (i 1 : Nat) < win0_5.index ⟨(i 0 : Nat) / 512, ht⟩ 1 * 1024 + 1024
    rw [e]; dsimp; omega

/-- The kernel's run: both result arrays end holding the keys, the arguments unchanged. -/
theorem run : θ_run defs (onTc (τ := τ) (main (F := Ideal))) ⟨m, fun _ => 0, ρ⟩ fun r => ∀ c : Dev nD,
      r.2.mem ((c : Thread nD τ).loc main_v4_0) = result m c
      ∧ r.2.mem ((c : Thread nD τ).loc main_v4_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (result m c) (fun t _ => flushed_eq4 m c t) cover4),
      (h c).2.1.trans ((dats m 0 c).arrAt_eq_of_cover 5 (result m c) (fun t _ => flushed_eq5 m c t) cover5), (h c).2.2⟩)
    (Value.run_blocks m ρ)

end Cert.MemkIdeal.Ker

namespace Cert.Proof.Memk

open Cert.MemkIdeal.Ker Cert.MemkRefIdeal Cert.MemkRefIdeal.Gen Idealize.ShloMosaic Idealize.ShloMosaic.TcCoe Idealize.SL.Sem
open Cert.FfnIdeal.Ker (nrm)

/-- The reference's normalised memory. -/
abbrev refNorm (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf
    (broadcastInDim S4x256x1 ![0, 1] bcast_S4x256_S4x256x1_0_1 (Host.reduceAdd (mulf x x) (constant S_ .f32 0x00000000#32) reducesTo_S4x256x1024_S4x256_d2 h_S_))
    (broadcastInDim S4x256x1 ![] bcast_S_S4x256x1 (constant S_ .f32 0x44800000#32))) (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- The reference's projection, by heads. -/
abbrev refProj (x : FVec Ideal S4x256x1024 .f32) (g : FVec Ideal S1024 .f32) (w : FVec Ideal S1024x1024 .f32) : FVec Ideal S4x256x4x256 .f32 :=
  shapeCast S4x256x4x256 (Host.dotGeneral dot_S4x256x1024_S1024x1024_S4x256x1024_2_0_01_1_n_n none (refNorm x g) w) shapeCasts_S4x256x1024_S4x256x4x256

/-- The reference's normalisation of each head. -/
abbrev refHead (p : FVec Ideal S4x256x4x256 .f32) (k : FVec Ideal S256 .f32) : FVec Ideal S4x256x4x256 .f32 :=
  mulf (mulf p (broadcastInDim S4x256x4x256 ![0, 1, 2, 3] bcast_S4x256x4x1_S4x256x4x256_0_1_2_3 (Host.rsqrt (addf (Host.divf
    (broadcastInDim S4x256x4x1 ![0, 1, 2] bcast_S4x256x4_S4x256x4x1_0_1_2 (Host.reduceAdd (mulf p p) (constant S_ .f32 0x00000000#32) reducesTo_S4x256x4x256_S4x256x4_d3 h_S_))
    (broadcastInDim S4x256x4x1 ![] bcast_S_S4x256x4x1 (constant S_ .f32 0x43800000#32))) (broadcastInDim S4x256x4x1 ![] bcast_S_S4x256x4x1 (constant S_ .f32 0x358637BD#32))))))
    (broadcastInDim S4x256x4x256 ![0, 1, 2, 3] bcast_S1x1x1x256_S4x256x4x256_0_1_2_3 (broadcastInDim S1x1x1x256 ![3] bcast_S256_S1x1x1x256_3 k))

/-- The reference's composed term. -/
abbrev refOut (x : FVec Ideal S4x256x1024 .f32) (g : FVec Ideal S1024 .f32) (w : FVec Ideal S1024x1024 .f32) (k : FVec Ideal S256 .f32) : FVec Ideal S1024x1024 .f32 :=
  shapeCast S1024x1024 (refHead (refProj x g w) k) shapeCasts_S4x256x4x256_S1024x1024

/-- The reference's projection at an index. -/
theorem refProj_apply (x : FVec Ideal S4x256x1024 .f32) (g : FVec Ideal S1024 .f32) (w : FVec Ideal S1024x1024 .f32) (b : Fin 4) (a : Fin 256) (h : Fin 4) (d : Fin 256) :
    refProj x g w (ix4 b a h d) = lin (fun j => x (ix3 b a j)) (fun j => g (ix1 j)) w (colOf h d) := by
  have hc : (⟨h.val * 256 + d.val, by omega⟩ : Fin 1024) = colOf h d := Fin.ext (by show h.val * 256 + d.val = 256 * h.val + d.val; omega)
  rw [← hc]
  pointwise [refProj, refNorm, lin, nrm]

/-- The reference's normalised head at an index. -/
theorem refHead_apply (p : FVec Ideal S4x256x4x256 .f32) (k : FVec Ideal S256 .f32) (b : Fin 4) (a : Fin 256) (h : Fin 4) (d : Fin 256) :
    refHead p k (ix4 b a h d) = hnorm (fun e => p (ix4 b a h e)) (fun e => k (ix1 e)) d := by
  pointwise [refHead, hnorm]

/-- The last reshape at an index. -/
theorem flat4_apply (p : FVec Ideal S4x256x4x256 .f32) (R l : Fin 1024) :
    shapeCast S1024x1024 p shapeCasts_S4x256x4x256_S1024x1024 (ix2 R l)
      = p (ix4 ⟨R.val / 256, by omega⟩ ⟨R.val % 256, by omega⟩ ⟨l.val / 256, by omega⟩ ⟨l.val % 256, by omega⟩) := by
  pointwise

/-- The reference's composed term, read at an index, is the layer. -/
theorem ref_eq (x : FVec Ideal S4x256x1024 .f32) (g : FVec Ideal S1024 .f32) (w : FVec Ideal S1024x1024 .f32) (k : FVec Ideal S256 .f32) :
    refOut x g w k = layer x g w k := by
  funext i
  obtain ⟨R, l, rfl⟩ : ∃ (R l : Fin 1024), i = ix2 R l := ⟨⟨(i 0).val, (i 0).isLt⟩, ⟨(i 1).val, (i 1).isLt⟩, funext fun a => by
    match a with
    | ⟨0, _⟩ => rfl
    | ⟨1, _⟩ => rfl⟩
  refine (flat4_apply _ R l).trans ((refHead_apply _ k _ _ _ _).trans ?_)
  simp only [refProj_apply]
  rfl

/-- The reference's run leaves its argument arrays as they were and its counters at zero. -/
theorem frame_ref : Cert.quiescent_MemkRefIdeal := fun m ρ _ =>
  (θ_run Cert.MemkRefIdeal.defs _ _).mono (fun r h => ⟨fun c => (h c).2.2, Idealize.ShloMosaic.sem_eq_zero_of_no_sems (by decide) r.2⟩)
    (Cert.MemkRefIdeal.Value.run (F := Ideal) m ρ)

/-- Both of the kernel's results are the reference's, at every extended-real input. -/
theorem algebraic : Cert.algebraic_MemkIdeal_MemkRefIdeal := fun m ρ m' ρ' _ hag =>
  ⟨fun c => result m c, fun c => result m c, Cert.MemkIdeal.Ker.run m ρ,
    (θ_run _ _ _).mono (fun _ h c => ⟨(h c).1.trans (by
      rw [(hag c).1, (hag c).2.1, (hag c).2.2.1, (hag c).2.2.2]
      exact ref_eq _ _ _ _), (h c).2.1.trans (by
      rw [(hag c).1, (hag c).2.1, (hag c).2.2.1, (hag c).2.2.2]
      exact ref_eq _ _ _ _), (h c).2.2⟩)
    (Cert.MemkRefIdeal.Value.run (F := Ideal) m' ρ')⟩

end Cert.Proof.Memk
end
-- ==== Proof.MemvValue.lean ====
module

public import proofs.«01_k».proof.Defs
public import proofs.«01_k».proof.Proof.FfnValue
public import proofs.«01_k».proof.Proof.Gen.MemvIdeal.Value
public import proofs.«01_k».proof.Proof.Gen.MemvRefIdeal.Run
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The projection call computes the memory values, over the extended reals -/

namespace Cert.MemvIdeal.Ker

open Cert.MemvIdeal Cert.MemvIdeal.Gen Idealize.ShloMosaic Idealize.ShloMosaic.TcCoe Idealize.SL.Sem
open Idealize.ShloMosaic.Pipeline (Dat)
open Cert.FfnIdeal.Ker (nrm hz)

/-! ## One entry of the projection, in scalars -/

/-- One entry of the normalised row times the weights. -/
def lin (x g : Fin 1024 → EReal) (w : S1024x1024.Idx → EReal) (l : Fin 1024) : EReal := ∑ q, nrm x g q * w (ix2 q l)

/-- The rows of the flattened memory. -/
abbrev xrow (x : S4x256x1024.Idx → EReal) (R j : Fin 1024) : EReal :=
  x (ix3 ⟨R.val / 256, by omega⟩ ⟨R.val % 256, by omega⟩ j)

/-! ## The body's blocks at an index -/

/-- The projected block at an index: a normalised row times the weights. -/
theorem pay1_apply (x : Vec Ideal S512x1024 .f32) (g : Vec Ideal S1x1024 .f32) (w : Vec Ideal S1024x1024 .bf16) (r : Fin 512) (l : Fin 1024) :
    k0_pay1 x g w (ix2 r l) = lin (fun j => x (ix2 r j)) (fun j => g (ix2 0 j)) w l := by
  unfold lin nrm
  pointwise [k0_pay1]

/-- The first result's block at an index. -/
theorem out4_apply (x : Vec Ideal S512x1024 .f32) (g : Vec Ideal S1x1024 .f32) (w : Vec Ideal S1024x1024 .bf16) (o : Vec Ideal S1x256 .f32) (r : Fin 512) (l : Fin 1024) :
    out0_4 x g w o (ix2 r l) = lin (fun j => x (ix2 r j)) (fun j => g (ix2 0 j)) w l := by
  unfold out0_4
  rw [View.canon_unit_zero hz, View.ld_unit_zero hz, View.ld_unit_zero hz, View.ld_unit_zero hz]
  exact pay1_apply x g w r l

/-- The second result's block holds the same. -/
theorem out5_apply (x : Vec Ideal S512x1024 .f32) (g : Vec Ideal S1x1024 .f32) (w : Vec Ideal S1024x1024 .bf16) (o : Vec Ideal S1x256 .f32) (r : Fin 512) (l : Fin 1024) :
    out0_5 x g w o (ix2 r l) = lin (fun j => x (ix2 r j)) (fun j => g (ix2 0 j)) w l := by
  unfold out0_5
  rw [View.canon_unit_zero hz, View.ld_unit_zero hz, View.ld_unit_zero hz, View.ld_unit_zero hz]
  exact pay1_apply x g w r l

/-! ## From the blocks to the result arrays -/

variable (m : (ℓ : Loc nD τ sig) → Buf (Elt Ideal) ℓ) (ρ : Dev nD → PrngReg)

/-- The flattened memory handed to the call. -/
theorem V_x (c : Dev nD) : V m c main_v0 = shapeCast S1024x1024 (m ((c : Thread nD τ).loc main_arg0)) shapeCasts_S4x256x1024_S1024x1024 := by
  show StableHlo.after hostOps0 _ _ = _
  simp only [hostOps0]
  after_results_simp
  rfl
/-- The gain handed to the call. -/
theorem V_g (c : Dev nD) : V m c main_v1 = shapeCast S1x1024 (m ((c : Thread nD τ).loc main_arg1)) shapeCasts_S1024_S1x1024 := by
  show StableHlo.after hostOps0 _ _ = _
  simp only [hostOps0]
  after_results_simp
  rfl
/-- The weights handed to the call. -/
theorem V_w (c : Dev nD) : V m c main_v2 = m ((c : Thread nD τ).loc main_arg2) := by
  show StableHlo.after hostOps0 _ _ = _
  simp only [hostOps0]
  after_results_simp
  rfl

/-- Which block each window has at each grid point. -/
theorem index_eq : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- Row `r` of block `t`. -/
abbrev rowOf (t : Fin cfg0.N) (r : Fin 512) : Fin 1024 :=
  ⟨t.val * 512 + r.val, by have h := t.isLt; have : cfg0.N = 2 := N_0; omega⟩

/-- An entry of the flattened memory. -/
theorem flat_apply (x : FVec Ideal S4x256x1024 .f32) (R j : Fin 1024) :
    shapeCast S1024x1024 x shapeCasts_S4x256x1024_S1024x1024 (ix2 R j) = xrow x R j := by
  pointwise

/-- The memory's block at an index. -/
theorem blk_x (c : Dev nD) (t : Fin cfg0.N) (r : Fin 512) (j : Fin 1024) :
    (iblk m c 0 t : Vec Ideal S512x1024 .f32) (ix2 r j) = xrow (m ((c : Thread nD τ).loc main_arg0)) (rowOf t r) j := by
  have e : (iblk m c 0 t : Vec Ideal S512x1024 .f32) (ix2 r j) = V m c main_v0 (ix2 (rowOf t r) j) := by
    unfold iblk
    rw [View.read_apply]
    show V m c main_v0 _ = _
    refine congrArg _ (funext fun a => Fin.ext ?_)
    match a with
    | ⟨0, _⟩ => show win0_0.index t 0 * 512 + 1 * r.val = t.val * 512 + r.val; rw [(index_eq t).1]; simp
    | ⟨1, _⟩ => show win0_0.index t 1 * 1024 + 1 * j.val = j.val; rw [(index_eq t).1]; simp
  rw [e, V_x]
  exact flat_apply _ _ _

/-- The gain's block at an index. -/
theorem blk_g (c : Dev nD) (t : Fin cfg0.N) (j : Fin 1024) :
    (iblk m c 1 t : Vec Ideal S1x1024 .f32) (ix2 0 j) = m ((c : Thread nD τ).loc main_arg1) (ix1 j) := by
  have e : (iblk m c 1 t : Vec Ideal S1x1024 .f32) (ix2 0 j) = V m c main_v1 (ix2 0 j) := by
    unfold iblk
    rw [View.read_apply]
    show V m c main_v1 _ = _
    refine congrArg _ (funext fun a => Fin.ext ?_)
    match a with
    | ⟨0, _⟩ => show win0_1.index t 0 * 1 + 1 * 0 = 0; rw [(index_eq t).2.1]; simp
    | ⟨1, _⟩ => show win0_1.index t 1 * 1024 + 1 * j.val = j.val; rw [(index_eq t).2.1]; simp
  rw [e, V_g]
  pointwise

/-- The weights' block is the weights. -/
theorem blk_w (c : Dev nD) (t : Fin cfg0.N) : (iblk m c 2 t : Vec Ideal S1024x1024 .bf16) = m ((c : Thread nD τ).loc main_arg2) := by
  rw [← V_w m c]
  funext y
  unfold iblk
  rw [View.read_apply]
  show V m c main_v2 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 1024 + 1 * (y 1).val = (y 1).val; rw [(index_eq t).2.2.1]; simp

/-- A block's index as a row and a column. -/
theorem idx_split (y : S512x1024.Idx) : ∃ (r : Fin 512) (l : Fin 1024), y = ix2 r l :=
  ⟨⟨(y 0).val, (y 0).isLt⟩, ⟨(y 1).val, (y 1).isLt⟩, funext fun a => by
    match a with
    | ⟨0, _⟩ => rfl
    | ⟨1, _⟩ => rfl⟩

/-- The values of the whole memory. -/
def layer (x : S4x256x1024.Idx → EReal) (g : S1024.Idx → EReal) (w : S1024x1024.Idx → EReal) : S1024x1024.Idx → EReal := fun i =>
  lin (xrow x ⟨(i 0).val, (i 0).isLt⟩) (fun j => g (ix1 j)) w ⟨(i 1).val, (i 1).isLt⟩

/-- The result the run is shown to leave, in both arrays. -/
abbrev result (c : Dev nD) : S1024x1024.Idx → EReal :=
  layer (m ((c : Thread nD τ).loc main_arg0)) (m ((c : Thread nD τ).loc main_arg1)) (m ((c : Thread nD τ).loc main_arg2))

/-- What point `t` computes at row `r` and column `l`. -/
theorem point_eq (c : Dev nD) (t : Fin cfg0.N) (r : Fin 512) (l : Fin 1024) :
    lin (fun j => (iblk m c 0 t : Vec Ideal S512x1024 .f32) (ix2 r j)) (fun j => (iblk m c 1 t : Vec Ideal S1x1024 .f32) (ix2 0 j)) (iblk m c 2 t : Vec Ideal S1024x1024 .bf16) l
      = result m c (ix2 (rowOf t r) l) := by
  simp only [blk_x, blk_g]
  rw [blk_w]
  rfl

/-- A block of the first result, from what it holds at each row and column. -/
theorem out_block4 (c : Dev nD) (t : Fin cfg0.N) (G : Buf (Elt Ideal) ((c : Thread nD τ).loc main_v4_0)) (o : Vec Ideal S512x1024 .f32)
    (ho : ∀ (r : Fin 512) (l : Fin 1024), o (ix2 r l) = G (ix2 (rowOf t r) l)) :
    (cfg0.win 4).cut (grid0.coords t) o = ((cfg0.win 4).blk t).view.read (Elt Ideal) G := by
  funext y
  obtain ⟨r, l, rfl⟩ := idx_split y
  rw [View.read_apply]
  refine (ho r l).trans (congrArg G (funext fun a => Fin.ext ?_))
  match a with
  | ⟨0, _⟩ => show t.val * 512 + r.val = win0_4.index t 0 * 512 + 1 * r.val; rw [(index_eq t).2.2.2.2.1]; simp
  | ⟨1, _⟩ => show l.val = win0_4.index t 1 * 1024 + 1 * l.val; rw [(index_eq t).2.2.2.2.1]; simp

/-- What point `t` writes back of the first result. -/
theorem flushed_eq4 (c : Dev nD) (t : Fin cfg0.N) :
    (dats m 0 c).flushed 4 t = ((cfg0.win 4).blk t).view.read (Elt Ideal) (result m c) := by
  rw [Value.flushed4]
  refine out_block4 c t _ _ fun r l => ?_
  rw [out4_apply]
  exact point_eq m c t r l

/-- Every index of the first result is in some point's block. -/
theorem cover4 (i : S1024x1024.Idx) :
    ∃ t : Fin cfg0.N, (cfg0.win 4).flush t = true ∧ i ∈ ((cfg0.win 4).blk t).view.set := by
  have h0 : (i 0 : Nat) < 1024 := (i 0).isLt
  have h1 : (i 1 : Nat) < 1024 := (i 1).isLt
  have hN : cfg0.N = 2 := N_0
  have ht : (i 0 : Nat) / 512 < cfg0.N := by omega
  refine ⟨⟨(i 0 : Nat) / 512, ht⟩, flush0_4 _, ?_⟩
  show i ∈ ((View.whole main_v4_0).slice (win0_4.rect ⟨(i 0 : Nat) / 512, ht⟩)).set
  rw [View.set_slice_whole, Rect.mem_set_unit]
  have e := (index_eq ⟨(i 0 : Nat) / 512, ht⟩).2.2.2.2.1
  intro a
  match a with
  | ⟨0, _⟩ =>
    show win0_4.index ⟨(i 0 : Nat) / 512, ht⟩ 0 * 512 ≤ (i 0 : Nat) ∧ (i 0 : Nat) < win0_4.index ⟨(i 0 : Nat) / 512, ht⟩ 0 * 512 + 512
    rw [e]; dsimp; omega
  | ⟨1, _⟩ =>
    show win0_4.index ⟨(i 0 : Nat) / 512, ht⟩ 1 * 1024 ≤ (i 1 : Nat) ∧ (i 1 : Nat) < win0_4.index ⟨(i 0 : Nat) / 512, ht⟩ 1 * 1024 + 1024
    rw [e]; dsimp; omega

/-- A block of the second result, from what it holds at each row and column. -/
theorem out_block5 (c : Dev nD) (t : Fin cfg0.N) (G : Buf (Elt Ideal) ((c : Thread nD τ).loc main_v4_1)) (o : Vec Ideal S512x1024 .bf16)
    (ho : ∀ (r : Fin 512) (l : Fin 1024), o (ix2 r l) = G (ix2 (rowOf t r) l)) :
    (cfg0.win 5).cut (grid0.coords t) o = ((cfg0.win 5).blk t).view.read (Elt Ideal) G := by
  funext y
  obtain ⟨r, l, rfl⟩ := idx_split y
  rw [View.read_apply]
  refine (ho r l).trans (congrArg G (funext fun a => Fin.ext ?_))
  match a with
  | ⟨0, _⟩ => show t.val * 512 + r.val = win0_5.index t 0 * 512 + 1 * r.val; rw [(index_eq t).2.2.2.2.2]; simp
  | ⟨1, _⟩ => show l.val = win0_5.index t 1 * 1024 + 1 * l.val; rw [(index_eq t).2.2.2.2.2]; simp

/-- What point `t` writes back of the second result. -/
theorem flushed_eq5 (c : Dev nD) (t : Fin cfg0.N) :
    (dats m 0 c).flushed 5 t = ((cfg0.win 5).blk t).view.read (Elt Ideal) (result m c) := by
  rw [Value.flushed5]
  refine out_block5 c t _ _ fun r l => ?_
  rw [out5_apply]
  exact point_eq m c t r l

/-- Every index of the second result is in some point's block. -/
theorem cover5 (i : S1024x1024.Idx) :
    ∃ t : Fin cfg0.N, (cfg0.win 5).flush t = true ∧ i ∈ ((cfg0.win 5).blk t).view.set := by
  have h0 : (i 0 : Nat) < 1024 := (i 0).isLt
  have h1 : (i 1 : Nat) < 1024 := (i 1).isLt
  have hN : cfg0.N = 2 := N_0
  have ht : (i 0 : Nat) / 512 < cfg0.N := by omega
  refine ⟨⟨(i 0 : Nat) / 512, ht⟩, flush0_5 _, ?_⟩
  show i ∈ ((View.whole main_v4_1).slice (win0_5.rect ⟨(i 0 : Nat) / 512, ht⟩)).set
  rw [View.set_slice_whole, Rect.mem_set_unit]
  have e := (index_eq ⟨(i 0 : Nat) / 512, ht⟩).2.2.2.2.2
  intro a
  match a with
  | ⟨0, _⟩ =>
    show win0_5.index ⟨(i 0 : Nat) / 512, ht⟩ 0 * 512 ≤ (i 0 : Nat) ∧ (i 0 : Nat) < win0_5.index ⟨(i 0 : Nat) / 512, ht⟩ 0 * 512 + 512
    rw [e]; dsimp; omega
  | ⟨1, _⟩ =>
    show win0_5.index ⟨(i 0 : Nat) / 512, ht⟩ 1 * 1024 ≤ (i 1 : Nat) ∧ (i 1 : Nat) < win0_5.index ⟨(i 0 : Nat) / 512, ht⟩ 1 * 1024 + 1024
    rw [e]; dsimp; omega

/-- The kernel's run: both result arrays end holding the values, the arguments unchanged. -/
theorem run : θ_run defs (onTc (τ := τ) (main (F := Ideal))) ⟨m, fun _ => 0, ρ⟩ fun r => ∀ c : Dev nD,
      r.2.mem ((c : Thread nD τ).loc main_v4_0) = result m c
      ∧ r.2.mem ((c : Thread nD τ).loc main_v4_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 4 (result m c) (fun t _ => flushed_eq4 m c t) cover4),
      (h c).2.1.trans ((dats m 0 c).arrAt_eq_of_cover 5 (result m c) (fun t _ => flushed_eq5 m c t) cover5), (h c).2.2⟩)
    (Value.run_blocks m ρ)

end Cert.MemvIdeal.Ker

namespace Cert.Proof.Memv

open Cert.MemvIdeal.Ker Cert.MemvRefIdeal Cert.MemvRefIdeal.Gen Idealize.ShloMosaic Idealize.ShloMosaic.TcCoe Idealize.SL.Sem
open Cert.FfnIdeal.Ker (nrm)

/-- The reference's normalised memory. -/
abbrev refNorm (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf
    (broadcastInDim S4x256x1 ![0, 1] bcast_S4x256_S4x256x1_0_1 (Host.reduceAdd (mulf x x) (constant S_ .f32 0x00000000#32) reducesTo_S4x256x1024_S4x256_d2 h_S_))
    (broadcastInDim S4x256x1 ![] bcast_S_S4x256x1 (constant S_ .f32 0x44800000#32))) (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- The reference's composed term. -/
abbrev refOut (x : FVec Ideal S4x256x1024 .f32) (g : FVec Ideal S1024 .f32) (w : FVec Ideal S1024x1024 .f32) : FVec Ideal S1024x1024 .f32 :=
  shapeCast S1024x1024 (Host.dotGeneral dot_S4x256x1024_S1024x1024_S4x256x1024_2_0_01_1_n_n none (refNorm x g) w) shapeCasts_S4x256x1024_S1024x1024

/-- The reference's composed term, read at an index, is the layer. -/
theorem ref_eq (x : FVec Ideal S4x256x1024 .f32) (g : FVec Ideal S1024 .f32) (w : FVec Ideal S1024x1024 .f32) :
    refOut x g w = layer x g w := by
  funext i
  idx_vars i
  pointwise [refOut, refNorm, layer, lin, nrm]

/-- The reference's run leaves its argument arrays as they were and its counters at zero. -/
theorem frame_ref : Cert.quiescent_MemvRefIdeal := fun m ρ _ =>
  (θ_run Cert.MemvRefIdeal.defs _ _).mono (fun r h => ⟨fun c => (h c).2.2, Idealize.ShloMosaic.sem_eq_zero_of_no_sems (by decide) r.2⟩)
    (Cert.MemvRefIdeal.Value.run (F := Ideal) m ρ)

/-- Both of the kernel's results are the reference's, at every extended-real input. -/
theorem algebraic : Cert.algebraic_MemvIdeal_MemvRefIdeal := fun m ρ m' ρ' _ hag =>
  ⟨fun c => result m c, fun c => result m c, Cert.MemvIdeal.Ker.run m ρ,
    (θ_run _ _ _).mono (fun _ h c => ⟨(h c).1.trans (by
      rw [(hag c).1, (hag c).2.1, (hag c).2.2]
      exact ref_eq _ _ _), (h c).2.1.trans (by
      rw [(hag c).1, (hag c).2.1, (hag c).2.2]
      exact ref_eq _ _ _), (h c).2.2⟩)
    (Cert.MemvRefIdeal.Value.run (F := Ideal) m' ρ')⟩

end Cert.Proof.Memv
end
-- ==== Proof.MixsIdealFrame.lean ====
module

public import proofs.«01_k».proof.Proof.Gen.MixsIdeal.Frame
public import proofs.«01_k».proof.Proof.Gen.MixsIdeal.Skeleton
public import Idealize.ShloMosaic.Lib.Pipeline.ValueKit

@[expose] public section

set_option maxRecDepth 16384

noncomputable section

/-! # The run of the mixers' input call over named constants: its body, point by point, and the frame

The body stores every output once and whole, except the values, which it stores as four planes of every fourth row. -/

namespace Cert.MixsIdeal.Mix

open Cert.MixsIdeal Cert.MixsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## What the body leaves in its output buffers -/

/-- The normalised rows that the body multiplies by the weights. -/
def left_h (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x1024 .bf16 := k0_pay1 (View.ld x0 (Rect.unit (s := S512x1024) ![0, 0] S512x1024.size inb_S512x1024_S512x1024_0_0)) (View.ld x1 (Rect.unit (s := S1x1024) ![0, 0] S1x1024.size inb_S1x1024_S1x1024_0_0))
/-- The columns of the product that become the attention queries. -/
def left_q (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay7 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))
/-- The columns of the product that become the attention keys. -/
def left_k (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay8 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))
/-- The columns of the product that become the attention values. -/
def left_v (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay9 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))

/-- Every fourth row of the values' buffer, from row `h` on. -/
abbrev plane0 : Rect S2048x128 := ⟨(⟨![0, 0], S512x128.size, ![4, 1], inb_S2048x128_S512x128_0_0_s_4_1⟩ : LoadRect S2048x128), spos_4_1⟩
/-- Every fourth row, from the second on. -/
abbrev plane1 : Rect S2048x128 := ⟨(⟨![1, 0], S512x128.size, ![4, 1], inb_S2048x128_S512x128_1_0_s_4_1⟩ : LoadRect S2048x128), spos_4_1⟩
/-- Every fourth row, from the third on. -/
abbrev plane2 : Rect S2048x128 := ⟨(⟨![2, 0], S512x128.size, ![4, 1], inb_S2048x128_S512x128_2_0_s_4_1⟩ : LoadRect S2048x128), spos_4_1⟩
/-- Every fourth row, from the fourth on. -/
abbrev plane3 : Rect S2048x128 := ⟨(⟨![3, 0], S512x128.size, ![4, 1], inb_S2048x128_S512x128_3_0_s_4_1⟩ : LoadRect S2048x128), spos_4_1⟩

/-- What the body leaves of the gated queries, from the input blocks. -/
def left9 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay3 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the gated keys, from the input blocks. -/
def left10 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay4 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the gated values, from the input blocks. -/
def left11 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .f32 :=
  View.canon [⟨(Rect.unit (s := S512x512) ![0, 0] S512x512.size inb_S512x512_S512x512_0_0), k0_pay5 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the output gates, from the input blocks. -/
def left12 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .f32 :=
  View.canon [⟨(Rect.unit (s := S512x512) ![0, 0] S512x512.size inb_S512x512_S512x512_0_0), k0_pay6 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the log decays, from the input blocks. -/
def left13 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay10 (left_h x0 x1 x2 x3 x4 x5 x6 x7 x8) (View.ld x3 (Rect.unit (s := S1024x128) ![0, 0] S1024x128.size inb_S1024x128_S1024x128_0_0)) (View.ld x4 (Rect.unit (s := S128x256) ![0, 0] S128x256.size inb_S128x256_S128x256_0_0)) (View.ld x5 (Rect.unit (s := S1x256) ![0, 0] S1x256.size inb_S1x256_S1x256_0_0))⟩]

/-- What the body leaves of the attention queries, from the input blocks. -/
def left14 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay14 (k0_pay11 (left_q x0 x1 x2 x3 x4 x5 x6 x7 x8) (View.ld x6 (Rect.unit (s := S1x512) ![0, 0] S1x512.size inb_S1x512_S1x512_0_0)) (View.ld x8 (Rect.unit (s := S512x512) ![0, 0] S512x512.size inb_S512x512_S512x512_0_0))) k0_pay12⟩]

/-- What the body leaves of the attention keys, from the input blocks. -/
def left15 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .f32 :=
  View.canon [⟨(Rect.unit (s := S512x512) ![0, 0] S512x512.size inb_S512x512_S512x512_0_0), k0_pay13 (left_k x0 x1 x2 x3 x4 x5 x6 x7 x8) (View.ld x7 (Rect.unit (s := S1x512) ![0, 0] S1x512.size inb_S1x512_S1x512_0_0)) (View.ld x8 (Rect.unit (s := S512x512) ![0, 0] S512x512.size inb_S512x512_S512x512_0_0))⟩]

/-- What the body leaves of the attention keys in bf16, from the input blocks. -/
def left16 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay15 (left_k x0 x1 x2 x3 x4 x5 x6 x7 x8) (View.ld x7 (Rect.unit (s := S1x512) ![0, 0] S1x512.size inb_S1x512_S1x512_0_0)) (View.ld x8 (Rect.unit (s := S512x512) ![0, 0] S512x512.size inb_S512x512_S512x512_0_0))⟩]

/-- What the body leaves of the attention values, from the input blocks. -/
def left17 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S2048x128 .f32 :=
  View.canon [⟨plane3, k0_pay19 (left_v x0 x1 x2 x3 x4 x5 x6 x7 x8)⟩, ⟨plane2, k0_pay18 (left_v x0 x1 x2 x3 x4 x5 x6 x7 x8)⟩, ⟨plane1, k0_pay17 (left_v x0 x1 x2 x3 x4 x5 x6 x7 x8)⟩, ⟨plane0, k0_pay16 (left_v x0 x1 x2 x3 x4 x5 x6 x7 x8)⟩]

/-- What the body leaves of the attention values in bf16, from the input blocks. -/
def left18 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay20 (left_v x0 x1 x2 x3 x4 x5 x6 x7 x8)⟩]

/-- Every index of the values' buffer lies in one of the four planes. -/
theorem planes_cover (p0 p1 p2 p3 : Vec F S512x128 .f32) (y : S2048x128.Idx) :
    ∃ pc ∈ ([⟨plane3, p3⟩, ⟨plane2, p2⟩, ⟨plane1, p1⟩, ⟨plane0, p0⟩] : List (View.Piece (Elt F) S2048x128 .f32)), y ∈ pc.1.set := by
  obtain ⟨r, c, rfl⟩ : ∃ (r : Fin 2048) (c : Fin 128), y = ix2 r c := ⟨y 0, y 1, by funext a; fin_cases a <;> rfl⟩
  have hr : r.val / 4 < 512 := by omega
  have hm : r.val % 4 = 0 ∨ r.val % 4 = 1 ∨ r.val % 4 = 2 ∨ r.val % 4 = 3 := by omega
  rcases hm with h | h | h | h
  · refine ⟨⟨plane0, p0⟩, by simp, ?_⟩
    refine plane0.mem_set.2 fun a => ?_
    fin_cases a
    · exact ⟨r.val / 4, hr, show r.val = 0 + 4 * (r.val / 4) by omega⟩
    · exact ⟨c.val, c.isLt, show c.val = 0 + 1 * c.val by omega⟩
  · refine ⟨⟨plane1, p1⟩, by simp, ?_⟩
    refine plane1.mem_set.2 fun a => ?_
    fin_cases a
    · exact ⟨r.val / 4, hr, show r.val = 1 + 4 * (r.val / 4) by omega⟩
    · exact ⟨c.val, c.isLt, show c.val = 0 + 1 * c.val by omega⟩
  · refine ⟨⟨plane2, p2⟩, by simp, ?_⟩
    refine plane2.mem_set.2 fun a => ?_
    fin_cases a
    · exact ⟨r.val / 4, hr, show r.val = 2 + 4 * (r.val / 4) by omega⟩
    · exact ⟨c.val, c.isLt, show c.val = 0 + 1 * c.val by omega⟩
  · refine ⟨⟨plane3, p3⟩, by simp, ?_⟩
    refine plane3.mem_set.2 fun a => ?_
    fin_cases a
    · exact ⟨r.val / 4, hr, show r.val = 3 + 4 * (r.val / 4) by omega⟩
    · exact ⟨c.val, c.isLt, show c.val = 0 + 1 * c.val by omega⟩

/-- A store of a whole buffer covers it. -/
theorem whole_cover {S : Shape} {e : EltTy} {off : Fin S.rank → Nat} (h : off = fun _ => 0) (inb : ∀ a, off a + S.size a ≤ S.size a)
    (p : S.Idx → Elt F e) (y : S.Idx) : ∃ pc ∈ ([⟨Rect.unit off S.size inb, p⟩] : List (View.Piece (Elt F) S e)), y ∈ pc.1.set :=
  ⟨_, List.mem_singleton_self _, View.mem_set_unit_zero h inb y⟩

/-- The zero offset of a matrix. -/
theorem zero2 : (![0, 0] : Fin 2 → Nat) = fun _ => 0 := by decide

/-! ## The body -/

set_option maxHeartbeats 4000000 in
/-- From input buffers holding `x0` to `x8` and output buffers holding anything, the body runs to its end with the input
    buffers as they were and every output buffer at what the blocks say. -/
theorem body_runs (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S128x256 .bf16) (harg5 : arg5.IsWhole) (arg6 : Memref sig .tc .vmem S1x256 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x256 .f32) (harg14 : arg14.IsWhole) (arg15 : Memref sig .tc .vmem S512x512 .bf16) (harg15 : arg15.IsWhole) (arg16 : Memref sig .tc .vmem S512x512 .f32) (harg16 : arg16.IsWhole) (arg17 : Memref sig .tc .vmem S512x512 .bf16) (harg17 : arg17.IsWhole) (arg18 : Memref sig .tc .vmem S2048x128 .f32) (harg18 : arg18.IsWhole) (arg19 : Memref sig .tc .vmem S512x512 .bf16) (harg19 : arg19.IsWhole)
    (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (left9 x0 x1 x2 x3 x4 x5 x6 x7 x8) ∗ owns (c : Thread nD τ) arg11 fullShare (left10 x0 x1 x2 x3 x4 x5 x6 x7 x8) ∗ owns (c : Thread nD τ) arg12 fullShare (left11 x0 x1 x2 x3 x4 x5 x6 x7 x8) ∗ owns (c : Thread nD τ) arg13 fullShare (left12 x0 x1 x2 x3 x4 x5 x6 x7 x8) ∗ owns (c : Thread nD τ) arg14 fullShare (left13 x0 x1 x2 x3 x4 x5 x6 x7 x8) ∗ owns (c : Thread nD τ) arg15 fullShare (left14 x0 x1 x2 x3 x4 x5 x6 x7 x8) ∗ owns (c : Thread nD τ) arg16 fullShare (left15 x0 x1 x2 x3 x4 x5 x6 x7 x8) ∗ owns (c : Thread nD τ) arg17 fullShare (left16 x0 x1 x2 x3 x4 x5 x6 x7 x8) ∗ owns (c : Thread nD τ) arg18 fullShare (left17 x0 x1 x2 x3 x4 x5 x6 x7 x8) ∗ owns (c : Thread nD τ) arg19 fullShare (left18 x0 x1 x2 x3 x4 x5 x6 x7 x8)) -∗ K ⟨⟩))
      ⊢ wp frame (wpE (defs₀ (F := F)) Variants.none c none) E (cc0_mixer_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_in_eq_skeleton]; unfold cc0_mixer_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (whole_cover zero2 _ _)).trans ?_
    rfl
  isplitl [H10]
  · iexists _; isplitr
    swap; · iexact H10
    ipureintro
    refine (View.read_writes_eq_canon _ _ _ (whole_cover zero2 _ _)).trans ?_
    rfl
  isplitl [H11]
  · iexists _; isplitr
    swap; · iexact H11
    ipureintro
    refine (View.read_writes_eq_canon _ _ _ (whole_cover zero2 _ _)).trans ?_
    rfl
  isplitl [H12]
  · iexists _; isplitr
    swap; · iexact H12
    ipureintro
    refine (View.read_writes_eq_canon _ _ _ (whole_cover zero2 _ _)).trans ?_
    rfl
  isplitl [H13]
  · iexists _; isplitr
    swap; · iexact H13
    ipureintro
    refine (View.read_writes_eq_canon _ _ _ (whole_cover zero2 _ _)).trans ?_
    rfl
  isplitl [H14]
  · iexists _; isplitr
    swap; · iexact H14
    ipureintro
    refine (View.read_writes_eq_canon _ _ _ (whole_cover zero2 _ _)).trans ?_
    rfl
  isplitl [H15]
  · iexists _; isplitr
    swap; · iexact H15
    ipureintro
    refine (View.read_writes_eq_canon _ _ _ (whole_cover zero2 _ _)).trans ?_
    rfl
  isplitl [H16]
  · iexists _; isplitr
    swap; · iexact H16
    ipureintro
    refine (View.read_writes_eq_canon _ _ _ (whole_cover zero2 _ _)).trans ?_
    rfl
  isplitl [H17]
  · iexists _; isplitr
    swap; · iexact H17
    ipureintro
    refine (View.read_writes_eq_canon _ _ _ (planes_cover _ _ _ _)).trans ?_
    rfl
  iexists _; isplitr
  swap; · iexact H18
  ipureintro
  refine (View.read_writes_eq_canon _ _ _ (whole_cover zero2 _ _)).trans ?_
  rfl

variable (m : (ℓ : Loc nD τ sig) → Buf (Elt F) ℓ) (ρ : Dev nD → PrngReg)

/-! ## The pipeline -/

/-- What is known of the pipeline's buffers: the arrays as the region finds them, the input buffers at their blocks and
    the output buffers at what the body leaves, at every point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left9 (iblk m c 0 t) (iblk m c 1 t) (iblk m c 2 t) (iblk m c 3 t) (iblk m c 4 t) (iblk m c 5 t) (iblk m c 6 t) (iblk m c 7 t) (iblk m c 8 t)
    | ⟨10, _⟩ => left10 (iblk m c 0 t) (iblk m c 1 t) (iblk m c 2 t) (iblk m c 3 t) (iblk m c 4 t) (iblk m c 5 t) (iblk m c 6 t) (iblk m c 7 t) (iblk m c 8 t)
    | ⟨11, _⟩ => left11 (iblk m c 0 t) (iblk m c 1 t) (iblk m c 2 t) (iblk m c 3 t) (iblk m c 4 t) (iblk m c 5 t) (iblk m c 6 t) (iblk m c 7 t) (iblk m c 8 t)
    | ⟨12, _⟩ => left12 (iblk m c 0 t) (iblk m c 1 t) (iblk m c 2 t) (iblk m c 3 t) (iblk m c 4 t) (iblk m c 5 t) (iblk m c 6 t) (iblk m c 7 t) (iblk m c 8 t)
    | ⟨13, _⟩ => left13 (iblk m c 0 t) (iblk m c 1 t) (iblk m c 2 t) (iblk m c 3 t) (iblk m c 4 t) (iblk m c 5 t) (iblk m c 6 t) (iblk m c 7 t) (iblk m c 8 t)
    | ⟨14, _⟩ => left14 (iblk m c 0 t) (iblk m c 1 t) (iblk m c 2 t) (iblk m c 3 t) (iblk m c 4 t) (iblk m c 5 t) (iblk m c 6 t) (iblk m c 7 t) (iblk m c 8 t)
    | ⟨15, _⟩ => left15 (iblk m c 0 t) (iblk m c 1 t) (iblk m c 2 t) (iblk m c 3 t) (iblk m c 4 t) (iblk m c 5 t) (iblk m c 6 t) (iblk m c 7 t) (iblk m c 8 t)
    | ⟨16, _⟩ => left16 (iblk m c 0 t) (iblk m c 1 t) (iblk m c 2 t) (iblk m c 3 t) (iblk m c 4 t) (iblk m c 5 t) (iblk m c 6 t) (iblk m c 7 t) (iblk m c 8 t)
    | ⟨17, _⟩ => left17 (iblk m c 0 t) (iblk m c 1 t) (iblk m c 2 t) (iblk m c 3 t) (iblk m c 4 t) (iblk m c 5 t) (iblk m c 6 t) (iblk m c 7 t) (iblk m c 8 t)
    | ⟨18, _⟩ => left18 (iblk m c 0 t) (iblk m c 1 t) (iblk m c 2 t) (iblk m c 3 t) (iblk m c 4 t) (iblk m c 5 t) (iblk m c 6 t) (iblk m c 7 t) (iblk m c 8 t)
    | ⟨_ + 19, h⟩ => absurd h (Nat.not_lt.2 (Nat.le_add_left _ _))
  Φ _ := Pipeline.ΦA spec0 c
  q _ := fullShare
  owed _ := 0

/-- The arrays are those at the entry of the region. -/
theorem data_A (c : Dev nD) (w : Fin cfg0.W) : (data m 0 c).A w = V m c (Pipeline.arrRef spec0 w) := by
  dsimp only [data]

/-- Input buffer 0 after the body. -/
theorem after_0 (c : Dev nD) (t : Fin cfg0.N) : (data m 0 c).after 0 t = iblk m c 0 t := by dsimp only [data]
/-- Input buffer 1 after the body. -/
theorem after_1 (c : Dev nD) (t : Fin cfg0.N) : (data m 0 c).after 1 t = iblk m c 1 t := by dsimp only [data]
/-- Input buffer 2 after the body. -/
theorem after_2 (c : Dev nD) (t : Fin cfg0.N) : (data m 0 c).after 2 t = iblk m c 2 t := by dsimp only [data]
/-- Input buffer 3 after the body. -/
theorem after_3 (c : Dev nD) (t : Fin cfg0.N) : (data m 0 c).after 3 t = iblk m c 3 t := by dsimp only [data]
/-- Input buffer 4 after the body. -/
theorem after_4 (c : Dev nD) (t : Fin cfg0.N) : (data m 0 c).after 4 t = iblk m c 4 t := by dsimp only [data]
/-- Input buffer 5 after the body. -/
theorem after_5 (c : Dev nD) (t : Fin cfg0.N) : (data m 0 c).after 5 t = iblk m c 5 t := by dsimp only [data]
/-- Input buffer 6 after the body. -/
theorem after_6 (c : Dev nD) (t : Fin cfg0.N) : (data m 0 c).after 6 t = iblk m c 6 t := by dsimp only [data]
/-- Input buffer 7 after the body. -/
theorem after_7 (c : Dev nD) (t : Fin cfg0.N) : (data m 0 c).after 7 t = iblk m c 7 t := by dsimp only [data]
/-- Input buffer 8 after the body. -/
theorem after_8 (c : Dev nD) (t : Fin cfg0.N) : (data m 0 c).after 8 t = iblk m c 8 t := by dsimp only [data]
/-- Output buffer 9 after the body. -/
theorem after_9 (c : Dev nD) (t : Fin cfg0.N) : (data m 0 c).after 9 t = left9 (iblk m c 0 t) (iblk m c 1 t) (iblk m c 2 t) (iblk m c 3 t) (iblk m c 4 t) (iblk m c 5 t) (iblk m c 6 t) (iblk m c 7 t) (iblk m c 8 t) := by dsimp only [data]
/-- Output buffer 10 after the body. -/
theorem after_10 (c : Dev nD) (t : Fin cfg0.N) : (data m 0 c).after 10 t = left10 (iblk m c 0 t) (iblk m c 1 t) (iblk m c 2 t) (iblk m c 3 t) (iblk m c 4 t) (iblk m c 5 t) (iblk m c 6 t) (iblk m c 7 t) (iblk m c 8 t) := by dsimp only [data]
/-- Output buffer 11 after the body. -/
theorem after_11 (c : Dev nD) (t : Fin cfg0.N) : (data m 0 c).after 11 t = left11 (iblk m c 0 t) (iblk m c 1 t) (iblk m c 2 t) (iblk m c 3 t) (iblk m c 4 t) (iblk m c 5 t) (iblk m c 6 t) (iblk m c 7 t) (iblk m c 8 t) := by dsimp only [data]
/-- Output buffer 12 after the body. -/
theorem after_12 (c : Dev nD) (t : Fin cfg0.N) : (data m 0 c).after 12 t = left12 (iblk m c 0 t) (iblk m c 1 t) (iblk m c 2 t) (iblk m c 3 t) (iblk m c 4 t) (iblk m c 5 t) (iblk m c 6 t) (iblk m c 7 t) (iblk m c 8 t) := by dsimp only [data]
/-- Output buffer 13 after the body. -/
theorem after_13 (c : Dev nD) (t : Fin cfg0.N) : (data m 0 c).after 13 t = left13 (iblk m c 0 t) (iblk m c 1 t) (iblk m c 2 t) (iblk m c 3 t) (iblk m c 4 t) (iblk m c 5 t) (iblk m c 6 t) (iblk m c 7 t) (iblk m c 8 t) := by dsimp only [data]
/-- Output buffer 14 after the body. -/
theorem after_14 (c : Dev nD) (t : Fin cfg0.N) : (data m 0 c).after 14 t = left14 (iblk m c 0 t) (iblk m c 1 t) (iblk m c 2 t) (iblk m c 3 t) (iblk m c 4 t) (iblk m c 5 t) (iblk m c 6 t) (iblk m c 7 t) (iblk m c 8 t) := by dsimp only [data]
/-- Output buffer 15 after the body. -/
theorem after_15 (c : Dev nD) (t : Fin cfg0.N) : (data m 0 c).after 15 t = left15 (iblk m c 0 t) (iblk m c 1 t) (iblk m c 2 t) (iblk m c 3 t) (iblk m c 4 t) (iblk m c 5 t) (iblk m c 6 t) (iblk m c 7 t) (iblk m c 8 t) := by dsimp only [data]
/-- Output buffer 16 after the body. -/
theorem after_16 (c : Dev nD) (t : Fin cfg0.N) : (data m 0 c).after 16 t = left16 (iblk m c 0 t) (iblk m c 1 t) (iblk m c 2 t) (iblk m c 3 t) (iblk m c 4 t) (iblk m c 5 t) (iblk m c 6 t) (iblk m c 7 t) (iblk m c 8 t) := by dsimp only [data]
/-- Output buffer 17 after the body. -/
theorem after_17 (c : Dev nD) (t : Fin cfg0.N) : (data m 0 c).after 17 t = left17 (iblk m c 0 t) (iblk m c 1 t) (iblk m c 2 t) (iblk m c 3 t) (iblk m c 4 t) (iblk m c 5 t) (iblk m c 6 t) (iblk m c 7 t) (iblk m c 8 t) := by dsimp only [data]
/-- Output buffer 18 after the body. -/
theorem after_18 (c : Dev nD) (t : Fin cfg0.N) : (data m 0 c).after 18 t = left18 (iblk m c 0 t) (iblk m c 1 t) (iblk m c 2 t) (iblk m c 3 t) (iblk m c 4 t) (iblk m c 5 t) (iblk m c 6 t) (iblk m c 7 t) (iblk m c 8 t) := by dsimp only [data]
/-- Input buffer 0 before the body. -/
theorem before_0 (c : Dev nD) (t : Fin cfg0.N) (d) : (data m 0 c).before 0 t d = iblk m c 0 t :=
  before0_0_of m (data m 0 c) (data_A m c 0) (after_0 m c) t d
/-- Input buffer 1 before the body. -/
theorem before_1 (c : Dev nD) (t : Fin cfg0.N) (d) : (data m 0 c).before 1 t d = iblk m c 1 t :=
  before0_1_of m (data m 0 c) (data_A m c 1) (after_1 m c) t d
/-- Input buffer 2 before the body. -/
theorem before_2 (c : Dev nD) (t : Fin cfg0.N) (d) : (data m 0 c).before 2 t d = iblk m c 2 t :=
  before0_2_of m (data m 0 c) (data_A m c 2) (after_2 m c) t d
/-- Input buffer 3 before the body. -/
theorem before_3 (c : Dev nD) (t : Fin cfg0.N) (d) : (data m 0 c).before 3 t d = iblk m c 3 t :=
  before0_3_of m (data m 0 c) (data_A m c 3) (after_3 m c) t d
/-- Input buffer 4 before the body. -/
theorem before_4 (c : Dev nD) (t : Fin cfg0.N) (d) : (data m 0 c).before 4 t d = iblk m c 4 t :=
  before0_4_of m (data m 0 c) (data_A m c 4) (after_4 m c) t d
/-- Input buffer 5 before the body. -/
theorem before_5 (c : Dev nD) (t : Fin cfg0.N) (d) : (data m 0 c).before 5 t d = iblk m c 5 t :=
  before0_5_of m (data m 0 c) (data_A m c 5) (after_5 m c) t d
/-- Input buffer 6 before the body. -/
theorem before_6 (c : Dev nD) (t : Fin cfg0.N) (d) : (data m 0 c).before 6 t d = iblk m c 6 t :=
  before0_6_of m (data m 0 c) (data_A m c 6) (after_6 m c) t d
/-- Input buffer 7 before the body. -/
theorem before_7 (c : Dev nD) (t : Fin cfg0.N) (d) : (data m 0 c).before 7 t d = iblk m c 7 t :=
  before0_7_of m (data m 0 c) (data_A m c 7) (after_7 m c) t d
/-- Input buffer 8 before the body. -/
theorem before_8 (c : Dev nD) (t : Fin cfg0.N) (d) : (data m 0 c).before 8 t d = iblk m c 8 t :=
  before0_8_of m (data m 0 c) (data_A m c 8) (after_8 m c) t d

/-- The buffers as the body finds them at point `t`. -/
def found (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d))
    ∗ (∃ d, owns (c : Thread nD τ) (st0_12 t) fullShare ((data m 0 c).before 12 t d))
    ∗ (∃ d, owns (c : Thread nD τ) (st0_13 t) fullShare ((data m 0 c).before 13 t d))
    ∗ (∃ d, owns (c : Thread nD τ) (st0_14 t) fullShare ((data m 0 c).before 14 t d))
    ∗ (∃ d, owns (c : Thread nD τ) (st0_15 t) fullShare ((data m 0 c).before 15 t d))
    ∗ (∃ d, owns (c : Thread nD τ) (st0_16 t) fullShare ((data m 0 c).before 16 t d))
    ∗ (∃ d, owns (c : Thread nD τ) (st0_17 t) fullShare ((data m 0 c).before 17 t d))
    ∗ (∃ d, owns (c : Thread nD τ) (st0_18 t) fullShare ((data m 0 c).before 18 t d)))

/-- The buffers as the body leaves them at point `t`. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t)
    ∗ owns (c : Thread nD τ) (st0_11 t) fullShare ((data m 0 c).after 11 t)
    ∗ owns (c : Thread nD τ) (st0_12 t) fullShare ((data m 0 c).after 12 t)
    ∗ owns (c : Thread nD τ) (st0_13 t) fullShare ((data m 0 c).after 13 t)
    ∗ owns (c : Thread nD τ) (st0_14 t) fullShare ((data m 0 c).after 14 t)
    ∗ owns (c : Thread nD τ) (st0_15 t) fullShare ((data m 0 c).after 15 t)
    ∗ owns (c : Thread nD τ) (st0_16 t) fullShare ((data m 0 c).after 16 t)
    ∗ owns (c : Thread nD τ) (st0_17 t) fullShare ((data m 0 c).after 17 t)
    ∗ owns (c : Thread nD τ) (st0_18 t) fullShare ((data m 0 c).after 18 t))

set_option maxHeartbeats 1000000 in
/-- The body at a point, from the buffers it finds to those it leaves. -/
theorem body_at (c : Dev nD) (t : Fin cfg0.N) :
    found m c t ⊢ wp frame (wpE (defs₀ (F := F)) Variants.none c none) Set.univ (bodyAt0 t) (fun _ => returned m c t) := by
  unfold found returned bodyAt0
  simp only [before_0, before_1, before_2, before_3, before_4, before_5, before_6, before_7, before_8]
  rw [show (data m 0 c).Φ t.succ = (data m 0 c).Φ t.castSucc from rfl,
    show (data m 0 c).owesAt () t.succ = (data m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_runs c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body's obligation at every point. -/
theorem body_owed (c : Dev nD) : BodyObligation (data (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (body_at m c t) rfl .rfl fun _ => .rfl

set_option backward.isDefEq.respectTransparency.types false in
set_option maxHeartbeats 1600000 in
/-- Every run ends, with the arrays at what the data say and every counter at zero. -/
theorem runs_quiet : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_owed m c).loose) (hshare := fun c => (data m 0 c).share_full fun _ => rfl)
    (howed := fun _ _ => rfl) (V := V m) (hmain := hmain m Variants.none) (hA := data_A m) (hΦ := fun _ _ => rfl)

/-- Every run ends with the arrays at what the data say. -/
theorem runs : θ_run defs (onTc (τ := τ) (main (F := F))) (s₀ m ρ) (Pipeline.FramePost cfgs (data m) 0 (V m)) :=
  (θ_run defs _ _).mono (fun _ h => h.1) (runs_quiet m ρ)

/-- The frame: every run ends with the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (runs m ρ)) ((θ_run defs _ _).mono (fun _ h => h.2) (runs_quiet m ρ))

end Cert.MixsIdeal.Mix

end
-- ==== Proof.MixsHost.lean ====
module

public import proofs.«01_k».proof.Defs
public import proofs.«01_k».proof.Proof.MixsIdealFrame
public import Idealize.ShloMosaic.Lib.IdealHost
public import Idealize.ShloMosaic.Lib.Pointwise
public import Idealize.ShloMosaic.Lib.Tactic

@[expose] public section

set_option maxRecDepth 16384

noncomputable section

/-! # The mixers' input call: the arrays handed to it, block by block -/

namespace Cert.MixsIdeal.Ker

open Cert.MixsIdeal Cert.MixsIdeal.Gen Idealize.ShloMosaic Idealize.ShloMosaic.TcCoe Idealize.SL.Sem

/-- The input's rows, one per token. -/
abbrev xrow (x : S128x8x1024.Idx → EReal) (R j : Fin 1024) : EReal := x (ix3 ⟨R.val / 8, by omega⟩ ⟨R.val % 8, by omega⟩ j)

/-- The weights without the gate's sixteen columns. -/
abbrev prepW (w : FVec Ideal S1024x3088 .f32) : FVec Ideal S1024x3072 .bf16 :=
  truncf .bf16 (concatenate S1024x3072 1 [⟨S1024x1536, extractStridedSlice S1024x1536 ![0, 0] w slices_S1024x3088_S1024x1536_0_0⟩,
    ⟨S1024x1536, extractStridedSlice S1024x1536 ![0, 1552] w slices_S1024x3088_S1024x1536_0_1552⟩] concatenates_S1024x1536_S1024x1536_S1024x3072_d1) bitsLt_bf16_f32

/-- The gate's sixteen columns, padded. -/
abbrev prepA (w : FVec Ideal S1024x3088 .f32) : FVec Ideal S1024x128 .bf16 :=
  truncf .bf16 (pad S1024x128 ![0, 0] ![0, 112] ![0, 0] (extractStridedSlice S1024x16 ![0, 1536] w slices_S1024x3088_S1024x16_0_1536)
    (sitofp (F := Ideal) .f32 (constantI S_ 32 0#32)) pads_S1024x16_S1024x128_000_01120 h_S_) bitsLt_bf16_f32

/-- The gate's second factor, padded. -/
abbrev prepU (u : FVec Ideal S16x256 .f32) : FVec Ideal S128x256 .bf16 :=
  truncf .bf16 (pad S128x256 ![0, 0] ![112, 0] ![0, 0] u (sitofp (F := Ideal) .f32 (constantI S_ 32 0#32)) pads_S16x256_S128x256_01120_000 h_S_) bitsLt_bf16_f32

/-- A gain repeated over the eight groups. -/
abbrev prepT (k : FVec Ideal S64 .f32) : FVec Ideal S1x512 .f32 :=
  shapeCast S1x512 (shapeCast S512 (broadcastInDim S8x64 ![0, 1] bcast_S1x64_S8x64_0_1 (shapeCast S1x64 k shapeCasts_S64_S1x64)) shapeCasts_S8x64_S512) shapeCasts_S512_S1x512

/-- The matrix of group ones. -/
abbrev prepO : FVec Ideal S512x512 .bf16 :=
  truncf .bf16 (select (cmpi .eq (Host.divsi (iotaInDim S512x512 32 0) (broadcastInDim S512x512 ![] bcast_S_S512x512 (constantI S_ 32 64#32)))
      (Host.divsi (iotaInDim S512x512 32 1) (broadcastInDim S512x512 ![] bcast_S_S512x512 (constantI S_ 32 64#32))))
    (broadcastInDim S512x512 ![] bcast_S_S512x512 (constant (F := Ideal) S_ .f32 0x3F800000#32))
    (broadcastInDim S512x512 ![] bcast_S_S512x512 (constant (F := Ideal) S_ .f32 0x00000000#32))) bitsLt_bf16_f32

/-! ## At an index -/

/-- The flattened input. -/
theorem flat_apply (x : FVec Ideal S128x8x1024 .f32) (R j : Fin 1024) :
    shapeCast S1024x1024 x shapeCasts_S128x8x1024_S1024x1024 (ix2 R j) = xrow x R j := by
  pointwise

/-- A column before the gate's. -/
theorem prepW_lo (w : FVec Ideal S1024x3088 .f32) (q : Fin 1024) (l : Fin 3072) (h : l.val < 1536) :
    prepW w (ix2 q l) = w (ix2 q ⟨l.val, by omega⟩) := by
  pointwise [prepW]
  rw [dif_pos (by omega)]

/-- A column after the gate's. -/
theorem prepW_hi (w : FVec Ideal S1024x3088 .f32) (q : Fin 1024) (l : Fin 3072) (h : 1536 ≤ l.val) :
    prepW w (ix2 q l) = w (ix2 q ⟨l.val + 16, by omega⟩) := by
  pointwise [prepW]
  rw [dif_neg (by omega)]
  refine congrArg w (congrArg (ix2 q) (Fin.ext ?_))
  show 1552 + (l.val - 1536) = l.val + 16
  omega

/-- The gate's columns at an index. -/
theorem prepA_apply (w : FVec Ideal S1024x3088 .f32) (q : Fin 1024) (k : Fin 128) :
    prepA w (ix2 q k) = if h : k.val < 16 then w (ix2 q ⟨1536 + k.val, by omega⟩) else 0 := by
  have h0 : (FloatOps.sitofp (F := Ideal) FTy.f32 0#32 : EReal) = 0 := by
    show (((0#32 : BitVec 32).toInt : ℝ) : EReal) = 0
    simp
  pointwise [prepA]
  rw [h0]

/-- The gate's second factor at one of its own rows. -/
theorem prepU_apply (u : FVec Ideal S16x256 .f32) (k : Fin 16) (l : Fin 256) :
    prepU u (ix2 ⟨k.val, by omega⟩ l) = u (ix2 k l) := by
  pointwise [prepU]

/-- The repeated gain at an index. -/
theorem prepT_apply (k : FVec Ideal S64 .f32) (l : Fin 512) : prepT k (ix2 0 l) = k (ix1 ⟨l.val % 64, by omega⟩) := by
  pointwise [prepT]

/-- Division of a lane by 64. -/
theorem div_64 : ∀ q : Fin 512, IntOp.divsi .host (BitVec.ofNat 32 q.val) 64#32 = BitVec.ofNat 32 (q.val / 64) := by decide +kernel

/-- Lanes' groups compare as words as they do as numbers. -/
theorem group_inj (a b : Fin 512) : BitVec.ofNat 32 (a.val / 64) = BitVec.ofNat 32 (b.val / 64) ↔ a.val / 64 = b.val / 64 := by
  constructor
  · intro h
    have e := congrArg BitVec.toNat h
    simp only [BitVec.toNat_ofNat] at e
    omega
  · intro h
    rw [h]

/-- The matrix of group ones at an index. -/
theorem prepO_apply (q l : Fin 512) : prepO (ix2 q l) = if q.val / 64 = l.val / 64 then (1 : EReal) else 0 := by
  pointwise [prepO]
  rw [div_64, div_64]
  by_cases h : q.val / 64 = l.val / 64
  · rw [if_pos h, h]
    show Scalar.select (BitVec.ofBool (BitVec.ofNat 32 (l.val / 64) == BitVec.ofNat 32 (l.val / 64))) _ _ = _
    rw [beq_self_eq_true]
    rfl
  · rw [if_neg h]
    show Scalar.select (BitVec.ofBool (BitVec.ofNat 32 (q.val / 64) == BitVec.ofNat 32 (l.val / 64))) _ _ = _
    rw [beq_false_of_ne fun e => h ((group_inj q l).1 e)]
    rfl

/-! ## The arrays handed to the call -/

variable (m : (ℓ : Loc nD τ sig) → Buf (Elt Ideal) ℓ) (ρ : Dev nD → PrngReg)

/-- The flattened input handed to the call. -/
theorem V_x (c : Dev nD) : V m c main_v0 = shapeCast S1024x1024 (m ((c : Thread nD τ).loc main_arg0)) shapeCasts_S128x8x1024_S1024x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gain handed to the call. -/
theorem V_g (c : Dev nD) : V m c main_v18 = shapeCast S1x1024 (m ((c : Thread nD τ).loc main_arg1)) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The weights handed to the call. -/
theorem V_w (c : Dev nD) : V m c main_v4 = prepW (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's columns handed to the call. -/
theorem V_a (c : Dev nD) : V m c main_v7 = prepA (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's second factor handed to the call. -/
theorem V_u (c : Dev nD) : V m c main_v9 = prepU (m ((c : Thread nD τ).loc main_arg3)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's bias handed to the call. -/
theorem V_b (c : Dev nD) : V m c main_v19 = shapeCast S1x256 (m ((c : Thread nD τ).loc main_arg4)) shapeCasts_S256_S1x256 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The queries' gain handed to the call. -/
theorem V_qn (c : Dev nD) : V m c main_v13 = prepT (m ((c : Thread nD τ).loc main_arg5)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The keys' gain handed to the call. -/
theorem V_kn (c : Dev nD) : V m c main_v17 = prepT (m ((c : Thread nD τ).loc main_arg6)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The matrix of group ones handed to the call. -/
theorem V_o (c : Dev nD) : V m c main_v30 = prepO := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp

/-- Which block each window has at each grid point. -/
theorem index_eq : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0])

/-- Row `r` of block `t`. -/
abbrev rowOf (t : Fin cfg0.N) (r : Fin 512) : Fin 1024 :=
  ⟨t.val * 512 + r.val, by have h := t.isLt; have : cfg0.N = 2 := N_0; omega⟩

/-- A block's index as a row and a column. -/
theorem idx_split {a b : ℕ} (y : (⟨2, ![a, b]⟩ : Shape).Idx) : ∃ (r : Fin a) (l : Fin b), y = ix2 r l :=
  ⟨⟨(y 0).val, (y 0).isLt⟩, ⟨(y 1).val, (y 1).isLt⟩, funext fun a => by
    match a with
    | ⟨0, _⟩ => rfl
    | ⟨1, _⟩ => rfl⟩

/-- The input's block at an index. -/
theorem blk_x (c : Dev nD) (t : Fin cfg0.N) (r : Fin 512) (j : Fin 1024) :
    (iblk m c 0 t : Vec Ideal S512x1024 .f32) (ix2 r j) = xrow (m ((c : Thread nD τ).loc main_arg0)) (rowOf t r) j := by
  have e : (iblk m c 0 t : Vec Ideal S512x1024 .f32) (ix2 r j) = V m c main_v0 (ix2 (rowOf t r) j) := by
    unfold iblk
    rw [View.read_apply]
    show V m c main_v0 _ = _
    refine congrArg _ (funext fun a => Fin.ext ?_)
    match a with
    | ⟨0, _⟩ => show win0_0.index t 0 * 512 + 1 * r.val = t.val * 512 + r.val; rw [(index_eq t).1]; simp
    | ⟨1, _⟩ => show win0_0.index t 1 * 1024 + 1 * j.val = j.val; rw [(index_eq t).1]; simp
  rw [e, V_x]
  exact flat_apply _ _ _

/-- The gain: one block, the whole array. -/
theorem blk_g (c : Dev nD) (t : Fin cfg0.N) : (iblk m c 1 t : Vec Ideal S1x1024 .f32) = shapeCast S1x1024 (m ((c : Thread nD τ).loc main_arg1)) shapeCasts_S1024_S1x1024 := by
  rw [← V_g m c]
  funext y
  unfold iblk
  rw [View.read_apply]
  show V m c main_v18 _ = _
  refine congrArg _ (funext fun a => Fin.ext ?_)
  match a with
  | ⟨0, _⟩ => show win0_1.index t 0 * 1 + 1 * (y 0).val = (y 0).val; rw [(index_eq t).2.1]; simp
  | ⟨1, _⟩ => show win0_1.index t 1 * 1024 + 1 * (y 1).val = (y 1).val; rw [(index_eq t).2.1]; simp

/-- The weights: one block, the whole array. -/
theorem blk_w (c : Dev nD) (t : Fin cfg0.N) : (iblk m c 2 t : Vec Ideal S1024x3072 .bf16) = prepW (m ((c : Thread nD τ).loc main_arg2)) := by
  rw [← V_w m c]
  funext y
  unfold iblk
  rw [View.read_apply]
  show V m c main_v4 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 3072 + 1 * (y 1).val = (y 1).val; rw [(index_eq t).2.2.1]; simp

/-- The gate's columns: one block, the whole array. -/
theorem blk_a (c : Dev nD) (t : Fin cfg0.N) : (iblk m c 3 t : Vec Ideal S1024x128 .bf16) = prepA (m ((c : Thread nD τ).loc main_arg2)) := by
  rw [← V_a m c]
  funext y
  unfold iblk
  rw [View.read_apply]
  show V m c main_v7 _ = _
  refine congrArg _ (funext fun a => Fin.ext ?_)
  match a with
  | ⟨0, _⟩ => show win0_3.index t 0 * 1024 + 1 * (y 0).val = (y 0).val; rw [(index_eq t).2.2.2.1]; simp
  | ⟨1, _⟩ => show win0_3.index t 1 * 128 + 1 * (y 1).val = (y 1).val; rw [(index_eq t).2.2.2.1]; simp

/-- The gate's second factor: one block, the whole array. -/
theorem blk_u (c : Dev nD) (t : Fin cfg0.N) : (iblk m c 4 t : Vec Ideal S128x256 .bf16) = prepU (m ((c : Thread nD τ).loc main_arg3)) := by
  rw [← V_u m c]
  funext y
  unfold iblk
  rw [View.read_apply]
  show V m c main_v9 _ = _
  refine congrArg _ (funext fun a => Fin.ext ?_)
  match a with
  | ⟨0, _⟩ => show win0_4.index t 0 * 128 + 1 * (y 0).val = (y 0).val; rw [(index_eq t).2.2.2.2.1]; simp
  | ⟨1, _⟩ => show win0_4.index t 1 * 256 + 1 * (y 1).val = (y 1).val; rw [(index_eq t).2.2.2.2.1]; simp

/-- The gate's bias: one block, the whole array. -/
theorem blk_b (c : Dev nD) (t : Fin cfg0.N) : (iblk m c 5 t : Vec Ideal S1x256 .f32) = shapeCast S1x256 (m ((c : Thread nD τ).loc main_arg4)) shapeCasts_S256_S1x256 := by
  rw [← V_b m c]
  funext y
  unfold iblk
  rw [View.read_apply]
  show V m c main_v19 _ = _
  refine congrArg _ (funext fun a => Fin.ext ?_)
  match a with
  | ⟨0, _⟩ => show win0_5.index t 0 * 1 + 1 * (y 0).val = (y 0).val; rw [(index_eq t).2.2.2.2.2.1]; simp
  | ⟨1, _⟩ => show win0_5.index t 1 * 256 + 1 * (y 1).val = (y 1).val; rw [(index_eq t).2.2.2.2.2.1]; simp

/-- The queries' gain: one block, the whole array. -/
theorem blk_qn (c : Dev nD) (t : Fin cfg0.N) : (iblk m c 6 t : Vec Ideal S1x512 .f32) = prepT (m ((c : Thread nD τ).loc main_arg5)) := by
  rw [← V_qn m c]
  funext y
  unfold iblk
  rw [View.read_apply]
  show V m c main_v13 _ = _
  refine congrArg _ (funext fun a => Fin.ext ?_)
  match a with
  | ⟨0, _⟩ => show win0_6.index t 0 * 1 + 1 * (y 0).val = (y 0).val; rw [(index_eq t).2.2.2.2.2.2.1]; simp
  | ⟨1, _⟩ => show win0_6.index t 1 * 512 + 1 * (y 1).val = (y 1).val; rw [(index_eq t).2.2.2.2.2.2.1]; simp

/-- The keys' gain: one block, the whole array. -/
theorem blk_kn (c : Dev nD) (t : Fin cfg0.N) : (iblk m c 7 t : Vec Ideal S1x512 .f32) = prepT (m ((c : Thread nD τ).loc main_arg6)) := by
  rw [← V_kn m c]
  funext y
  unfold iblk
  rw [View.read_apply]
  show V m c main_v17 _ = _
  refine congrArg _ (funext fun a => Fin.ext ?_)
  match a with
  | ⟨0, _⟩ => show win0_7.index t 0 * 1 + 1 * (y 0).val = (y 0).val; rw [(index_eq t).2.2.2.2.2.2.2.1]; simp
  | ⟨1, _⟩ => show win0_7.index t 1 * 512 + 1 * (y 1).val = (y 1).val; rw [(index_eq t).2.2.2.2.2.2.2.1]; simp

/-- The matrix of group ones: one block, the whole array. -/
theorem blk_o (c : Dev nD) (t : Fin cfg0.N) : (iblk m c 8 t : Vec Ideal S512x512 .bf16) = prepO := by
  rw [← V_o m c]
  funext y
  unfold iblk
  rw [View.read_apply]
  show V m c main_v30 _ = _
  refine congrArg _ (funext fun a => Fin.ext ?_)
  match a with
  | ⟨0, _⟩ => show win0_8.index t 0 * 512 + 1 * (y 0).val = (y 0).val; rw [(index_eq t).2.2.2.2.2.2.2.2.1]; simp
  | ⟨1, _⟩ => show win0_8.index t 1 * 512 + 1 * (y 1).val = (y 1).val; rw [(index_eq t).2.2.2.2.2.2.2.2.1]; simp

/-- A block of result 0, from what it holds at each row and column. -/
theorem out_block9 (c : Dev nD) (t : Fin cfg0.N) (G : Buf (Elt Ideal) ((c : Thread nD τ).loc main_v31_0)) (o : Vec Ideal S512x256 .f32)
    (ho : ∀ (r : Fin 512) (l : Fin 256), o (ix2 r l) = G (ix2 (rowOf t r) l)) :
    (cfg0.win 9).cut (grid0.coords t) o = ((cfg0.win 9).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_9.index t 0 * 512 + 1 * r.val; rw [(index_eq t).2.2.2.2.2.2.2.2.2.1]; simp
  | ⟨1, _⟩ => show l.val = win0_9.index t 1 * 256 + 1 * l.val; rw [(index_eq t).2.2.2.2.2.2.2.2.2.1]; simp

/-- Every index of result 0 is in some point's block. -/
theorem cover9 (i : S1024x256.Idx) : ∃ t : Fin cfg0.N, (cfg0.win 9).flush t = true ∧ i ∈ ((cfg0.win 9).blk t).view.set := by
  have h0 : (i 0 : Nat) < 1024 := (i 0).isLt
  have h1 : (i 1 : Nat) < 256 := (i 1).isLt
  have hN : cfg0.N = 2 := N_0
  have ht : (i 0 : Nat) / 512 < cfg0.N := by omega
  refine ⟨⟨(i 0 : Nat) / 512, ht⟩, flush0_9 _, ?_⟩
  show i ∈ ((View.whole main_v31_0).slice (win0_9.rect ⟨(i 0 : Nat) / 512, ht⟩)).set
  rw [View.set_slice_whole, Rect.mem_set_unit]
  have e := (index_eq ⟨(i 0 : Nat) / 512, ht⟩).2.2.2.2.2.2.2.2.2.1
  intro a
  match a with
  | ⟨0, _⟩ =>
    show win0_9.index ⟨(i 0 : Nat) / 512, ht⟩ 0 * 512 ≤ (i 0 : Nat) ∧ (i 0 : Nat) < win0_9.index ⟨(i 0 : Nat) / 512, ht⟩ 0 * 512 + 512
    rw [e]; dsimp; omega
  | ⟨1, _⟩ =>
    show win0_9.index ⟨(i 0 : Nat) / 512, ht⟩ 1 * 256 ≤ (i 1 : Nat) ∧ (i 1 : Nat) < win0_9.index ⟨(i 0 : Nat) / 512, ht⟩ 1 * 256 + 256
    rw [e]; dsimp; omega

/-- A block of result 1, from what it holds at each row and column. -/
theorem out_block10 (c : Dev nD) (t : Fin cfg0.N) (G : Buf (Elt Ideal) ((c : Thread nD τ).loc main_v31_1)) (o : Vec Ideal S512x256 .f32)
    (ho : ∀ (r : Fin 512) (l : Fin 256), o (ix2 r l) = G (ix2 (rowOf t r) l)) :
    (cfg0.win 10).cut (grid0.coords t) o = ((cfg0.win 10).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_10.index t 0 * 512 + 1 * r.val; rw [(index_eq t).2.2.2.2.2.2.2.2.2.2.1]; simp
  | ⟨1, _⟩ => show l.val = win0_10.index t 1 * 256 + 1 * l.val; rw [(index_eq t).2.2.2.2.2.2.2.2.2.2.1]; simp

/-- Every index of result 1 is in some point's block. -/
theorem cover10 (i : S1024x256.Idx) : ∃ t : Fin cfg0.N, (cfg0.win 10).flush t = true ∧ i ∈ ((cfg0.win 10).blk t).view.set := by
  have h0 : (i 0 : Nat) < 1024 := (i 0).isLt
  have h1 : (i 1 : Nat) < 256 := (i 1).isLt
  have hN : cfg0.N = 2 := N_0
  have ht : (i 0 : Nat) / 512 < cfg0.N := by omega
  refine ⟨⟨(i 0 : Nat) / 512, ht⟩, flush0_10 _, ?_⟩
  show i ∈ ((View.whole main_v31_1).slice (win0_10.rect ⟨(i 0 : Nat) / 512, ht⟩)).set
  rw [View.set_slice_whole, Rect.mem_set_unit]
  have e := (index_eq ⟨(i 0 : Nat) / 512, ht⟩).2.2.2.2.2.2.2.2.2.2.1
  intro a
  match a with
  | ⟨0, _⟩ =>
    show win0_10.index ⟨(i 0 : Nat) / 512, ht⟩ 0 * 512 ≤ (i 0 : Nat) ∧ (i 0 : Nat) < win0_10.index ⟨(i 0 : Nat) / 512, ht⟩ 0 * 512 + 512
    rw [e]; dsimp; omega
  | ⟨1, _⟩ =>
    show win0_10.index ⟨(i 0 : Nat) / 512, ht⟩ 1 * 256 ≤ (i 1 : Nat) ∧ (i 1 : Nat) < win0_10.index ⟨(i 0 : Nat) / 512, ht⟩ 1 * 256 + 256
    rw [e]; dsimp; omega

/-- A block of result 2, from what it holds at each row and column. -/
theorem out_block11 (c : Dev nD) (t : Fin cfg0.N) (G : Buf (Elt Ideal) ((c : Thread nD τ).loc main_v31_2)) (o : Vec Ideal S512x512 .f32)
    (ho : ∀ (r : Fin 512) (l : Fin 512), o (ix2 r l) = G (ix2 (rowOf t r) l)) :
    (cfg0.win 11).cut (grid0.coords t) o = ((cfg0.win 11).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_11.index t 0 * 512 + 1 * r.val; rw [(index_eq t).2.2.2.2.2.2.2.2.2.2.2.1]; simp
  | ⟨1, _⟩ => show l.val = win0_11.index t 1 * 512 + 1 * l.val; rw [(index_eq t).2.2.2.2.2.2.2.2.2.2.2.1]; simp

/-- Every index of result 2 is in some point's block. -/
theorem cover11 (i : S1024x512.Idx) : ∃ t : Fin cfg0.N, (cfg0.win 11).flush t = true ∧ i ∈ ((cfg0.win 11).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_11 _, ?_⟩
  show i ∈ ((View.whole main_v31_2).slice (win0_11.rect ⟨(i 0 : Nat) / 512, ht⟩)).set
  rw [View.set_slice_whole, Rect.mem_set_unit]
  have e := (index_eq ⟨(i 0 : Nat) / 512, ht⟩).2.2.2.2.2.2.2.2.2.2.2.1
  intro a
  match a with
  | ⟨0, _⟩ =>
    show win0_11.index ⟨(i 0 : Nat) / 512, ht⟩ 0 * 512 ≤ (i 0 : Nat) ∧ (i 0 : Nat) < win0_11.index ⟨(i 0 : Nat) / 512, ht⟩ 0 * 512 + 512
    rw [e]; dsimp; omega
  | ⟨1, _⟩ =>
    show win0_11.index ⟨(i 0 : Nat) / 512, ht⟩ 1 * 512 ≤ (i 1 : Nat) ∧ (i 1 : Nat) < win0_11.index ⟨(i 0 : Nat) / 512, ht⟩ 1 * 512 + 512
    rw [e]; dsimp; omega

/-- A block of result 3, from what it holds at each row and column. -/
theorem out_block12 (c : Dev nD) (t : Fin cfg0.N) (G : Buf (Elt Ideal) ((c : Thread nD τ).loc main_v31_3)) (o : Vec Ideal S512x512 .f32)
    (ho : ∀ (r : Fin 512) (l : Fin 512), o (ix2 r l) = G (ix2 (rowOf t r) l)) :
    (cfg0.win 12).cut (grid0.coords t) o = ((cfg0.win 12).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_12.index t 0 * 512 + 1 * r.val; rw [(index_eq t).2.2.2.2.2.2.2.2.2.2.2.2.1]; simp
  | ⟨1, _⟩ => show l.val = win0_12.index t 1 * 512 + 1 * l.val; rw [(index_eq t).2.2.2.2.2.2.2.2.2.2.2.2.1]; simp

/-- Every index of result 3 is in some point's block. -/
theorem cover12 (i : S1024x512.Idx) : ∃ t : Fin cfg0.N, (cfg0.win 12).flush t = true ∧ i ∈ ((cfg0.win 12).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_12 _, ?_⟩
  show i ∈ ((View.whole main_v31_3).slice (win0_12.rect ⟨(i 0 : Nat) / 512, ht⟩)).set
  rw [View.set_slice_whole, Rect.mem_set_unit]
  have e := (index_eq ⟨(i 0 : Nat) / 512, ht⟩).2.2.2.2.2.2.2.2.2.2.2.2.1
  intro a
  match a with
  | ⟨0, _⟩ =>
    show win0_12.index ⟨(i 0 : Nat) / 512, ht⟩ 0 * 512 ≤ (i 0 : Nat) ∧ (i 0 : Nat) < win0_12.index ⟨(i 0 : Nat) / 512, ht⟩ 0 * 512 + 512
    rw [e]; dsimp; omega
  | ⟨1, _⟩ =>
    show win0_12.index ⟨(i 0 : Nat) / 512, ht⟩ 1 * 512 ≤ (i 1 : Nat) ∧ (i 1 : Nat) < win0_12.index ⟨(i 0 : Nat) / 512, ht⟩ 1 * 512 + 512
    rw [e]; dsimp; omega

/-- A block of result 4, from what it holds at each row and column. -/
theorem out_block13 (c : Dev nD) (t : Fin cfg0.N) (G : Buf (Elt Ideal) ((c : Thread nD τ).loc main_v31_4)) (o : Vec Ideal S512x256 .f32)
    (ho : ∀ (r : Fin 512) (l : Fin 256), o (ix2 r l) = G (ix2 (rowOf t r) l)) :
    (cfg0.win 13).cut (grid0.coords t) o = ((cfg0.win 13).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_13.index t 0 * 512 + 1 * r.val; rw [(index_eq t).2.2.2.2.2.2.2.2.2.2.2.2.2.1]; simp
  | ⟨1, _⟩ => show l.val = win0_13.index t 1 * 256 + 1 * l.val; rw [(index_eq t).2.2.2.2.2.2.2.2.2.2.2.2.2.1]; simp

/-- Every index of result 4 is in some point's block. -/
theorem cover13 (i : S1024x256.Idx) : ∃ t : Fin cfg0.N, (cfg0.win 13).flush t = true ∧ i ∈ ((cfg0.win 13).blk t).view.set := by
  have h0 : (i 0 : Nat) < 1024 := (i 0).isLt
  have h1 : (i 1 : Nat) < 256 := (i 1).isLt
  have hN : cfg0.N = 2 := N_0
  have ht : (i 0 : Nat) / 512 < cfg0.N := by omega
  refine ⟨⟨(i 0 : Nat) / 512, ht⟩, flush0_13 _, ?_⟩
  show i ∈ ((View.whole main_v31_4).slice (win0_13.rect ⟨(i 0 : Nat) / 512, ht⟩)).set
  rw [View.set_slice_whole, Rect.mem_set_unit]
  have e := (index_eq ⟨(i 0 : Nat) / 512, ht⟩).2.2.2.2.2.2.2.2.2.2.2.2.2.1
  intro a
  match a with
  | ⟨0, _⟩ =>
    show win0_13.index ⟨(i 0 : Nat) / 512, ht⟩ 0 * 512 ≤ (i 0 : Nat) ∧ (i 0 : Nat) < win0_13.index ⟨(i 0 : Nat) / 512, ht⟩ 0 * 512 + 512
    rw [e]; dsimp; omega
  | ⟨1, _⟩ =>
    show win0_13.index ⟨(i 0 : Nat) / 512, ht⟩ 1 * 256 ≤ (i 1 : Nat) ∧ (i 1 : Nat) < win0_13.index ⟨(i 0 : Nat) / 512, ht⟩ 1 * 256 + 256
    rw [e]; dsimp; omega

/-- A block of result 5, from what it holds at each row and column. -/
theorem out_block14 (c : Dev nD) (t : Fin cfg0.N) (G : Buf (Elt Ideal) ((c : Thread nD τ).loc main_v31_5)) (o : Vec Ideal S512x512 .bf16)
    (ho : ∀ (r : Fin 512) (l : Fin 512), o (ix2 r l) = G (ix2 (rowOf t r) l)) :
    (cfg0.win 14).cut (grid0.coords t) o = ((cfg0.win 14).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_14.index t 0 * 512 + 1 * r.val; rw [(index_eq t).2.2.2.2.2.2.2.2.2.2.2.2.2.2.1]; simp
  | ⟨1, _⟩ => show l.val = win0_14.index t 1 * 512 + 1 * l.val; rw [(index_eq t).2.2.2.2.2.2.2.2.2.2.2.2.2.2.1]; simp

/-- Every index of result 5 is in some point's block. -/
theorem cover14 (i : S1024x512.Idx) : ∃ t : Fin cfg0.N, (cfg0.win 14).flush t = true ∧ i ∈ ((cfg0.win 14).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_14 _, ?_⟩
  show i ∈ ((View.whole main_v31_5).slice (win0_14.rect ⟨(i 0 : Nat) / 512, ht⟩)).set
  rw [View.set_slice_whole, Rect.mem_set_unit]
  have e := (index_eq ⟨(i 0 : Nat) / 512, ht⟩).2.2.2.2.2.2.2.2.2.2.2.2.2.2.1
  intro a
  match a with
  | ⟨0, _⟩ =>
    show win0_14.index ⟨(i 0 : Nat) / 512, ht⟩ 0 * 512 ≤ (i 0 : Nat) ∧ (i 0 : Nat) < win0_14.index ⟨(i 0 : Nat) / 512, ht⟩ 0 * 512 + 512
    rw [e]; dsimp; omega
  | ⟨1, _⟩ =>
    show win0_14.index ⟨(i 0 : Nat) / 512, ht⟩ 1 * 512 ≤ (i 1 : Nat) ∧ (i 1 : Nat) < win0_14.index ⟨(i 0 : Nat) / 512, ht⟩ 1 * 512 + 512
    rw [e]; dsimp; omega

/-- A block of result 6, from what it holds at each row and column. -/
theorem out_block15 (c : Dev nD) (t : Fin cfg0.N) (G : Buf (Elt Ideal) ((c : Thread nD τ).loc main_v31_6)) (o : Vec Ideal S512x512 .f32)
    (ho : ∀ (r : Fin 512) (l : Fin 512), o (ix2 r l) = G (ix2 (rowOf t r) l)) :
    (cfg0.win 15).cut (grid0.coords t) o = ((cfg0.win 15).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_15.index t 0 * 512 + 1 * r.val; rw [(index_eq t).2.2.2.2.2.2.2.2.2.2.2.2.2.2.2.1]; simp
  | ⟨1, _⟩ => show l.val = win0_15.index t 1 * 512 + 1 * l.val; rw [(index_eq t).2.2.2.2.2.2.2.2.2.2.2.2.2.2.2.1]; simp

/-- Every index of result 6 is in some point's block. -/
theorem cover15 (i : S1024x512.Idx) : ∃ t : Fin cfg0.N, (cfg0.win 15).flush t = true ∧ i ∈ ((cfg0.win 15).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_15 _, ?_⟩
  show i ∈ ((View.whole main_v31_6).slice (win0_15.rect ⟨(i 0 : Nat) / 512, ht⟩)).set
  rw [View.set_slice_whole, Rect.mem_set_unit]
  have e := (index_eq ⟨(i 0 : Nat) / 512, ht⟩).2.2.2.2.2.2.2.2.2.2.2.2.2.2.2.1
  intro a
  match a with
  | ⟨0, _⟩ =>
    show win0_15.index ⟨(i 0 : Nat) / 512, ht⟩ 0 * 512 ≤ (i 0 : Nat) ∧ (i 0 : Nat) < win0_15.index ⟨(i 0 : Nat) / 512, ht⟩ 0 * 512 + 512
    rw [e]; dsimp; omega
  | ⟨1, _⟩ =>
    show win0_15.index ⟨(i 0 : Nat) / 512, ht⟩ 1 * 512 ≤ (i 1 : Nat) ∧ (i 1 : Nat) < win0_15.index ⟨(i 0 : Nat) / 512, ht⟩ 1 * 512 + 512
    rw [e]; dsimp; omega

/-- A block of result 7, from what it holds at each row and column. -/
theorem out_block16 (c : Dev nD) (t : Fin cfg0.N) (G : Buf (Elt Ideal) ((c : Thread nD τ).loc main_v31_7)) (o : Vec Ideal S512x512 .bf16)
    (ho : ∀ (r : Fin 512) (l : Fin 512), o (ix2 r l) = G (ix2 (rowOf t r) l)) :
    (cfg0.win 16).cut (grid0.coords t) o = ((cfg0.win 16).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_16.index t 0 * 512 + 1 * r.val; rw [(index_eq t).2.2.2.2.2.2.2.2.2.2.2.2.2.2.2.2.1]; simp
  | ⟨1, _⟩ => show l.val = win0_16.index t 1 * 512 + 1 * l.val; rw [(index_eq t).2.2.2.2.2.2.2.2.2.2.2.2.2.2.2.2.1]; simp

/-- Every index of result 7 is in some point's block. -/
theorem cover16 (i : S1024x512.Idx) : ∃ t : Fin cfg0.N, (cfg0.win 16).flush t = true ∧ i ∈ ((cfg0.win 16).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_16 _, ?_⟩
  show i ∈ ((View.whole main_v31_7).slice (win0_16.rect ⟨(i 0 : Nat) / 512, ht⟩)).set
  rw [View.set_slice_whole, Rect.mem_set_unit]
  have e := (index_eq ⟨(i 0 : Nat) / 512, ht⟩).2.2.2.2.2.2.2.2.2.2.2.2.2.2.2.2.1
  intro a
  match a with
  | ⟨0, _⟩ =>
    show win0_16.index ⟨(i 0 : Nat) / 512, ht⟩ 0 * 512 ≤ (i 0 : Nat) ∧ (i 0 : Nat) < win0_16.index ⟨(i 0 : Nat) / 512, ht⟩ 0 * 512 + 512
    rw [e]; dsimp; omega
  | ⟨1, _⟩ =>
    show win0_16.index ⟨(i 0 : Nat) / 512, ht⟩ 1 * 512 ≤ (i 1 : Nat) ∧ (i 1 : Nat) < win0_16.index ⟨(i 0 : Nat) / 512, ht⟩ 1 * 512 + 512
    rw [e]; dsimp; omega

/-- A block of result 8, from what it holds at each row and column. -/
theorem out_block17 (c : Dev nD) (t : Fin cfg0.N) (G : Buf (Elt Ideal) ((c : Thread nD τ).loc main_v31_8)) (o : Vec Ideal S2048x128 .f32)
    (ho : ∀ (r : Fin 2048) (l : Fin 128), o (ix2 r l) = G (ix2 (⟨t.val * 2048 + r.val, by have h := t.isLt; have : cfg0.N = 2 := N_0; omega⟩) l)) :
    (cfg0.win 17).cut (grid0.coords t) o = ((cfg0.win 17).blk t).view.read (Elt Ideal) G := by
  funext y
  obtain ⟨r, l, rfl⟩ := idx_split (a := 2048) (b := 128) y
  rw [View.read_apply]
  refine (ho r l).trans (congrArg G (funext fun a => Fin.ext ?_))
  match a with
  | ⟨0, _⟩ => show t.val * 2048 + r.val = win0_17.index t 0 * 2048 + 1 * r.val; rw [(index_eq t).2.2.2.2.2.2.2.2.2.2.2.2.2.2.2.2.2.1]; simp
  | ⟨1, _⟩ => show l.val = win0_17.index t 1 * 128 + 1 * l.val; rw [(index_eq t).2.2.2.2.2.2.2.2.2.2.2.2.2.2.2.2.2.1]; simp

/-- Every index of result 8 is in some point's block. -/
theorem cover17 (i : S4096x128.Idx) : ∃ t : Fin cfg0.N, (cfg0.win 17).flush t = true ∧ i ∈ ((cfg0.win 17).blk t).view.set := by
  have h0 : (i 0 : Nat) < 4096 := (i 0).isLt
  have h1 : (i 1 : Nat) < 128 := (i 1).isLt
  have hN : cfg0.N = 2 := N_0
  have ht : (i 0 : Nat) / 2048 < cfg0.N := by omega
  refine ⟨⟨(i 0 : Nat) / 2048, ht⟩, flush0_17 _, ?_⟩
  show i ∈ ((View.whole main_v31_8).slice (win0_17.rect ⟨(i 0 : Nat) / 2048, ht⟩)).set
  rw [View.set_slice_whole, Rect.mem_set_unit]
  have e := (index_eq ⟨(i 0 : Nat) / 2048, ht⟩).2.2.2.2.2.2.2.2.2.2.2.2.2.2.2.2.2.1
  intro a
  match a with
  | ⟨0, _⟩ =>
    show win0_17.index ⟨(i 0 : Nat) / 2048, ht⟩ 0 * 2048 ≤ (i 0 : Nat) ∧ (i 0 : Nat) < win0_17.index ⟨(i 0 : Nat) / 2048, ht⟩ 0 * 2048 + 2048
    rw [e]; dsimp; omega
  | ⟨1, _⟩ =>
    show win0_17.index ⟨(i 0 : Nat) / 2048, ht⟩ 1 * 128 ≤ (i 1 : Nat) ∧ (i 1 : Nat) < win0_17.index ⟨(i 0 : Nat) / 2048, ht⟩ 1 * 128 + 128
    rw [e]; dsimp; omega

/-- A block of result 9, from what it holds at each row and column. -/
theorem out_block18 (c : Dev nD) (t : Fin cfg0.N) (G : Buf (Elt Ideal) ((c : Thread nD τ).loc main_v31_9)) (o : Vec Ideal S512x512 .bf16)
    (ho : ∀ (r : Fin 512) (l : Fin 512), o (ix2 r l) = G (ix2 (rowOf t r) l)) :
    (cfg0.win 18).cut (grid0.coords t) o = ((cfg0.win 18).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_18.index t 0 * 512 + 1 * r.val; rw [(index_eq t).2.2.2.2.2.2.2.2.2.2.2.2.2.2.2.2.2.2]; simp
  | ⟨1, _⟩ => show l.val = win0_18.index t 1 * 512 + 1 * l.val; rw [(index_eq t).2.2.2.2.2.2.2.2.2.2.2.2.2.2.2.2.2.2]; simp

/-- Every index of result 9 is in some point's block. -/
theorem cover18 (i : S1024x512.Idx) : ∃ t : Fin cfg0.N, (cfg0.win 18).flush t = true ∧ i ∈ ((cfg0.win 18).blk t).view.set := by
  have h0 : (i 0 : Nat) < 1024 := (i 0).isLt
  have h1 : (i 1 : Nat) < 512 := (i 1).isLt
  have hN : cfg0.N = 2 := N_0
  have ht : (i 0 : Nat) / 512 < cfg0.N := by omega
  refine ⟨⟨(i 0 : Nat) / 512, ht⟩, flush0_18 _, ?_⟩
  show i ∈ ((View.whole main_v31_9).slice (win0_18.rect ⟨(i 0 : Nat) / 512, ht⟩)).set
  rw [View.set_slice_whole, Rect.mem_set_unit]
  have e := (index_eq ⟨(i 0 : Nat) / 512, ht⟩).2.2.2.2.2.2.2.2.2.2.2.2.2.2.2.2.2.2
  intro a
  match a with
  | ⟨0, _⟩ =>
    show win0_18.index ⟨(i 0 : Nat) / 512, ht⟩ 0 * 512 ≤ (i 0 : Nat) ∧ (i 0 : Nat) < win0_18.index ⟨(i 0 : Nat) / 512, ht⟩ 0 * 512 + 512
    rw [e]; dsimp; omega
  | ⟨1, _⟩ =>
    show win0_18.index ⟨(i 0 : Nat) / 512, ht⟩ 1 * 512 ≤ (i 1 : Nat) ∧ (i 1 : Nat) < win0_18.index ⟨(i 0 : Nat) / 512, ht⟩ 1 * 512 + 512
    rw [e]; dsimp; omega

end Cert.MixsIdeal.Ker
-- ==== Proof.MixsMath.lean ====
module

public import proofs.«01_k».proof.Defs
public import proofs.«01_k».proof.Proof.FfnValue
public import proofs.«01_k».proof.Proof.MixsIdealFrame
public import Idealize.ShloMosaic.Lib.IdealHost
public import Idealize.ShloMosaic.Lib.Pointwise
public import Idealize.ShloMosaic.Lib.Tactic

@[expose] public section

set_option maxRecDepth 16384

noncomputable section

/-! # The mixers' input call: what its blocks hold at an index, in scalars -/

namespace Cert.MixsIdeal.Ker

open Cert.MixsIdeal Cert.MixsIdeal.Gen Cert.MixsIdeal.Mix Idealize.ShloMosaic Idealize.ShloMosaic.TcCoe Idealize.SL.Sem
open Cert.FfnIdeal.Ker (nrm hz)

/-- A normalised row times one column of weights. -/
def lin (x g w : Fin 1024 → EReal) : EReal := ∑ q, nrm x g q * w q

/-- A group of 64 entries divided by its root mean square, scaled by a gain. -/
def hn (t : Fin 64 → EReal) (k : EReal) (d : Fin 64) : EReal :=
  t d * Ideal.rsqrt (Ideal.div (∑ e, t e * t e) (Ideal.ofBits FTy.f32 0x42800000#32) + Ideal.ofBits FTy.f32 0x358637BD#32) * k

/-- The logarithm of the sigmoid, as the kernel computes it, over sixteen. -/
def lsig (z : EReal) : EReal :=
  (min z (Ideal.ofBits FTy.f32 0x00000000#32) - Ideal.log (Ideal.ofBits FTy.f32 0x3F800000#32 + Ideal.exp (Ideal.ofBits FTy.f32 0x00000000#32 - max z (-z))))
    * Ideal.ofBits FTy.f32 0x3D800000#32

/-- The normalised block at an index. -/
theorem pay1_apply (x : Vec Ideal S512x1024 .f32) (g : Vec Ideal S1x1024 .f32) (r : Fin 512) (q : Fin 1024) :
    k0_pay1 x g (ix2 r q) = nrm (fun j => x (ix2 r j)) (fun j => g (ix2 0 j)) q := by
  unfold nrm
  pointwise [k0_pay1]

/-- The projected block at an index. -/
theorem pay2_apply (x : Vec Ideal S512x1024 .f32) (g : Vec Ideal S1x1024 .f32) (w : Vec Ideal S1024x3072 .bf16) (r : Fin 512) (l : Fin 3072) :
    k0_pay2 x g w (ix2 r l) = lin (fun j => x (ix2 r j)) (fun j => g (ix2 0 j)) (fun q => w (ix2 q l)) := by
  unfold lin nrm
  pointwise [k0_pay2, k0_pay1]

/-- A sum over 512 entries that keeps one group of 64. -/
theorem group_sum (a : Fin 512 → EReal) (c : Fin 8) :
    ∑ q : Fin 512, a q * (if q.val / 64 = c.val then (1 : EReal) else 0) = ∑ e : Fin 64, a ⟨64 * c.val + e.val, by omega⟩ := by
  rw [Fin.sum_univ_tiles 8 64 rfl, Finset.sum_eq_single c]
  · refine Finset.sum_congr rfl fun e _ => ?_
    have h1 : (⟨c.val * 64 + e.val, by omega⟩ : Fin 512) = ⟨64 * c.val + e.val, by omega⟩ := Fin.ext (by show c.val * 64 + e.val = 64 * c.val + e.val; omega)
    have h2 : (c.val * 64 + e.val) / 64 = c.val := by omega
    show a ⟨c.val * 64 + e.val, _⟩ * (if (c.val * 64 + e.val) / 64 = c.val then (1 : EReal) else 0) = _
    rw [h1, if_pos h2, mul_one]
  · intro b _ hb
    refine Finset.sum_eq_zero fun e _ => ?_
    have h2 : ¬ (b.val * 64 + e.val) / 64 = c.val := fun h => hb (Fin.ext (by omega))
    show a ⟨b.val * 64 + e.val, _⟩ * (if (b.val * 64 + e.val) / 64 = c.val then (1 : EReal) else 0) = _
    rw [if_neg h2, mul_zero]
  · intro h
    exact absurd (Finset.mem_univ c) h

/-- The word of 1/64 multiplies as the word of 64 divides. -/
theorem mul_64 (a : EReal) : a * Ideal.ofBits FTy.f32 0x3C800000#32 = Ideal.div a (Ideal.ofBits FTy.f32 0x42800000#32) := by
  have h1 : Ideal.ofBits FTy.f32 0x3C800000#32 = ((1 / 64 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  rw [h1, h2, Ideal.div, if_neg (by norm_num), ← EReal.coe_inv]
  norm_num

/-- The word of 1/16 multiplies as the word of 16 divides. -/
theorem mul_16 (a : EReal) : a * Ideal.ofBits FTy.f32 0x3D800000#32 = Ideal.div a (Ideal.ofBits FTy.f32 0x41800000#32) := by
  have h1 : Ideal.ofBits FTy.f32 0x3D800000#32 = ((1 / 16 : ℝ) : EReal) := by
    simp [Ideal.ofBits, Ideal.ieee, -EReal.coe_mul]; norm_num
  have h2 : Ideal.ofBits FTy.f32 0x41800000#32 = ((16 : ℝ) : EReal) := by
    simp [Ideal.ofBits, Ideal.ieee, -EReal.coe_mul]; norm_num
  rw [h1, h2, Ideal.div, if_neg (by norm_num), ← EReal.coe_inv]
  norm_num

/-- The group normalisation of a block, with the matrix of group ones. -/
theorem pay11_apply (t : FVec Ideal S512x512 .f32) (k : Vec Ideal S1x512 .f32) (G : Vec Ideal S512x512 .bf16)
    (hG : ∀ q l : Fin 512, G (ix2 q l) = if q.val / 64 = l.val / 64 then (1 : EReal) else 0) (r l : Fin 512) :
    k0_pay11 t k G (ix2 r l) = hn (fun e => t (ix2 r ⟨64 * (l.val / 64) + e.val, by omega⟩)) (k (ix2 0 l)) ⟨l.val % 64, by omega⟩ := by
  pointwise [k0_pay11]
  simp only [hG]
  have hs := group_sum (fun q => t (ix2 r q) * t (ix2 r q)) ⟨l.val / 64, by omega⟩
  rw [hs, mul_64]
  have hl : (⟨64 * (l.val / 64) + l.val % 64, by omega⟩ : Fin 512) = l := Fin.ext (by show 64 * (l.val / 64) + l.val % 64 = l.val; omega)
  unfold hn
  exact congrArg (fun a : Fin 512 => t (ix2 r a) * _ * _) hl.symm

/-- The decay block at an index. -/
theorem pay10_apply (h : FVec Ideal S512x1024 .bf16) (a : Vec Ideal S1024x128 .bf16) (u : Vec Ideal S128x256 .bf16) (b : Vec Ideal S1x256 .f32) (r : Fin 512) (l : Fin 256) :
    k0_pay10 h a u b (ix2 r l) = lsig ((∑ k : Fin 128, (∑ q : Fin 1024, h (ix2 r q) * a (ix2 q k)) * u (ix2 k l)) + b (ix2 0 l)) := by
  unfold lsig
  pointwise [k0_pay10]
  rfl

/-- The softplus of the negated magnitude is finite. -/
theorem soft_real (z : EReal) : ∃ r : ℝ, Ideal.log (1 + Ideal.exp (-(max z (-z)))) = (r : EReal) := by
  have h1 : (1 : EReal) = ((1 : ℝ) : EReal) := rfl
  have hlog : ∀ y : ℝ, 0 < y → Ideal.log ((y : ℝ) : EReal) = ((Real.log y : ℝ) : EReal) := fun y hy => by
    show (if y ≤ 0 then ⊥ else ((Real.log y : ℝ) : EReal)) = _
    rw [if_neg (not_le.2 hy)]
  have hbot : Ideal.log (1 + Ideal.exp ⊥) = ((Real.log 1 : ℝ) : EReal) := by
    show Ideal.log (1 + 0) = _
    rw [add_zero, h1, hlog 1 one_pos]
  induction z with
  | bot => exact ⟨Real.log 1, by rw [EReal.neg_bot, max_eq_right bot_le, EReal.neg_top, hbot]⟩
  | top => exact ⟨Real.log 1, by rw [EReal.neg_top, max_eq_left bot_le, EReal.neg_top, hbot]⟩
  | coe x =>
    have e : (-(max (x : EReal) (-(x : EReal)))) = ((-(max x (-x)) : ℝ) : EReal) := by
      rw [← EReal.coe_neg, ← EReal.coe_strictMono.monotone.map_max, ← EReal.coe_neg]
    refine ⟨Real.log (1 + Real.exp (-(max x (-x)))), ?_⟩
    rw [e]
    show Ideal.log (1 + ((Real.exp (-(max x (-x))) : ℝ) : EReal)) = _
    rw [h1, ← EReal.coe_add]
    exact hlog _ (by positivity)

/-- The kernel's log-sigmoid over sixteen is the negated softplus of the negated argument over sixteen. -/
theorem lsig_eq (z : EReal) : lsig z =
    Ideal.div (-(max (-z) 0 + Ideal.log (1 + Ideal.exp (-(max (-z - 0) (-(-z - 0))))))) (Ideal.ofBits FTy.f32 0x41800000#32) := by
  have b0 : Ideal.ofBits FTy.f32 0x00000000#32 = (0 : EReal) := by simp [Ideal.ofBits, Ideal.ieee]
  have b1 : Ideal.ofBits FTy.f32 0x3F800000#32 = (1 : EReal) := by
    have : Ideal.ofBits FTy.f32 0x3F800000#32 = ((1 : ℝ) : EReal) := by
      simp [Ideal.ofBits, Ideal.ieee, -EReal.coe_mul]; norm_num
    exact this
  obtain ⟨r, hr⟩ := soft_real z
  unfold lsig
  rw [mul_16, b0, b1, sub_zero, neg_neg, max_comm (-z) z, zero_sub, hr]
  congr 1
  rw [EReal.neg_add (Or.inr (EReal.coe_ne_top r)) (Or.inr (EReal.coe_ne_bot r))]
  congr 1
  rcases le_total z 0 with h | h
  · rw [min_eq_left h, max_eq_left (by rw [EReal.le_neg, neg_zero]; exact h), neg_neg]
  · rw [min_eq_right h, max_eq_right (by rw [EReal.neg_le, neg_zero]; exact h), neg_zero]

/-- A sum over 128 entries of which all but the first sixteen are nought. -/
theorem pad_sum (a u : Fin 128 → EReal) (b v : Fin 16 → EReal)
    (ha : ∀ k : Fin 128, a k = if h : k.val < 16 then b ⟨k.val, h⟩ else 0) (hu : ∀ k : Fin 16, u ⟨k.val, by omega⟩ = v k) :
    ∑ k, a k * u k = ∑ k, b k * v k := by
  have e : ∑ k : Fin (16 + 112), a k * u k = ∑ k : Fin 16, a (Fin.castAdd 112 k) * u (Fin.castAdd 112 k) + ∑ k : Fin 112, a (Fin.natAdd 16 k) * u (Fin.natAdd 16 k) :=
    Fin.sum_univ_add _
  refine e.trans ?_
  have h2 : ∑ k : Fin 112, a (Fin.natAdd 16 k) * u (Fin.natAdd 16 k) = 0 := Finset.sum_eq_zero fun k _ => by
    rw [ha, dif_neg (by show ¬ 16 + k.val < 16; omega), zero_mul]
  rw [h2, add_zero]
  refine Finset.sum_congr rfl fun k _ => ?_
  rw [ha, dif_pos (show (Fin.castAdd 112 k).val < 16 from k.isLt)]
  exact congrArg (fun t : EReal => b k * t) (hu k)

/-- The query scale is one eighth times the base-two logarithm of e. -/
theorem qscale_eq : (((1 / 8) * (Real.log 2)⁻¹ : ℝ) : EReal) = Ideal.ofBits FTy.f32 0x3E000000#32 * ((1 / Real.log 2 : ℝ) : EReal) := by
  have h1 : Ideal.ofBits FTy.f32 0x3E000000#32 = ((1 / 8 : ℝ) : EReal) := by
    simp [Ideal.ofBits, Ideal.ieee, -EReal.coe_mul]; norm_num
  rw [h1, ← EReal.coe_mul, one_div (Real.log 2)]

/-! ## What each result's block holds -/

/-- Reading a whole block of this shape gives the block. -/
theorem ld_x (v : Vec Ideal S512x1024 .f32) : View.ld v (Rect.unit (s := S512x1024) ![0, 0] S512x1024.size inb_S512x1024_S512x1024_0_0) = v := by rw [View.ld_unit_zero hz]

/-- Reading a whole block of this shape gives the block. -/
theorem ld_g (v : Vec Ideal S1x1024 .f32) : View.ld v (Rect.unit (s := S1x1024) ![0, 0] S1x1024.size inb_S1x1024_S1x1024_0_0) = v := by rw [View.ld_unit_zero hz]

/-- Reading a whole block of this shape gives the block. -/
theorem ld_w (v : Vec Ideal S1024x3072 .bf16) : View.ld v (Rect.unit (s := S1024x3072) ![0, 0] S1024x3072.size inb_S1024x3072_S1024x3072_0_0) = v := by rw [View.ld_unit_zero hz]

/-- Reading a whole block of this shape gives the block. -/
theorem ld_a (v : Vec Ideal S1024x128 .bf16) : View.ld v (Rect.unit (s := S1024x128) ![0, 0] S1024x128.size inb_S1024x128_S1024x128_0_0) = v := by rw [View.ld_unit_zero hz]

/-- Reading a whole block of this shape gives the block. -/
theorem ld_u (v : Vec Ideal S128x256 .bf16) : View.ld v (Rect.unit (s := S128x256) ![0, 0] S128x256.size inb_S128x256_S128x256_0_0) = v := by rw [View.ld_unit_zero hz]

/-- Reading a whole block of this shape gives the block. -/
theorem ld_b (v : Vec Ideal S1x256 .f32) : View.ld v (Rect.unit (s := S1x256) ![0, 0] S1x256.size inb_S1x256_S1x256_0_0) = v := by rw [View.ld_unit_zero hz]

/-- Reading a whole block of this shape gives the block. -/
theorem ld_t (v : Vec Ideal S1x512 .f32) : View.ld v (Rect.unit (s := S1x512) ![0, 0] S1x512.size inb_S1x512_S1x512_0_0) = v := by rw [View.ld_unit_zero hz]

/-- Reading a whole block of this shape gives the block. -/
theorem ld_o (v : Vec Ideal S512x512 .bf16) : View.ld v (Rect.unit (s := S512x512) ![0, 0] S512x512.size inb_S512x512_S512x512_0_0) = v := by rw [View.ld_unit_zero hz]

/-- The scaled linear-attention queries. -/
theorem left9_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 256) :
    left9 x0 x1 x2 x3 x4 x5 x6 x7 x8 (ix2 r l) = lin (fun j => x0 (ix2 r j)) (fun j => x1 (ix2 0 j)) (fun q => x2 (ix2 q ⟨l.val, by omega⟩)) * Ideal.ofBits FTy.f32 0x3E000000#32 := by
  unfold left9
  rw [View.canon_unit_zero hz]
  rw [ld_x, ld_g, ld_w]
  pointwise [k0_pay3]
  rw [pay2_apply]

/-- The linear-attention keys. -/
theorem left10_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 256) :
    left10 x0 x1 x2 x3 x4 x5 x6 x7 x8 (ix2 r l) = lin (fun j => x0 (ix2 r j)) (fun j => x1 (ix2 0 j)) (fun q => x2 (ix2 q ⟨256 + l.val, by omega⟩)) := by
  unfold left10
  rw [View.canon_unit_zero hz]
  rw [ld_x, ld_g, ld_w]
  pointwise [k0_pay4]
  rw [pay2_apply]

/-- The linear-attention values. -/
theorem left11_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left11 x0 x1 x2 x3 x4 x5 x6 x7 x8 (ix2 r l) = lin (fun j => x0 (ix2 r j)) (fun j => x1 (ix2 0 j)) (fun q => x2 (ix2 q ⟨512 + l.val, by omega⟩)) := by
  unfold left11
  rw [View.canon_unit_zero hz]
  rw [ld_x, ld_g, ld_w]
  pointwise [k0_pay5]
  rw [pay2_apply]

/-- The output gate's columns. -/
theorem left12_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left12 x0 x1 x2 x3 x4 x5 x6 x7 x8 (ix2 r l) = lin (fun j => x0 (ix2 r j)) (fun j => x1 (ix2 0 j)) (fun q => x2 (ix2 q ⟨1024 + l.val, by omega⟩)) := by
  unfold left12
  rw [View.canon_unit_zero hz]
  rw [ld_x, ld_g, ld_w]
  pointwise [k0_pay6]
  rw [pay2_apply]

/-- The log decay. -/
theorem left13_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 256) :
    left13 x0 x1 x2 x3 x4 x5 x6 x7 x8 (ix2 r l) = lsig ((∑ k : Fin 128, lin (fun j => x0 (ix2 r j)) (fun j => x1 (ix2 0 j)) (fun q => x3 (ix2 q k)) * x4 (ix2 k l)) + x5 (ix2 0 l)) := by
  unfold left13 left_h
  rw [View.canon_unit_zero hz]
  rw [ld_x, ld_g, ld_a, ld_u, ld_b]
  rw [pay10_apply]
  simp only [pay1_apply]
  rfl

/-- The attention queries as projected. -/
theorem left_q_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left_q x0 x1 x2 x3 x4 x5 x6 x7 x8 (ix2 r l) = lin (fun j => x0 (ix2 r j)) (fun j => x1 (ix2 0 j)) (fun q => x2 (ix2 q ⟨1536 + l.val, by omega⟩)) := by
  unfold left_q
  rw [ld_x, ld_g, ld_w]
  pointwise [k0_pay7]
  rw [pay2_apply]

/-- The attention keys as projected. -/
theorem left_k_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left_k x0 x1 x2 x3 x4 x5 x6 x7 x8 (ix2 r l) = lin (fun j => x0 (ix2 r j)) (fun j => x1 (ix2 0 j)) (fun q => x2 (ix2 q ⟨2048 + l.val, by omega⟩)) := by
  unfold left_k
  rw [ld_x, ld_g, ld_w]
  pointwise [k0_pay8]
  rw [pay2_apply]

/-- The attention values as projected. -/
theorem left_v_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left_v x0 x1 x2 x3 x4 x5 x6 x7 x8 (ix2 r l) = lin (fun j => x0 (ix2 r j)) (fun j => x1 (ix2 0 j)) (fun q => x2 (ix2 q ⟨2560 + l.val, by omega⟩)) := by
  unfold left_v
  rw [ld_x, ld_g, ld_w]
  pointwise [k0_pay9]
  rw [pay2_apply]

/-- One head's columns of the values. -/
theorem plane_part0 (v : FVec Ideal S512x512 .f32) (r : Fin 512) (l : Fin 128) (x : S512x128.Idx) (h0 : (x 0).val = r.val) (h1 : (x 1).val = l.val) :
    k0_pay16 v x = v (ix2 r ⟨0 + l.val, by omega⟩) := by
  have hx : x = ix2 r l := funext fun a => by
    match a with
    | ⟨0, _⟩ => exact Fin.ext h0
    | ⟨1, _⟩ => exact Fin.ext h1
  subst hx
  pointwise [k0_pay16]

/-- One head's columns of the values. -/
theorem plane_part1 (v : FVec Ideal S512x512 .f32) (r : Fin 512) (l : Fin 128) (x : S512x128.Idx) (h0 : (x 0).val = r.val) (h1 : (x 1).val = l.val) :
    k0_pay17 v x = v (ix2 r ⟨128 + l.val, by omega⟩) := by
  have hx : x = ix2 r l := funext fun a => by
    match a with
    | ⟨0, _⟩ => exact Fin.ext h0
    | ⟨1, _⟩ => exact Fin.ext h1
  subst hx
  pointwise [k0_pay17]

/-- One head's columns of the values. -/
theorem plane_part2 (v : FVec Ideal S512x512 .f32) (r : Fin 512) (l : Fin 128) (x : S512x128.Idx) (h0 : (x 0).val = r.val) (h1 : (x 1).val = l.val) :
    k0_pay18 v x = v (ix2 r ⟨256 + l.val, by omega⟩) := by
  have hx : x = ix2 r l := funext fun a => by
    match a with
    | ⟨0, _⟩ => exact Fin.ext h0
    | ⟨1, _⟩ => exact Fin.ext h1
  subst hx
  pointwise [k0_pay18]

/-- One head's columns of the values. -/
theorem plane_part3 (v : FVec Ideal S512x512 .f32) (r : Fin 512) (l : Fin 128) (x : S512x128.Idx) (h0 : (x 0).val = r.val) (h1 : (x 1).val = l.val) :
    k0_pay19 v x = v (ix2 r ⟨384 + l.val, by omega⟩) := by
  have hx : x = ix2 r l := funext fun a => by
    match a with
    | ⟨0, _⟩ => exact Fin.ext h0
    | ⟨1, _⟩ => exact Fin.ext h1
  subst hx
  pointwise [k0_pay19]

/-- The normalised and scaled queries. -/
theorem left14_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (hG : ∀ q l : Fin 512, x8 (ix2 q l) = if q.val / 64 = l.val / 64 then (1 : EReal) else 0) (r : Fin 512) (l : Fin 512) :
    left14 x0 x1 x2 x3 x4 x5 x6 x7 x8 (ix2 r l) = hn (fun e => lin (fun j => x0 (ix2 r j)) (fun j => x1 (ix2 0 j)) (fun q => x2 (ix2 q ⟨1536 + (64 * (l.val / 64) + e.val), by omega⟩))) (x6 (ix2 0 l)) ⟨l.val % 64, by omega⟩ * (((1 / 8) * (Real.log 2)⁻¹ : ℝ) : EReal) := by
  unfold left14
  rw [View.canon_unit_zero hz]
  rw [ld_t, ld_o]
  show k0_pay11 (left_q x0 x1 x2 x3 x4 x5 x6 x7 x8) x6 x8 (ix2 r l) * k0_pay12 (F := Ideal) (ix2 r l) = _
  rw [pay11_apply _ _ _ hG]
  simp only [left_q_apply]
  rfl

/-- The normalised keys. -/
theorem left15_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (hG : ∀ q l : Fin 512, x8 (ix2 q l) = if q.val / 64 = l.val / 64 then (1 : EReal) else 0) (r : Fin 512) (l : Fin 512) :
    left15 x0 x1 x2 x3 x4 x5 x6 x7 x8 (ix2 r l) = hn (fun e => lin (fun j => x0 (ix2 r j)) (fun j => x1 (ix2 0 j)) (fun q => x2 (ix2 q ⟨2048 + (64 * (l.val / 64) + e.val), by omega⟩))) (x7 (ix2 0 l)) ⟨l.val % 64, by omega⟩ := by
  unfold left15
  rw [View.canon_unit_zero hz]
  rw [ld_t, ld_o]
  refine (pay11_apply (left_k x0 x1 x2 x3 x4 x5 x6 x7 x8) x7 x8 hG r l).trans ?_
  simp only [left_k_apply]

/-- The normalised keys again, in the narrow format. -/
theorem left16_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (hG : ∀ q l : Fin 512, x8 (ix2 q l) = if q.val / 64 = l.val / 64 then (1 : EReal) else 0) (r : Fin 512) (l : Fin 512) :
    left16 x0 x1 x2 x3 x4 x5 x6 x7 x8 (ix2 r l) = hn (fun e => lin (fun j => x0 (ix2 r j)) (fun j => x1 (ix2 0 j)) (fun q => x2 (ix2 q ⟨2048 + (64 * (l.val / 64) + e.val), by omega⟩))) (x7 (ix2 0 l)) ⟨l.val % 64, by omega⟩ := by
  unfold left16
  rw [View.canon_unit_zero hz]
  rw [ld_t, ld_o]
  refine (pay11_apply (left_k x0 x1 x2 x3 x4 x5 x6 x7 x8) x7 x8 hG r l).trans ?_
  simp only [left_k_apply]

/-- The values by heads: row `4 r + h` is head `h` of row `r`. -/
theorem left17_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 2048) (l : Fin 128) :
    left17 x0 x1 x2 x3 x4 x5 x6 x7 x8 (ix2 r l) = lin (fun j => x0 (ix2 ⟨r.val / 4, by omega⟩ j)) (fun j => x1 (ix2 0 j)) (fun q => x2 (ix2 q ⟨2560 + (128 * (r.val % 4) + l.val), by omega⟩)) := by
  have key := View.canon_apply_of_pieces (Val := Elt Ideal) (S := S2048x128) (e := .f32)
    (fun y => left_v x0 x1 x2 x3 x4 x5 x6 x7 x8 (ix2 ⟨(y 0).val / 4, by have h : (y 0).val < 2048 := (y 0).isLt; omega⟩ ⟨128 * ((y 0).val % 4) + (y 1).val, by have h : (y 1).val < 128 := (y 1).isLt; omega⟩))
    [⟨plane3, k0_pay19 (left_v x0 x1 x2 x3 x4 x5 x6 x7 x8)⟩, ⟨plane2, k0_pay18 (left_v x0 x1 x2 x3 x4 x5 x6 x7 x8)⟩, ⟨plane1, k0_pay17 (left_v x0 x1 x2 x3 x4 x5 x6 x7 x8)⟩, ⟨plane0, k0_pay16 (left_v x0 x1 x2 x3 x4 x5 x6 x7 x8)⟩]
    (fun p hp x => ?_) (ix2 r l) (planes_cover _ _ _ _ (ix2 r l))
  · unfold left17
    refine key.trans ?_
    rw [left_v_apply]
    rfl
  · simp only [List.mem_cons, List.not_mem_nil, or_false] at hp
    rcases hp with rfl | rfl | rfl | rfl
    · have hx0 : (x 0).val < 512 := (x 0).isLt
      have hx1 : (x 1).val < 128 := (x 1).isLt
      have e0 : ((plane3.emb x) 0).val = 4 * (x 0).val + 3 := by
        show 3 + 4 * (x 0).val = _
        omega
      have e1 : ((plane3.emb x) 1).val = (x 1).val := by
        show 0 + 1 * (x 1).val = _
        omega
      refine (plane_part3 (left_v x0 x1 x2 x3 x4 x5 x6 x7 x8) ⟨(x 0).val, hx0⟩ ⟨(x 1).val, hx1⟩ x rfl rfl).trans (congrArg (left_v x0 x1 x2 x3 x4 x5 x6 x7 x8) (funext fun a => Fin.ext ?_))
      match a with
      | ⟨0, _⟩ => show (x 0).val = ((plane3.emb x) 0).val / 4; rw [e0]; omega
      | ⟨1, _⟩ => show 384 + (x 1).val = 128 * (((plane3.emb x) 0).val % 4) + ((plane3.emb x) 1).val; rw [e0, e1]; omega
    · have hx0 : (x 0).val < 512 := (x 0).isLt
      have hx1 : (x 1).val < 128 := (x 1).isLt
      have e0 : ((plane2.emb x) 0).val = 4 * (x 0).val + 2 := by
        show 2 + 4 * (x 0).val = _
        omega
      have e1 : ((plane2.emb x) 1).val = (x 1).val := by
        show 0 + 1 * (x 1).val = _
        omega
      refine (plane_part2 (left_v x0 x1 x2 x3 x4 x5 x6 x7 x8) ⟨(x 0).val, hx0⟩ ⟨(x 1).val, hx1⟩ x rfl rfl).trans (congrArg (left_v x0 x1 x2 x3 x4 x5 x6 x7 x8) (funext fun a => Fin.ext ?_))
      match a with
      | ⟨0, _⟩ => show (x 0).val = ((plane2.emb x) 0).val / 4; rw [e0]; omega
      | ⟨1, _⟩ => show 256 + (x 1).val = 128 * (((plane2.emb x) 0).val % 4) + ((plane2.emb x) 1).val; rw [e0, e1]; omega
    · have hx0 : (x 0).val < 512 := (x 0).isLt
      have hx1 : (x 1).val < 128 := (x 1).isLt
      have e0 : ((plane1.emb x) 0).val = 4 * (x 0).val + 1 := by
        show 1 + 4 * (x 0).val = _
        omega
      have e1 : ((plane1.emb x) 1).val = (x 1).val := by
        show 0 + 1 * (x 1).val = _
        omega
      refine (plane_part1 (left_v x0 x1 x2 x3 x4 x5 x6 x7 x8) ⟨(x 0).val, hx0⟩ ⟨(x 1).val, hx1⟩ x rfl rfl).trans (congrArg (left_v x0 x1 x2 x3 x4 x5 x6 x7 x8) (funext fun a => Fin.ext ?_))
      match a with
      | ⟨0, _⟩ => show (x 0).val = ((plane1.emb x) 0).val / 4; rw [e0]; omega
      | ⟨1, _⟩ => show 128 + (x 1).val = 128 * (((plane1.emb x) 0).val % 4) + ((plane1.emb x) 1).val; rw [e0, e1]; omega
    · have hx0 : (x 0).val < 512 := (x 0).isLt
      have hx1 : (x 1).val < 128 := (x 1).isLt
      have e0 : ((plane0.emb x) 0).val = 4 * (x 0).val + 0 := by
        show 0 + 4 * (x 0).val = _
        omega
      have e1 : ((plane0.emb x) 1).val = (x 1).val := by
        show 0 + 1 * (x 1).val = _
        omega
      refine (plane_part0 (left_v x0 x1 x2 x3 x4 x5 x6 x7 x8) ⟨(x 0).val, hx0⟩ ⟨(x 1).val, hx1⟩ x rfl rfl).trans (congrArg (left_v x0 x1 x2 x3 x4 x5 x6 x7 x8) (funext fun a => Fin.ext ?_))
      match a with
      | ⟨0, _⟩ => show (x 0).val = ((plane0.emb x) 0).val / 4; rw [e0]; omega
      | ⟨1, _⟩ => show 0 + (x 1).val = 128 * (((plane0.emb x) 0).val % 4) + ((plane0.emb x) 1).val; rw [e0, e1]; omega

/-- The values in the narrow format. -/
theorem left18_apply (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (r : Fin 512) (l : Fin 512) :
    left18 x0 x1 x2 x3 x4 x5 x6 x7 x8 (ix2 r l) = lin (fun j => x0 (ix2 r j)) (fun j => x1 (ix2 0 j)) (fun q => x2 (ix2 q ⟨2560 + l.val, by omega⟩)) := by
  unfold left18
  rw [View.canon_unit_zero hz]
  exact left_v_apply x0 x1 x2 x3 x4 x5 x6 x7 x8 r l

end Cert.MixsIdeal.Ker
-- ==== Proof.MixsValue.lean ====
module

public import proofs.«01_k».proof.Defs
public import proofs.«01_k».proof.Proof.MixsHost
public import proofs.«01_k».proof.Proof.MixsMath
public import Idealize.ShloMosaic.Lib.Pipeline.Value
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The mixers' input call: what its ten results hold, over the extended reals -/

namespace Cert.MixsIdeal.Ker

open Cert.MixsIdeal Cert.MixsIdeal.Gen Cert.MixsIdeal.Mix Idealize.ShloMosaic Idealize.ShloMosaic.TcCoe Idealize.SL.Sem
open Idealize.ShloMosaic.Pipeline (Dat)
open Cert.FfnIdeal.Ker (nrm hz)

/-- An array of rank two from its entries. -/
abbrev on2 {a b : ℕ} (f : Fin a → Fin b → EReal) : (⟨2, ![a, b]⟩ : Shape).Idx → EReal := fun i => f ⟨(i 0).val, (i 0).isLt⟩ ⟨(i 1).val, (i 1).isLt⟩

/-- One entry of the normalised input times the input weights: row `R`, column `C`. -/
def pj (x : S128x8x1024.Idx → EReal) (g : S1024.Idx → EReal) (w : S1024x3088.Idx → EReal) (R : Fin 1024) (C : Fin 3088) : EReal :=
  lin (xrow x R) (fun j => g (ix1 j)) (fun q => w (ix2 q C))

section Results
variable (x : S128x8x1024.Idx → EReal) (g : S1024.Idx → EReal) (w : S1024x3088.Idx → EReal) (u : S16x256.Idx → EReal) (b : S256.Idx → EReal) (kq kk : S64.Idx → EReal)

/-- The linear-attention queries, scaled. -/
def res0 : S1024x256.Idx → EReal := on2 fun (R : Fin 1024) (l : Fin 256) => pj x g w R ⟨l.val, by omega⟩ * Ideal.ofBits FTy.f32 0x3E000000#32
/-- The linear-attention keys. -/
def res1 : S1024x256.Idx → EReal := on2 fun (R : Fin 1024) (l : Fin 256) => pj x g w R ⟨256 + l.val, by omega⟩
/-- The linear-attention values. -/
def res2 : S1024x512.Idx → EReal := on2 fun (R : Fin 1024) (l : Fin 512) => pj x g w R ⟨512 + l.val, by omega⟩
/-- The output gate's columns. -/
def res3 : S1024x512.Idx → EReal := on2 fun (R : Fin 1024) (l : Fin 512) => pj x g w R ⟨1024 + l.val, by omega⟩
/-- The log decay. -/
def res4 : S1024x256.Idx → EReal := on2 fun (R : Fin 1024) (l : Fin 256) =>
  lsig ((∑ k : Fin 16, pj x g w R ⟨1536 + k.val, by omega⟩ * u (ix2 k l)) + b (ix1 l))
/-- The attention queries, normalised and scaled. -/
def res5 : S1024x512.Idx → EReal := on2 fun (R : Fin 1024) (l : Fin 512) =>
  hn (fun e => pj x g w R ⟨1552 + (64 * (l.val / 64) + e.val), by omega⟩) (kq (ix1 ⟨l.val % 64, by omega⟩)) ⟨l.val % 64, by omega⟩ * (((1 / 8) * (Real.log 2)⁻¹ : ℝ) : EReal)
/-- The attention keys, normalised. -/
def res6 : S1024x512.Idx → EReal := on2 fun (R : Fin 1024) (l : Fin 512) =>
  hn (fun e => pj x g w R ⟨2064 + (64 * (l.val / 64) + e.val), by omega⟩) (kk (ix1 ⟨l.val % 64, by omega⟩)) ⟨l.val % 64, by omega⟩
/-- The attention values, one head to a row. -/
def res8 : S4096x128.Idx → EReal := on2 fun (R : Fin 4096) (l : Fin 128) => pj x g w ⟨R.val / 4, by omega⟩ ⟨2576 + (128 * (R.val % 4) + l.val), by omega⟩
/-- The attention values, one token to a row. -/
def res9 : S1024x512.Idx → EReal := on2 fun (R : Fin 1024) (l : Fin 512) => pj x g w R ⟨2576 + l.val, by omega⟩

end Results

variable (m : (ℓ : Loc nD τ sig) → Buf (Elt Ideal) ℓ) (ρ : Dev nD → PrngReg)

/-- The gain as a row. -/
theorem gain_apply (g : FVec Ideal S1024 .f32) (j : Fin 1024) : shapeCast S1x1024 g shapeCasts_S1024_S1x1024 (ix2 0 j) = g (ix1 j) := by
  pointwise

/-- The gate's bias as a row. -/
theorem bias_apply (b : FVec Ideal S256 .f32) (l : Fin 256) : shapeCast S1x256 b shapeCasts_S256_S1x256 (ix2 0 l) = b (ix1 l) := by
  pointwise

/-- The gain as the points read it. -/
theorem gain_at (c : Dev nD) (t : Fin cfg0.N) (j : Fin 1024) : (iblk m c 1 t : Vec Ideal S1x1024 .f32) (ix2 0 j) = m ((c : Thread nD τ).loc main_arg1) (ix1 j) := by
  rw [blk_g]
  exact gain_apply _ j

/-- The input's normalised row at a point, times a column of the weights before the gate's. -/
theorem lin_lo (c : Dev nD) (t : Fin cfg0.N) (r : Fin 512) (l : Fin 3072) (h : l.val < 1536) :
    lin (fun j => (iblk m c 0 t : Vec Ideal S512x1024 .f32) (ix2 r j)) (fun j => (iblk m c 1 t : Vec Ideal S1x1024 .f32) (ix2 0 j))
        (fun q => (iblk m c 2 t : Vec Ideal S1024x3072 .bf16) (ix2 q l))
      = pj (m ((c : Thread nD τ).loc main_arg0)) (m ((c : Thread nD τ).loc main_arg1)) (m ((c : Thread nD τ).loc main_arg2)) (rowOf t r) ⟨l.val, by omega⟩ := by
  simp only [blk_x, gain_at]
  rw [blk_w]
  simp only [prepW_lo _ _ l h]
  rfl

/-- The same for a column after the gate's. -/
theorem lin_hi (c : Dev nD) (t : Fin cfg0.N) (r : Fin 512) (l : Fin 3072) (h : 1536 ≤ l.val) (C : Fin 3088) (hC : C.val = l.val + 16) :
    lin (fun j => (iblk m c 0 t : Vec Ideal S512x1024 .f32) (ix2 r j)) (fun j => (iblk m c 1 t : Vec Ideal S1x1024 .f32) (ix2 0 j))
        (fun q => (iblk m c 2 t : Vec Ideal S1024x3072 .bf16) (ix2 q l))
      = pj (m ((c : Thread nD τ).loc main_arg0)) (m ((c : Thread nD τ).loc main_arg1)) (m ((c : Thread nD τ).loc main_arg2)) (rowOf t r) C := by
  have hb := l.isLt
  obtain rfl : C = ⟨l.val + 16, Nat.add_lt_add_right hb 16⟩ := Fin.ext hC
  simp only [blk_x, gain_at]
  rw [blk_w]
  simp only [prepW_hi _ _ l h]
  rfl

/-- The matrix of group ones as the points read it. -/
theorem ones_at (c : Dev nD) (t : Fin cfg0.N) (q l : Fin 512) :
    (iblk m c 8 t : Vec Ideal S512x512 .bf16) (ix2 q l) = if q.val / 64 = l.val / 64 then (1 : EReal) else 0 := by
  rw [blk_o]
  exact prepO_apply q l

/-- What point `t` writes back of result 0. -/
theorem flushed_eq9 (c : Dev nD) (t : Fin cfg0.N) :
    (data m 0 c).flushed 9 t = ((cfg0.win 9).blk t).view.read (Elt Ideal) (res0 (m ((c : Thread nD τ).loc main_arg0)) (m ((c : Thread nD τ).loc main_arg1)) (m ((c : Thread nD τ).loc main_arg2))) := by
  show (cfg0.win 9).cut (grid0.coords t) ((data m 0 c).after 9 t) = _
  rw [after_9]
  refine out_block9 c t _ _ fun r l => ?_
  refine (left9_apply _ _ _ _ _ _ _ _ _ r l).trans ?_
  rw [lin_lo m c t r _ (show l.val < 1536 by omega)]
  rfl

/-- What point `t` writes back of result 1. -/
theorem flushed_eq10 (c : Dev nD) (t : Fin cfg0.N) :
    (data m 0 c).flushed 10 t = ((cfg0.win 10).blk t).view.read (Elt Ideal) (res1 (m ((c : Thread nD τ).loc main_arg0)) (m ((c : Thread nD τ).loc main_arg1)) (m ((c : Thread nD τ).loc main_arg2))) := by
  show (cfg0.win 10).cut (grid0.coords t) ((data m 0 c).after 10 t) = _
  rw [after_10]
  refine out_block10 c t _ _ fun r l => ?_
  refine (left10_apply _ _ _ _ _ _ _ _ _ r l).trans ?_
  rw [lin_lo m c t r _ (show 256 + l.val < 1536 by omega)]
  rfl

/-- What point `t` writes back of result 2. -/
theorem flushed_eq11 (c : Dev nD) (t : Fin cfg0.N) :
    (data m 0 c).flushed 11 t = ((cfg0.win 11).blk t).view.read (Elt Ideal) (res2 (m ((c : Thread nD τ).loc main_arg0)) (m ((c : Thread nD τ).loc main_arg1)) (m ((c : Thread nD τ).loc main_arg2))) := by
  show (cfg0.win 11).cut (grid0.coords t) ((data m 0 c).after 11 t) = _
  rw [after_11]
  refine out_block11 c t _ _ fun r l => ?_
  refine (left11_apply _ _ _ _ _ _ _ _ _ r l).trans ?_
  rw [lin_lo m c t r _ (show 512 + l.val < 1536 by omega)]
  rfl

/-- What point `t` writes back of result 3. -/
theorem flushed_eq12 (c : Dev nD) (t : Fin cfg0.N) :
    (data m 0 c).flushed 12 t = ((cfg0.win 12).blk t).view.read (Elt Ideal) (res3 (m ((c : Thread nD τ).loc main_arg0)) (m ((c : Thread nD τ).loc main_arg1)) (m ((c : Thread nD τ).loc main_arg2))) := by
  show (cfg0.win 12).cut (grid0.coords t) ((data m 0 c).after 12 t) = _
  rw [after_12]
  refine out_block12 c t _ _ fun r l => ?_
  refine (left12_apply _ _ _ _ _ _ _ _ _ r l).trans ?_
  rw [lin_lo m c t r _ (show 1024 + l.val < 1536 by omega)]
  rfl

/-- What point `t` writes back of result 4. -/
theorem flushed_eq13 (c : Dev nD) (t : Fin cfg0.N) :
    (data m 0 c).flushed 13 t = ((cfg0.win 13).blk t).view.read (Elt Ideal) (res4 (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 13).cut (grid0.coords t) ((data m 0 c).after 13 t) = _
  rw [after_13]
  refine out_block13 c t _ _ fun r l => ?_
  refine (left13_apply _ _ _ _ _ _ _ _ _ r l).trans (congrArg lsig (congrArg₂ (fun a b : EReal => a + b) ?_ ?_))
  · refine pad_sum _ _ (fun k : Fin 16 => pj (m ((c : Thread nD τ).loc main_arg0)) (m ((c : Thread nD τ).loc main_arg1)) (m ((c : Thread nD τ).loc main_arg2)) (rowOf t r) ⟨1536 + k.val, by omega⟩) (fun k => (m ((c : Thread nD τ).loc main_arg3)) (ix2 k l)) (fun k => ?_) (fun k => ?_)
    · simp only [blk_x, gain_at]
      rw [blk_a]
      simp only [prepA_apply]
      split
      · rfl
      · simp only [lin, mul_zero, Finset.sum_const_zero]
    · rw [blk_u]
      exact prepU_apply _ k l
  · rw [blk_b]
    exact bias_apply _ l

/-- What point `t` writes back of result 5. -/
theorem flushed_eq14 (c : Dev nD) (t : Fin cfg0.N) :
    (data m 0 c).flushed 14 t = ((cfg0.win 14).blk t).view.read (Elt Ideal) (res5 (m ((c : Thread nD τ).loc main_arg0)) (m ((c : Thread nD τ).loc main_arg1)) (m ((c : Thread nD τ).loc main_arg2)) (m ((c : Thread nD τ).loc main_arg5))) := by
  show (cfg0.win 14).cut (grid0.coords t) ((data m 0 c).after 14 t) = _
  rw [after_14]
  refine out_block14 c t _ _ fun r l => ?_
  refine (left14_apply _ _ _ _ _ _ _ _ _ (ones_at m c t) r l).trans ?_
  rw [funext fun e : Fin 64 => lin_hi m c t r ⟨1536 + (64 * (l.val / 64) + e.val), by omega⟩ (show 1536 ≤ 1536 + (64 * (l.val / 64) + e.val) by omega)
    ⟨1552 + (64 * (l.val / 64) + e.val), by omega⟩ (by show 1552 + (64 * (l.val / 64) + e.val) = 1536 + (64 * (l.val / 64) + e.val) + 16; omega)]
  rw [blk_qn, prepT_apply]
  rfl

/-- What point `t` writes back of result 6. -/
theorem flushed_eq15 (c : Dev nD) (t : Fin cfg0.N) :
    (data m 0 c).flushed 15 t = ((cfg0.win 15).blk t).view.read (Elt Ideal) (res6 (m ((c : Thread nD τ).loc main_arg0)) (m ((c : Thread nD τ).loc main_arg1)) (m ((c : Thread nD τ).loc main_arg2)) (m ((c : Thread nD τ).loc main_arg6))) := by
  show (cfg0.win 15).cut (grid0.coords t) ((data m 0 c).after 15 t) = _
  rw [after_15]
  refine out_block15 c t _ _ fun r l => ?_
  refine (left15_apply _ _ _ _ _ _ _ _ _ (ones_at m c t) r l).trans ?_
  rw [funext fun e : Fin 64 => lin_hi m c t r ⟨2048 + (64 * (l.val / 64) + e.val), by omega⟩ (show 1536 ≤ 2048 + (64 * (l.val / 64) + e.val) by omega)
    ⟨2064 + (64 * (l.val / 64) + e.val), by omega⟩ (by show 2064 + (64 * (l.val / 64) + e.val) = 2048 + (64 * (l.val / 64) + e.val) + 16; omega)]
  rw [blk_kn, prepT_apply]
  rfl

/-- What point `t` writes back of result 7. -/
theorem flushed_eq16 (c : Dev nD) (t : Fin cfg0.N) :
    (data m 0 c).flushed 16 t = ((cfg0.win 16).blk t).view.read (Elt Ideal) (res6 (m ((c : Thread nD τ).loc main_arg0)) (m ((c : Thread nD τ).loc main_arg1)) (m ((c : Thread nD τ).loc main_arg2)) (m ((c : Thread nD τ).loc main_arg6))) := by
  show (cfg0.win 16).cut (grid0.coords t) ((data m 0 c).after 16 t) = _
  rw [after_16]
  refine out_block16 c t _ _ fun r l => ?_
  refine (left16_apply _ _ _ _ _ _ _ _ _ (ones_at m c t) r l).trans ?_
  rw [funext fun e : Fin 64 => lin_hi m c t r ⟨2048 + (64 * (l.val / 64) + e.val), by omega⟩ (show 1536 ≤ 2048 + (64 * (l.val / 64) + e.val) by omega)
    ⟨2064 + (64 * (l.val / 64) + e.val), by omega⟩ (by show 2064 + (64 * (l.val / 64) + e.val) = 2048 + (64 * (l.val / 64) + e.val) + 16; omega)]
  rw [blk_kn, prepT_apply]
  rfl

/-- What point `t` writes back of result 8. -/
theorem flushed_eq17 (c : Dev nD) (t : Fin cfg0.N) :
    (data m 0 c).flushed 17 t = ((cfg0.win 17).blk t).view.read (Elt Ideal) (res8 (m ((c : Thread nD τ).loc main_arg0)) (m ((c : Thread nD τ).loc main_arg1)) (m ((c : Thread nD τ).loc main_arg2))) := by
  show (cfg0.win 17).cut (grid0.coords t) ((data m 0 c).after 17 t) = _
  rw [after_17]
  refine out_block17 c t _ _ fun r l => ?_
  have hr : r.val / 4 < 512 := by omega
  refine (left17_apply _ _ _ _ _ _ _ _ _ r l).trans ?_
  have ht : t.val < 2 := by have h := t.isLt; have : cfg0.N = 2 := N_0; omega
  rw [lin_hi m c t ⟨r.val / 4, hr⟩ _ (show 1536 ≤ 2560 + (128 * (r.val % 4) + l.val) by omega)
    ⟨2576 + (128 * (r.val % 4) + l.val), by omega⟩ (by show 2576 + (128 * (r.val % 4) + l.val) = 2560 + (128 * (r.val % 4) + l.val) + 16; omega)]
  refine congrArg₂ (pj (m ((c : Thread nD τ).loc main_arg0)) (m ((c : Thread nD τ).loc main_arg1)) (m ((c : Thread nD τ).loc main_arg2))) (Fin.ext ?_) (Fin.ext ?_)
  · show t.val * 512 + r.val / 4 = (t.val * 2048 + r.val) / 4
    omega
  · show 2576 + (128 * (r.val % 4) + l.val) = 2576 + (128 * ((t.val * 2048 + r.val) % 4) + l.val)
    omega

/-- What point `t` writes back of result 9. -/
theorem flushed_eq18 (c : Dev nD) (t : Fin cfg0.N) :
    (data m 0 c).flushed 18 t = ((cfg0.win 18).blk t).view.read (Elt Ideal) (res9 (m ((c : Thread nD τ).loc main_arg0)) (m ((c : Thread nD τ).loc main_arg1)) (m ((c : Thread nD τ).loc main_arg2))) := by
  show (cfg0.win 18).cut (grid0.coords t) ((data m 0 c).after 18 t) = _
  rw [after_18]
  refine out_block18 c t _ _ fun r l => ?_
  refine (left18_apply _ _ _ _ _ _ _ _ _ r l).trans ?_
  rw [lin_hi m c t r _ (show 1536 ≤ 2560 + l.val by omega) ⟨2576 + l.val, by omega⟩ (by show 2576 + l.val = 2560 + l.val + 16; omega)]
  rfl

set_option maxHeartbeats 4000000 in
/-- The kernel's run: every result array holds what is claimed, the arguments unchanged. -/
theorem run : θ_run defs (onTc (τ := τ) (main (F := Ideal))) ⟨m, fun _ => 0, ρ⟩ fun r => ∀ c : Dev nD,
      r.2.mem ((c : Thread nD τ).loc main_v31_0) = res0 (m ((c : Thread nD τ).loc main_arg0)) (m ((c : Thread nD τ).loc main_arg1)) (m ((c : Thread nD τ).loc main_arg2))
      ∧ r.2.mem ((c : Thread nD τ).loc main_v31_1) = res1 (m ((c : Thread nD τ).loc main_arg0)) (m ((c : Thread nD τ).loc main_arg1)) (m ((c : Thread nD τ).loc main_arg2))
      ∧ r.2.mem ((c : Thread nD τ).loc main_v31_2) = res2 (m ((c : Thread nD τ).loc main_arg0)) (m ((c : Thread nD τ).loc main_arg1)) (m ((c : Thread nD τ).loc main_arg2))
      ∧ r.2.mem ((c : Thread nD τ).loc main_v31_3) = res3 (m ((c : Thread nD τ).loc main_arg0)) (m ((c : Thread nD τ).loc main_arg1)) (m ((c : Thread nD τ).loc main_arg2))
      ∧ r.2.mem ((c : Thread nD τ).loc main_v31_4) = res4 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v31_5) = res5 (m ((c : Thread nD τ).loc main_arg0)) (m ((c : Thread nD τ).loc main_arg1)) (m ((c : Thread nD τ).loc main_arg2)) (m ((c : Thread nD τ).loc main_arg5))
      ∧ r.2.mem ((c : Thread nD τ).loc main_v31_6) = res6 (m ((c : Thread nD τ).loc main_arg0)) (m ((c : Thread nD τ).loc main_arg1)) (m ((c : Thread nD τ).loc main_arg2)) (m ((c : Thread nD τ).loc main_arg6))
      ∧ r.2.mem ((c : Thread nD τ).loc main_v31_7) = res6 (m ((c : Thread nD τ).loc main_arg0)) (m ((c : Thread nD τ).loc main_arg1)) (m ((c : Thread nD τ).loc main_arg2)) (m ((c : Thread nD τ).loc main_arg6))
      ∧ r.2.mem ((c : Thread nD τ).loc main_v31_8) = res8 (m ((c : Thread nD τ).loc main_arg0)) (m ((c : Thread nD τ).loc main_arg1)) (m ((c : Thread nD τ).loc main_arg2))
      ∧ r.2.mem ((c : Thread nD τ).loc main_v31_9) = res9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans ((data m 0 c).arrAt_eq_of_cover 9 (res0 (m ((c : Thread nD τ).loc main_arg0)) (m ((c : Thread nD τ).loc main_arg1)) (m ((c : Thread nD τ).loc main_arg2))) (fun t _ => flushed_eq9 m c t) cover9),
    ((h c).1 10).trans ((data m 0 c).arrAt_eq_of_cover 10 (res1 (m ((c : Thread nD τ).loc main_arg0)) (m ((c : Thread nD τ).loc main_arg1)) (m ((c : Thread nD τ).loc main_arg2))) (fun t _ => flushed_eq10 m c t) cover10),
    ((h c).1 11).trans ((data m 0 c).arrAt_eq_of_cover 11 (res2 (m ((c : Thread nD τ).loc main_arg0)) (m ((c : Thread nD τ).loc main_arg1)) (m ((c : Thread nD τ).loc main_arg2))) (fun t _ => flushed_eq11 m c t) cover11),
    ((h c).1 12).trans ((data m 0 c).arrAt_eq_of_cover 12 (res3 (m ((c : Thread nD τ).loc main_arg0)) (m ((c : Thread nD τ).loc main_arg1)) (m ((c : Thread nD τ).loc main_arg2))) (fun t _ => flushed_eq12 m c t) cover12),
    ((h c).1 13).trans ((data m 0 c).arrAt_eq_of_cover 13 (res4 (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq13 m c t) cover13),
    ((h c).1 14).trans ((data m 0 c).arrAt_eq_of_cover 14 (res5 (m ((c : Thread nD τ).loc main_arg0)) (m ((c : Thread nD τ).loc main_arg1)) (m ((c : Thread nD τ).loc main_arg2)) (m ((c : Thread nD τ).loc main_arg5))) (fun t _ => flushed_eq14 m c t) cover14),
    ((h c).1 15).trans ((data m 0 c).arrAt_eq_of_cover 15 (res6 (m ((c : Thread nD τ).loc main_arg0)) (m ((c : Thread nD τ).loc main_arg1)) (m ((c : Thread nD τ).loc main_arg2)) (m ((c : Thread nD τ).loc main_arg6))) (fun t _ => flushed_eq15 m c t) cover15),
    ((h c).1 16).trans ((data m 0 c).arrAt_eq_of_cover 16 (res6 (m ((c : Thread nD τ).loc main_arg0)) (m ((c : Thread nD τ).loc main_arg1)) (m ((c : Thread nD τ).loc main_arg2)) (m ((c : Thread nD τ).loc main_arg6))) (fun t _ => flushed_eq16 m c t) cover16),
    ((h c).1 17).trans ((data m 0 c).arrAt_eq_of_cover 17 (res8 (m ((c : Thread nD τ).loc main_arg0)) (m ((c : Thread nD τ).loc main_arg1)) (m ((c : Thread nD τ).loc main_arg2))) (fun t _ => flushed_eq17 m c t) cover17),
    ((h c).1 18).trans ((data m 0 c).arrAt_eq_of_cover 18 (res9 (m ((c : Thread nD τ).loc main_arg0)) (m ((c : Thread nD τ).loc main_arg1)) (m ((c : Thread nD τ).loc main_arg2))) (fun t _ => flushed_eq18 m c t) cover18),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (runs m ρ)

end Cert.MixsIdeal.Ker

end
-- ==== Proof.MixsEq.lean ====
module

public import proofs.«01_k».proof.Defs
public import proofs.«01_k».proof.Proof.MixsValue
public import proofs.«01_k».proof.Proof.DattnHost
public import proofs.«01_k».proof.Proof.Gen.MixsRefIdeal.Run
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The mixers' input call computes the reference, over the extended reals -/

namespace Cert.Proof.Mixs

open Cert.MixsIdeal.Ker Cert.MixsRefIdeal Cert.MixsRefIdeal.Gen Idealize.ShloMosaic Idealize.ShloMosaic.TcCoe Idealize.SL.Sem
open Cert.FfnIdeal.Ker (nrm)

/-- The reference's normalised input. -/
abbrev refNorm (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf
    (broadcastInDim S128x8x1 ![0, 1] bcast_S128x8_S128x8x1_0_1 (Host.reduceAdd (mulf x x) (constant S_ .f32 0x00000000#32) reducesTo_S128x8x1024_S128x8_d2 h_S_))
    (broadcastInDim S128x8x1 ![] bcast_S_S128x8x1 (constant S_ .f32 0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2] bcast_S1024_S1x1x1024_2 g))

/-- The reference's product with the input weights. -/
abbrev refDot (x : FVec Ideal S128x8x1024 .f32) (g : FVec Ideal S1024 .f32) (w : FVec Ideal S1024x3088 .f32) : FVec Ideal S128x8x3088 .f32 :=
  Host.dotGeneral dot_S128x8x1024_S1024x3088_S128x8x3088_2_0_01_1_n_n none (refNorm x g) w

/-- The reference's product at an index. -/
theorem refDot_apply (x : FVec Ideal S128x8x1024 .f32) (g : FVec Ideal S1024 .f32) (w : FVec Ideal S1024x3088 .f32) (a : Fin 128) (b : Fin 8) (C : Fin 3088) :
    refDot x g w (ix3 a b C) = lin (fun j => x (ix3 a b j)) (fun j => g (ix1 j)) (fun q => w (ix2 q C)) := by
  pointwise [refDot, refNorm, lin, nrm]

/-- The reference's product at a flattened row. -/
theorem refDot_row (x : FVec Ideal S128x8x1024 .f32) (g : FVec Ideal S1024 .f32) (w : FVec Ideal S1024x3088 .f32) (R : Fin 1024) (C : Fin 3088) :
    refDot x g w (ix3 ⟨R.val / 8, by omega⟩ ⟨R.val % 8, by omega⟩ C) = pj x g w R C :=
  refDot_apply x g w _ _ C

/-- The scaled linear-attention queries of a product, flattened. -/
abbrev cut0 (d : FVec Ideal S128x8x3088 .f32) : FVec Ideal S1024x256 .f32 := shapeCast S1024x256 (mulf (extractStridedSlice S128x8x256 ![0, 0, 0] d slices_S128x8x3088_S128x8x256_0_0_0) (broadcastInDim S128x8x256 ![] bcast_S_S128x8x256 (constant (F := Ideal) S_ .f32 0x3E000000#32))) shapeCasts_S128x8x256_S1024x256

/-- The scaled linear-attention queries at an index. -/
theorem cut0_apply (d : FVec Ideal S128x8x3088 .f32) (R : Fin 1024) (l : Fin 256) :
    cut0 d (ix2 R l) = d (ix3 ⟨R.val / 8, by omega⟩ ⟨R.val % 8, by omega⟩ ⟨l.val, by omega⟩) * Ideal.ofBits FTy.f32 0x3E000000#32 := by
  pointwise [cut0]

/-- The linear-attention keys of a product, flattened. -/
abbrev cut1 (d : FVec Ideal S128x8x3088 .f32) : FVec Ideal S1024x256 .f32 := shapeCast S1024x256 (extractStridedSlice S128x8x256 ![0, 0, 256] d slices_S128x8x3088_S128x8x256_0_0_256) shapeCasts_S128x8x256_S1024x256

/-- The linear-attention keys at an index. -/
theorem cut1_apply (d : FVec Ideal S128x8x3088 .f32) (R : Fin 1024) (l : Fin 256) :
    cut1 d (ix2 R l) = d (ix3 ⟨R.val / 8, by omega⟩ ⟨R.val % 8, by omega⟩ ⟨256 + l.val, by omega⟩) := by
  pointwise [cut1]

/-- The linear-attention values of a product, flattened. -/
abbrev cut2 (d : FVec Ideal S128x8x3088 .f32) : FVec Ideal S1024x512 .f32 := shapeCast S1024x512 (extractStridedSlice S128x8x512 ![0, 0, 512] d slices_S128x8x3088_S128x8x512_0_0_512) shapeCasts_S128x8x512_S1024x512

/-- The linear-attention values at an index. -/
theorem cut2_apply (d : FVec Ideal S128x8x3088 .f32) (R : Fin 1024) (l : Fin 512) :
    cut2 d (ix2 R l) = d (ix3 ⟨R.val / 8, by omega⟩ ⟨R.val % 8, by omega⟩ ⟨512 + l.val, by omega⟩) := by
  pointwise [cut2]

/-- The output gate's columns of a product, flattened. -/
abbrev cut3 (d : FVec Ideal S128x8x3088 .f32) : FVec Ideal S1024x512 .f32 := shapeCast S1024x512 (extractStridedSlice S128x8x512 ![0, 0, 1024] d slices_S128x8x3088_S128x8x512_0_0_1024) shapeCasts_S128x8x512_S1024x512

/-- The output gate's columns at an index. -/
theorem cut3_apply (d : FVec Ideal S128x8x3088 .f32) (R : Fin 1024) (l : Fin 512) :
    cut3 d (ix2 R l) = d (ix3 ⟨R.val / 8, by omega⟩ ⟨R.val % 8, by omega⟩ ⟨1024 + l.val, by omega⟩) := by
  pointwise [cut3]

/-- The attention values of a product, flattened. -/
abbrev cut9 (d : FVec Ideal S128x8x3088 .f32) : FVec Ideal S1024x512 .f32 := shapeCast S1024x512 (extractStridedSlice S128x8x512 ![0, 0, 2576] d slices_S128x8x3088_S128x8x512_0_0_2576) shapeCasts_S128x8x512_S1024x512

/-- The attention values at an index. -/
theorem cut9_apply (d : FVec Ideal S128x8x3088 .f32) (R : Fin 1024) (l : Fin 512) :
    cut9 d (ix2 R l) = d (ix3 ⟨R.val / 8, by omega⟩ ⟨R.val % 8, by omega⟩ ⟨2576 + l.val, by omega⟩) := by
  pointwise [cut9]

/-- Result 0 of the reference. -/
theorem ref0 (x : FVec Ideal S128x8x1024 .f32) (g : FVec Ideal S1024 .f32) (w : FVec Ideal S1024x3088 .f32) : cut0 (refDot x g w) = res0 x g w := by
  funext i
  obtain ⟨R, l, rfl⟩ := idx_split (a := 1024) (b := 256) i
  refine (cut0_apply _ R l).trans ?_
  rw [refDot_row]
  rfl

/-- Result 1 of the reference. -/
theorem ref1 (x : FVec Ideal S128x8x1024 .f32) (g : FVec Ideal S1024 .f32) (w : FVec Ideal S1024x3088 .f32) : cut1 (refDot x g w) = res1 x g w := by
  funext i
  obtain ⟨R, l, rfl⟩ := idx_split (a := 1024) (b := 256) i
  refine (cut1_apply _ R l).trans ?_
  rw [refDot_row]
  rfl

/-- Result 2 of the reference. -/
theorem ref2 (x : FVec Ideal S128x8x1024 .f32) (g : FVec Ideal S1024 .f32) (w : FVec Ideal S1024x3088 .f32) : cut2 (refDot x g w) = res2 x g w := by
  funext i
  obtain ⟨R, l, rfl⟩ := idx_split (a := 1024) (b := 512) i
  refine (cut2_apply _ R l).trans ?_
  rw [refDot_row]
  rfl

/-- Result 3 of the reference. -/
theorem ref3 (x : FVec Ideal S128x8x1024 .f32) (g : FVec Ideal S1024 .f32) (w : FVec Ideal S1024x3088 .f32) : cut3 (refDot x g w) = res3 x g w := by
  funext i
  obtain ⟨R, l, rfl⟩ := idx_split (a := 1024) (b := 512) i
  refine (cut3_apply _ R l).trans ?_
  rw [refDot_row]
  rfl

/-- Result 9 of the reference. -/
theorem ref9 (x : FVec Ideal S128x8x1024 .f32) (g : FVec Ideal S1024 .f32) (w : FVec Ideal S1024x3088 .f32) : cut9 (refDot x g w) = res9 x g w := by
  funext i
  obtain ⟨R, l, rfl⟩ := idx_split (a := 1024) (b := 512) i
  refine (cut9_apply _ R l).trans ?_
  rw [refDot_row]
  rfl

/-- The attention values, one head to a row. -/
abbrev cut8 (d : FVec Ideal S128x8x3088 .f32) : FVec Ideal S4096x128 .f32 := shapeCast S4096x128 (cut9 d) shapeCasts_S1024x512_S4096x128

/-- The attention values by heads at an index. -/
theorem split8_apply (v : FVec Ideal S1024x512 .f32) (R : Fin 4096) (l : Fin 128) :
    shapeCast S4096x128 v shapeCasts_S1024x512_S4096x128 (ix2 R l) = v (ix2 ⟨R.val / 4, by omega⟩ ⟨128 * (R.val % 4) + l.val, by omega⟩) := by
  pointwise
  exact congrArg (fun a : Fin 512 => v (ix2 ⟨R.val / 4, by omega⟩ a)) (Fin.ext (by show R.val % 4 * 128 + l.val = 128 * (R.val % 4) + l.val; omega))

/-- Result 8 of the reference. -/
theorem ref8 (x : FVec Ideal S128x8x1024 .f32) (g : FVec Ideal S1024 .f32) (w : FVec Ideal S1024x3088 .f32) : cut8 (refDot x g w) = res8 x g w := by
  funext i
  obtain ⟨R, l, rfl⟩ := idx_split (a := 4096) (b := 128) i
  refine (split8_apply _ R l).trans ((cut9_apply _ _ _).trans ?_)
  rw [refDot_row]
  rfl

/-- The gate's argument. -/
abbrev refArg (d : FVec Ideal S128x8x3088 .f32) (u : FVec Ideal S16x256 .f32) (b : FVec Ideal S256 .f32) : FVec Ideal S128x8x256 .f32 :=
  addf (Host.dotGeneral dot_S128x8x16_S16x256_S128x8x256_2_0_01_1_n_n none (extractStridedSlice S128x8x16 ![0, 0, 1536] d slices_S128x8x3088_S128x8x16_0_0_1536) u)
    (broadcastInDim S128x8x256 ![0, 1, 2] bcast_S1x1x256_S128x8x256_0_1_2 (broadcastInDim S1x1x256 ![2] bcast_S256_S1x1x256_2 b))

/-- Nought everywhere. -/
abbrev zeros : FVec Ideal S128x8x256 .f32 := broadcastInDim S128x8x256 ![] bcast_S_S128x8x256 (constant S_ .f32 0x00000000#32)

/-- The log decay from the gate's argument. -/
abbrev refDecay (z : FVec Ideal S128x8x256 .f32) : FVec Ideal S1024x256 .f32 :=
  shapeCast S1024x256 (Host.divf (Host.negf (select (cmpf .une (subf (Host.negf z) zeros) (subf (Host.negf z) zeros)) (addf (Host.negf z) zeros)
    (addf (maximumf (Host.negf z) zeros) (Host.log1p (Host.exp (Host.negf (Host.absf (subf (Host.negf z) zeros))))))))
    (broadcastInDim S128x8x256 ![] bcast_S_S128x8x256 (constant S_ .f32 0x41800000#32))) shapeCasts_S128x8x256_S1024x256

/-- The gate's argument at an index. -/
theorem refArg_apply (d : FVec Ideal S128x8x3088 .f32) (u : FVec Ideal S16x256 .f32) (b : FVec Ideal S256 .f32) (p : Fin 128) (q : Fin 8) (l : Fin 256) :
    refArg d u b (ix3 p q l) = (∑ k : Fin 16, d (ix3 p q ⟨1536 + k.val, by omega⟩) * u (ix2 k l)) + b (ix1 l) := by
  pointwise [refArg]

/-- The log decay at an index. -/
theorem refDecay_apply (z : FVec Ideal S128x8x256 .f32) (R : Fin 1024) (l : Fin 256) :
    refDecay z (ix2 R l) = lsig (z (ix3 ⟨R.val / 8, by omega⟩ ⟨R.val % 8, by omega⟩ l)) := by
  rw [lsig_eq]
  pointwise [refDecay, zeros]
  rw [if_neg (fun h => h rfl)]
  rfl

/-- The reference's log decay is its composed term. -/
theorem decay_eq (m : (ℓ : Loc nD τ sig) → Buf (Elt Ideal) ℓ) (c : Dev nD) :
    Cert.MixsRefIdeal.Value.res_main_v67 m c = refDecay (refArg (refDot (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))) := by
  unfold Cert.MixsRefIdeal.Value.res_main_v67
  rfl

/-- Result 4 of the reference. -/
theorem ref4 (x : FVec Ideal S128x8x1024 .f32) (g : FVec Ideal S1024 .f32) (w : FVec Ideal S1024x3088 .f32) (u : FVec Ideal S16x256 .f32) (b : FVec Ideal S256 .f32) :
    refDecay (refArg (refDot x g w) u b) = res4 x g w u b := by
  funext i
  obtain ⟨R, l, rfl⟩ := idx_split (a := 1024) (b := 256) i
  refine (refDecay_apply _ R l).trans ?_
  rw [refArg_apply]
  simp only [refDot_row]
  rfl

/-- A product's columns by groups of 64. -/
abbrev cutQ (d : FVec Ideal S128x8x3088 .f32) : FVec Ideal S128x8x4x2x64 .f32 :=
  shapeCast S128x8x4x2x64 (extractStridedSlice S128x8x512 ![0, 0, 1552] d slices_S128x8x3088_S128x8x512_0_0_1552) shapeCasts_S128x8x512_S128x8x4x2x64

/-- The same for the keys. -/
abbrev cutK (d : FVec Ideal S128x8x3088 .f32) : FVec Ideal S128x8x4x2x64 .f32 :=
  shapeCast S128x8x4x2x64 (extractStridedSlice S128x8x512 ![0, 0, 2064] d slices_S128x8x3088_S128x8x512_0_0_2064) shapeCasts_S128x8x512_S128x8x4x2x64

/-- The reference's normalisation of each group. -/
abbrev refGroup (p : FVec Ideal S128x8x4x2x64 .f32) (k : FVec Ideal S64 .f32) : FVec Ideal S128x8x4x2x64 .f32 :=
  mulf (mulf p (broadcastInDim S128x8x4x2x64 ![0, 1, 2, 3, 4] bcast_S128x8x4x2x1_S128x8x4x2x64_0_1_2_3_4 (Host.rsqrt (addf (Host.divf
    (broadcastInDim S128x8x4x2x1 ![0, 1, 2, 3] bcast_S128x8x4x2_S128x8x4x2x1_0_1_2_3 (Host.reduceAdd (mulf p p) (constant S_ .f32 0x00000000#32) reducesTo_S128x8x4x2x64_S128x8x4x2_d4 h_S_))
    (broadcastInDim S128x8x4x2x1 ![] bcast_S_S128x8x4x2x1 (constant S_ .f32 0x42800000#32))) (broadcastInDim S128x8x4x2x1 ![] bcast_S_S128x8x4x2x1 (constant S_ .f32 0x358637BD#32))))))
    (broadcastInDim S128x8x4x2x64 ![0, 1, 2, 3, 4] bcast_S1x1x1x1x64_S128x8x4x2x64_0_1_2_3_4 (broadcastInDim S1x1x1x1x64 ![4] bcast_S64_S1x1x1x1x64_4 k))

/-- The reference's scaling of the queries. -/
abbrev refScale (p : FVec Ideal S128x8x4x2x64 .f32) : FVec Ideal S128x8x4x2x64 .f32 :=
  mulf (mulf p (broadcastInDim S128x8x4x2x64 ![] bcast_S_S128x8x4x2x64 (constant S_ .f32 0x3E000000#32)))
    (broadcastInDim S128x8x4x2x64 ![] bcast_S_S128x8x4x2x64 (Host.divf (constant S_ .f32 0x3F800000#32) (Host.log (constant S_ .f32 0x40000000#32))))

/-- The queries' columns at an index. -/
theorem cutQ_apply (d : FVec Ideal S128x8x3088 .f32) (a : Fin 128) (b : Fin 8) (h : Fin 4) (z : Fin 2) (e : Fin 64) :
    cutQ d (ix5 a b h z e) = d (ix3 a b ⟨1552 + ((h.val * 2 + z.val) * 64 + e.val), by omega⟩) := by
  pointwise [cutQ]
  exact congrArg (fun C : Fin 3088 => d (ix3 a b C)) (Fin.ext (by
    show 1552 + (h.val * 128 + z.val * 64 + e.val) = 1552 + ((h.val * 2 + z.val) * 64 + e.val)
    omega))

/-- The keys' columns at an index. -/
theorem cutK_apply (d : FVec Ideal S128x8x3088 .f32) (a : Fin 128) (b : Fin 8) (h : Fin 4) (z : Fin 2) (e : Fin 64) :
    cutK d (ix5 a b h z e) = d (ix3 a b ⟨2064 + ((h.val * 2 + z.val) * 64 + e.val), by omega⟩) := by
  pointwise [cutK]
  exact congrArg (fun C : Fin 3088 => d (ix3 a b C)) (Fin.ext (by
    show 2064 + (h.val * 128 + z.val * 64 + e.val) = 2064 + ((h.val * 2 + z.val) * 64 + e.val)
    omega))

/-- A normalised group at an index. -/
theorem refGroup_apply (p : FVec Ideal S128x8x4x2x64 .f32) (k : FVec Ideal S64 .f32) (a : Fin 128) (b : Fin 8) (h : Fin 4) (z : Fin 2) (e : Fin 64) :
    refGroup p k (ix5 a b h z e) = hn (fun e' => p (ix5 a b h z e')) (k (ix1 e)) e := by
  pointwise [refGroup, hn]

/-- A scaled query at an index. -/
theorem refScale_apply (p : FVec Ideal S128x8x4x2x64 .f32) (a : Fin 128) (b : Fin 8) (h : Fin 4) (z : Fin 2) (e : Fin 64) :
    refScale p (ix5 a b h z e) = p (ix5 a b h z e) * (((1 / 8) * (Real.log 2)⁻¹ : ℝ) : EReal) := by
  rw [qscale_eq, ← mul_assoc, ← Cert.DattnIdeal.Ker.scale_eq]
  rfl

/-- The groups flattened, at an index. -/
theorem flat5_apply (p : FVec Ideal S128x8x4x2x64 .f32) (R : Fin 1024) (l : Fin 512) :
    shapeCast S1024x512 p shapeCasts_S128x8x4x2x64_S1024x512 (ix2 R l)
      = p (ix5 ⟨R.val / 8, by omega⟩ ⟨R.val % 8, by omega⟩ ⟨l.val / 128, by omega⟩ ⟨l.val / 64 % 2, by omega⟩ ⟨l.val % 64, by omega⟩) := by
  pointwise

/-- A group's column. -/
theorem col_eq (o : ℕ) (l : Fin 512) (e : Fin 64) (h : o + 512 ≤ 3088) :
    (⟨o + ((l.val / 128 * 2 + l.val / 64 % 2) * 64 + e.val), by omega⟩ : Fin 3088) = ⟨o + (64 * (l.val / 64) + e.val), by omega⟩ :=
  Fin.ext (by show o + ((l.val / 128 * 2 + l.val / 64 % 2) * 64 + e.val) = o + (64 * (l.val / 64) + e.val); omega)

/-- Result 6 of the reference. -/
theorem ref6 (x : FVec Ideal S128x8x1024 .f32) (g : FVec Ideal S1024 .f32) (w : FVec Ideal S1024x3088 .f32) (k : FVec Ideal S64 .f32) :
    shapeCast S1024x512 (refGroup (cutK (refDot x g w)) k) shapeCasts_S128x8x4x2x64_S1024x512 = res6 x g w k := by
  funext i
  obtain ⟨R, l, rfl⟩ := idx_split (a := 1024) (b := 512) i
  refine (flat5_apply _ R l).trans ((refGroup_apply _ _ _ _ _ _ _).trans ?_)
  simp only [cutK_apply, refDot_row]
  exact congrArg (fun t => hn t (k (ix1 ⟨l.val % 64, by omega⟩)) ⟨l.val % 64, by omega⟩) (funext fun e => congrArg (pj x g w R) (col_eq 2064 l e (by norm_num)))

/-- Result 5 of the reference. -/
theorem ref5 (x : FVec Ideal S128x8x1024 .f32) (g : FVec Ideal S1024 .f32) (w : FVec Ideal S1024x3088 .f32) (k : FVec Ideal S64 .f32) :
    shapeCast S1024x512 (refScale (refGroup (cutQ (refDot x g w)) k)) shapeCasts_S128x8x4x2x64_S1024x512 = res5 x g w k := by
  funext i
  obtain ⟨R, l, rfl⟩ := idx_split (a := 1024) (b := 512) i
  refine (flat5_apply _ R l).trans ((refScale_apply _ _ _ _ _ _).trans (congrArg (fun t : EReal => t * _) ((refGroup_apply _ _ _ _ _ _ _).trans ?_)))
  simp only [cutQ_apply, refDot_row]
  exact congrArg (fun t => hn t (k (ix1 ⟨l.val % 64, by omega⟩)) ⟨l.val % 64, by omega⟩) (funext fun e => congrArg (pj x g w R) (col_eq 1552 l e (by norm_num)))

/-- The reference's run leaves its argument arrays as they were and its counters at zero. -/
theorem frame_ref : Cert.quiescent_MixsRefIdeal := fun m ρ _ =>
  (θ_run Cert.MixsRefIdeal.defs _ _).mono (fun r h => ⟨fun c => (h c).2.2.2.2.2.2.2.2.2.2, Idealize.ShloMosaic.sem_eq_zero_of_no_sems (by decide) r.2⟩)
    (Cert.MixsRefIdeal.Value.run (F := Ideal) m ρ)

set_option maxHeartbeats 4000000 in
/-- Each of the kernel's ten results is the reference's, at every extended-real input. -/
theorem algebraic : Cert.algebraic_MixsIdeal_MixsRefIdeal := fun m ρ m' ρ' _ hag =>
  ⟨fun c => res0 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   fun c => res1 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   fun c => res2 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   fun c => res3 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   fun c => res4 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)) (m ((c.tc : Thread Cert.MixsIdeal.nD Cert.MixsIdeal.τ).loc Cert.MixsIdeal.main_arg3)) (m ((c.tc : Thread Cert.MixsIdeal.nD Cert.MixsIdeal.τ).loc Cert.MixsIdeal.main_arg4)),
   fun c => res5 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)) (m ((c.tc : Thread Cert.MixsIdeal.nD Cert.MixsIdeal.τ).loc Cert.MixsIdeal.main_arg5)),
   fun c => res6 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)) (m ((c.tc : Thread Cert.MixsIdeal.nD Cert.MixsIdeal.τ).loc Cert.MixsIdeal.main_arg6)),
   fun c => res6 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)) (m ((c.tc : Thread Cert.MixsIdeal.nD Cert.MixsIdeal.τ).loc Cert.MixsIdeal.main_arg6)),
   fun c => res8 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   fun c => res9 (m ((c.tc : Thread Cert.MixsIdeal.nD Cert.MixsIdeal.τ).loc Cert.MixsIdeal.main_arg0)) (m ((c.tc : Thread Cert.MixsIdeal.nD Cert.MixsIdeal.τ).loc Cert.MixsIdeal.main_arg1)) (m ((c.tc : Thread Cert.MixsIdeal.nD Cert.MixsIdeal.τ).loc Cert.MixsIdeal.main_arg2)),
   Cert.MixsIdeal.Ker.run m ρ,
   (θ_run _ _ _).mono (fun _ h c => ⟨(h c).1.trans (by
      rw [(hag c).1, (hag c).2.1, (hag c).2.2.1]
      exact ref0 _ _ _),
    (h c).2.1.trans (by
      rw [(hag c).1, (hag c).2.1, (hag c).2.2.1]
      exact ref1 _ _ _),
    (h c).2.2.1.trans (by
      rw [(hag c).1, (hag c).2.1, (hag c).2.2.1]
      exact ref2 _ _ _),
    (h c).2.2.2.1.trans (by
      rw [(hag c).1, (hag c).2.1, (hag c).2.2.1]
      exact ref3 _ _ _),
    (h c).2.2.2.2.1.trans ((decay_eq m' c).trans (by
      rw [(hag c).1, (hag c).2.1, (hag c).2.2.1, (hag c).2.2.2.1, (hag c).2.2.2.2.1]
      exact ref4 _ _ _ _ _)),
    (h c).2.2.2.2.2.1.trans (by
      rw [(hag c).1, (hag c).2.1, (hag c).2.2.1, (hag c).2.2.2.2.2.1]
      exact ref5 _ _ _ _),
    (h c).2.2.2.2.2.2.1.trans (by
      rw [(hag c).1, (hag c).2.1, (hag c).2.2.1, (hag c).2.2.2.2.2.2]
      exact ref6 _ _ _ _),
    (h c).2.2.2.2.2.2.2.1.trans (by
      rw [(hag c).1, (hag c).2.1, (hag c).2.2.1, (hag c).2.2.2.2.2.2]
      exact ref6 _ _ _ _),
    (h c).2.2.2.2.2.2.2.2.1.trans (by
      rw [(hag c).1, (hag c).2.1, (hag c).2.2.1]
      exact ref8 _ _ _),
    (h c).2.2.2.2.2.2.2.2.2.1.trans (by
      rw [(hag c).1, (hag c).2.1, (hag c).2.2.1]
      exact ref9 _ _ _),
    (h c).2.2.2.2.2.2.2.2.2.2⟩)
    (Cert.MixsRefIdeal.Value.run (F := Ideal) m' ρ')⟩

end Cert.Proof.Mixs

end
-- ==== Proof.MixpIdealFrame.lean ====
module

public import proofs.«01_k».proof.Proof.MixsIdealFrame
public import proofs.«01_k».proof.Proof.Gen.MixpIdeal.Frame
public import proofs.«01_k».proof.Proof.Gen.MixpIdeal.Skeleton
public import Idealize.ShloMosaic.Lib.Pipeline.ValueKit

@[expose] public section

set_option maxRecDepth 16384

noncomputable section

/-! # The run of the prompt's call for the mixers' inputs over named constants: its body, point by point, and the frame

The body stores every output once and whole, except the values, which it stores as four planes of every fourth row;
the attention keys it stores transposed. -/

namespace Cert.MixpIdeal.Mix

open Cert.MixpIdeal Cert.MixpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## What the body leaves in its output buffers -/

/-- The normalised rows that the body multiplies by the weights. -/
def left_h (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x1024 .bf16 := k0_pay2 (View.ld x0 (Rect.unit (s := S512x1024) ![0, 0] S512x1024.size inb_S512x1024_S512x1024_0_0)) (View.ld x1 (Rect.unit (s := S1x1024) ![0, 0] S1x1024.size inb_S1x1024_S1x1024_0_0))
/-- The columns of the product that become the attention queries. -/
def left_q (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay8 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))
/-- The columns of the product that become the attention keys. -/
def left_k (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay9 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))
/-- The columns of the product that become the attention values. -/
def left_v (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : FVec F S512x512 .f32 := k0_pay10 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))

/-- Every fourth row of the values' buffer, from row `h` on. -/
abbrev plane0 : Rect S2048x128 := ⟨(⟨![0, 0], S512x128.size, ![4, 1], inb_S2048x128_S512x128_0_0_s_4_1⟩ : LoadRect S2048x128), spos_4_1⟩
/-- Every fourth row, from the second on. -/
abbrev plane1 : Rect S2048x128 := ⟨(⟨![1, 0], S512x128.size, ![4, 1], inb_S2048x128_S512x128_1_0_s_4_1⟩ : LoadRect S2048x128), spos_4_1⟩
/-- Every fourth row, from the third on. -/
abbrev plane2 : Rect S2048x128 := ⟨(⟨![2, 0], S512x128.size, ![4, 1], inb_S2048x128_S512x128_2_0_s_4_1⟩ : LoadRect S2048x128), spos_4_1⟩
/-- Every fourth row, from the fourth on. -/
abbrev plane3 : Rect S2048x128 := ⟨(⟨![3, 0], S512x128.size, ![4, 1], inb_S2048x128_S512x128_3_0_s_4_1⟩ : LoadRect S2048x128), spos_4_1⟩

/-- What the body leaves of the gated queries, from the input blocks. -/
def left9 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay4 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the gated keys, from the input blocks. -/
def left10 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay5 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the gated values, from the input blocks. -/
def left11 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .f32 :=
  View.canon [⟨(Rect.unit (s := S512x512) ![0, 0] S512x512.size inb_S512x512_S512x512_0_0), k0_pay6 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the output gates, from the input blocks. -/
def left12 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .f32 :=
  View.canon [⟨(Rect.unit (s := S512x512) ![0, 0] S512x512.size inb_S512x512_S512x512_0_0), k0_pay7 (View.ld x0 (Rect.unit (s := S512x1024) ![0, 0] S512x1024.size inb_S512x1024_S512x1024_0_0)) (View.ld x1 (Rect.unit (s := S1x1024) ![0, 0] S1x1024.size inb_S1x1024_S1x1024_0_0)) (View.ld x2 (Rect.unit (s := S1024x3072) ![0, 0] S1024x3072.size inb_S1024x3072_S1024x3072_0_0))⟩]

/-- What the body leaves of the log decays, from the input blocks. -/
def left13 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x256 .f32 :=
  View.canon [⟨(Rect.unit (s := S512x256) ![0, 0] S512x256.size inb_S512x256_S512x256_0_0), k0_pay11 (left_h x0 x1 x2 x3 x4 x5 x6 x7 x8) (View.ld x3 (Rect.unit (s := S1024x128) ![0, 0] S1024x128.size inb_S1024x128_S1024x128_0_0)) (View.ld x4 (Rect.unit (s := S128x256) ![0, 0] S128x256.size inb_S128x256_S128x256_0_0)) (View.ld x5 (Rect.unit (s := S1x256) ![0, 0] S1x256.size inb_S1x256_S1x256_0_0))⟩]

/-- What the body leaves of the attention queries, from the input blocks. -/
def left14 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay15 (k0_pay12 (left_q x0 x1 x2 x3 x4 x5 x6 x7 x8) (View.ld x6 (Rect.unit (s := S1x512) ![0, 0] S1x512.size inb_S1x512_S1x512_0_0)) (View.ld x8 (Rect.unit (s := S512x512) ![0, 0] S512x512.size inb_S512x512_S512x512_0_0))) k0_pay13⟩]

/-- What the body leaves of the attention keys, from the input blocks. -/
def left15 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S1x512x512 .f32 :=
  View.canon [⟨(Rect.unit (s := S1x512x512) ![0, 0, 0] S1x512x512.size inb_S1x512x512_S1x512x512_0_0_0), k0_pay16 (left_k x0 x1 x2 x3 x4 x5 x6 x7 x8) (View.ld x7 (Rect.unit (s := S1x512) ![0, 0] S1x512.size inb_S1x512_S1x512_0_0)) (View.ld x8 (Rect.unit (s := S512x512) ![0, 0] S512x512.size inb_S512x512_S512x512_0_0))⟩]

/-- What the body leaves of the attention keys in bf16, from the input blocks. -/
def left16 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay17 (left_k x0 x1 x2 x3 x4 x5 x6 x7 x8) (View.ld x7 (Rect.unit (s := S1x512) ![0, 0] S1x512.size inb_S1x512_S1x512_0_0)) (View.ld x8 (Rect.unit (s := S512x512) ![0, 0] S512x512.size inb_S512x512_S512x512_0_0))⟩]

/-- What the body leaves of the attention values, from the input blocks. -/
def left17 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S2048x128 .f32 :=
  View.canon [⟨plane3, k0_pay21 (left_v x0 x1 x2 x3 x4 x5 x6 x7 x8)⟩, ⟨plane2, k0_pay20 (left_v x0 x1 x2 x3 x4 x5 x6 x7 x8)⟩, ⟨plane1, k0_pay19 (left_v x0 x1 x2 x3 x4 x5 x6 x7 x8)⟩, ⟨plane0, k0_pay18 (left_v x0 x1 x2 x3 x4 x5 x6 x7 x8)⟩]

/-- What the body leaves of the attention values in bf16, from the input blocks. -/
def left18 (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) : Vec F S512x512 .bf16 :=
  View.canon [⟨(Rect.unit (s := S512x512) ![0, 0] S512x512.size inb_S512x512_S512x512_0_0), k0_pay1 (left_v x0 x1 x2 x3 x4 x5 x6 x7 x8)⟩]

/-- The zero offset of a stack of matrices. -/
theorem zero3 : (![0, 0, 0] : Fin 3 → Nat) = fun _ => 0 := by decide

/-! ## The body -/

set_option maxHeartbeats 4000000 in
/-- From input buffers holding `x0` to `x8` and output buffers holding anything, the body runs to its end with the input
    buffers as they were and every output buffer at what the blocks say. -/
theorem body_runs (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x128 .bf16) (harg4 : arg4.IsWhole) (arg5 : Memref sig .tc .vmem S128x256 .bf16) (harg5 : arg5.IsWhole) (arg6 : Memref sig .tc .vmem S1x256 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x256 .f32) (harg14 : arg14.IsWhole) (arg15 : Memref sig .tc .vmem S512x512 .bf16) (harg15 : arg15.IsWhole) (arg16 : Memref sig .tc .vmem S1x512x512 .f32) (harg16 : arg16.IsWhole) (arg17 : Memref sig .tc .vmem S512x512 .bf16) (harg17 : arg17.IsWhole) (arg18 : Memref sig .tc .vmem S2048x128 .f32) (harg18 : arg18.IsWhole) (arg19 : Memref sig .tc .vmem S512x512 .bf16) (harg19 : arg19.IsWhole)
    (x0 : Vec F S512x1024 .f32) (x1 : Vec F S1x1024 .f32) (x2 : Vec F S1024x3072 .bf16) (x3 : Vec F S1024x128 .bf16) (x4 : Vec F S128x256 .bf16) (x5 : Vec F S1x256 .f32) (x6 : Vec F S1x512 .f32) (x7 : Vec F S1x512 .f32) (x8 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (left9 x0 x1 x2 x3 x4 x5 x6 x7 x8) ∗ owns (c : Thread nD τ) arg11 fullShare (left10 x0 x1 x2 x3 x4 x5 x6 x7 x8) ∗ owns (c : Thread nD τ) arg12 fullShare (left11 x0 x1 x2 x3 x4 x5 x6 x7 x8) ∗ owns (c : Thread nD τ) arg13 fullShare (left12 x0 x1 x2 x3 x4 x5 x6 x7 x8) ∗ owns (c : Thread nD τ) arg14 fullShare (left13 x0 x1 x2 x3 x4 x5 x6 x7 x8) ∗ owns (c : Thread nD τ) arg15 fullShare (left14 x0 x1 x2 x3 x4 x5 x6 x7 x8) ∗ owns (c : Thread nD τ) arg16 fullShare (left15 x0 x1 x2 x3 x4 x5 x6 x7 x8) ∗ owns (c : Thread nD τ) arg17 fullShare (left16 x0 x1 x2 x3 x4 x5 x6 x7 x8) ∗ owns (c : Thread nD τ) arg18 fullShare (left17 x0 x1 x2 x3 x4 x5 x6 x7 x8) ∗ owns (c : Thread nD τ) arg19 fullShare (left18 x0 x1 x2 x3 x4 x5 x6 x7 x8)) -∗ K ⟨⟩))
      ⊢ wp frame (wpE (defs₀ (F := F)) Variants.none c none) E (cc0_mixer_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_in_eq_skeleton]; unfold cc0_mixer_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (Cert.MixsIdeal.Mix.whole_cover Cert.MixsIdeal.Mix.zero2 _ _)).trans ?_
    rfl
  isplitl [H10]
  · iexists _; isplitr
    swap; · iexact H10
    ipureintro
    refine (View.read_writes_eq_canon _ _ _ (Cert.MixsIdeal.Mix.whole_cover Cert.MixsIdeal.Mix.zero2 _ _)).trans ?_
    rfl
  isplitl [H11]
  · iexists _; isplitr
    swap; · iexact H11
    ipureintro
    refine (View.read_writes_eq_canon _ _ _ (Cert.MixsIdeal.Mix.whole_cover Cert.MixsIdeal.Mix.zero2 _ _)).trans ?_
    rfl
  isplitl [H12]
  · iexists _; isplitr
    swap; · iexact H12
    ipureintro
    refine (View.read_writes_eq_canon _ _ _ (Cert.MixsIdeal.Mix.whole_cover Cert.MixsIdeal.Mix.zero2 _ _)).trans ?_
    rfl
  isplitl [H13]
  · iexists _; isplitr
    swap; · iexact H13
    ipureintro
    refine (View.read_writes_eq_canon _ _ _ (Cert.MixsIdeal.Mix.whole_cover Cert.MixsIdeal.Mix.zero2 _ _)).trans ?_
    rfl
  isplitl [H14]
  · iexists _; isplitr
    swap; · iexact H14
    ipureintro
    refine (View.read_writes_eq_canon _ _ _ (Cert.MixsIdeal.Mix.whole_cover Cert.MixsIdeal.Mix.zero2 _ _)).trans ?_
    rfl
  isplitl [H15]
  · iexists _; isplitr
    swap; · iexact H15
    ipureintro
    refine (View.read_writes_eq_canon _ _ _ (Cert.MixsIdeal.Mix.whole_cover zero3 _ _)).trans ?_
    rfl
  isplitl [H16]
  · iexists _; isplitr
    swap; · iexact H16
    ipureintro
    refine (View.read_writes_eq_canon _ _ _ (Cert.MixsIdeal.Mix.whole_cover Cert.MixsIdeal.Mix.zero2 _ _)).trans ?_
    rfl
  isplitl [H17]
  · iexists _; isplitr
    swap; · iexact H17
    ipureintro
    refine (View.read_writes_eq_canon _ _ _ (Cert.MixsIdeal.Mix.planes_cover _ _ _ _)).trans ?_
    rfl
  iexists _; isplitr
  swap; · iexact H18
  ipureintro
  refine (View.read_writes_eq_canon _ _ _ (Cert.MixsIdeal.Mix.whole_cover Cert.MixsIdeal.Mix.zero2 _ _)).trans ?_
  rfl

variable (m : (ℓ : Loc nD τ sig) → Buf (Elt F) ℓ) (ρ : Dev nD → PrngReg)

/-! ## The pipeline -/

/-- What is known of the pipeline's buffers: the arrays as the region finds them, the input buffers at their blocks and
    the output buffers at what the body leaves, at every point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left9 (iblk m c 0 t) (iblk m c 1 t) (iblk m c 2 t) (iblk m c 3 t) (iblk m c 4 t) (iblk m c 5 t) (iblk m c 6 t) (iblk m c 7 t) (iblk m c 8 t)
    | ⟨10, _⟩ => left10 (iblk m c 0 t) (iblk m c 1 t) (iblk m c 2 t) (iblk m c 3 t) (iblk m c 4 t) (iblk m c 5 t) (iblk m c 6 t) (iblk m c 7 t) (iblk m c 8 t)
    | ⟨11, _⟩ => left11 (iblk m c 0 t) (iblk m c 1 t) (iblk m c 2 t) (iblk m c 3 t) (iblk m c 4 t) (iblk m c 5 t) (iblk m c 6 t) (iblk m c 7 t) (iblk m c 8 t)
    | ⟨12, _⟩ => left12 (iblk m c 0 t) (iblk m c 1 t) (iblk m c 2 t) (iblk m c 3 t) (iblk m c 4 t) (iblk m c 5 t) (iblk m c 6 t) (iblk m c 7 t) (iblk m c 8 t)
    | ⟨13, _⟩ => left13 (iblk m c 0 t) (iblk m c 1 t) (iblk m c 2 t) (iblk m c 3 t) (iblk m c 4 t) (iblk m c 5 t) (iblk m c 6 t) (iblk m c 7 t) (iblk m c 8 t)
    | ⟨14, _⟩ => left14 (iblk m c 0 t) (iblk m c 1 t) (iblk m c 2 t) (iblk m c 3 t) (iblk m c 4 t) (iblk m c 5 t) (iblk m c 6 t) (iblk m c 7 t) (iblk m c 8 t)
    | ⟨15, _⟩ => left15 (iblk m c 0 t) (iblk m c 1 t) (iblk m c 2 t) (iblk m c 3 t) (iblk m c 4 t) (iblk m c 5 t) (iblk m c 6 t) (iblk m c 7 t) (iblk m c 8 t)
    | ⟨16, _⟩ => left16 (iblk m c 0 t) (iblk m c 1 t) (iblk m c 2 t) (iblk m c 3 t) (iblk m c 4 t) (iblk m c 5 t) (iblk m c 6 t) (iblk m c 7 t) (iblk m c 8 t)
    | ⟨17, _⟩ => left17 (iblk m c 0 t) (iblk m c 1 t) (iblk m c 2 t) (iblk m c 3 t) (iblk m c 4 t) (iblk m c 5 t) (iblk m c 6 t) (iblk m c 7 t) (iblk m c 8 t)
    | ⟨18, _⟩ => left18 (iblk m c 0 t) (iblk m c 1 t) (iblk m c 2 t) (iblk m c 3 t) (iblk m c 4 t) (iblk m c 5 t) (iblk m c 6 t) (iblk m c 7 t) (iblk m c 8 t)
    | ⟨_ + 19, h⟩ => absurd h (Nat.not_lt.2 (Nat.le_add_left _ _))
  Φ _ := Pipeline.ΦA spec0 c
  q _ := fullShare
  owed _ := 0

/-- The arrays are those at the entry of the region. -/
theorem data_A (c : Dev nD) (w : Fin cfg0.W) : (data m 0 c).A w = V m c (Pipeline.arrRef spec0 w) := by
  dsimp only [data]

/-- Input buffer 0 after the body. -/
theorem after_0 (c : Dev nD) (t : Fin cfg0.N) : (data m 0 c).after 0 t = iblk m c 0 t := by dsimp only [data]
/-- Input buffer 1 after the body. -/
theorem after_1 (c : Dev nD) (t : Fin cfg0.N) : (data m 0 c).after 1 t = iblk m c 1 t := by dsimp only [data]
/-- Input buffer 2 after the body. -/
theorem after_2 (c : Dev nD) (t : Fin cfg0.N) : (data m 0 c).after 2 t = iblk m c 2 t := by dsimp only [data]
/-- Input buffer 3 after the body. -/
theorem after_3 (c : Dev nD) (t : Fin cfg0.N) : (data m 0 c).after 3 t = iblk m c 3 t := by dsimp only [data]
/-- Input buffer 4 after the body. -/
theorem after_4 (c : Dev nD) (t : Fin cfg0.N) : (data m 0 c).after 4 t = iblk m c 4 t := by dsimp only [data]
/-- Input buffer 5 after the body. -/
theorem after_5 (c : Dev nD) (t : Fin cfg0.N) : (data m 0 c).after 5 t = iblk m c 5 t := by dsimp only [data]
/-- Input buffer 6 after the body. -/
theorem after_6 (c : Dev nD) (t : Fin cfg0.N) : (data m 0 c).after 6 t = iblk m c 6 t := by dsimp only [data]
/-- Input buffer 7 after the body. -/
theorem after_7 (c : Dev nD) (t : Fin cfg0.N) : (data m 0 c).after 7 t = iblk m c 7 t := by dsimp only [data]
/-- Input buffer 8 after the body. -/
theorem after_8 (c : Dev nD) (t : Fin cfg0.N) : (data m 0 c).after 8 t = iblk m c 8 t := by dsimp only [data]
/-- Output buffer 9 after the body. -/
theorem after_9 (c : Dev nD) (t : Fin cfg0.N) : (data m 0 c).after 9 t = left9 (iblk m c 0 t) (iblk m c 1 t) (iblk m c 2 t) (iblk m c 3 t) (iblk m c 4 t) (iblk m c 5 t) (iblk m c 6 t) (iblk m c 7 t) (iblk m c 8 t) := by dsimp only [data]
/-- Output buffer 10 after the body. -/
theorem after_10 (c : Dev nD) (t : Fin cfg0.N) : (data m 0 c).after 10 t = left10 (iblk m c 0 t) (iblk m c 1 t) (iblk m c 2 t) (iblk m c 3 t) (iblk m c 4 t) (iblk m c 5 t) (iblk m c 6 t) (iblk m c 7 t) (iblk m c 8 t) := by dsimp only [data]
/-- Output buffer 11 after the body. -/
theorem after_11 (c : Dev nD) (t : Fin cfg0.N) : (data m 0 c).after 11 t = left11 (iblk m c 0 t) (iblk m c 1 t) (iblk m c 2 t) (iblk m c 3 t) (iblk m c 4 t) (iblk m c 5 t) (iblk m c 6 t) (iblk m c 7 t) (iblk m c 8 t) := by dsimp only [data]
/-- Output buffer 12 after the body. -/
theorem after_12 (c : Dev nD) (t : Fin cfg0.N) : (data m 0 c).after 12 t = left12 (iblk m c 0 t) (iblk m c 1 t) (iblk m c 2 t) (iblk m c 3 t) (iblk m c 4 t) (iblk m c 5 t) (iblk m c 6 t) (iblk m c 7 t) (iblk m c 8 t) := by dsimp only [data]
/-- Output buffer 13 after the body. -/
theorem after_13 (c : Dev nD) (t : Fin cfg0.N) : (data m 0 c).after 13 t = left13 (iblk m c 0 t) (iblk m c 1 t) (iblk m c 2 t) (iblk m c 3 t) (iblk m c 4 t) (iblk m c 5 t) (iblk m c 6 t) (iblk m c 7 t) (iblk m c 8 t) := by dsimp only [data]
/-- Output buffer 14 after the body. -/
theorem after_14 (c : Dev nD) (t : Fin cfg0.N) : (data m 0 c).after 14 t = left14 (iblk m c 0 t) (iblk m c 1 t) (iblk m c 2 t) (iblk m c 3 t) (iblk m c 4 t) (iblk m c 5 t) (iblk m c 6 t) (iblk m c 7 t) (iblk m c 8 t) := by dsimp only [data]
/-- Output buffer 15 after the body. -/
theorem after_15 (c : Dev nD) (t : Fin cfg0.N) : (data m 0 c).after 15 t = left15 (iblk m c 0 t) (iblk m c 1 t) (iblk m c 2 t) (iblk m c 3 t) (iblk m c 4 t) (iblk m c 5 t) (iblk m c 6 t) (iblk m c 7 t) (iblk m c 8 t) := by dsimp only [data]
/-- Output buffer 16 after the body. -/
theorem after_16 (c : Dev nD) (t : Fin cfg0.N) : (data m 0 c).after 16 t = left16 (iblk m c 0 t) (iblk m c 1 t) (iblk m c 2 t) (iblk m c 3 t) (iblk m c 4 t) (iblk m c 5 t) (iblk m c 6 t) (iblk m c 7 t) (iblk m c 8 t) := by dsimp only [data]
/-- Output buffer 17 after the body. -/
theorem after_17 (c : Dev nD) (t : Fin cfg0.N) : (data m 0 c).after 17 t = left17 (iblk m c 0 t) (iblk m c 1 t) (iblk m c 2 t) (iblk m c 3 t) (iblk m c 4 t) (iblk m c 5 t) (iblk m c 6 t) (iblk m c 7 t) (iblk m c 8 t) := by dsimp only [data]
/-- Output buffer 18 after the body. -/
theorem after_18 (c : Dev nD) (t : Fin cfg0.N) : (data m 0 c).after 18 t = left18 (iblk m c 0 t) (iblk m c 1 t) (iblk m c 2 t) (iblk m c 3 t) (iblk m c 4 t) (iblk m c 5 t) (iblk m c 6 t) (iblk m c 7 t) (iblk m c 8 t) := by dsimp only [data]
/-- Input buffer 0 before the body. -/
theorem before_0 (c : Dev nD) (t : Fin cfg0.N) (d) : (data m 0 c).before 0 t d = iblk m c 0 t :=
  before0_0_of m (data m 0 c) (data_A m c 0) (after_0 m c) t d
/-- Input buffer 1 before the body. -/
theorem before_1 (c : Dev nD) (t : Fin cfg0.N) (d) : (data m 0 c).before 1 t d = iblk m c 1 t :=
  before0_1_of m (data m 0 c) (data_A m c 1) (after_1 m c) t d
/-- Input buffer 2 before the body. -/
theorem before_2 (c : Dev nD) (t : Fin cfg0.N) (d) : (data m 0 c).before 2 t d = iblk m c 2 t :=
  before0_2_of m (data m 0 c) (data_A m c 2) (after_2 m c) t d
/-- Input buffer 3 before the body. -/
theorem before_3 (c : Dev nD) (t : Fin cfg0.N) (d) : (data m 0 c).before 3 t d = iblk m c 3 t :=
  before0_3_of m (data m 0 c) (data_A m c 3) (after_3 m c) t d
/-- Input buffer 4 before the body. -/
theorem before_4 (c : Dev nD) (t : Fin cfg0.N) (d) : (data m 0 c).before 4 t d = iblk m c 4 t :=
  before0_4_of m (data m 0 c) (data_A m c 4) (after_4 m c) t d
/-- Input buffer 5 before the body. -/
theorem before_5 (c : Dev nD) (t : Fin cfg0.N) (d) : (data m 0 c).before 5 t d = iblk m c 5 t :=
  before0_5_of m (data m 0 c) (data_A m c 5) (after_5 m c) t d
/-- Input buffer 6 before the body. -/
theorem before_6 (c : Dev nD) (t : Fin cfg0.N) (d) : (data m 0 c).before 6 t d = iblk m c 6 t :=
  before0_6_of m (data m 0 c) (data_A m c 6) (after_6 m c) t d
/-- Input buffer 7 before the body. -/
theorem before_7 (c : Dev nD) (t : Fin cfg0.N) (d) : (data m 0 c).before 7 t d = iblk m c 7 t :=
  before0_7_of m (data m 0 c) (data_A m c 7) (after_7 m c) t d
/-- Input buffer 8 before the body. -/
theorem before_8 (c : Dev nD) (t : Fin cfg0.N) (d) : (data m 0 c).before 8 t d = iblk m c 8 t :=
  before0_8_of m (data m 0 c) (data_A m c 8) (after_8 m c) t d

/-- The buffers as the body finds them at point `t`. -/
def found (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d))
    ∗ (∃ d, owns (c : Thread nD τ) (st0_12 t) fullShare ((data m 0 c).before 12 t d))
    ∗ (∃ d, owns (c : Thread nD τ) (st0_13 t) fullShare ((data m 0 c).before 13 t d))
    ∗ (∃ d, owns (c : Thread nD τ) (st0_14 t) fullShare ((data m 0 c).before 14 t d))
    ∗ (∃ d, owns (c : Thread nD τ) (st0_15 t) fullShare ((data m 0 c).before 15 t d))
    ∗ (∃ d, owns (c : Thread nD τ) (st0_16 t) fullShare ((data m 0 c).before 16 t d))
    ∗ (∃ d, owns (c : Thread nD τ) (st0_17 t) fullShare ((data m 0 c).before 17 t d))
    ∗ (∃ d, owns (c : Thread nD τ) (st0_18 t) fullShare ((data m 0 c).before 18 t d)))

/-- The buffers as the body leaves them at point `t`. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t)
    ∗ owns (c : Thread nD τ) (st0_11 t) fullShare ((data m 0 c).after 11 t)
    ∗ owns (c : Thread nD τ) (st0_12 t) fullShare ((data m 0 c).after 12 t)
    ∗ owns (c : Thread nD τ) (st0_13 t) fullShare ((data m 0 c).after 13 t)
    ∗ owns (c : Thread nD τ) (st0_14 t) fullShare ((data m 0 c).after 14 t)
    ∗ owns (c : Thread nD τ) (st0_15 t) fullShare ((data m 0 c).after 15 t)
    ∗ owns (c : Thread nD τ) (st0_16 t) fullShare ((data m 0 c).after 16 t)
    ∗ owns (c : Thread nD τ) (st0_17 t) fullShare ((data m 0 c).after 17 t)
    ∗ owns (c : Thread nD τ) (st0_18 t) fullShare ((data m 0 c).after 18 t))

set_option maxHeartbeats 1000000 in
/-- The body at a point, from the buffers it finds to those it leaves. -/
theorem body_at (c : Dev nD) (t : Fin cfg0.N) :
    found m c t ⊢ wp frame (wpE (defs₀ (F := F)) Variants.none c none) Set.univ (bodyAt0 t) (fun _ => returned m c t) := by
  unfold found returned bodyAt0
  simp only [before_0, before_1, before_2, before_3, before_4, before_5, before_6, before_7, before_8]
  rw [show (data m 0 c).Φ t.succ = (data m 0 c).Φ t.castSucc from rfl,
    show (data m 0 c).owesAt () t.succ = (data m 0 c).owesAt () t.castSucc from rfl,
    after_0, after_1, after_2, after_3, after_4, after_5, after_6, after_7, after_8, after_9, after_10, after_11, after_12, after_13, after_14, after_15, after_16, after_17, after_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_runs c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body's obligation at every point. -/
theorem body_owed (c : Dev nD) : BodyObligation (data (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (body_at m c t) rfl .rfl fun _ => .rfl

set_option backward.isDefEq.respectTransparency.types false in
set_option maxHeartbeats 1600000 in
/-- Every run ends, with the arrays at what the data say and every counter at zero. -/
theorem runs_quiet : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_owed m c).loose) (hshare := fun c => (data m 0 c).share_full fun _ => rfl)
    (howed := fun _ _ => rfl) (V := V m) (hmain := hmain m Variants.none) (hA := data_A m) (hΦ := fun _ _ => rfl)

/-- Every run ends with the arrays at what the data say. -/
theorem runs : θ_run defs (onTc (τ := τ) (main (F := F))) (s₀ m ρ) (Pipeline.FramePost cfgs (data m) 0 (V m)) :=
  (θ_run defs _ _).mono (fun _ h => h.1) (runs_quiet m ρ)

/-- The frame: every run ends with the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (runs m ρ)) ((θ_run defs _ _).mono (fun _ h => h.2) (runs_quiet m ρ))

end Cert.MixpIdeal.Mix

end
-- ==== Proof.MixpHost.lean ====
module

public import proofs.«01_k».proof.Defs
public import proofs.«01_k».proof.Proof.MixpIdealFrame
public import proofs.«01_k».proof.Proof.MixsHost
public import Idealize.ShloMosaic.Lib.IdealHost
public import Idealize.ShloMosaic.Lib.Pointwise
public import Idealize.ShloMosaic.Lib.Tactic

@[expose] public section

set_option maxRecDepth 16384

noncomputable section

/-! # The prompt's call for the mixers' inputs: the arrays handed to it, block by block -/

namespace Cert.MixpIdeal.Ker

open Cert.MixpIdeal Cert.MixpIdeal.Gen Idealize.ShloMosaic Idealize.ShloMosaic.TcCoe Idealize.SL.Sem
open Cert.MixsIdeal.Ker (prepW prepA prepU prepT prepO idx_split)

/-- The input's rows, one per token. -/
abbrev xrow (x : S4x4096x1024.Idx → EReal) (R : Fin 16384) (j : Fin 1024) : EReal := x (ix3 ⟨R.val / 4096, by omega⟩ ⟨R.val % 4096, by omega⟩ j)

/-! ## At an index -/

/-- The flattened input. -/
theorem flat_apply (x : FVec Ideal S4x4096x1024 .f32) (R : Fin 16384) (j : Fin 1024) :
    shapeCast S16384x1024 x shapeCasts_S4x4096x1024_S16384x1024 (ix2 R j) = xrow x R j := by
  pointwise

/-! ## The arrays handed to the call -/

variable (m : (ℓ : Loc nD τ sig) → Buf (Elt Ideal) ℓ) (ρ : Dev nD → PrngReg)

/-- The flattened input handed to the call. -/
theorem V_x (c : Dev nD) : V m c main_v0 = shapeCast S16384x1024 (m ((c : Thread nD τ).loc main_arg0)) shapeCasts_S4x4096x1024_S16384x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gain handed to the call. -/
theorem V_g (c : Dev nD) : V m c main_v18 = shapeCast S1x1024 (m ((c : Thread nD τ).loc main_arg1)) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The weights handed to the call. -/
theorem V_w (c : Dev nD) : V m c main_v4 = prepW (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's columns handed to the call. -/
theorem V_a (c : Dev nD) : V m c main_v7 = prepA (m ((c : Thread nD τ).loc main_arg2)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's second factor handed to the call. -/
theorem V_u (c : Dev nD) : V m c main_v9 = prepU (m ((c : Thread nD τ).loc main_arg3)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The gate's bias handed to the call. -/
theorem V_b (c : Dev nD) : V m c main_v19 = shapeCast S1x256 (m ((c : Thread nD τ).loc main_arg4)) shapeCasts_S256_S1x256 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The queries' gain handed to the call. -/
theorem V_qn (c : Dev nD) : V m c main_v13 = prepT (m ((c : Thread nD τ).loc main_arg5)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The keys' gain handed to the call. -/
theorem V_kn (c : Dev nD) : V m c main_v17 = prepT (m ((c : Thread nD τ).loc main_arg6)) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp
  rfl

/-- The matrix of group ones handed to the call. -/
theorem V_o (c : Dev nD) : V m c main_v30 = prepO := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results_simp

/-- Which block each window has at each grid point. -/
theorem index_eq : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val / 8, 0, t.val % 8] ∧ win0_16.index t = ![t.val, 0] ∧ win0_17.index t = ![t.val, 0] ∧ win0_18.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val / 8, 0, t.val % 8] ∧ win0_16.index t = ![t.val, 0] ∧ win0_17.index t = ![t.val, 0] ∧ win0_18.index t = ![t.val, 0])

/-- Row `r` of block `t`. -/
abbrev rowOf (t : Fin cfg0.N) (r : Fin 512) : Fin 16384 :=
  ⟨t.val * 512 + r.val, by have h := t.isLt; have : cfg0.N = 32 := N_0; omega⟩

/-- The input's block at an index. -/
theorem blk_x (c : Dev nD) (t : Fin cfg0.N) (r : Fin 512) (j : Fin 1024) :
    (iblk m c 0 t : Vec Ideal S512x1024 .f32) (ix2 r j) = xrow (m ((c : Thread nD τ).loc main_arg0)) (rowOf t r) j := by
  have e : (iblk m c 0 t : Vec Ideal S512x1024 .f32) (ix2 r j) = V m c main_v0 (ix2 (rowOf t r) j) := by
    unfold iblk
    rw [View.read_apply]
    show V m c main_v0 _ = _
    refine congrArg _ (funext fun a => Fin.ext ?_)
    match a with
    | ⟨0, _⟩ => show win0_0.index t 0 * 512 + 1 * r.val = t.val * 512 + r.val; rw [(index_eq t).1]; simp
    | ⟨1, _⟩ => show win0_0.index t 1 * 1024 + 1 * j.val = j.val; rw [(index_eq t).1]; simp
  rw [e, V_x]
  exact flat_apply _ _ _

/-- The gain: one block, the whole array. -/
theorem blk_g (c : Dev nD) (t : Fin cfg0.N) : (iblk m c 1 t : Vec Ideal S1x1024 .f32) = shapeCast S1x1024 (m ((c : Thread nD τ).loc main_arg1)) shapeCasts_S1024_S1x1024 := by
  rw [← V_g m c]
  funext y
  unfold iblk
  rw [View.read_apply]
  show V m c main_v18 _ = _
  refine congrArg _ (funext fun a => Fin.ext ?_)
  match a with
  | ⟨0, _⟩ => show win0_1.index t 0 * 1 + 1 * (y 0).val = (y 0).val; rw [(index_eq t).2.1]; simp
  | ⟨1, _⟩ => show win0_1.index t 1 * 1024 + 1 * (y 1).val = (y 1).val; rw [(index_eq t).2.1]; simp

/-- The weights: one block, the whole array. -/
theorem blk_w (c : Dev nD) (t : Fin cfg0.N) : (iblk m c 2 t : Vec Ideal S1024x3072 .bf16) = prepW (m ((c : Thread nD τ).loc main_arg2)) := by
  rw [← V_w m c]
  funext y
  unfold iblk
  rw [View.read_apply]
  show V m c main_v4 _ = _
  refine congrArg _ (funext fun a => Fin.ext ?_)
  match a with
  | ⟨0, _⟩ => show win0_2.index t 0 * 1024 + 1 * (y 0).val = (y 0).val; rw [(index_eq t).2.2.1]; simp
  | ⟨1, _⟩ => show win0_2.index t 1 * 3072 + 1 * (y 1).val = (y 1).val; rw [(index_eq t).2.2.1]; simp

/-- The gate's columns: one block, the whole array. -/
theorem blk_a (c : Dev nD) (t : Fin cfg0.N) : (iblk m c 3 t : Vec Ideal S1024x128 .bf16) = prepA (m ((c : Thread nD τ).loc main_arg2)) := by
  rw [← V_a m c]
  funext y
  unfold iblk
  rw [View.read_apply]
  show V m c main_v7 _ = _
  refine congrArg _ (funext fun a => Fin.ext ?_)
  match a with
  | ⟨0, _⟩ => show win0_3.index t 0 * 1024 + 1 * (y 0).val = (y 0).val; rw [(index_eq t).2.2.2.1]; simp
  | ⟨1, _⟩ => show win0_3.index t 1 * 128 + 1 * (y 1).val = (y 1).val; rw [(index_eq t).2.2.2.1]; simp

/-- The gate's second factor: one block, the whole array. -/
theorem blk_u (c : Dev nD) (t : Fin cfg0.N) : (iblk m c 4 t : Vec Ideal S128x256 .bf16) = prepU (m ((c : Thread nD τ).loc main_arg3)) := by
  rw [← V_u m c]
  funext y
  unfold iblk
  rw [View.read_apply]
  show V m c main_v9 _ = _
  refine congrArg _ (funext fun a => Fin.ext ?_)
  match a with
  | ⟨0, _⟩ => show win0_4.index t 0 * 128 + 1 * (y 0).val = (y 0).val; rw [(index_eq t).2.2.2.2.1]; simp
  | ⟨1, _⟩ => show win0_4.index t 1 * 256 + 1 * (y 1).val = (y 1).val; rw [(index_eq t).2.2.2.2.1]; simp

/-- The gate's bias: one block, the whole array. -/
theorem blk_b (c : Dev nD) (t : Fin cfg0.N) : (iblk m c 5 t : Vec Ideal S1x256 .f32) = shapeCast S1x256 (m ((c : Thread nD τ).loc main_arg4)) shapeCasts_S256_S1x256 := by
  rw [← V_b m c]
  funext y
  unfold iblk
  rw [View.read_apply]
  show V m c main_v19 _ = _
  refine congrArg _ (funext fun a => Fin.ext ?_)
  match a with
  | ⟨0, _⟩ => show win0_5.index t 0 * 1 + 1 * (y 0).val = (y 0).val; rw [(index_eq t).2.2.2.2.2.1]; simp
  | ⟨1, _⟩ => show win0_5.index t 1 * 256 + 1 * (y 1).val = (y 1).val; rw [(index_eq t).2.2.2.2.2.1]; simp

/-- The queries' gain: one block, the whole array. -/
theorem blk_qn (c : Dev nD) (t : Fin cfg0.N) : (iblk m c 6 t : Vec Ideal S1x512 .f32) = prepT (m ((c : Thread nD τ).loc main_arg5)) := by
  rw [← V_qn m c]
  funext y
  unfold iblk
  rw [View.read_apply]
  show V m c main_v13 _ = _
  refine congrArg _ (funext fun a => Fin.ext ?_)
  match a with
  | ⟨0, _⟩ => show win0_6.index t 0 * 1 + 1 * (y 0).val = (y 0).val; rw [(index_eq t).2.2.2.2.2.2.1]; simp
  | ⟨1, _⟩ => show win0_6.index t 1 * 512 + 1 * (y 1).val = (y 1).val; rw [(index_eq t).2.2.2.2.2.2.1]; simp

/-- The keys' gain: one block, the whole array. -/
theorem blk_kn (c : Dev nD) (t : Fin cfg0.N) : (iblk m c 7 t : Vec Ideal S1x512 .f32) = prepT (m ((c : Thread nD τ).loc main_arg6)) := by
  rw [← V_kn m c]
  funext y
  unfold iblk
  rw [View.read_apply]
  show V m c main_v17 _ = _
  refine congrArg _ (funext fun a => Fin.ext ?_)
  match a with
  | ⟨0, _⟩ => show win0_7.index t 0 * 1 + 1 * (y 0).val = (y 0).val; rw [(index_eq t).2.2.2.2.2.2.2.1]; simp
  | ⟨1, _⟩ => show win0_7.index t 1 * 512 + 1 * (y 1).val = (y 1).val; rw [(index_eq t).2.2.2.2.2.2.2.1]; simp

/-- The matrix of group ones: one block, the whole array. -/
theorem blk_o (c : Dev nD) (t : Fin cfg0.N) : (iblk m c 8 t : Vec Ideal S512x512 .bf16) = prepO := by
  rw [← V_o m c]
  funext y
  unfold iblk
  rw [View.read_apply]
  show V m c main_v30 _ = _
  refine congrArg _ (funext fun a => Fin.ext ?_)
  match a with
  | ⟨0, _⟩ => show win0_8.index t 0 * 512 + 1 * (y 0).val = (y 0).val; rw [(index_eq t).2.2.2.2.2.2.2.2.1]; simp
  | ⟨1, _⟩ => show win0_8.index t 1 * 512 + 1 * (y 1).val = (y 1).val; rw [(index_eq t).2.2.2.2.2.2.2.2.1]; simp

/-- A block of result 0, from what it holds at each row and column. -/
theorem out_block9 (c : Dev nD) (t : Fin cfg0.N) (G : Buf (Elt Ideal) ((c : Thread nD τ).loc main_v31_0)) (o : Vec Ideal S512x256 .f32)
    (ho : ∀ (r : Fin 512) (l : Fin 256), o (ix2 r l) = G (ix2 (rowOf t r) l)) :
    (cfg0.win 9).cut (grid0.coords t) o = ((cfg0.win 9).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_9.index t 0 * 512 + 1 * r.val; rw [(index_eq t).2.2.2.2.2.2.2.2.2.1]; simp
  | ⟨1, _⟩ => show l.val = win0_9.index t 1 * 256 + 1 * l.val; rw [(index_eq t).2.2.2.2.2.2.2.2.2.1]; simp

/-- Every index of result 0 is in some point's block. -/
theorem cover9 (i : S16384x256.Idx) : ∃ t : Fin cfg0.N, (cfg0.win 9).flush t = true ∧ i ∈ ((cfg0.win 9).blk t).view.set := by
  have h0 : (i 0 : Nat) < 16384 := (i 0).isLt
  have h1 : (i 1 : Nat) < 256 := (i 1).isLt
  have hN : cfg0.N = 32 := N_0
  have ht : (i 0 : Nat) / 512 < cfg0.N := by omega
  refine ⟨⟨(i 0 : Nat) / 512, ht⟩, flush0_9 _, ?_⟩
  show i ∈ ((View.whole main_v31_0).slice (win0_9.rect ⟨(i 0 : Nat) / 512, ht⟩)).set
  rw [View.set_slice_whole, Rect.mem_set_unit]
  have e := (index_eq ⟨(i 0 : Nat) / 512, ht⟩).2.2.2.2.2.2.2.2.2.1
  intro a
  match a with
  | ⟨0, _⟩ =>
    show win0_9.index ⟨(i 0 : Nat) / 512, ht⟩ 0 * 512 ≤ (i 0 : Nat) ∧ (i 0 : Nat) < win0_9.index ⟨(i 0 : Nat) / 512, ht⟩ 0 * 512 + 512
    rw [e]; dsimp; omega
  | ⟨1, _⟩ =>
    show win0_9.index ⟨(i 0 : Nat) / 512, ht⟩ 1 * 256 ≤ (i 1 : Nat) ∧ (i 1 : Nat) < win0_9.index ⟨(i 0 : Nat) / 512, ht⟩ 1 * 256 + 256
    rw [e]; dsimp; omega

/-- A block of result 1, from what it holds at each row and column. -/
theorem out_block10 (c : Dev nD) (t : Fin cfg0.N) (G : Buf (Elt Ideal) ((c : Thread nD τ).loc main_v31_1)) (o : Vec Ideal S512x256 .f32)
    (ho : ∀ (r : Fin 512) (l : Fin 256), o (ix2 r l) = G (ix2 (rowOf t r) l)) :
    (cfg0.win 10).cut (grid0.coords t) o = ((cfg0.win 10).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_10.index t 0 * 512 + 1 * r.val; rw [(index_eq t).2.2.2.2.2.2.2.2.2.2.1]; simp
  | ⟨1, _⟩ => show l.val = win0_10.index t 1 * 256 + 1 * l.val; rw [(index_eq t).2.2.2.2.2.2.2.2.2.2.1]; simp

/-- Every index of result 1 is in some point's block. -/
theorem cover10 (i : S16384x256.Idx) : ∃ t : Fin cfg0.N, (cfg0.win 10).flush t = true ∧ i ∈ ((cfg0.win 10).blk t).view.set := by
  have h0 : (i 0 : Nat) < 16384 := (i 0).isLt
  have h1 : (i 1 : Nat) < 256 := (i 1).isLt
  have hN : cfg0.N = 32 := N_0
  have ht : (i 0 : Nat) / 512 < cfg0.N := by omega
  refine ⟨⟨(i 0 : Nat) / 512, ht⟩, flush0_10 _, ?_⟩
  show i ∈ ((View.whole main_v31_1).slice (win0_10.rect ⟨(i 0 : Nat) / 512, ht⟩)).set
  rw [View.set_slice_whole, Rect.mem_set_unit]
  have e := (index_eq ⟨(i 0 : Nat) / 512, ht⟩).2.2.2.2.2.2.2.2.2.2.1
  intro a
  match a with
  | ⟨0, _⟩ =>
    show win0_10.index ⟨(i 0 : Nat) / 512, ht⟩ 0 * 512 ≤ (i 0 : Nat) ∧ (i 0 : Nat) < win0_10.index ⟨(i 0 : Nat) / 512, ht⟩ 0 * 512 + 512
    rw [e]; dsimp; omega
  | ⟨1, _⟩ =>
    show win0_10.index ⟨(i 0 : Nat) / 512, ht⟩ 1 * 256 ≤ (i 1 : Nat) ∧ (i 1 : Nat) < win0_10.index ⟨(i 0 : Nat) / 512, ht⟩ 1 * 256 + 256
    rw [e]; dsimp; omega

/-- A block of result 2, from what it holds at each row and column. -/
theorem out_block11 (c : Dev nD) (t : Fin cfg0.N) (G : Buf (Elt Ideal) ((c : Thread nD τ).loc main_v31_2)) (o : Vec Ideal S512x512 .f32)
    (ho : ∀ (r : Fin 512) (l : Fin 512), o (ix2 r l) = G (ix2 (rowOf t r) l)) :
    (cfg0.win 11).cut (grid0.coords t) o = ((cfg0.win 11).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_11.index t 0 * 512 + 1 * r.val; rw [(index_eq t).2.2.2.2.2.2.2.2.2.2.2.1]; simp
  | ⟨1, _⟩ => show l.val = win0_11.index t 1 * 512 + 1 * l.val; rw [(index_eq t).2.2.2.2.2.2.2.2.2.2.2.1]; simp

/-- Every index of result 2 is in some point's block. -/
theorem cover11 (i : S16384x512.Idx) : ∃ t : Fin cfg0.N, (cfg0.win 11).flush t = true ∧ i ∈ ((cfg0.win 11).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_11 _, ?_⟩
  show i ∈ ((View.whole main_v31_2).slice (win0_11.rect ⟨(i 0 : Nat) / 512, ht⟩)).set
  rw [View.set_slice_whole, Rect.mem_set_unit]
  have e := (index_eq ⟨(i 0 : Nat) / 512, ht⟩).2.2.2.2.2.2.2.2.2.2.2.1
  intro a
  match a with
  | ⟨0, _⟩ =>
    show win0_11.index ⟨(i 0 : Nat) / 512, ht⟩ 0 * 512 ≤ (i 0 : Nat) ∧ (i 0 : Nat) < win0_11.index ⟨(i 0 : Nat) / 512, ht⟩ 0 * 512 + 512
    rw [e]; dsimp; omega
  | ⟨1, _⟩ =>
    show win0_11.index ⟨(i 0 : Nat) / 512, ht⟩ 1 * 512 ≤ (i 1 : Nat) ∧ (i 1 : Nat) < win0_11.index ⟨(i 0 : Nat) / 512, ht⟩ 1 * 512 + 512
    rw [e]; dsimp; omega

/-- A block of result 3, from what it holds at each row and column. -/
theorem out_block12 (c : Dev nD) (t : Fin cfg0.N) (G : Buf (Elt Ideal) ((c : Thread nD τ).loc main_v31_3)) (o : Vec Ideal S512x512 .f32)
    (ho : ∀ (r : Fin 512) (l : Fin 512), o (ix2 r l) = G (ix2 (rowOf t r) l)) :
    (cfg0.win 12).cut (grid0.coords t) o = ((cfg0.win 12).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_12.index t 0 * 512 + 1 * r.val; rw [(index_eq t).2.2.2.2.2.2.2.2.2.2.2.2.1]; simp
  | ⟨1, _⟩ => show l.val = win0_12.index t 1 * 512 + 1 * l.val; rw [(index_eq t).2.2.2.2.2.2.2.2.2.2.2.2.1]; simp

/-- Every index of result 3 is in some point's block. -/
theorem cover12 (i : S16384x512.Idx) : ∃ t : Fin cfg0.N, (cfg0.win 12).flush t = true ∧ i ∈ ((cfg0.win 12).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_12 _, ?_⟩
  show i ∈ ((View.whole main_v31_3).slice (win0_12.rect ⟨(i 0 : Nat) / 512, ht⟩)).set
  rw [View.set_slice_whole, Rect.mem_set_unit]
  have e := (index_eq ⟨(i 0 : Nat) / 512, ht⟩).2.2.2.2.2.2.2.2.2.2.2.2.1
  intro a
  match a with
  | ⟨0, _⟩ =>
    show win0_12.index ⟨(i 0 : Nat) / 512, ht⟩ 0 * 512 ≤ (i 0 : Nat) ∧ (i 0 : Nat) < win0_12.index ⟨(i 0 : Nat) / 512, ht⟩ 0 * 512 + 512
    rw [e]; dsimp; omega
  | ⟨1, _⟩ =>
    show win0_12.index ⟨(i 0 : Nat) / 512, ht⟩ 1 * 512 ≤ (i 1 : Nat) ∧ (i 1 : Nat) < win0_12.index ⟨(i 0 : Nat) / 512, ht⟩ 1 * 512 + 512
    rw [e]; dsimp; omega

/-- A block of result 4, from what it holds at each row and column. -/
theorem out_block13 (c : Dev nD) (t : Fin cfg0.N) (G : Buf (Elt Ideal) ((c : Thread nD τ).loc main_v31_4)) (o : Vec Ideal S512x256 .f32)
    (ho : ∀ (r : Fin 512) (l : Fin 256), o (ix2 r l) = G (ix2 (rowOf t r) l)) :
    (cfg0.win 13).cut (grid0.coords t) o = ((cfg0.win 13).blk t).view.read (Elt Ideal) G := by
  funext y
  obtain ⟨r, l, rfl⟩ := idx_split (a := 512) (b := 256) y
  rw [View.read_apply]
  refine (ho r l).trans (congrArg G (funext fun a => Fin.ext ?_))
  match a with
  | ⟨0, _⟩ => show t.val * 512 + r.val = win0_13.index t 0 * 512 + 1 * r.val; rw [(index_eq t).2.2.2.2.2.2.2.2.2.2.2.2.2.1]; simp
  | ⟨1, _⟩ => show l.val = win0_13.index t 1 * 256 + 1 * l.val; rw [(index_eq t).2.2.2.2.2.2.2.2.2.2.2.2.2.1]; simp

/-- Every index of result 4 is in some point's block. -/
theorem cover13 (i : S16384x256.Idx) : ∃ t : Fin cfg0.N, (cfg0.win 13).flush t = true ∧ i ∈ ((cfg0.win 13).blk t).view.set := by
  have h0 : (i 0 : Nat) < 16384 := (i 0).isLt
  have h1 : (i 1 : Nat) < 256 := (i 1).isLt
  have hN : cfg0.N = 32 := N_0
  have ht : (i 0 : Nat) / 512 < cfg0.N := by omega
  refine ⟨⟨(i 0 : Nat) / 512, ht⟩, flush0_13 _, ?_⟩
  show i ∈ ((View.whole main_v31_4).slice (win0_13.rect ⟨(i 0 : Nat) / 512, ht⟩)).set
  rw [View.set_slice_whole, Rect.mem_set_unit]
  have e := (index_eq ⟨(i 0 : Nat) / 512, ht⟩).2.2.2.2.2.2.2.2.2.2.2.2.2.1
  intro a
  match a with
  | ⟨0, _⟩ =>
    show win0_13.index ⟨(i 0 : Nat) / 512, ht⟩ 0 * 512 ≤ (i 0 : Nat) ∧ (i 0 : Nat) < win0_13.index ⟨(i 0 : Nat) / 512, ht⟩ 0 * 512 + 512
    rw [e]; dsimp; omega
  | ⟨1, _⟩ =>
    show win0_13.index ⟨(i 0 : Nat) / 512, ht⟩ 1 * 256 ≤ (i 1 : Nat) ∧ (i 1 : Nat) < win0_13.index ⟨(i 0 : Nat) / 512, ht⟩ 1 * 256 + 256
    rw [e]; dsimp; omega

/-- A block of result 5, from what it holds at each row and column. -/
theorem out_block14 (c : Dev nD) (t : Fin cfg0.N) (G : Buf (Elt Ideal) ((c : Thread nD τ).loc main_v31_5)) (o : Vec Ideal S512x512 .bf16)
    (ho : ∀ (r : Fin 512) (l : Fin 512), o (ix2 r l) = G (ix2 (rowOf t r) l)) :
    (cfg0.win 14).cut (grid0.coords t) o = ((cfg0.win 14).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_14.index t 0 * 512 + 1 * r.val; rw [(index_eq t).2.2.2.2.2.2.2.2.2.2.2.2.2.2.1]; simp
  | ⟨1, _⟩ => show l.val = win0_14.index t 1 * 512 + 1 * l.val; rw [(index_eq t).2.2.2.2.2.2.2.2.2.2.2.2.2.2.1]; simp

/-- Every index of result 5 is in some point's block. -/
theorem cover14 (i : S16384x512.Idx) : ∃ t : Fin cfg0.N, (cfg0.win 14).flush t = true ∧ i ∈ ((cfg0.win 14).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_14 _, ?_⟩
  show i ∈ ((View.whole main_v31_5).slice (win0_14.rect ⟨(i 0 : Nat) / 512, ht⟩)).set
  rw [View.set_slice_whole, Rect.mem_set_unit]
  have e := (index_eq ⟨(i 0 : Nat) / 512, ht⟩).2.2.2.2.2.2.2.2.2.2.2.2.2.2.1
  intro a
  match a with
  | ⟨0, _⟩ =>
    show win0_14.index ⟨(i 0 : Nat) / 512, ht⟩ 0 * 512 ≤ (i 0 : Nat) ∧ (i 0 : Nat) < win0_14.index ⟨(i 0 : Nat) / 512, ht⟩ 0 * 512 + 512
    rw [e]; dsimp; omega
  | ⟨1, _⟩ =>
    show win0_14.index ⟨(i 0 : Nat) / 512, ht⟩ 1 * 512 ≤ (i 1 : Nat) ∧ (i 1 : Nat) < win0_14.index ⟨(i 0 : Nat) / 512, ht⟩ 1 * 512 + 512
    rw [e]; dsimp; omega

/-- A block of result 6, from what it holds at each column and row. -/
theorem out_block15 (c : Dev nD) (t : Fin cfg0.N) (G : Buf (Elt Ideal) ((c : Thread nD τ).loc main_v31_6)) (o : Vec Ideal S1x512x512 .f32)
    (ho : ∀ (l r : Fin 512), o (ix3 0 l r) = G (ix3 ⟨t.val / 8, by have h := t.isLt; have : cfg0.N = 32 := N_0; omega⟩ l ⟨t.val % 8 * 512 + r.val, by omega⟩)) :
    (cfg0.win 15).cut (grid0.coords t) o = ((cfg0.win 15).blk t).view.read (Elt Ideal) G := by
  funext y
  have hy : (y : S1x512x512.Idx) = ix3 0 ⟨(y 1).val, (y 1).isLt⟩ ⟨(y 2).val, (y 2).isLt⟩ := funext fun a => by
    match a with
    | ⟨0, _⟩ => exact Fin.ext (by have h : (y 0).val < 1 := (y 0).isLt; show (y 0).val = 0; omega)
    | ⟨1, _⟩ => rfl
    | ⟨2, _⟩ => rfl
  have h0 : (y 0).val < 1 := (y 0).isLt
  rw [View.read_apply]
  refine (congrArg o hy).trans ((ho ⟨(y 1).val, (y 1).isLt⟩ ⟨(y 2).val, (y 2).isLt⟩).trans (congrArg G (funext fun a => Fin.ext ?_)))
  match a with
  | ⟨0, _⟩ => show t.val / 8 = win0_15.index t 0 * 1 + 1 * (y 0).val; rw [(index_eq t).2.2.2.2.2.2.2.2.2.2.2.2.2.2.2.1]; dsimp; omega
  | ⟨1, _⟩ => show (y 1).val = win0_15.index t 1 * 512 + 1 * (y 1).val; rw [(index_eq t).2.2.2.2.2.2.2.2.2.2.2.2.2.2.2.1]; simp
  | ⟨2, _⟩ => show t.val % 8 * 512 + (y 2).val = win0_15.index t 2 * 512 + 1 * (y 2).val; rw [(index_eq t).2.2.2.2.2.2.2.2.2.2.2.2.2.2.2.1]; simp

/-- Every index of result 6 is in some point's block. -/
theorem cover15 (i : S4x512x4096.Idx) : ∃ t : Fin cfg0.N, (cfg0.win 15).flush t = true ∧ i ∈ ((cfg0.win 15).blk t).view.set := by
  have h0 : (i 0 : Nat) < 4 := (i 0).isLt
  have h1 : (i 1 : Nat) < 512 := (i 1).isLt
  have h2 : (i 2 : Nat) < 4096 := (i 2).isLt
  have hN : cfg0.N = 32 := N_0
  have ht : (i 0 : Nat) * 8 + (i 2 : Nat) / 512 < cfg0.N := by omega
  refine ⟨⟨(i 0 : Nat) * 8 + (i 2 : Nat) / 512, ht⟩, flush0_15 _, ?_⟩
  show i ∈ ((View.whole main_v31_6).slice (win0_15.rect ⟨(i 0 : Nat) * 8 + (i 2 : Nat) / 512, ht⟩)).set
  rw [View.set_slice_whole, Rect.mem_set_unit]
  have e := (index_eq ⟨(i 0 : Nat) * 8 + (i 2 : Nat) / 512, ht⟩).2.2.2.2.2.2.2.2.2.2.2.2.2.2.2.1
  intro a
  match a with
  | ⟨0, _⟩ =>
    show win0_15.index ⟨(i 0 : Nat) * 8 + (i 2 : Nat) / 512, ht⟩ 0 * 1 ≤ (i 0 : Nat) ∧ (i 0 : Nat) < win0_15.index ⟨(i 0 : Nat) * 8 + (i 2 : Nat) / 512, ht⟩ 0 * 1 + 1
    rw [e]; dsimp; omega
  | ⟨1, _⟩ =>
    show win0_15.index ⟨(i 0 : Nat) * 8 + (i 2 : Nat) / 512, ht⟩ 1 * 512 ≤ (i 1 : Nat) ∧ (i 1 : Nat) < win0_15.index ⟨(i 0 : Nat) * 8 + (i 2 : Nat) / 512, ht⟩ 1 * 512 + 512
    rw [e]; dsimp; omega
  | ⟨2, _⟩ =>
    show win0_15.index ⟨(i 0 : Nat) * 8 + (i 2 : Nat) / 512, ht⟩ 2 * 512 ≤ (i 2 : Nat) ∧ (i 2 : Nat) < win0_15.index ⟨(i 0 : Nat) * 8 + (i 2 : Nat) / 512, ht⟩ 2 * 512 + 512
    rw [e]; dsimp; omega

/-- A block of result 7, from what it holds at each row and column. -/
theorem out_block16 (c : Dev nD) (t : Fin cfg0.N) (G : Buf (Elt Ideal) ((c : Thread nD τ).loc main_v31_7)) (o : Vec Ideal S512x512 .bf16)
    (ho : ∀ (r : Fin 512) (l : Fin 512), o (ix2 r l) = G (ix2 (rowOf t r) l)) :
    (cfg0.win 16).cut (grid0.coords t) o = ((cfg0.win 16).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_16.index t 0 * 512 + 1 * r.val; rw [(index_eq t).2.2.2.2.2.2.2.2.2.2.2.2.2.2.2.2.1]; simp
  | ⟨1, _⟩ => show l.val = win0_16.index t 1 * 512 + 1 * l.val; rw [(index_eq t).2.2.2.2.2.2.2.2.2.2.2.2.2.2.2.2.1]; simp

/-- Every index of result 7 is in some point's block. -/
theorem cover16 (i : S16384x512.Idx) : ∃ t : Fin cfg0.N, (cfg0.win 16).flush t = true ∧ i ∈ ((cfg0.win 16).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_16 _, ?_⟩
  show i ∈ ((View.whole main_v31_7).slice (win0_16.rect ⟨(i 0 : Nat) / 512, ht⟩)).set
  rw [View.set_slice_whole, Rect.mem_set_unit]
  have e := (index_eq ⟨(i 0 : Nat) / 512, ht⟩).2.2.2.2.2.2.2.2.2.2.2.2.2.2.2.2.1
  intro a
  match a with
  | ⟨0, _⟩ =>
    show win0_16.index ⟨(i 0 : Nat) / 512, ht⟩ 0 * 512 ≤ (i 0 : Nat) ∧ (i 0 : Nat) < win0_16.index ⟨(i 0 : Nat) / 512, ht⟩ 0 * 512 + 512
    rw [e]; dsimp; omega
  | ⟨1, _⟩ =>
    show win0_16.index ⟨(i 0 : Nat) / 512, ht⟩ 1 * 512 ≤ (i 1 : Nat) ∧ (i 1 : Nat) < win0_16.index ⟨(i 0 : Nat) / 512, ht⟩ 1 * 512 + 512
    rw [e]; dsimp; omega

/-- A block of result 8, from what it holds at each row and column. -/
theorem out_block17 (c : Dev nD) (t : Fin cfg0.N) (G : Buf (Elt Ideal) ((c : Thread nD τ).loc main_v31_8)) (o : Vec Ideal S2048x128 .f32)
    (ho : ∀ (r : Fin 2048) (l : Fin 128), o (ix2 r l) = G (ix2 (⟨t.val * 2048 + r.val, by have h := t.isLt; have : cfg0.N = 32 := N_0; omega⟩) l)) :
    (cfg0.win 17).cut (grid0.coords t) o = ((cfg0.win 17).blk t).view.read (Elt Ideal) G := by
  funext y
  obtain ⟨r, l, rfl⟩ := idx_split (a := 2048) (b := 128) y
  rw [View.read_apply]
  refine (ho r l).trans (congrArg G (funext fun a => Fin.ext ?_))
  match a with
  | ⟨0, _⟩ => show t.val * 2048 + r.val = win0_17.index t 0 * 2048 + 1 * r.val; rw [(index_eq t).2.2.2.2.2.2.2.2.2.2.2.2.2.2.2.2.2.1]; simp
  | ⟨1, _⟩ => show l.val = win0_17.index t 1 * 128 + 1 * l.val; rw [(index_eq t).2.2.2.2.2.2.2.2.2.2.2.2.2.2.2.2.2.1]; simp

/-- Every index of result 8 is in some point's block. -/
theorem cover17 (i : S65536x128.Idx) : ∃ t : Fin cfg0.N, (cfg0.win 17).flush t = true ∧ i ∈ ((cfg0.win 17).blk t).view.set := by
  have h0 : (i 0 : Nat) < 65536 := (i 0).isLt
  have h1 : (i 1 : Nat) < 128 := (i 1).isLt
  have hN : cfg0.N = 32 := N_0
  have ht : (i 0 : Nat) / 2048 < cfg0.N := by omega
  refine ⟨⟨(i 0 : Nat) / 2048, ht⟩, flush0_17 _, ?_⟩
  show i ∈ ((View.whole main_v31_8).slice (win0_17.rect ⟨(i 0 : Nat) / 2048, ht⟩)).set
  rw [View.set_slice_whole, Rect.mem_set_unit]
  have e := (index_eq ⟨(i 0 : Nat) / 2048, ht⟩).2.2.2.2.2.2.2.2.2.2.2.2.2.2.2.2.2.1
  intro a
  match a with
  | ⟨0, _⟩ =>
    show win0_17.index ⟨(i 0 : Nat) / 2048, ht⟩ 0 * 2048 ≤ (i 0 : Nat) ∧ (i 0 : Nat) < win0_17.index ⟨(i 0 : Nat) / 2048, ht⟩ 0 * 2048 + 2048
    rw [e]; dsimp; omega
  | ⟨1, _⟩ =>
    show win0_17.index ⟨(i 0 : Nat) / 2048, ht⟩ 1 * 128 ≤ (i 1 : Nat) ∧ (i 1 : Nat) < win0_17.index ⟨(i 0 : Nat) / 2048, ht⟩ 1 * 128 + 128
    rw [e]; dsimp; omega

/-- A block of result 9, from what it holds at each row and column. -/
theorem out_block18 (c : Dev nD) (t : Fin cfg0.N) (G : Buf (Elt Ideal) ((c : Thread nD τ).loc main_v31_9)) (o : Vec Ideal S512x512 .bf16)
    (ho : ∀ (r : Fin 512) (l : Fin 512), o (ix2 r l) = G (ix2 (rowOf t r) l)) :
    (cfg0.win 18).cut (grid0.coords t) o = ((cfg0.win 18).blk t).view.read (Elt Ideal) G := by
  funext y
  obtain ⟨r, l, rfl⟩ := idx_split (a := 512) (b := 512) y
  rw [View.read_apply]
  refine (ho r l).trans (congrArg G (funext fun a => Fin.ext ?_))
  match a with
  | ⟨0, _⟩ => show t.val * 512 + r.val = win0_18.index t 0 * 512 + 1 * r.val; rw [(index_eq t).2.2.2.2.2.2.2.2.2.2.2.2.2.2.2.2.2.2]; simp
  | ⟨1, _⟩ => show l.val = win0_18.index t 1 * 512 + 1 * l.val; rw [(index_eq t).2.2.2.2.2.2.2.2.2.2.2.2.2.2.2.2.2.2]; simp

/-- Every index of result 9 is in some point's block. -/
theorem cover18 (i : S16384x512.Idx) : ∃ t : Fin cfg0.N, (cfg0.win 18).flush t = true ∧ i ∈ ((cfg0.win 18).blk t).view.set := by
  have h0 : (i 0 : Nat) < 16384 := (i 0).isLt
  have h1 : (i 1 : Nat) < 512 := (i 1).isLt
  have hN : cfg0.N = 32 := N_0
  have ht : (i 0 : Nat) / 512 < cfg0.N := by omega
  refine ⟨⟨(i 0 : Nat) / 512, ht⟩, flush0_18 _, ?_⟩
  show i ∈ ((View.whole main_v31_9).slice (win0_18.rect ⟨(i 0 : Nat) / 512, ht⟩)).set
  rw [View.set_slice_whole, Rect.mem_set_unit]
  have e := (index_eq ⟨(i 0 : Nat) / 512, ht⟩).2.2.2.2.2.2.2.2.2.2.2.2.2.2.2.2.2.2
  intro a
  match a with
  | ⟨0, _⟩ =>
    show win0_18.index ⟨(i 0 : Nat) / 512, ht⟩ 0 * 512 ≤ (i 0 : Nat) ∧ (i 0 : Nat) < win0_18.index ⟨(i 0 : Nat) / 512, ht⟩ 0 * 512 + 512
    rw [e]; dsimp; omega
  | ⟨1, _⟩ =>
    show win0_18.index ⟨(i 0 : Nat) / 512, ht⟩ 1 * 512 ≤ (i 1 : Nat) ∧ (i 1 : Nat) < win0_18.index ⟨(i 0 : Nat) / 512, ht⟩ 1 * 512 + 512
    rw [e]; dsimp; omega

end Cert.MixpIdeal.Ker
-- ==== Proof.MixpMath.lean ====
module

public import proofs.«01_k».proof.Defs
public import proofs.«01_k».proof.Proof.MixsMath
public import proofs.«01_k».proof.Proof.MixpIdealFrame
public import Idealize.ShloMosaic.Lib.IdealHost
public import Idealize.ShloMosaic.Lib.Pointwise
public import Idealize.ShloMosaic.Lib.Tactic

@[expose] public section

set_option maxRecDepth 16384

noncomputable section

/-! # The prompt's call for the mixers' inputs: its blocks are those of the decoding batch's call

Both calls run one body on blocks of one shape. Only the attention keys differ: here they are stored transposed. -/

namespace Cert.MixpIdeal.Ker

open Cert.MixpIdeal Cert.MixpIdeal.Gen Cert.MixpIdeal.Mix Idealize.ShloMosaic Idealize.ShloMosaic.TcCoe Idealize.SL.Sem
open Cert.FfnIdeal.Ker (hz)

/-- What the body leaves of the linear-attention queries is what the other call's body leaves. -/
theorem same9 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left9 x0 x1 x2 x3 x4 x5 x6 x7 x8 = Cert.MixsIdeal.Mix.left9 x0 x1 x2 x3 x4 x5 x6 x7 x8 := rfl

/-- What the body leaves of the linear-attention keys is what the other call's body leaves. -/
theorem same10 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left10 x0 x1 x2 x3 x4 x5 x6 x7 x8 = Cert.MixsIdeal.Mix.left10 x0 x1 x2 x3 x4 x5 x6 x7 x8 := rfl

/-- What the body leaves of the linear-attention values is what the other call's body leaves. -/
theorem same11 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left11 x0 x1 x2 x3 x4 x5 x6 x7 x8 = Cert.MixsIdeal.Mix.left11 x0 x1 x2 x3 x4 x5 x6 x7 x8 := rfl

/-- What the body leaves of the output gates is what the other call's body leaves. -/
theorem same12 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left12 x0 x1 x2 x3 x4 x5 x6 x7 x8 = Cert.MixsIdeal.Mix.left12 x0 x1 x2 x3 x4 x5 x6 x7 x8 := rfl

/-- What the body leaves of the log decays is what the other call's body leaves. -/
theorem same13 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left13 x0 x1 x2 x3 x4 x5 x6 x7 x8 = Cert.MixsIdeal.Mix.left13 x0 x1 x2 x3 x4 x5 x6 x7 x8 := rfl

/-- What the body leaves of the attention queries is what the other call's body leaves. -/
theorem same14 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left14 x0 x1 x2 x3 x4 x5 x6 x7 x8 = Cert.MixsIdeal.Mix.left14 x0 x1 x2 x3 x4 x5 x6 x7 x8 := rfl

/-- What the body leaves of the narrow attention keys is what the other call's body leaves. -/
theorem same16 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left16 x0 x1 x2 x3 x4 x5 x6 x7 x8 = Cert.MixsIdeal.Mix.left16 x0 x1 x2 x3 x4 x5 x6 x7 x8 := rfl

/-- What the body leaves of the attention values by heads is what the other call's body leaves. -/
theorem same17 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left17 x0 x1 x2 x3 x4 x5 x6 x7 x8 = Cert.MixsIdeal.Mix.left17 x0 x1 x2 x3 x4 x5 x6 x7 x8 := rfl

/-- What the body leaves of the narrow attention values is what the other call's body leaves. -/
theorem same18 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) : left18 x0 x1 x2 x3 x4 x5 x6 x7 x8 = Cert.MixsIdeal.Mix.left18 x0 x1 x2 x3 x4 x5 x6 x7 x8 := rfl

/-- What the body leaves of the attention keys is the transpose of what the other call's body leaves. -/
theorem same15 (x0 : Vec Ideal S512x1024 .f32) (x1 : Vec Ideal S1x1024 .f32) (x2 : Vec Ideal S1024x3072 .bf16) (x3 : Vec Ideal S1024x128 .bf16) (x4 : Vec Ideal S128x256 .bf16) (x5 : Vec Ideal S1x256 .f32) (x6 : Vec Ideal S1x512 .f32) (x7 : Vec Ideal S1x512 .f32) (x8 : Vec Ideal S512x512 .bf16) (l r : Fin 512) :
    left15 x0 x1 x2 x3 x4 x5 x6 x7 x8 (ix3 0 l r) = Cert.MixsIdeal.Mix.left15 x0 x1 x2 x3 x4 x5 x6 x7 x8 (ix2 r l) := by
  unfold left15 Cert.MixsIdeal.Mix.left15
  rw [View.canon_unit_zero zero3, View.canon_unit_zero hz]
  pointwise [k0_pay16]
  rfl

end Cert.MixpIdeal.Ker

end
-- ==== Proof.MixpValue.lean ====
module

public import proofs.«01_k».proof.Defs
public import proofs.«01_k».proof.Proof.MixpHost
public import proofs.«01_k».proof.Proof.MixsValue
public import proofs.«01_k».proof.Proof.MixpMath
public import Idealize.ShloMosaic.Lib.Pipeline.Value
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The prompt's call for the mixers' inputs: what its ten results hold, over the extended reals -/

namespace Cert.MixpIdeal.Ker

open Cert.MixpIdeal Cert.MixpIdeal.Gen Cert.MixpIdeal.Mix Idealize.ShloMosaic Idealize.ShloMosaic.TcCoe Idealize.SL.Sem
open Idealize.ShloMosaic.Pipeline (Dat)
open Cert.MixsIdeal.Ker (lin hn lsig pad_sum on2 gain_apply bias_apply idx_split prepW_lo prepW_hi prepA_apply prepU_apply prepT_apply prepO_apply
  left9_apply left10_apply left11_apply left12_apply left13_apply left14_apply left15_apply left16_apply left17_apply left18_apply)

/-- One entry of the normalised input times the input weights: row `R`, column `C`. -/
def pj (x : S4x4096x1024.Idx → EReal) (g : S1024.Idx → EReal) (w : S1024x3088.Idx → EReal) (R : Fin 16384) (C : Fin 3088) : EReal :=
  lin (xrow x R) (fun j => g (ix1 j)) (fun q => w (ix2 q C))

section Results
variable (x : S4x4096x1024.Idx → EReal) (g : S1024.Idx → EReal) (w : S1024x3088.Idx → EReal) (u : S16x256.Idx → EReal) (b : S256.Idx → EReal) (kq kk : S64.Idx → EReal)

/-- The linear-attention queries, scaled. -/
def res0 : S16384x256.Idx → EReal := on2 fun (R : Fin 16384) (l : Fin 256) => pj x g w R ⟨l.val, by omega⟩ * Ideal.ofBits FTy.f32 0x3E000000#32
/-- The linear-attention keys. -/
def res1 : S16384x256.Idx → EReal := on2 fun (R : Fin 16384) (l : Fin 256) => pj x g w R ⟨256 + l.val, by omega⟩
/-- The linear-attention values. -/
def res2 : S16384x512.Idx → EReal := on2 fun (R : Fin 16384) (l : Fin 512) => pj x g w R ⟨512 + l.val, by omega⟩
/-- The output gate's columns. -/
def res3 : S16384x512.Idx → EReal := on2 fun (R : Fin 16384) (l : Fin 512) => pj x g w R ⟨1024 + l.val, by omega⟩
/-- The log decay. -/
def res4 : S16384x256.Idx → EReal := on2 fun (R : Fin 16384) (l : Fin 256) =>
  lsig ((∑ k : Fin 16, pj x g w R ⟨1536 + k.val, by omega⟩ * u (ix2 k l)) + b (ix1 l))
/-- The attention queries, normalised and scaled. -/
def res5 : S16384x512.Idx → EReal := on2 fun (R : Fin 16384) (l : Fin 512) =>
  hn (fun e => pj x g w R ⟨1552 + (64 * (l.val / 64) + e.val), by omega⟩) (kq (ix1 ⟨l.val % 64, by omega⟩)) ⟨l.val % 64, by omega⟩ * (((1 / 8) * (Real.log 2)⁻¹ : ℝ) : EReal)
/-- The attention keys, normalised, one token to a row. -/
def res7 : S16384x512.Idx → EReal := on2 fun (R : Fin 16384) (l : Fin 512) =>
  hn (fun e => pj x g w R ⟨2064 + (64 * (l.val / 64) + e.val), by omega⟩) (kk (ix1 ⟨l.val % 64, by omega⟩)) ⟨l.val % 64, by omega⟩
/-- The attention keys, one token to a column, one matrix to a batch entry. -/
def res6 : S4x512x4096.Idx → EReal := fun i =>
  res7 x g w kk (ix2 ⟨(i 0).val * 4096 + (i 2).val, by have h0 : (i 0).val < 4 := (i 0).isLt; have h2 : (i 2).val < 4096 := (i 2).isLt; omega⟩ ⟨(i 1).val, (i 1).isLt⟩)
/-- The attention values, one head to a row. -/
def res8 : S65536x128.Idx → EReal := on2 fun (R : Fin 65536) (l : Fin 128) => pj x g w ⟨R.val / 4, by omega⟩ ⟨2576 + (128 * (R.val % 4) + l.val), by omega⟩
/-- The attention values, one token to a row. -/
def res9 : S16384x512.Idx → EReal := on2 fun (R : Fin 16384) (l : Fin 512) => pj x g w R ⟨2576 + l.val, by omega⟩

end Results

variable (m : (ℓ : Loc nD τ sig) → Buf (Elt Ideal) ℓ) (ρ : Dev nD → PrngReg)

/-- The gain as the points read it. -/
theorem gain_at (c : Dev nD) (t : Fin cfg0.N) (j : Fin 1024) : (iblk m c 1 t : Vec Ideal S1x1024 .f32) (ix2 0 j) = m ((c : Thread nD τ).loc main_arg1) (ix1 j) := by
  rw [blk_g]
  exact gain_apply _ j

/-- The input's normalised row at a point, times a column of the weights before the gate's. -/
theorem lin_lo (c : Dev nD) (t : Fin cfg0.N) (r : Fin 512) (l : Fin 3072) (h : l.val < 1536) :
    lin (fun j => (iblk m c 0 t : Vec Ideal S512x1024 .f32) (ix2 r j)) (fun j => (iblk m c 1 t : Vec Ideal S1x1024 .f32) (ix2 0 j))
        (fun q => (iblk m c 2 t : Vec Ideal S1024x3072 .bf16) (ix2 q l))
      = pj (m ((c : Thread nD τ).loc main_arg0)) (m ((c : Thread nD τ).loc main_arg1)) (m ((c : Thread nD τ).loc main_arg2)) (rowOf t r) ⟨l.val, by omega⟩ := by
  simp only [blk_x, gain_at]
  rw [blk_w]
  simp only [prepW_lo _ _ l h]
  rfl

/-- The same for a column after the gate's. -/
theorem lin_hi (c : Dev nD) (t : Fin cfg0.N) (r : Fin 512) (l : Fin 3072) (h : 1536 ≤ l.val) (C : Fin 3088) (hC : C.val = l.val + 16) :
    lin (fun j => (iblk m c 0 t : Vec Ideal S512x1024 .f32) (ix2 r j)) (fun j => (iblk m c 1 t : Vec Ideal S1x1024 .f32) (ix2 0 j))
        (fun q => (iblk m c 2 t : Vec Ideal S1024x3072 .bf16) (ix2 q l))
      = pj (m ((c : Thread nD τ).loc main_arg0)) (m ((c : Thread nD τ).loc main_arg1)) (m ((c : Thread nD τ).loc main_arg2)) (rowOf t r) C := by
  have hb := l.isLt
  obtain rfl : C = ⟨l.val + 16, Nat.add_lt_add_right hb 16⟩ := Fin.ext hC
  simp only [blk_x, gain_at]
  rw [blk_w]
  simp only [prepW_hi _ _ l h]
  rfl

/-- The matrix of group ones as the points read it. -/
theorem ones_at (c : Dev nD) (t : Fin cfg0.N) (q l : Fin 512) :
    (iblk m c 8 t : Vec Ideal S512x512 .bf16) (ix2 q l) = if q.val / 64 = l.val / 64 then (1 : EReal) else 0 := by
  rw [blk_o]
  exact prepO_apply q l

/-- What point `t` writes back of result 0. -/
theorem flushed_eq9 (c : Dev nD) (t : Fin cfg0.N) :
    (data m 0 c).flushed 9 t = ((cfg0.win 9).blk t).view.read (Elt Ideal) (res0 (m ((c : Thread nD τ).loc main_arg0)) (m ((c : Thread nD τ).loc main_arg1)) (m ((c : Thread nD τ).loc main_arg2))) := by
  show (cfg0.win 9).cut (grid0.coords t) ((data m 0 c).after 9 t) = _
  rw [after_9]
  refine out_block9 c t _ _ fun r l => ?_
  rw [same9]
  refine (left9_apply _ _ _ _ _ _ _ _ _ r l).trans ?_
  rw [lin_lo m c t r _ (show l.val < 1536 by omega)]
  rfl

/-- What point `t` writes back of result 1. -/
theorem flushed_eq10 (c : Dev nD) (t : Fin cfg0.N) :
    (data m 0 c).flushed 10 t = ((cfg0.win 10).blk t).view.read (Elt Ideal) (res1 (m ((c : Thread nD τ).loc main_arg0)) (m ((c : Thread nD τ).loc main_arg1)) (m ((c : Thread nD τ).loc main_arg2))) := by
  show (cfg0.win 10).cut (grid0.coords t) ((data m 0 c).after 10 t) = _
  rw [after_10]
  refine out_block10 c t _ _ fun r l => ?_
  rw [same10]
  refine (left10_apply _ _ _ _ _ _ _ _ _ r l).trans ?_
  rw [lin_lo m c t r _ (show 256 + l.val < 1536 by omega)]
  rfl

/-- What point `t` writes back of result 2. -/
theorem flushed_eq11 (c : Dev nD) (t : Fin cfg0.N) :
    (data m 0 c).flushed 11 t = ((cfg0.win 11).blk t).view.read (Elt Ideal) (res2 (m ((c : Thread nD τ).loc main_arg0)) (m ((c : Thread nD τ).loc main_arg1)) (m ((c : Thread nD τ).loc main_arg2))) := by
  show (cfg0.win 11).cut (grid0.coords t) ((data m 0 c).after 11 t) = _
  rw [after_11]
  refine out_block11 c t _ _ fun r l => ?_
  rw [same11]
  refine (left11_apply _ _ _ _ _ _ _ _ _ r l).trans ?_
  rw [lin_lo m c t r _ (show 512 + l.val < 1536 by omega)]
  rfl

/-- What point `t` writes back of result 3. -/
theorem flushed_eq12 (c : Dev nD) (t : Fin cfg0.N) :
    (data m 0 c).flushed 12 t = ((cfg0.win 12).blk t).view.read (Elt Ideal) (res3 (m ((c : Thread nD τ).loc main_arg0)) (m ((c : Thread nD τ).loc main_arg1)) (m ((c : Thread nD τ).loc main_arg2))) := by
  show (cfg0.win 12).cut (grid0.coords t) ((data m 0 c).after 12 t) = _
  rw [after_12]
  refine out_block12 c t _ _ fun r l => ?_
  rw [same12]
  refine (left12_apply _ _ _ _ _ _ _ _ _ r l).trans ?_
  rw [lin_lo m c t r _ (show 1024 + l.val < 1536 by omega)]
  rfl

/-- What point `t` writes back of result 4. -/
theorem flushed_eq13 (c : Dev nD) (t : Fin cfg0.N) :
    (data m 0 c).flushed 13 t = ((cfg0.win 13).blk t).view.read (Elt Ideal) (res4 (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 13).cut (grid0.coords t) ((data m 0 c).after 13 t) = _
  rw [after_13]
  refine out_block13 c t _ _ fun r l => ?_
  rw [same13]
  refine (left13_apply _ _ _ _ _ _ _ _ _ r l).trans (congrArg lsig (congrArg₂ (fun a b : EReal => a + b) ?_ ?_))
  · refine pad_sum _ _ (fun k : Fin 16 => pj (m ((c : Thread nD τ).loc main_arg0)) (m ((c : Thread nD τ).loc main_arg1)) (m ((c : Thread nD τ).loc main_arg2)) (rowOf t r) ⟨1536 + k.val, by omega⟩) (fun k => (m ((c : Thread nD τ).loc main_arg3)) (ix2 k l)) (fun k => ?_) (fun k => ?_)
    · simp only [blk_x, gain_at]
      rw [blk_a]
      simp only [prepA_apply]
      split
      · rfl
      · simp only [lin, mul_zero, Finset.sum_const_zero]
    · rw [blk_u]
      exact prepU_apply _ k l
  · rw [blk_b]
    exact bias_apply _ l

/-- What point `t` writes back of result 5. -/
theorem flushed_eq14 (c : Dev nD) (t : Fin cfg0.N) :
    (data m 0 c).flushed 14 t = ((cfg0.win 14).blk t).view.read (Elt Ideal) (res5 (m ((c : Thread nD τ).loc main_arg0)) (m ((c : Thread nD τ).loc main_arg1)) (m ((c : Thread nD τ).loc main_arg2)) (m ((c : Thread nD τ).loc main_arg5))) := by
  show (cfg0.win 14).cut (grid0.coords t) ((data m 0 c).after 14 t) = _
  rw [after_14]
  refine out_block14 c t _ _ fun r l => ?_
  rw [same14]
  refine (left14_apply _ _ _ _ _ _ _ _ _ (ones_at m c t) r l).trans ?_
  rw [funext fun e : Fin 64 => lin_hi m c t r ⟨1536 + (64 * (l.val / 64) + e.val), by omega⟩ (show 1536 ≤ 1536 + (64 * (l.val / 64) + e.val) by omega)
    ⟨1552 + (64 * (l.val / 64) + e.val), by omega⟩ (by show 1552 + (64 * (l.val / 64) + e.val) = 1536 + (64 * (l.val / 64) + e.val) + 16; omega)]
  rw [blk_qn, prepT_apply]
  rfl

/-- What point `t` writes back of result 6. -/
theorem flushed_eq15 (c : Dev nD) (t : Fin cfg0.N) :
    (data m 0 c).flushed 15 t = ((cfg0.win 15).blk t).view.read (Elt Ideal) (res6 (m ((c : Thread nD τ).loc main_arg0)) (m ((c : Thread nD τ).loc main_arg1)) (m ((c : Thread nD τ).loc main_arg2)) (m ((c : Thread nD τ).loc main_arg6))) := by
  show (cfg0.win 15).cut (grid0.coords t) ((data m 0 c).after 15 t) = _
  rw [after_15]
  refine out_block15 c t _ _ fun l r => ?_
  rw [same15]
  refine (left15_apply _ _ _ _ _ _ _ _ _ (ones_at m c t) r l).trans ?_
  rw [funext fun e : Fin 64 => lin_hi m c t r ⟨2048 + (64 * (l.val / 64) + e.val), by omega⟩ (show 1536 ≤ 2048 + (64 * (l.val / 64) + e.val) by omega)
    ⟨2064 + (64 * (l.val / 64) + e.val), by omega⟩ (by show 2064 + (64 * (l.val / 64) + e.val) = 2048 + (64 * (l.val / 64) + e.val) + 16; omega)]
  rw [blk_kn, prepT_apply]
  have hR : rowOf t r = ⟨t.val / 8 * 4096 + (t.val % 8 * 512 + r.val), by have h := t.isLt; have : cfg0.N = 32 := N_0; omega⟩ := Fin.ext (by
    show t.val * 512 + r.val = t.val / 8 * 4096 + (t.val % 8 * 512 + r.val)
    omega)
  rw [hR]
  rfl

/-- What point `t` writes back of result 7. -/
theorem flushed_eq16 (c : Dev nD) (t : Fin cfg0.N) :
    (data m 0 c).flushed 16 t = ((cfg0.win 16).blk t).view.read (Elt Ideal) (res7 (m ((c : Thread nD τ).loc main_arg0)) (m ((c : Thread nD τ).loc main_arg1)) (m ((c : Thread nD τ).loc main_arg2)) (m ((c : Thread nD τ).loc main_arg6))) := by
  show (cfg0.win 16).cut (grid0.coords t) ((data m 0 c).after 16 t) = _
  rw [after_16]
  refine out_block16 c t _ _ fun r l => ?_
  rw [same16]
  refine (left16_apply _ _ _ _ _ _ _ _ _ (ones_at m c t) r l).trans ?_
  rw [funext fun e : Fin 64 => lin_hi m c t r ⟨2048 + (64 * (l.val / 64) + e.val), by omega⟩ (show 1536 ≤ 2048 + (64 * (l.val / 64) + e.val) by omega)
    ⟨2064 + (64 * (l.val / 64) + e.val), by omega⟩ (by show 2064 + (64 * (l.val / 64) + e.val) = 2048 + (64 * (l.val / 64) + e.val) + 16; omega)]
  rw [blk_kn, prepT_apply]
  rfl

/-- What point `t` writes back of result 8. -/
theorem flushed_eq17 (c : Dev nD) (t : Fin cfg0.N) :
    (data m 0 c).flushed 17 t = ((cfg0.win 17).blk t).view.read (Elt Ideal) (res8 (m ((c : Thread nD τ).loc main_arg0)) (m ((c : Thread nD τ).loc main_arg1)) (m ((c : Thread nD τ).loc main_arg2))) := by
  show (cfg0.win 17).cut (grid0.coords t) ((data m 0 c).after 17 t) = _
  rw [after_17]
  refine out_block17 c t _ _ fun r l => ?_
  have hr : r.val / 4 < 512 := by omega
  rw [same17]
  refine (left17_apply _ _ _ _ _ _ _ _ _ r l).trans ?_
  have ht : t.val < 32 := by have h := t.isLt; have : cfg0.N = 32 := N_0; omega
  rw [lin_hi m c t ⟨r.val / 4, hr⟩ _ (show 1536 ≤ 2560 + (128 * (r.val % 4) + l.val) by omega)
    ⟨2576 + (128 * (r.val % 4) + l.val), by omega⟩ (by show 2576 + (128 * (r.val % 4) + l.val) = 2560 + (128 * (r.val % 4) + l.val) + 16; omega)]
  refine congrArg₂ (pj (m ((c : Thread nD τ).loc main_arg0)) (m ((c : Thread nD τ).loc main_arg1)) (m ((c : Thread nD τ).loc main_arg2))) (Fin.ext ?_) (Fin.ext ?_)
  · show t.val * 512 + r.val / 4 = (t.val * 2048 + r.val) / 4
    omega
  · show 2576 + (128 * (r.val % 4) + l.val) = 2576 + (128 * ((t.val * 2048 + r.val) % 4) + l.val)
    omega

/-- What point `t` writes back of result 9. -/
theorem flushed_eq18 (c : Dev nD) (t : Fin cfg0.N) :
    (data m 0 c).flushed 18 t = ((cfg0.win 18).blk t).view.read (Elt Ideal) (res9 (m ((c : Thread nD τ).loc main_arg0)) (m ((c : Thread nD τ).loc main_arg1)) (m ((c : Thread nD τ).loc main_arg2))) := by
  show (cfg0.win 18).cut (grid0.coords t) ((data m 0 c).after 18 t) = _
  rw [after_18]
  refine out_block18 c t _ _ fun r l => ?_
  rw [same18]
  refine (left18_apply _ _ _ _ _ _ _ _ _ r l).trans ?_
  rw [lin_hi m c t r _ (show 1536 ≤ 2560 + l.val by omega) ⟨2576 + l.val, by omega⟩ (by show 2576 + l.val = 2560 + l.val + 16; omega)]
  rfl

set_option maxHeartbeats 4000000 in
/-- The kernel's run: every result array holds what is claimed, the arguments unchanged. -/
theorem run : θ_run defs (onTc (τ := τ) (main (F := Ideal))) ⟨m, fun _ => 0, ρ⟩ fun r => ∀ c : Dev nD,
      r.2.mem ((c : Thread nD τ).loc main_v31_0) = res0 (m ((c : Thread nD τ).loc main_arg0)) (m ((c : Thread nD τ).loc main_arg1)) (m ((c : Thread nD τ).loc main_arg2))
      ∧ r.2.mem ((c : Thread nD τ).loc main_v31_1) = res1 (m ((c : Thread nD τ).loc main_arg0)) (m ((c : Thread nD τ).loc main_arg1)) (m ((c : Thread nD τ).loc main_arg2))
      ∧ r.2.mem ((c : Thread nD τ).loc main_v31_2) = res2 (m ((c : Thread nD τ).loc main_arg0)) (m ((c : Thread nD τ).loc main_arg1)) (m ((c : Thread nD τ).loc main_arg2))
      ∧ r.2.mem ((c : Thread nD τ).loc main_v31_3) = res3 (m ((c : Thread nD τ).loc main_arg0)) (m ((c : Thread nD τ).loc main_arg1)) (m ((c : Thread nD τ).loc main_arg2))
      ∧ r.2.mem ((c : Thread nD τ).loc main_v31_4) = res4 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v31_5) = res5 (m ((c : Thread nD τ).loc main_arg0)) (m ((c : Thread nD τ).loc main_arg1)) (m ((c : Thread nD τ).loc main_arg2)) (m ((c : Thread nD τ).loc main_arg5))
      ∧ r.2.mem ((c : Thread nD τ).loc main_v31_6) = res6 (m ((c : Thread nD τ).loc main_arg0)) (m ((c : Thread nD τ).loc main_arg1)) (m ((c : Thread nD τ).loc main_arg2)) (m ((c : Thread nD τ).loc main_arg6))
      ∧ r.2.mem ((c : Thread nD τ).loc main_v31_7) = res7 (m ((c : Thread nD τ).loc main_arg0)) (m ((c : Thread nD τ).loc main_arg1)) (m ((c : Thread nD τ).loc main_arg2)) (m ((c : Thread nD τ).loc main_arg6))
      ∧ r.2.mem ((c : Thread nD τ).loc main_v31_8) = res8 (m ((c : Thread nD τ).loc main_arg0)) (m ((c : Thread nD τ).loc main_arg1)) (m ((c : Thread nD τ).loc main_arg2))
      ∧ r.2.mem ((c : Thread nD τ).loc main_v31_9) = res9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans ((data m 0 c).arrAt_eq_of_cover 9 (res0 (m ((c : Thread nD τ).loc main_arg0)) (m ((c : Thread nD τ).loc main_arg1)) (m ((c : Thread nD τ).loc main_arg2))) (fun t _ => flushed_eq9 m c t) cover9),
    ((h c).1 10).trans ((data m 0 c).arrAt_eq_of_cover 10 (res1 (m ((c : Thread nD τ).loc main_arg0)) (m ((c : Thread nD τ).loc main_arg1)) (m ((c : Thread nD τ).loc main_arg2))) (fun t _ => flushed_eq10 m c t) cover10),
    ((h c).1 11).trans ((data m 0 c).arrAt_eq_of_cover 11 (res2 (m ((c : Thread nD τ).loc main_arg0)) (m ((c : Thread nD τ).loc main_arg1)) (m ((c : Thread nD τ).loc main_arg2))) (fun t _ => flushed_eq11 m c t) cover11),
    ((h c).1 12).trans ((data m 0 c).arrAt_eq_of_cover 12 (res3 (m ((c : Thread nD τ).loc main_arg0)) (m ((c : Thread nD τ).loc main_arg1)) (m ((c : Thread nD τ).loc main_arg2))) (fun t _ => flushed_eq12 m c t) cover12),
    ((h c).1 13).trans ((data m 0 c).arrAt_eq_of_cover 13 (res4 (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq13 m c t) cover13),
    ((h c).1 14).trans ((data m 0 c).arrAt_eq_of_cover 14 (res5 (m ((c : Thread nD τ).loc main_arg0)) (m ((c : Thread nD τ).loc main_arg1)) (m ((c : Thread nD τ).loc main_arg2)) (m ((c : Thread nD τ).loc main_arg5))) (fun t _ => flushed_eq14 m c t) cover14),
    ((h c).1 15).trans ((data m 0 c).arrAt_eq_of_cover 15 (res6 (m ((c : Thread nD τ).loc main_arg0)) (m ((c : Thread nD τ).loc main_arg1)) (m ((c : Thread nD τ).loc main_arg2)) (m ((c : Thread nD τ).loc main_arg6))) (fun t _ => flushed_eq15 m c t) cover15),
    ((h c).1 16).trans ((data m 0 c).arrAt_eq_of_cover 16 (res7 (m ((c : Thread nD τ).loc main_arg0)) (m ((c : Thread nD τ).loc main_arg1)) (m ((c : Thread nD τ).loc main_arg2)) (m ((c : Thread nD τ).loc main_arg6))) (fun t _ => flushed_eq16 m c t) cover16),
    ((h c).1 17).trans ((data m 0 c).arrAt_eq_of_cover 17 (res8 (m ((c : Thread nD τ).loc main_arg0)) (m ((c : Thread nD τ).loc main_arg1)) (m ((c : Thread nD τ).loc main_arg2))) (fun t _ => flushed_eq17 m c t) cover17),
    ((h c).1 18).trans ((data m 0 c).arrAt_eq_of_cover 18 (res9 (m ((c : Thread nD τ).loc main_arg0)) (m ((c : Thread nD τ).loc main_arg1)) (m ((c : Thread nD τ).loc main_arg2))) (fun t _ => flushed_eq18 m c t) cover18),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (runs m ρ)

end Cert.MixpIdeal.Ker

end
-- ==== Proof.MixpEq.lean ====
module

public import proofs.«01_k».proof.Defs
public import proofs.«01_k».proof.Proof.MixpValue
public import proofs.«01_k».proof.Proof.MixsEq
public import proofs.«01_k».proof.Proof.Gen.MixpRefIdeal.Run
public import Idealize.ShloMosaic.Lib.IdealHost
public import Idealize.ShloMosaic.Lib.Pointwise
public import Idealize.ShloMosaic.Lib.Tactic
public import Idealize.ShloMosaic.Lib.Quiescent

@[expose] public section

set_option maxRecDepth 16384

noncomputable section

/-! # The prompt's call for the mixers' inputs computes the reference, over the extended reals -/

namespace Cert.Proof.Mixp

open Cert.MixpIdeal.Ker Cert.MixpRefIdeal Cert.MixpRefIdeal.Gen Idealize.ShloMosaic Idealize.ShloMosaic.TcCoe Idealize.SL.Sem
open Cert.FfnIdeal.Ker (nrm)
open Cert.MixsIdeal.Ker (lin hn lsig lsig_eq qscale_eq idx_split)
open Cert.Proof.Mixs (col_eq)

/-- The reference's normalised input. -/
abbrev refNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf x x) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The reference's product with the input weights. -/
abbrev refDot (x : FVec Ideal S4x4096x1024 .f32) (g : FVec Ideal S1024 .f32) (w : FVec Ideal S1024x3088 .f32) : FVec Ideal S4x4096x3088 .f32 :=
  Host.dotGeneral dot_S4x4096x1024_S1024x3088_S4x4096x3088_2_0_01_1_n_n none (refNorm x g) w

/-- The reference's product at an index. -/
theorem refDot_apply (x : FVec Ideal S4x4096x1024 .f32) (g : FVec Ideal S1024 .f32) (w : FVec Ideal S1024x3088 .f32) (a : Fin 4) (b : Fin 4096) (C : Fin 3088) :
    refDot x g w (ix3 a b C) = lin (fun j => x (ix3 a b j)) (fun j => g (ix1 j)) (fun q => w (ix2 q C)) := by
  pointwise [refDot, refNorm, lin, nrm]

/-- The reference's product at a flattened row. -/
theorem refDot_row (x : FVec Ideal S4x4096x1024 .f32) (g : FVec Ideal S1024 .f32) (w : FVec Ideal S1024x3088 .f32) (R : Fin 16384) (C : Fin 3088) :
    refDot x g w (ix3 ⟨R.val / 4096, by omega⟩ ⟨R.val % 4096, by omega⟩ C) = pj x g w R C :=
  refDot_apply x g w _ _ C

/-- The scaled linear-attention queries of a product, flattened. -/
abbrev cut0 (d : FVec Ideal S4x4096x3088 .f32) : FVec Ideal S16384x256 .f32 := shapeCast S16384x256 (mulf (extractStridedSlice S4x4096x256 ![0, 0, 0] d slices_S4x4096x3088_S4x4096x256_0_0_0) (broadcastInDim S4x4096x256 ![] bcast_S_S4x4096x256 (constant (F := Ideal) S_ .f32 0x3E000000#32))) shapeCasts_S4x4096x256_S16384x256

/-- The scaled linear-attention queries at an index. -/
theorem cut0_apply (d : FVec Ideal S4x4096x3088 .f32) (R : Fin 16384) (l : Fin 256) :
    cut0 d (ix2 R l) = d (ix3 ⟨R.val / 4096, by omega⟩ ⟨R.val % 4096, by omega⟩ ⟨l.val, by omega⟩) * Ideal.ofBits FTy.f32 0x3E000000#32 := by
  pointwise [cut0]

/-- The linear-attention keys of a product, flattened. -/
abbrev cut1 (d : FVec Ideal S4x4096x3088 .f32) : FVec Ideal S16384x256 .f32 := shapeCast S16384x256 (extractStridedSlice S4x4096x256 ![0, 0, 256] d slices_S4x4096x3088_S4x4096x256_0_0_256) shapeCasts_S4x4096x256_S16384x256

/-- The linear-attention keys at an index. -/
theorem cut1_apply (d : FVec Ideal S4x4096x3088 .f32) (R : Fin 16384) (l : Fin 256) :
    cut1 d (ix2 R l) = d (ix3 ⟨R.val / 4096, by omega⟩ ⟨R.val % 4096, by omega⟩ ⟨256 + l.val, by omega⟩) := by
  pointwise [cut1]

/-- The linear-attention values of a product, flattened. -/
abbrev cut2 (d : FVec Ideal S4x4096x3088 .f32) : FVec Ideal S16384x512 .f32 := shapeCast S16384x512 (extractStridedSlice S4x4096x512 ![0, 0, 512] d slices_S4x4096x3088_S4x4096x512_0_0_512) shapeCasts_S4x4096x512_S16384x512

/-- The linear-attention values at an index. -/
theorem cut2_apply (d : FVec Ideal S4x4096x3088 .f32) (R : Fin 16384) (l : Fin 512) :
    cut2 d (ix2 R l) = d (ix3 ⟨R.val / 4096, by omega⟩ ⟨R.val % 4096, by omega⟩ ⟨512 + l.val, by omega⟩) := by
  pointwise [cut2]

/-- The output gate's columns of a product, flattened. -/
abbrev cut3 (d : FVec Ideal S4x4096x3088 .f32) : FVec Ideal S16384x512 .f32 := shapeCast S16384x512 (extractStridedSlice S4x4096x512 ![0, 0, 1024] d slices_S4x4096x3088_S4x4096x512_0_0_1024) shapeCasts_S4x4096x512_S16384x512

/-- The output gate's columns at an index. -/
theorem cut3_apply (d : FVec Ideal S4x4096x3088 .f32) (R : Fin 16384) (l : Fin 512) :
    cut3 d (ix2 R l) = d (ix3 ⟨R.val / 4096, by omega⟩ ⟨R.val % 4096, by omega⟩ ⟨1024 + l.val, by omega⟩) := by
  pointwise [cut3]

/-- The attention values of a product, flattened. -/
abbrev cut9 (d : FVec Ideal S4x4096x3088 .f32) : FVec Ideal S16384x512 .f32 := shapeCast S16384x512 (extractStridedSlice S4x4096x512 ![0, 0, 2576] d slices_S4x4096x3088_S4x4096x512_0_0_2576) shapeCasts_S4x4096x512_S16384x512

/-- The attention values at an index. -/
theorem cut9_apply (d : FVec Ideal S4x4096x3088 .f32) (R : Fin 16384) (l : Fin 512) :
    cut9 d (ix2 R l) = d (ix3 ⟨R.val / 4096, by omega⟩ ⟨R.val % 4096, by omega⟩ ⟨2576 + l.val, by omega⟩) := by
  pointwise [cut9]

/-- Result 0 of the reference. -/
theorem ref0 (x : FVec Ideal S4x4096x1024 .f32) (g : FVec Ideal S1024 .f32) (w : FVec Ideal S1024x3088 .f32) : cut0 (refDot x g w) = res0 x g w := by
  funext i
  obtain ⟨R, l, rfl⟩ := idx_split (a := 16384) (b := 256) i
  refine (cut0_apply _ R l).trans ?_
  rw [refDot_row]
  rfl

/-- Result 1 of the reference. -/
theorem ref1 (x : FVec Ideal S4x4096x1024 .f32) (g : FVec Ideal S1024 .f32) (w : FVec Ideal S1024x3088 .f32) : cut1 (refDot x g w) = res1 x g w := by
  funext i
  obtain ⟨R, l, rfl⟩ := idx_split (a := 16384) (b := 256) i
  refine (cut1_apply _ R l).trans ?_
  rw [refDot_row]
  rfl

/-- Result 2 of the reference. -/
theorem ref2 (x : FVec Ideal S4x4096x1024 .f32) (g : FVec Ideal S1024 .f32) (w : FVec Ideal S1024x3088 .f32) : cut2 (refDot x g w) = res2 x g w := by
  funext i
  obtain ⟨R, l, rfl⟩ := idx_split (a := 16384) (b := 512) i
  refine (cut2_apply _ R l).trans ?_
  rw [refDot_row]
  rfl

/-- Result 3 of the reference. -/
theorem ref3 (x : FVec Ideal S4x4096x1024 .f32) (g : FVec Ideal S1024 .f32) (w : FVec Ideal S1024x3088 .f32) : cut3 (refDot x g w) = res3 x g w := by
  funext i
  obtain ⟨R, l, rfl⟩ := idx_split (a := 16384) (b := 512) i
  refine (cut3_apply _ R l).trans ?_
  rw [refDot_row]
  rfl

/-- Result 9 of the reference. -/
theorem ref9 (x : FVec Ideal S4x4096x1024 .f32) (g : FVec Ideal S1024 .f32) (w : FVec Ideal S1024x3088 .f32) : cut9 (refDot x g w) = res9 x g w := by
  funext i
  obtain ⟨R, l, rfl⟩ := idx_split (a := 16384) (b := 512) i
  refine (cut9_apply _ R l).trans ?_
  rw [refDot_row]
  rfl

/-- The attention values, one head to a row. -/
abbrev cut8 (d : FVec Ideal S4x4096x3088 .f32) : FVec Ideal S65536x128 .f32 := shapeCast S65536x128 (cut9 d) shapeCasts_S16384x512_S65536x128

/-- The attention values by heads at an index. -/
theorem split8_apply (v : FVec Ideal S16384x512 .f32) (R : Fin 65536) (l : Fin 128) :
    shapeCast S65536x128 v shapeCasts_S16384x512_S65536x128 (ix2 R l) = v (ix2 ⟨R.val / 4, by omega⟩ ⟨128 * (R.val % 4) + l.val, by omega⟩) := by
  pointwise
  exact congrArg (fun a : Fin 512 => v (ix2 ⟨R.val / 4, by omega⟩ a)) (Fin.ext (by show R.val % 4 * 128 + l.val = 128 * (R.val % 4) + l.val; omega))

/-- Result 8 of the reference. -/
theorem ref8 (x : FVec Ideal S4x4096x1024 .f32) (g : FVec Ideal S1024 .f32) (w : FVec Ideal S1024x3088 .f32) : cut8 (refDot x g w) = res8 x g w := by
  funext i
  obtain ⟨R, l, rfl⟩ := idx_split (a := 65536) (b := 128) i
  refine (split8_apply _ R l).trans ((cut9_apply _ _ _).trans ?_)
  rw [refDot_row]
  rfl

/-- The gate's argument. -/
abbrev refArg (d : FVec Ideal S4x4096x3088 .f32) (u : FVec Ideal S16x256 .f32) (b : FVec Ideal S256 .f32) : FVec Ideal S4x4096x256 .f32 :=
  addf (Host.dotGeneral dot_S4x4096x16_S16x256_S4x4096x256_2_0_01_1_n_n none (extractStridedSlice S4x4096x16 ![0, 0, 1536] d slices_S4x4096x3088_S4x4096x16_0_0_1536) u)
    (broadcastInDim S4x4096x256 ![0, 1, 2] bcast_S1x1x256_S4x4096x256_0_1_2 (broadcastInDim S1x1x256 ![2] bcast_S256_S1x1x256_2 b))

/-- Nought everywhere. -/
abbrev zeros : FVec Ideal S4x4096x256 .f32 := broadcastInDim S4x4096x256 ![] bcast_S_S4x4096x256 (constant S_ .f32 0x00000000#32)

/-- The log decay from the gate's argument. -/
abbrev refDecay (z : FVec Ideal S4x4096x256 .f32) : FVec Ideal S16384x256 .f32 :=
  shapeCast S16384x256 (Host.divf (Host.negf (select (cmpf .une (subf (Host.negf z) zeros) (subf (Host.negf z) zeros)) (addf (Host.negf z) zeros)
    (addf (maximumf (Host.negf z) zeros) (Host.log1p (Host.exp (Host.negf (Host.absf (subf (Host.negf z) zeros))))))))
    (broadcastInDim S4x4096x256 ![] bcast_S_S4x4096x256 (constant S_ .f32 0x41800000#32))) shapeCasts_S4x4096x256_S16384x256

/-- The gate's argument at an index. -/
theorem refArg_apply (d : FVec Ideal S4x4096x3088 .f32) (u : FVec Ideal S16x256 .f32) (b : FVec Ideal S256 .f32) (p : Fin 4) (q : Fin 4096) (l : Fin 256) :
    refArg d u b (ix3 p q l) = (∑ k : Fin 16, d (ix3 p q ⟨1536 + k.val, by omega⟩) * u (ix2 k l)) + b (ix1 l) := by
  pointwise [refArg]

/-- The log decay at an index. -/
theorem refDecay_apply (z : FVec Ideal S4x4096x256 .f32) (R : Fin 16384) (l : Fin 256) :
    refDecay z (ix2 R l) = lsig (z (ix3 ⟨R.val / 4096, by omega⟩ ⟨R.val % 4096, by omega⟩ l)) := by
  rw [lsig_eq]
  pointwise [refDecay, zeros]
  rw [if_neg (fun h => h rfl)]
  rfl

/-- The reference's log decay is its composed term. -/
theorem decay_eq (m : (ℓ : Loc nD τ sig) → Buf (Elt Ideal) ℓ) (c : Dev nD) :
    Cert.MixpRefIdeal.Value.res_main_v67 m c = refDecay (refArg (refDot (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))) := by
  unfold Cert.MixpRefIdeal.Value.res_main_v67
  rfl

/-- Result 4 of the reference. -/
theorem ref4 (x : FVec Ideal S4x4096x1024 .f32) (g : FVec Ideal S1024 .f32) (w : FVec Ideal S1024x3088 .f32) (u : FVec Ideal S16x256 .f32) (b : FVec Ideal S256 .f32) :
    refDecay (refArg (refDot x g w) u b) = res4 x g w u b := by
  funext i
  obtain ⟨R, l, rfl⟩ := idx_split (a := 16384) (b := 256) i
  refine (refDecay_apply _ R l).trans ?_
  rw [refArg_apply]
  simp only [refDot_row]
  rfl

/-- A product's columns by groups of 64. -/
abbrev cutQ (d : FVec Ideal S4x4096x3088 .f32) : FVec Ideal S4x4096x4x2x64 .f32 :=
  shapeCast S4x4096x4x2x64 (extractStridedSlice S4x4096x512 ![0, 0, 1552] d slices_S4x4096x3088_S4x4096x512_0_0_1552) shapeCasts_S4x4096x512_S4x4096x4x2x64

/-- The same for the keys. -/
abbrev cutK (d : FVec Ideal S4x4096x3088 .f32) : FVec Ideal S4x4096x4x2x64 .f32 :=
  shapeCast S4x4096x4x2x64 (extractStridedSlice S4x4096x512 ![0, 0, 2064] d slices_S4x4096x3088_S4x4096x512_0_0_2064) shapeCasts_S4x4096x512_S4x4096x4x2x64

/-- The reference's normalisation of each group. -/
abbrev refGroup (p : FVec Ideal S4x4096x4x2x64 .f32) (k : FVec Ideal S64 .f32) : FVec Ideal S4x4096x4x2x64 .f32 :=
  mulf (mulf p (broadcastInDim S4x4096x4x2x64 ![0, 1, 2, 3, 4] bcast_S4x4096x4x2x1_S4x4096x4x2x64_0_1_2_3_4 (Host.rsqrt (addf (Host.divf
    (broadcastInDim S4x4096x4x2x1 ![0, 1, 2, 3] bcast_S4x4096x4x2_S4x4096x4x2x1_0_1_2_3 (Host.reduceAdd (mulf p p) (constant S_ .f32 0x00000000#32) reducesTo_S4x4096x4x2x64_S4x4096x4x2_d4 h_S_))
    (broadcastInDim S4x4096x4x2x1 ![] bcast_S_S4x4096x4x2x1 (constant S_ .f32 0x42800000#32))) (broadcastInDim S4x4096x4x2x1 ![] bcast_S_S4x4096x4x2x1 (constant S_ .f32 0x358637BD#32))))))
    (broadcastInDim S4x4096x4x2x64 ![0, 1, 2, 3, 4] bcast_S1x1x1x1x64_S4x4096x4x2x64_0_1_2_3_4 (broadcastInDim S1x1x1x1x64 ![4] bcast_S64_S1x1x1x1x64_4 k))

/-- The reference's scaling of the queries. -/
abbrev refScale (p : FVec Ideal S4x4096x4x2x64 .f32) : FVec Ideal S4x4096x4x2x64 .f32 :=
  mulf (mulf p (broadcastInDim S4x4096x4x2x64 ![] bcast_S_S4x4096x4x2x64 (constant S_ .f32 0x3E000000#32)))
    (broadcastInDim S4x4096x4x2x64 ![] bcast_S_S4x4096x4x2x64 (Host.divf (constant S_ .f32 0x3F800000#32) (Host.log (constant S_ .f32 0x40000000#32))))

/-- The queries' columns at an index. -/
theorem cutQ_apply (d : FVec Ideal S4x4096x3088 .f32) (a : Fin 4) (b : Fin 4096) (h : Fin 4) (z : Fin 2) (e : Fin 64) :
    cutQ d (ix5 a b h z e) = d (ix3 a b ⟨1552 + ((h.val * 2 + z.val) * 64 + e.val), by omega⟩) := by
  pointwise [cutQ]
  exact congrArg (fun C : Fin 3088 => d (ix3 a b C)) (Fin.ext (by
    show 1552 + (h.val * 128 + z.val * 64 + e.val) = 1552 + ((h.val * 2 + z.val) * 64 + e.val)
    omega))

/-- The keys' columns at an index. -/
theorem cutK_apply (d : FVec Ideal S4x4096x3088 .f32) (a : Fin 4) (b : Fin 4096) (h : Fin 4) (z : Fin 2) (e : Fin 64) :
    cutK d (ix5 a b h z e) = d (ix3 a b ⟨2064 + ((h.val * 2 + z.val) * 64 + e.val), by omega⟩) := by
  pointwise [cutK]
  exact congrArg (fun C : Fin 3088 => d (ix3 a b C)) (Fin.ext (by
    show 2064 + (h.val * 128 + z.val * 64 + e.val) = 2064 + ((h.val * 2 + z.val) * 64 + e.val)
    omega))

/-- A normalised group at an index. -/
theorem refGroup_apply (p : FVec Ideal S4x4096x4x2x64 .f32) (k : FVec Ideal S64 .f32) (a : Fin 4) (b : Fin 4096) (h : Fin 4) (z : Fin 2) (e : Fin 64) :
    refGroup p k (ix5 a b h z e) = hn (fun e' => p (ix5 a b h z e')) (k (ix1 e)) e := by
  pointwise [refGroup, hn]

/-- A scaled query at an index. -/
theorem refScale_apply (p : FVec Ideal S4x4096x4x2x64 .f32) (a : Fin 4) (b : Fin 4096) (h : Fin 4) (z : Fin 2) (e : Fin 64) :
    refScale p (ix5 a b h z e) = p (ix5 a b h z e) * (((1 / 8) * (Real.log 2)⁻¹ : ℝ) : EReal) := by
  rw [qscale_eq, ← mul_assoc, ← Cert.DattnIdeal.Ker.scale_eq]
  rfl

/-- The groups flattened, at an index. -/
theorem flat5_apply (p : FVec Ideal S4x4096x4x2x64 .f32) (R : Fin 16384) (l : Fin 512) :
    shapeCast S16384x512 p shapeCasts_S4x4096x4x2x64_S16384x512 (ix2 R l)
      = p (ix5 ⟨R.val / 4096, by omega⟩ ⟨R.val % 4096, by omega⟩ ⟨l.val / 128, by omega⟩ ⟨l.val / 64 % 2, by omega⟩ ⟨l.val % 64, by omega⟩) := by
  pointwise

/-- Result 7 of the reference. -/
theorem ref7 (x : FVec Ideal S4x4096x1024 .f32) (g : FVec Ideal S1024 .f32) (w : FVec Ideal S1024x3088 .f32) (k : FVec Ideal S64 .f32) :
    shapeCast S16384x512 (refGroup (cutK (refDot x g w)) k) shapeCasts_S4x4096x4x2x64_S16384x512 = res7 x g w k := by
  funext i
  obtain ⟨R, l, rfl⟩ := idx_split (a := 16384) (b := 512) i
  refine (flat5_apply _ R l).trans ((refGroup_apply _ _ _ _ _ _ _).trans ?_)
  simp only [cutK_apply, refDot_row]
  exact congrArg (fun t => hn t (k (ix1 ⟨l.val % 64, by omega⟩)) ⟨l.val % 64, by omega⟩) (funext fun e => congrArg (pj x g w R) (col_eq 2064 l e (by norm_num)))

/-- The groups flattened and transposed, at an index. -/
theorem turn5_apply (p : FVec Ideal S4x4096x4x2x64 .f32) (a : Fin 4) (l : Fin 512) (b : Fin 4096) :
    transpose S4x512x4096 [0, 2, 1] (shapeCast S4x4096x512 p shapeCasts_S4x4096x4x2x64_S4x4096x512) transposes_S4x4096x512_S4x512x4096_0_2_1 (ix3 a l b)
      = p (ix5 a b ⟨l.val / 128, by omega⟩ ⟨l.val / 64 % 2, by omega⟩ ⟨l.val % 64, by omega⟩) := by
  pointwise

/-- Result 6 of the reference. -/
theorem ref6 (x : FVec Ideal S4x4096x1024 .f32) (g : FVec Ideal S1024 .f32) (w : FVec Ideal S1024x3088 .f32) (k : FVec Ideal S64 .f32) :
    transpose S4x512x4096 [0, 2, 1] (shapeCast S4x4096x512 (refGroup (cutK (refDot x g w)) k) shapeCasts_S4x4096x4x2x64_S4x4096x512) transposes_S4x4096x512_S4x512x4096_0_2_1 = res6 x g w k := by
  funext i
  have h0 : (i 0).val < 4 := (i 0).isLt
  have h2 : (i 2).val < 4096 := (i 2).isLt
  have hi : i = ix3 ⟨(i 0).val, h0⟩ ⟨(i 1).val, (i 1).isLt⟩ ⟨(i 2).val, h2⟩ := funext fun a => by
    match a with
    | ⟨0, _⟩ => rfl
    | ⟨1, _⟩ => rfl
    | ⟨2, _⟩ => rfl
  have hR : ((i 0).val * 4096 + (i 2).val) < 16384 := by omega
  have e := (congrFun (ref7 x g w k) (ix2 ⟨(i 0).val * 4096 + (i 2).val, hR⟩ ⟨(i 1).val, (i 1).isLt⟩)).symm.trans (flat5_apply _ _ _)
  refine (congrArg _ hi).trans ((turn5_apply _ _ _ _).trans (Eq.trans ?_ e.symm))
  refine congrArg₂ (fun a b => refGroup (cutK (refDot x g w)) k (ix5 a b _ _ _)) (Fin.ext ?_) (Fin.ext ?_)
  · show (i 0).val = ((i 0).val * 4096 + (i 2).val) / 4096
    omega
  · show (i 2).val = ((i 0).val * 4096 + (i 2).val) % 4096
    omega

/-- Result 5 of the reference. -/
theorem ref5 (x : FVec Ideal S4x4096x1024 .f32) (g : FVec Ideal S1024 .f32) (w : FVec Ideal S1024x3088 .f32) (k : FVec Ideal S64 .f32) :
    shapeCast S16384x512 (refScale (refGroup (cutQ (refDot x g w)) k)) shapeCasts_S4x4096x4x2x64_S16384x512 = res5 x g w k := by
  funext i
  obtain ⟨R, l, rfl⟩ := idx_split (a := 16384) (b := 512) i
  refine (flat5_apply _ R l).trans ((refScale_apply _ _ _ _ _ _).trans (congrArg (fun t : EReal => t * _) ((refGroup_apply _ _ _ _ _ _ _).trans ?_)))
  simp only [cutQ_apply, refDot_row]
  exact congrArg (fun t => hn t (k (ix1 ⟨l.val % 64, by omega⟩)) ⟨l.val % 64, by omega⟩) (funext fun e => congrArg (pj x g w R) (col_eq 1552 l e (by norm_num)))

/-- The reference's queries are their composed term. -/
theorem queries_eq (m : (ℓ : Loc nD τ sig) → Buf (Elt Ideal) ℓ) (c : Dev nD) :
    Cert.MixpRefIdeal.Value.res_main_v73 m c = shapeCast S16384x512 (refScale (refGroup (cutQ (refDot (m ((c.tc : Thread nD τ).loc main_arg0)) (m ((c.tc : Thread nD τ).loc main_arg1)) (m ((c.tc : Thread nD τ).loc main_arg2))))
      (m ((c.tc : Thread nD τ).loc main_arg5)))) shapeCasts_S4x4096x4x2x64_S16384x512 := by
  unfold Cert.MixpRefIdeal.Value.res_main_v73
  rfl

/-- The reference's run leaves its argument arrays as they were and its counters at zero. -/
theorem frame_ref : Cert.quiescent_MixpRefIdeal := fun m ρ _ =>
  (θ_run Cert.MixpRefIdeal.defs _ _).mono (fun r h => ⟨fun c => (h c).2.2.2.2.2.2.2.2.2.2, Idealize.ShloMosaic.sem_eq_zero_of_no_sems (by decide) r.2⟩)
    (Cert.MixpRefIdeal.Value.run (F := Ideal) m ρ)

set_option maxHeartbeats 4000000 in
/-- Each of the kernel's ten results is the reference's, at every extended-real input. -/
theorem algebraic : Cert.algebraic_MixpIdeal_MixpRefIdeal := fun m ρ m' ρ' _ hag =>
  ⟨fun c => res0 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   fun c => res1 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   fun c => res2 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   fun c => res3 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   fun c => res4 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)) (m ((c.tc : Thread Cert.MixpIdeal.nD Cert.MixpIdeal.τ).loc Cert.MixpIdeal.main_arg3)) (m ((c.tc : Thread Cert.MixpIdeal.nD Cert.MixpIdeal.τ).loc Cert.MixpIdeal.main_arg4)),
   fun c => res5 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)) (m ((c.tc : Thread Cert.MixpIdeal.nD Cert.MixpIdeal.τ).loc Cert.MixpIdeal.main_arg5)),
   fun c => res6 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)) (m ((c.tc : Thread Cert.MixpIdeal.nD Cert.MixpIdeal.τ).loc Cert.MixpIdeal.main_arg6)),
   fun c => res7 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)) (m ((c.tc : Thread Cert.MixpIdeal.nD Cert.MixpIdeal.τ).loc Cert.MixpIdeal.main_arg6)),
   fun c => res8 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   fun c => res9 (m ((c.tc : Thread Cert.MixpIdeal.nD Cert.MixpIdeal.τ).loc Cert.MixpIdeal.main_arg0)) (m ((c.tc : Thread Cert.MixpIdeal.nD Cert.MixpIdeal.τ).loc Cert.MixpIdeal.main_arg1)) (m ((c.tc : Thread Cert.MixpIdeal.nD Cert.MixpIdeal.τ).loc Cert.MixpIdeal.main_arg2)),
   Cert.MixpIdeal.Ker.run m ρ,
   (θ_run _ _ _).mono (fun _ h c => ⟨(h c).1.trans (by
      rw [(hag c).1, (hag c).2.1, (hag c).2.2.1]
      exact ref0 _ _ _),
    (h c).2.1.trans (by
      rw [(hag c).1, (hag c).2.1, (hag c).2.2.1]
      exact ref1 _ _ _),
    (h c).2.2.1.trans (by
      rw [(hag c).1, (hag c).2.1, (hag c).2.2.1]
      exact ref2 _ _ _),
    (h c).2.2.2.1.trans (by
      rw [(hag c).1, (hag c).2.1, (hag c).2.2.1]
      exact ref3 _ _ _),
    (h c).2.2.2.2.1.trans ((decay_eq m' c).trans (by
      rw [(hag c).1, (hag c).2.1, (hag c).2.2.1, (hag c).2.2.2.1, (hag c).2.2.2.2.1]
      exact ref4 _ _ _ _ _)),
    (h c).2.2.2.2.2.1.trans ((queries_eq m' c).trans (by
      rw [(hag c).1, (hag c).2.1, (hag c).2.2.1, (hag c).2.2.2.2.2.1]
      exact ref5 _ _ _ _)),
    (h c).2.2.2.2.2.2.1.trans (by
      rw [(hag c).1, (hag c).2.1, (hag c).2.2.1, (hag c).2.2.2.2.2.2]
      exact ref6 _ _ _ _),
    (h c).2.2.2.2.2.2.2.1.trans (by
      rw [(hag c).1, (hag c).2.1, (hag c).2.2.1, (hag c).2.2.2.2.2.2]
      exact ref7 _ _ _ _),
    (h c).2.2.2.2.2.2.2.2.1.trans (by
      rw [(hag c).1, (hag c).2.1, (hag c).2.2.1]
      exact ref8 _ _ _),
    (h c).2.2.2.2.2.2.2.2.2.1.trans (by
      rw [(hag c).1, (hag c).2.1, (hag c).2.2.1]
      exact ref9 _ _ _),
    (h c).2.2.2.2.2.2.2.2.2.2⟩)
    (Cert.MixpRefIdeal.Value.run (F := Ideal) m' ρ')⟩

end Cert.Proof.Mixp

end
-- ==== Proof.lean ====
/- The proof of the claim: the run of every program, and the value of each kernel against its reference. -/
module

public import proofs.«01_k».proof.Defs
public import proofs.«01_k».proof.Proof.Gen.Ffn.Frame
public import proofs.«01_k».proof.Proof.Gen.FfnIdeal.Frame
public import proofs.«01_k».proof.Proof.Gen.Dattn.Frame
public import proofs.«01_k».proof.Proof.Gen.DattnIdeal.Frame
public import proofs.«01_k».proof.Proof.Gen.Ffns.Frame
public import proofs.«01_k».proof.Proof.Gen.FfnsIdeal.Frame
public import proofs.«01_k».proof.Proof.Gen.Memk.Frame
public import proofs.«01_k».proof.Proof.Gen.MemkIdeal.Frame
public import proofs.«01_k».proof.Proof.Gen.Memv.Frame
public import proofs.«01_k».proof.Proof.Gen.MemvIdeal.Frame
public import proofs.«01_k».proof.Proof.Gen.Pre_finite_qkb
public import proofs.«01_k».proof.Proof.FfnValue
public import proofs.«01_k».proof.Proof.DattnValue
public import proofs.«01_k».proof.Proof.FfnsValue
public import proofs.«01_k».proof.Proof.MemkValue
public import proofs.«01_k».proof.Proof.MemvValue
public import proofs.«01_k».proof.Proof.MixsFrame
public import proofs.«01_k».proof.Proof.MixsEq
public import proofs.«01_k».proof.Proof.MixpFrame
public import proofs.«01_k».proof.Proof.MixpEq

@[expose] public section

noncomputable section

namespace Cert.Proof

open Idealize.ShloMosaic Idealize.SL.Sem

/-- Every call and every reference runs and leaves its arguments as they were; each call computes its part of the layer. -/
theorem claim : Cert.Claim := ⟨Cert.Ffn.Gen.facts, Cert.FfnIdeal.Gen.facts, Cert.FfnRefIdeal.Gen.facts, Cert.Dattn.Gen.facts, Cert.DattnIdeal.Gen.facts, Cert.DattnRefIdeal.Gen.facts, Cert.Ffns.Gen.facts, Cert.FfnsIdeal.Gen.facts, Cert.FfnsRefIdeal.Gen.facts, Cert.Memk.Gen.facts, Cert.MemkIdeal.Gen.facts, Cert.MemkRefIdeal.Gen.facts, Cert.Memv.Gen.facts, Cert.MemvIdeal.Gen.facts, Cert.MemvRefIdeal.Gen.facts, Cert.Mixs.Gen.facts, Cert.MixsIdeal.Gen.facts, Cert.MixsRefIdeal.Gen.facts, Cert.Mixp.Gen.facts, Cert.MixpIdeal.Gen.facts, Cert.MixpRefIdeal.Gen.facts, Cert.Pre_finite_qkb.Gen.facts,
  fun m ρ _ => Cert.Ffn.Gen.frame m ρ,
  fun m ρ _ => Cert.FfnIdeal.Gen.frame m ρ,
  Cert.Proof.Ffn.frame_ref,
  fun m ρ _ => Cert.Dattn.Gen.frame m ρ,
  fun m ρ _ => Cert.DattnIdeal.Gen.frame m ρ,
  fun m ρ _ => Cert.DattnIdeal.Gen.frame m ρ,
  Cert.Proof.Dattn.frame_ref,
  fun m ρ _ => Cert.Proof.Dattn.frame_ref m ρ trivial,
  fun m ρ _ => Cert.Ffns.Gen.frame m ρ,
  fun m ρ _ => Cert.FfnsIdeal.Gen.frame m ρ,
  Cert.Proof.Ffns.frame_ref,
  fun m ρ _ => Cert.Memk.Gen.frame m ρ,
  fun m ρ _ => Cert.MemkIdeal.Gen.frame m ρ,
  Cert.Proof.Memk.frame_ref,
  fun m ρ _ => Cert.Memv.Gen.frame m ρ,
  fun m ρ _ => Cert.MemvIdeal.Gen.frame m ρ,
  Cert.Proof.Memv.frame_ref,
  fun m ρ _ => Cert.Mixs.Mix.quiet m ρ,
  fun m ρ _ => Cert.MixsIdeal.Mix.quiet m ρ,
  Cert.Proof.Mixs.frame_ref,
  fun m ρ _ => Cert.Mixp.Mix.quiet m ρ,
  fun m ρ _ => Cert.MixpIdeal.Mix.quiet m ρ,
  Cert.Proof.Mixp.frame_ref,
  trivial,
  Cert.Proof.Ffn.algebraic,
  IdealRules.named_const.statement Cert.DattnIdeal.κ "mask" .f32 0xF149F2CA#32 ⊥ rfl,
  Cert.Proof.Dattn.algebraic,
  trivial,
  Cert.Proof.Ffns.algebraic,
  trivial,
  Cert.Proof.Memk.algebraic,
  trivial,
  Cert.Proof.Memv.algebraic,
  IdealRules.named_const.statement Cert.MixsIdeal.κ "qscale" .f32 0x3E38AA3B#32 (((1 / 8) * (Real.log 2)⁻¹ : ℝ) : EReal) rfl,
  Cert.Proof.Mixs.algebraic,
  IdealRules.named_const.statement Cert.MixpIdeal.κ "qscale" .f32 0x3E38AA3B#32 (((1 / 8) * (Real.log 2)⁻¹ : ℝ) : EReal) rfl,
  Cert.Proof.Mixp.algebraic⟩

end Cert.Proof

end
